-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_slots_in_range : Cert.Pre_slots_in_range.Facts] (m : (ℓ : Loc Cert.Kernel4.nD Cert.Kernel4.τ Cert.Kernel4.sig) → Buf (Elt Bits) ℓ) : Prop :=
  ∀ c : Dev Cert.Kernel4.nD,
    (Cert.Pre_slots_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_slots_in_range : Cert.Pre_slots_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_slots_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_slots_in_range [hPre_slots_in_range : Cert.Pre_slots_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_slots_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] [hPre_slots_in_range : Cert.Pre_slots_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_slots_in_range : Cert.Pre_slots_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_slots_in_range [hReference4Ideal : Cert.Reference4Ideal.Facts] [hPre_slots_in_range : Cert.Pre_slots_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_slots_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] [hPre_slots_in_range : Cert.Pre_slots_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v103) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_slots_in_range : Cert.Pre_slots_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_slots_in_range := hPre_slots_in_range)
    ∧ quiescent_Kernel4Ideal (hKernel4Ideal := hKernel4Ideal) (hPre_slots_in_range := hPre_slots_in_range)
    ∧ quiescent_Reference4Ideal (hReference4Ideal := hReference4Ideal)
    ∧ quiescent_Reference4Ideal_pre_slots_in_range (hReference4Ideal := hReference4Ideal) (hPre_slots_in_range := hPre_slots_in_range)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_slots_in_range := hPre_slots_in_range)
    ∧ preserves_Kernel5_Kernel5Ideal
    ∧ algebraic_Kernel5Ideal_Reference5Ideal (hKernel5Ideal := hKernel5Ideal) (hReference5Ideal := hReference5Ideal)
-- ==== Pre_slots_in_range.lean ====
abbrev S576 : Shape := ⟨1, ![576]⟩
abbrev S576x1x256 : Shape := ⟨3, ![576, 1, 256]⟩
abbrev S262144x128 : Shape := ⟨2, ![262144, 128]⟩
abbrev S64x2048x512 : Shape := ⟨3, ![64, 2048, 512]⟩
abbrev S64x512x2048 : Shape := ⟨3, ![64, 512, 2048]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S576x1x256 : S_.BroadcastsInDim S576x1x256 (![] : Fin 0 → Fin S576x1x256.rank)
  reducesTo_S576x1x256_S_d0_1_2 : S576x1x256.ReducesTo [0, 1, 2] S_

variable [Facts]

def fn {F : FTy → Type} [FloatOps F] (main_arg0 : IVec S576 32) (main_arg1 : IVec S576x1x256 32) (main_arg2 : FVec F S262144x128 .f32) (main_arg3 : FVec F S64x2048x512 .bf16) (main_arg4 : FVec F S64x2048x512 .bf16) (main_arg5 : FVec F S64x512x2048 .bf16) : IVec S_ 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 1 := constantI S_ 1 1#1
  let main_v2 : IVec S_ 1 := (fun x v => Host.reduce IntOp.andi x v reducesTo_S576_S_d0 h_S_) main_v1 main_c_0
  let main_c_1 : IVec S_ 32 := constantI S_ 32 64#32
  let main_v3 : IVec S576 32 := broadcastInDim S576 ![] bcast_S_S576 main_c_1
  let main_v4 : IVec S576 1 := cmpi .slt main_arg0 main_v3
  let main_c_2 : IVec S_ 1 := constantI S_ 1 1#1
  let main_v5 : IVec S_ 1 := (fun x v => Host.reduce IntOp.andi x v reducesTo_S576_S_d0 h_S_) main_v4 main_c_2
  let main_v6 : IVec S_ 1 := andi main_v2 main_v5
  let main_c_3 : IVec S_ 32 := constantI S_ 32 0#32
  let main_v7 : IVec S576x1x256 32 := broadcastInDim S576x1x256 ![] bcast_S_S576x1x256 main_c_3
  let main_v8 : IVec S576x1x256 1 := cmpi .sge main_arg1 main_v7
  let main_c_4 : IVec S_ 1 := constantI S_ 1 1#1
  let main_v9 : IVec S_ 1 := (fun x v => Host.reduce IntOp.andi x v reducesTo_S576x1x256_S_d0_1_2 h_S_) main_v8 main_c_4
  let main_v10 : IVec S_ 1 := andi main_v6 main_v9
  let main_c_5 : IVec S_ 32 := constantI S_ 32 16384#32
  let main_v11 : IVec S576x1x256 32 := broadcastInDim S576x1x256 ![] bcast_S_S576x1x256 main_c_5
  let main_v12 : IVec S576x1x256 1 := cmpi .slt main_arg1 main_v11
  let main_c_6 : IVec S_ 1 := constantI S_ 1 1#1
  let main_v13 : IVec S_ 1 := (fun x v => Host.reduce IntOp.andi x v reducesTo_S576x1x256_S_d0_1_2 h_S_) main_v12 main_c_6
  let main_v14 : IVec S_ 1 := andi main_v10 main_v13
  main_v14
-- ==== Kernel.lean ====
abbrev S2x8x8192x256 : Shape := ⟨4, ![2, 8, 8192, 256]⟩
abbrev S2x8x256x8192 : Shape := ⟨4, ![2, 8, 256, 8192]⟩
abbrev S2x8x8192x128 : Shape := ⟨4, ![2, 8, 8192, 128]⟩
abbrev S2x8192x1024 : Shape := ⟨3, ![2, 8192, 1024]⟩
abbrev S1x1x512x256 : Shape := ⟨4, ![1, 1, 512, 256]⟩
abbrev S1x1x256x8192 : Shape := ⟨4, ![1, 1, 256, 8192]⟩
abbrev S1x1x8192x128 : Shape := ⟨4, ![1, 1, 8192, 128]⟩
abbrev S1x512x128 : Shape := ⟨3, ![1, 512, 128]⟩
abbrev S512x512 : Shape := ⟨2, ![512, 512]⟩
abbrev S512x1 : Shape := ⟨2, ![512, 1]⟩
abbrev S512x128 : Shape := ⟨2, ![512, 128]⟩
abbrev S512x256 : Shape := ⟨2, ![512, 256]⟩
abbrev S1x1x256x512 : Shape := ⟨4, ![1, 1, 256, 512]⟩
abbrev S256x512 : Shape := ⟨2, ![256, 512]⟩
abbrev S1x1x512x128 : Shape := ⟨4, ![1, 1, 512, 128]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S2x8x8192x256, .bf16⟩
  | .hbm, ⟨1, _⟩ => ⟨S2x8x256x8192, .bf16⟩
  | .hbm, ⟨2, _⟩ => ⟨S2x8x8192x128, .bf16⟩
  | .hbm, ⟨3, _⟩ => ⟨S2x8192x1024, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x256x8192, .bf16⟩
  | .local _ .vmem, ⟨3, _⟩ => ⟨S1x1x256x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x512, .f32⟩
  | .local _ .vmem, ⟨9, _⟩ => ⟨S512x1, .f32⟩
  | .local _ .vmem, ⟨10, _⟩ => ⟨S512x1, .f32⟩
  | .local _ .vmem, ⟨11, _⟩ => ⟨S512x128, .f32⟩
  | _, _ => ⟨S2x8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
@[reducible] def k0_t1_loop (i : grid0.Coords) : Scf.Loop 32 :=
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let c1_i32_19 : BitVec 32 := 1#32
  ⟨c0_i32_18, v26, c1_i32_19⟩
def k0_mult2 (i : grid0.Coords) (k0_t1 : Fin (k0_t1_loop i).trips) : BitVec 32 :=
  let c0_i32_18 : BitVec 32 := 0#32
  let c1_i32_19 : BitVec 32 := 1#32
  let arg11 : BitVec 32 := Scf.iv c0_i32_18 c1_i32_19 k0_t1
  let c1_i32_63 : BitVec 32 := 1#32
  let v125 : BitVec 32 := Scalar.addi arg11 c1_i32_63
  let c512_i32_64 : BitVec 32 := 512#32
  let v126 : BitVec 32 := Scalar.muli v125 c512_i32_64
  v126
def k0_off1 (i : grid0.Coords) (k0_t1 : Fin (k0_t1_loop i).trips) : Fin 4 → Nat :=
  let c0_69 : Index := 0#32
  let c0_70 : Index := 0#32
  let c0_71 : Index := 0#32
  let c0_i32_18 : BitVec 32 := 0#32
  let c1_i32_19 : BitVec 32 := 1#32
  let arg11 : BitVec 32 := Scf.iv c0_i32_18 c1_i32_19 k0_t1
  let c1_i32_63 : BitVec 32 := 1#32
  let v125 : BitVec 32 := Scalar.addi arg11 c1_i32_63
  let c512_i32_64 : BitVec 32 := 512#32
  let v126 : BitVec 32 := Scalar.muli v125 c512_i32_64
  let v127 : BitVec 32 := v126
  let v130 : Index := Scalar.indexCast v127
  ![0, 0, 0, v130.toNat]
def k0_mult3 (i : grid0.Coords) (k0_t1 : Fin (k0_t1_loop i).trips) : BitVec 32 :=
  let c0_i32_18 : BitVec 32 := 0#32
  let c1_i32_19 : BitVec 32 := 1#32
  let arg11 : BitVec 32 := Scf.iv c0_i32_18 c1_i32_19 k0_t1
  let c512_i32_73 : BitVec 32 := 512#32
  let v134 : BitVec 32 := Scalar.muli arg11 c512_i32_73
  v134
def k0_off2 (i : grid0.Coords) (k0_t1 : Fin (k0_t1_loop i).trips) : Fin 4 → Nat :=
  let c0_74 : Index := 0#32
  let c0_75 : Index := 0#32
  let c0_i32_18 : BitVec 32 := 0#32
  let c1_i32_19 : BitVec 32 := 1#32
  let arg11 : BitVec 32 := Scf.iv c0_i32_18 c1_i32_19 k0_t1
  let c512_i32_73 : BitVec 32 := 512#32
  let v134 : BitVec 32 := Scalar.muli arg11 c512_i32_73
  let v135 : BitVec 32 := v134
  let v136 : Index := Scalar.indexCast v135
  let c0_76 : Index := 0#32
  ![0, 0, v136.toNat, 0]
@[reducible] def k0_t2_loop (i : grid0.Coords) : Scf.Loop 32 :=
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let v23 : BitVec 32 := Scalar.addi c0_i32_18 v22
  let c1_i32_20 : BitVec 32 := 1#32
  ⟨v26, v23, c1_i32_20⟩
def k0_mult4 (i : grid0.Coords) (k0_t2 : Fin (k0_t2_loop i).trips) : BitVec 32 :=
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let c1_i32_20 : BitVec 32 := 1#32
  let arg11 : BitVec 32 := Scf.iv v26 c1_i32_20 k0_t2
  let c1_i32_63 : BitVec 32 := 1#32
  let v125 : BitVec 32 := Scalar.addi arg11 c1_i32_63
  let c512_i32_64 : BitVec 32 := 512#32
  let v126 : BitVec 32 := Scalar.muli v125 c512_i32_64
  v126
def k0_off3 (i : grid0.Coords) (k0_t2 : Fin (k0_t2_loop i).trips) : Fin 4 → Nat :=
  let c0_69 : Index := 0#32
  let c0_70 : Index := 0#32
  let c0_71 : Index := 0#32
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let c1_i32_20 : BitVec 32 := 1#32
  let arg11 : BitVec 32 := Scf.iv v26 c1_i32_20 k0_t2
  let c1_i32_63 : BitVec 32 := 1#32
  let v125 : BitVec 32 := Scalar.addi arg11 c1_i32_63
  let c512_i32_64 : BitVec 32 := 512#32
  let v126 : BitVec 32 := Scalar.muli v125 c512_i32_64
  let v127 : BitVec 32 := v126
  let v130 : Index := Scalar.indexCast v127
  ![0, 0, 0, v130.toNat]
def k0_mult5 (i : grid0.Coords) (k0_t2 : Fin (k0_t2_loop i).trips) : BitVec 32 :=
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let c1_i32_20 : BitVec 32 := 1#32
  let arg11 : BitVec 32 := Scf.iv v26 c1_i32_20 k0_t2
  let c512_i32_73 : BitVec 32 := 512#32
  let v134 : BitVec 32 := Scalar.muli arg11 c512_i32_73
  v134
def k0_off4 (i : grid0.Coords) (k0_t2 : Fin (k0_t2_loop i).trips) : Fin 4 → Nat :=
  let c0_74 : Index := 0#32
  let c0_75 : Index := 0#32
  let c0_i32_18 : BitVec 32 := 0#32
  let arg2 : BitVec 32 := BitVec.ofNat 32 (i 2).val
  let v22 : BitVec 32 := Scalar.subi arg2 c0_i32_18
  let c1_i32 : BitVec 32 := 1#32
  let v24 : BitVec 32 := Scalar.divsi v22 c1_i32
  let v25 : BitVec 32 := Scalar.muli v24 c1_i32
  let v26 : BitVec 32 := Scalar.addi c0_i32_18 v25
  let c1_i32_20 : BitVec 32 := 1#32
  let arg11 : BitVec 32 := Scf.iv v26 c1_i32_20 k0_t2
  let c512_i32_73 : BitVec 32 := 512#32
  let v134 : BitVec 32 := Scalar.muli arg11 c512_i32_73
  let v135 : BitVec 32 := v134
  let v136 : Index := Scalar.indexCast v135
  let c0_76 : Index := 0#32
  ![0, 0, v136.toNat, 0]
def k0_mult6 (i : grid0.Coords) : BitVec 32 :=
  let arg2 : BitVec 32 := BitVec.ofNat 32 (i 2).val
  let c512_i32 : BitVec 32 := 512#32
  let v27 : BitVec 32 := Scalar.muli arg2 c512_i32
  v27
def k0_off5 (i : grid0.Coords) : Fin 4 → Nat :=
  let c0_38 : Index := 0#32
  let c0_39 : Index := 0#32
  let arg2 : BitVec 32 := BitVec.ofNat 32 (i 2).val
  let c512_i32 : BitVec 32 := 512#32
  let v27 : BitVec 32 := Scalar.muli arg2 c512_i32
  let v28 : BitVec 32 := v27
  let v85 : Index := Scalar.indexCast v28
  let c0_40 : Index := 0#32
  ![0, 0, v85.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x8192x256 : Shape := ⟨4, ![2, 8, 8192, 256]⟩
abbrev S2x8x256x8192 : Shape := ⟨4, ![2, 8, 256, 8192]⟩
abbrev S2x8x8192x128 : Shape := ⟨4, ![2, 8, 8192, 128]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8192x8x128 : Shape := ⟨4, ![2, 8192, 8, 128]⟩
abbrev S2x8192x1024 : Shape := ⟨3, ![2, 8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x8x8192x256, .bf16⟩
  | .hbm, ⟨1, _⟩ => ⟨S2x8x256x8192, .bf16⟩
  | .hbm, ⟨2, _⟩ => ⟨S2x8x8192x128, .bf16⟩
  | .hbm, ⟨3, _⟩ => ⟨S2x8x8192x8192, .f32⟩
  | .hbm, ⟨4, _⟩ => ⟨S_, .f32⟩
  | .hbm, ⟨5, _⟩ => ⟨S_, .f32⟩
  | .hbm, ⟨6, _⟩ => ⟨S2x8x8192x8192, .f32⟩
  | .hbm, ⟨7, _⟩ => ⟨S2x8x8192x8192, .f32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S2x8x8192x8192, .i1⟩
  | .hbm, ⟨20, _⟩ => ⟨S2x8x8192x8192, .f32⟩
  | .hbm, ⟨21, _⟩ => ⟨S2x8x8192x8192, .f32⟩
  | .hbm, ⟨22, _⟩ => ⟨S_, .f32⟩
  | .hbm, ⟨23, _⟩ => ⟨S2x8x8192, .f32⟩
  | .hbm, ⟨24, _⟩ => ⟨S2x8x8192x1, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .bf16⟩
  | .hbm, ⟨29, _⟩ => ⟨S2x8x8192x128, .f32⟩
  | .hbm, ⟨30, _⟩ => ⟨S_, .f32⟩
  | .hbm, ⟨31, _⟩ => ⟨S2x8x8192, .f32⟩
  | .hbm, ⟨32, _⟩ => ⟨S2x8x8192x1, .f32⟩
  | .hbm, ⟨33, _⟩ => ⟨S2x8x8192x128, .f32⟩
  | .hbm, ⟨34, _⟩ => ⟨S2x8x8192x128, .f32⟩
  | .hbm, ⟨35, _⟩ => ⟨S2x8192x8x128, .f32⟩
  | .hbm, ⟨36, _⟩ => ⟨S2x8192x1024, .f32⟩
  | .hbm, ⟨37, _⟩ => ⟨S2x8192x1024, .bf16⟩
  | _, _ => ⟨S2x8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .bf16⟩
  | .hbm, ⟨3, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048 : Shape := ⟨2, ![1, 2048]⟩
abbrev S2048x6144 : Shape := ⟨2, ![2048, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x6144, .f32⟩
  | .hbm, ⟨19, _⟩ => ⟨S16384x6144, .f32⟩
  | .hbm, ⟨20, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x1024 : Shape := ⟨2, ![16384, 1024]⟩
abbrev S16384x6144 : Shape := ⟨2, ![16384, 6144]⟩
abbrev S16384x2048 : Shape := ⟨2, ![16384, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .bf16⟩
  | .hbm, ⟨3, _⟩ => ⟨S16384x2048, .f32⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S16384x6144 : Shape := ⟨2, ![16384, 6144]⟩
abbrev S16384x2048 : Shape := ⟨2, ![16384, 2048]⟩
abbrev S1024x2048 : Shape := ⟨2, ![1024, 2048]⟩
abbrev S2048x2048 : Shape := ⟨2, ![2048, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .bf16⟩
  | .hbm, ⟨3, _⟩ => ⟨S16384x2048, .f32⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x1024, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S1024x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S1024x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S2048x2048, .f32⟩
  | .hbm, ⟨49, _⟩ => ⟨S16384x2048, .f32⟩
  | .hbm, ⟨50, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S576 : Shape := ⟨1, ![576]⟩
abbrev S576x1x256 : Shape := ⟨3, ![576, 1, 256]⟩
abbrev S262144x128 : Shape := ⟨2, ![262144, 128]⟩
abbrev S64x2048x512 : Shape := ⟨3, ![64, 2048, 512]⟩
abbrev S64x512x2048 : Shape := ⟨3, ![64, 512, 2048]⟩
abbrev S147456x2048 : Shape := ⟨2, ![147456, 2048]⟩
abbrev S1x1x256 : Shape := ⟨3, ![1, 1, 256]⟩
abbrev S1x2048x512 : Shape := ⟨3, ![1, 2048, 512]⟩
abbrev S1 : Shape := ⟨1, ![1]⟩
abbrev S1x512x2048 : Shape := ⟨3, ![1, 512, 2048]⟩
abbrev S512x2048 : Shape := ⟨2, ![512, 2048]⟩
abbrev S4096x128 : Shape := ⟨2, ![4096, 128]⟩
abbrev S2 : Shape := ⟨1, ![2]⟩
abbrev S1x1x1 : Shape := ⟨3, ![1, 1, 1]⟩
abbrev S_ : Shape := ⟨0, ![]⟩
abbrev S16x128 : Shape := ⟨2, ![16, 128]⟩
abbrev S256x128 : Shape := ⟨2, ![256, 128]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 6
  | .vmem => 16
  | .smem => 6
  | _ => 0

abbrev bufTy : (tb : Table) → Fin (tcTables nBuf tb) → BufTy
  | .hbm, ⟨0, _⟩ => ⟨S576x1x256, .i32⟩
  | .hbm, ⟨1, _⟩ => ⟨S262144x128, .f32⟩
  | .hbm, ⟨2, _⟩ => ⟨S64x2048x512, .bf16⟩
  | .hbm, ⟨3, _⟩ => ⟨S64x2048x512, .bf16⟩
  | .hbm, ⟨4, _⟩ => ⟨S64x512x2048, .bf16⟩
  | .hbm, ⟨5, _⟩ => ⟨S147456x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S4096x128, .f32⟩
  | .local _ .vmem, ⟨15, _⟩ => ⟨S4096x128, .f32⟩
  | .local _ .smem, ⟨0, _⟩ => ⟨S576, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S576x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  ![v2.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2642 : BitVec 32 := 0#32
  let c32_i32_2643 : BitVec 32 := 32#32
  let v2120 : BitVec 32 := Scalar.addi c0_i32_2642 c32_i32_2643
  let c1_i32_2644 : BitVec 32 := 1#32
  ⟨c0_i32_2642, v2120, c1_i32_2644⟩
def k0_off2 (k0_t1 : Fin k0_t1_loop.trips) : Fin 3 → Nat :=
  let c0_2647 : Index := 0#32
  let c0_2648 : Index := 0#32
  let c0_i32_2642 : BitVec 32 := 0#32
  let c1_i32_2644 : BitVec 32 := 1#32
  let arg16 : BitVec 32 := Scf.iv c0_i32_2642 c1_i32_2644 k0_t1
  let c8_i32 : BitVec 32 := 8#32
  let v2121 : BitVec 32 := Scalar.muli arg16 c8_i32
  let c0_i32_2646 : BitVec 32 := 0#32
  let v2122 : BitVec 32 := Scalar.addi v2121 c0_i32_2646
  let v2123 : Index := Scalar.indexCast v2122
  ![0, 0, v2123.toNat]
def k0_mult1 (v2124 : BitVec 32) : BitVec 32 :=
  let c16_i32 : BitVec 32 := 16#32
  let v2125 : BitVec 32 := Scalar.muli v2124 c16_i32
  v2125

def k0_mult2 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32 : BitVec 32 := 8#32
  let v2121 : BitVec 32 := Scalar.muli arg16 c8_i32
  let c0_i32_2646 : BitVec 32 := 0#32
  let v2122 : BitVec 32 := Scalar.addi v2121 c0_i32_2646
  let c16_i32_2649 : BitVec 32 := 16#32
  let v2127 : BitVec 32 := Scalar.muli v2122 c16_i32_2649
  v2127
def k0_off3 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32 : BitVec 32 := 8#32
  let v2121 : BitVec 32 := Scalar.muli arg16 c8_i32
  let c0_i32_2646 : BitVec 32 := 0#32
  let v2122 : BitVec 32 := Scalar.addi v2121 c0_i32_2646
  let c16_i32_2649 : BitVec 32 := 16#32
  let v2127 : BitVec 32 := Scalar.muli v2122 c16_i32_2649
  let v2128 : BitVec 32 := v2127
  let c0_i32_2651 : BitVec 32 := 0#32
  ![v2128.toNat, 0]
def k0_off4 (v2124 : BitVec 32) : Fin 2 → Nat :=
  let c16_i32 : BitVec 32 := 16#32
  let v2125 : BitVec 32 := Scalar.muli v2124 c16_i32
  let v2126 : BitVec 32 := v2125
  let c0_i32_2652 : BitVec 32 := 0#32
  ![v2126.toNat, 0]

def k0_chk1 (i : grid0.Coords) (v2124 : BitVec 32) : Prop :=
  (∀ (k0_h1 : k0_cond1 i = 1#1), 16 ∣ (k0_mult1 v2124).toNat) ∧
  (∀ (k0_h1 : k0_cond1 i = 1#1), ∀ a, (k0_off4 v2124) a + S16x128.size a ≤ S262144x128.size a)
theorem k0_mult1_dvd : ∀ (i : grid0.Coords) (v2124 : BitVec 32) (k0_hw1 : k0_chk1 i v2124), ∀ (k0_h1 : k0_cond1 i = 1#1), 16 ∣ (k0_mult1 v2124).toNat := fun i v2124 k0_hw1 k0_h1 => k0_hw1.1 k0_h1
theorem k0_off4_inb : ∀ (i : grid0.Coords) (v2124 : BitVec 32) (k0_hw1 : k0_chk1 i v2124), ∀ (k0_h1 : k0_cond1 i = 1#1), ∀ a, (k0_off4 v2124) a + S16x128.size a ≤ S262144x128.size a := fun i v2124 k0_hw1 k0_h1 => k0_hw1.2 k0_h1

def k0_off5 (k0_t1 : Fin k0_t1_loop.trips) : Fin 3 → Nat :=
  let c0_2655 : Index := 0#32
  let c0_2656 : Index := 0#32
  let c0_i32_2642 : BitVec 32 := 0#32
  let c1_i32_2644 : BitVec 32 := 1#32
  let arg16 : BitVec 32 := Scf.iv c0_i32_2642 c1_i32_2644 k0_t1
  let c8_i32_2653 : BitVec 32 := 8#32
  let v2133 : BitVec 32 := Scalar.muli arg16 c8_i32_2653
  let c1_i32_2654 : BitVec 32 := 1#32
  let v2134 : BitVec 32 := Scalar.addi v2133 c1_i32_2654
  let v2135 : Index := Scalar.indexCast v2134
  ![0, 0, v2135.toNat]
def k0_mult3 (v2136 : BitVec 32) : BitVec 32 :=
  let c16_i32_2657 : BitVec 32 := 16#32
  let v2137 : BitVec 32 := Scalar.muli v2136 c16_i32_2657
  v2137

def k0_mult4 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2653 : BitVec 32 := 8#32
  let v2133 : BitVec 32 := Scalar.muli arg16 c8_i32_2653
  let c1_i32_2654 : BitVec 32 := 1#32
  let v2134 : BitVec 32 := Scalar.addi v2133 c1_i32_2654
  let c16_i32_2658 : BitVec 32 := 16#32
  let v2139 : BitVec 32 := Scalar.muli v2134 c16_i32_2658
  v2139
def k0_off6 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2653 : BitVec 32 := 8#32
  let v2133 : BitVec 32 := Scalar.muli arg16 c8_i32_2653
  let c1_i32_2654 : BitVec 32 := 1#32
  let v2134 : BitVec 32 := Scalar.addi v2133 c1_i32_2654
  let c16_i32_2658 : BitVec 32 := 16#32
  let v2139 : BitVec 32 := Scalar.muli v2134 c16_i32_2658
  let v2140 : BitVec 32 := v2139
  let c0_i32_2660 : BitVec 32 := 0#32
  ![v2140.toNat, 0]
def k0_off7 (v2136 : BitVec 32) : Fin 2 → Nat :=
  let c16_i32_2657 : BitVec 32 := 16#32
  let v2137 : BitVec 32 := Scalar.muli v2136 c16_i32_2657
  let v2138 : BitVec 32 := v2137
  let c0_i32_2661 : BitVec 32 := 0#32
  ![v2138.toNat, 0]

def k0_chk2 (i : grid0.Coords) (v2136 : BitVec 32) : Prop :=
  (∀ (k0_h1 : k0_cond1 i = 1#1), 16 ∣ (k0_mult3 v2136).toNat) ∧
  (∀ (k0_h1 : k0_cond1 i = 1#1), ∀ a, (k0_off7 v2136) a + S16x128.size a ≤ S262144x128.size a)
theorem k0_mult3_dvd : ∀ (i : grid0.Coords) (v2136 : BitVec 32) (k0_hw2 : k0_chk2 i v2136), ∀ (k0_h1 : k0_cond1 i = 1#1), 16 ∣ (k0_mult3 v2136).toNat := fun i v2136 k0_hw2 k0_h1 => k0_hw2.1 k0_h1
theorem k0_off7_inb : ∀ (i : grid0.Coords) (v2136 : BitVec 32) (k0_hw2 : k0_chk2 i v2136), ∀ (k0_h1 : k0_cond1 i = 1#1), ∀ a, (k0_off7 v2136) a + S16x128.size a ≤ S262144x128.size a := fun i v2136 k0_hw2 k0_h1 => k0_hw2.2 k0_h1

def k0_off8 (k0_t1 : Fin k0_t1_loop.trips) : Fin 3 → Nat :=
  let c0_2663 : Index := 0#32
  let c0_2664 : Index := 0#32
  let c0_i32_2642 : BitVec 32 := 0#32
  let c1_i32_2644 : BitVec 32 := 1#32
  let arg16 : BitVec 32 := Scf.iv c0_i32_2642 c1_i32_2644 k0_t1
  let c8_i32_2662 : BitVec 32 := 8#32
  let v2145 : BitVec 32 := Scalar.muli arg16 c8_i32_2662
  let c2_i32 : BitVec 32 := 2#32
  let v2146 : BitVec 32 := Scalar.addi v2145 c2_i32
  let v2147 : Index := Scalar.indexCast v2146
  ![0, 0, v2147.toNat]
def k0_mult5 (v2148 : BitVec 32) : BitVec 32 :=
  let c16_i32_2665 : BitVec 32 := 16#32
  let v2149 : BitVec 32 := Scalar.muli v2148 c16_i32_2665
  v2149

def k0_mult6 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2662 : BitVec 32 := 8#32
  let v2145 : BitVec 32 := Scalar.muli arg16 c8_i32_2662
  let c2_i32 : BitVec 32 := 2#32
  let v2146 : BitVec 32 := Scalar.addi v2145 c2_i32
  let c16_i32_2666 : BitVec 32 := 16#32
  let v2151 : BitVec 32 := Scalar.muli v2146 c16_i32_2666
  v2151
def k0_off9 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2662 : BitVec 32 := 8#32
  let v2145 : BitVec 32 := Scalar.muli arg16 c8_i32_2662
  let c2_i32 : BitVec 32 := 2#32
  let v2146 : BitVec 32 := Scalar.addi v2145 c2_i32
  let c16_i32_2666 : BitVec 32 := 16#32
  let v2151 : BitVec 32 := Scalar.muli v2146 c16_i32_2666
  let v2152 : BitVec 32 := v2151
  let c0_i32_2668 : BitVec 32 := 0#32
  ![v2152.toNat, 0]
def k0_off10 (v2148 : BitVec 32) : Fin 2 → Nat :=
  let c16_i32_2665 : BitVec 32 := 16#32
  let v2149 : BitVec 32 := Scalar.muli v2148 c16_i32_2665
  let v2150 : BitVec 32 := v2149
  let c0_i32_2669 : BitVec 32 := 0#32
  ![v2150.toNat, 0]

def k0_chk3 (i : grid0.Coords) (v2148 : BitVec 32) : Prop :=
  (∀ (k0_h1 : k0_cond1 i = 1#1), 16 ∣ (k0_mult5 v2148).toNat) ∧
  (∀ (k0_h1 : k0_cond1 i = 1#1), ∀ a, (k0_off10 v2148) a + S16x128.size a ≤ S262144x128.size a)
theorem k0_mult5_dvd : ∀ (i : grid0.Coords) (v2148 : BitVec 32) (k0_hw3 : k0_chk3 i v2148), ∀ (k0_h1 : k0_cond1 i = 1#1), 16 ∣ (k0_mult5 v2148).toNat := fun i v2148 k0_hw3 k0_h1 => k0_hw3.1 k0_h1
theorem k0_off10_inb : ∀ (i : grid0.Coords) (v2148 : BitVec 32) (k0_hw3 : k0_chk3 i v2148), ∀ (k0_h1 : k0_cond1 i = 1#1), ∀ a, (k0_off10 v2148) a + S16x128.size a ≤ S262144x128.size a := fun i v2148 k0_hw3 k0_h1 => k0_hw3.2 k0_h1

def k0_off11 (k0_t1 : Fin k0_t1_loop.trips) : Fin 3 → Nat :=
  let c0_2671 : Index := 0#32
  let c0_2672 : Index := 0#32
  let c0_i32_2642 : BitVec 32 := 0#32
  let c1_i32_2644 : BitVec 32 := 1#32
  let arg16 : BitVec 32 := Scf.iv c0_i32_2642 c1_i32_2644 k0_t1
  let c8_i32_2670 : BitVec 32 := 8#32
  let v2157 : BitVec 32 := Scalar.muli arg16 c8_i32_2670
  let c3_i32 : BitVec 32 := 3#32
  let v2158 : BitVec 32 := Scalar.addi v2157 c3_i32
  let v2159 : Index := Scalar.indexCast v2158
  ![0, 0, v2159.toNat]
def k0_mult7 (v2160 : BitVec 32) : BitVec 32 :=
  let c16_i32_2673 : BitVec 32 := 16#32
  let v2161 : BitVec 32 := Scalar.muli v2160 c16_i32_2673
  v2161

def k0_mult8 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2670 : BitVec 32 := 8#32
  let v2157 : BitVec 32 := Scalar.muli arg16 c8_i32_2670
  let c3_i32 : BitVec 32 := 3#32
  let v2158 : BitVec 32 := Scalar.addi v2157 c3_i32
  let c16_i32_2674 : BitVec 32 := 16#32
  let v2163 : BitVec 32 := Scalar.muli v2158 c16_i32_2674
  v2163
def k0_off12 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2670 : BitVec 32 := 8#32
  let v2157 : BitVec 32 := Scalar.muli arg16 c8_i32_2670
  let c3_i32 : BitVec 32 := 3#32
  let v2158 : BitVec 32 := Scalar.addi v2157 c3_i32
  let c16_i32_2674 : BitVec 32 := 16#32
  let v2163 : BitVec 32 := Scalar.muli v2158 c16_i32_2674
  let v2164 : BitVec 32 := v2163
  let c0_i32_2676 : BitVec 32 := 0#32
  ![v2164.toNat, 0]
def k0_off13 (v2160 : BitVec 32) : Fin 2 → Nat :=
  let c16_i32_2673 : BitVec 32 := 16#32
  let v2161 : BitVec 32 := Scalar.muli v2160 c16_i32_2673
  let v2162 : BitVec 32 := v2161
  let c0_i32_2677 : BitVec 32 := 0#32
  ![v2162.toNat, 0]

def k0_chk4 (i : grid0.Coords) (v2160 : BitVec 32) : Prop :=
  (∀ (k0_h1 : k0_cond1 i = 1#1), 16 ∣ (k0_mult7 v2160).toNat) ∧
  (∀ (k0_h1 : k0_cond1 i = 1#1), ∀ a, (k0_off13 v2160) a + S16x128.size a ≤ S262144x128.size a)
theorem k0_mult7_dvd : ∀ (i : grid0.Coords) (v2160 : BitVec 32) (k0_hw4 : k0_chk4 i v2160), ∀ (k0_h1 : k0_cond1 i = 1#1), 16 ∣ (k0_mult7 v2160).toNat := fun i v2160 k0_hw4 k0_h1 => k0_hw4.1 k0_h1
theorem k0_off13_inb : ∀ (i : grid0.Coords) (v2160 : BitVec 32) (k0_hw4 : k0_chk4 i v2160), ∀ (k0_h1 : k0_cond1 i = 1#1), ∀ a, (k0_off13 v2160) a + S16x128.size a ≤ S262144x128.size a := fun i v2160 k0_hw4 k0_h1 => k0_hw4.2 k0_h1

def k0_off14 (k0_t1 : Fin k0_t1_loop.trips) : Fin 3 → Nat :=
  let c0_2679 : Index := 0#32
  let c0_2680 : Index := 0#32
  let c0_i32_2642 : BitVec 32 := 0#32
  let c1_i32_2644 : BitVec 32 := 1#32
  let arg16 : BitVec 32 := Scf.iv c0_i32_2642 c1_i32_2644 k0_t1
  let c8_i32_2678 : BitVec 32 := 8#32
  let v2169 : BitVec 32 := Scalar.muli arg16 c8_i32_2678
  let c4_i32 : BitVec 32 := 4#32
  let v2170 : BitVec 32 := Scalar.addi v2169 c4_i32
  let v2171 : Index := Scalar.indexCast v2170
  ![0, 0, v2171.toNat]
def k0_mult9 (v2172 : BitVec 32) : BitVec 32 :=
  let c16_i32_2681 : BitVec 32 := 16#32
  let v2173 : BitVec 32 := Scalar.muli v2172 c16_i32_2681
  v2173

def k0_mult10 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2678 : BitVec 32 := 8#32
  let v2169 : BitVec 32 := Scalar.muli arg16 c8_i32_2678
  let c4_i32 : BitVec 32 := 4#32
  let v2170 : BitVec 32 := Scalar.addi v2169 c4_i32
  let c16_i32_2682 : BitVec 32 := 16#32
  let v2175 : BitVec 32 := Scalar.muli v2170 c16_i32_2682
  v2175
def k0_off15 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2678 : BitVec 32 := 8#32
  let v2169 : BitVec 32 := Scalar.muli arg16 c8_i32_2678
  let c4_i32 : BitVec 32 := 4#32
  let v2170 : BitVec 32 := Scalar.addi v2169 c4_i32
  let c16_i32_2682 : BitVec 32 := 16#32
  let v2175 : BitVec 32 := Scalar.muli v2170 c16_i32_2682
  let v2176 : BitVec 32 := v2175
  let c0_i32_2684 : BitVec 32 := 0#32
  ![v2176.toNat, 0]
def k0_off16 (v2172 : BitVec 32) : Fin 2 → Nat :=
  let c16_i32_2681 : BitVec 32 := 16#32
  let v2173 : BitVec 32 := Scalar.muli v2172 c16_i32_2681
  let v2174 : BitVec 32 := v2173
  let c0_i32_2685 : BitVec 32 := 0#32
  ![v2174.toNat, 0]

def k0_chk5 (i : grid0.Coords) (v2172 : BitVec 32) : Prop :=
  (∀ (k0_h1 : k0_cond1 i = 1#1), 16 ∣ (k0_mult9 v2172).toNat) ∧
  (∀ (k0_h1 : k0_cond1 i = 1#1), ∀ a, (k0_off16 v2172) a + S16x128.size a ≤ S262144x128.size a)
theorem k0_mult9_dvd : ∀ (i : grid0.Coords) (v2172 : BitVec 32) (k0_hw5 : k0_chk5 i v2172), ∀ (k0_h1 : k0_cond1 i = 1#1), 16 ∣ (k0_mult9 v2172).toNat := fun i v2172 k0_hw5 k0_h1 => k0_hw5.1 k0_h1
theorem k0_off16_inb : ∀ (i : grid0.Coords) (v2172 : BitVec 32) (k0_hw5 : k0_chk5 i v2172), ∀ (k0_h1 : k0_cond1 i = 1#1), ∀ a, (k0_off16 v2172) a + S16x128.size a ≤ S262144x128.size a := fun i v2172 k0_hw5 k0_h1 => k0_hw5.2 k0_h1

def k0_off17 (k0_t1 : Fin k0_t1_loop.trips) : Fin 3 → Nat :=
  let c0_2687 : Index := 0#32
  let c0_2688 : Index := 0#32
  let c0_i32_2642 : BitVec 32 := 0#32
  let c1_i32_2644 : BitVec 32 := 1#32
  let arg16 : BitVec 32 := Scf.iv c0_i32_2642 c1_i32_2644 k0_t1
  let c8_i32_2686 : BitVec 32 := 8#32
  let v2181 : BitVec 32 := Scalar.muli arg16 c8_i32_2686
  let c5_i32 : BitVec 32 := 5#32
  let v2182 : BitVec 32 := Scalar.addi v2181 c5_i32
  let v2183 : Index := Scalar.indexCast v2182
  ![0, 0, v2183.toNat]
def k0_mult11 (v2184 : BitVec 32) : BitVec 32 :=
  let c16_i32_2689 : BitVec 32 := 16#32
  let v2185 : BitVec 32 := Scalar.muli v2184 c16_i32_2689
  v2185

def k0_mult12 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2686 : BitVec 32 := 8#32
  let v2181 : BitVec 32 := Scalar.muli arg16 c8_i32_2686
  let c5_i32 : BitVec 32 := 5#32
  let v2182 : BitVec 32 := Scalar.addi v2181 c5_i32
  let c16_i32_2690 : BitVec 32 := 16#32
  let v2187 : BitVec 32 := Scalar.muli v2182 c16_i32_2690
  v2187
def k0_off18 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2686 : BitVec 32 := 8#32
  let v2181 : BitVec 32 := Scalar.muli arg16 c8_i32_2686
  let c5_i32 : BitVec 32 := 5#32
  let v2182 : BitVec 32 := Scalar.addi v2181 c5_i32
  let c16_i32_2690 : BitVec 32 := 16#32
  let v2187 : BitVec 32 := Scalar.muli v2182 c16_i32_2690
  let v2188 : BitVec 32 := v2187
  let c0_i32_2692 : BitVec 32 := 0#32
  ![v2188.toNat, 0]
def k0_off19 (v2184 : BitVec 32) : Fin 2 → Nat :=
  let c16_i32_2689 : BitVec 32 := 16#32
  let v2185 : BitVec 32 := Scalar.muli v2184 c16_i32_2689
  let v2186 : BitVec 32 := v2185
  let c0_i32_2693 : BitVec 32 := 0#32
  ![v2186.toNat, 0]

def k0_chk6 (i : grid0.Coords) (v2184 : BitVec 32) : Prop :=
  (∀ (k0_h1 : k0_cond1 i = 1#1), 16 ∣ (k0_mult11 v2184).toNat) ∧
  (∀ (k0_h1 : k0_cond1 i = 1#1), ∀ a, (k0_off19 v2184) a + S16x128.size a ≤ S262144x128.size a)
theorem k0_mult11_dvd : ∀ (i : grid0.Coords) (v2184 : BitVec 32) (k0_hw6 : k0_chk6 i v2184), ∀ (k0_h1 : k0_cond1 i = 1#1), 16 ∣ (k0_mult11 v2184).toNat := fun i v2184 k0_hw6 k0_h1 => k0_hw6.1 k0_h1
theorem k0_off19_inb : ∀ (i : grid0.Coords) (v2184 : BitVec 32) (k0_hw6 : k0_chk6 i v2184), ∀ (k0_h1 : k0_cond1 i = 1#1), ∀ a, (k0_off19 v2184) a + S16x128.size a ≤ S262144x128.size a := fun i v2184 k0_hw6 k0_h1 => k0_hw6.2 k0_h1

def k0_off20 (k0_t1 : Fin k0_t1_loop.trips) : Fin 3 → Nat :=
  let c0_2695 : Index := 0#32
  let c0_2696 : Index := 0#32
  let c0_i32_2642 : BitVec 32 := 0#32
  let c1_i32_2644 : BitVec 32 := 1#32
  let arg16 : BitVec 32 := Scf.iv c0_i32_2642 c1_i32_2644 k0_t1
  let c8_i32_2694 : BitVec 32 := 8#32
  let v2193 : BitVec 32 := Scalar.muli arg16 c8_i32_2694
  let c6_i32 : BitVec 32 := 6#32
  let v2194 : BitVec 32 := Scalar.addi v2193 c6_i32
  let v2195 : Index := Scalar.indexCast v2194
  ![0, 0, v2195.toNat]
def k0_mult13 (v2196 : BitVec 32) : BitVec 32 :=
  let c16_i32_2697 : BitVec 32 := 16#32
  let v2197 : BitVec 32 := Scalar.muli v2196 c16_i32_2697
  v2197

def k0_mult14 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2694 : BitVec 32 := 8#32
  let v2193 : BitVec 32 := Scalar.muli arg16 c8_i32_2694
  let c6_i32 : BitVec 32 := 6#32
  let v2194 : BitVec 32 := Scalar.addi v2193 c6_i32
  let c16_i32_2698 : BitVec 32 := 16#32
  let v2199 : BitVec 32 := Scalar.muli v2194 c16_i32_2698
  v2199
def k0_off21 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2694 : BitVec 32 := 8#32
  let v2193 : BitVec 32 := Scalar.muli arg16 c8_i32_2694
  let c6_i32 : BitVec 32 := 6#32
  let v2194 : BitVec 32 := Scalar.addi v2193 c6_i32
  let c16_i32_2698 : BitVec 32 := 16#32
  let v2199 : BitVec 32 := Scalar.muli v2194 c16_i32_2698
  let v2200 : BitVec 32 := v2199
  let c0_i32_2700 : BitVec 32 := 0#32
  ![v2200.toNat, 0]
def k0_off22 (v2196 : BitVec 32) : Fin 2 → Nat :=
  let c16_i32_2697 : BitVec 32 := 16#32
  let v2197 : BitVec 32 := Scalar.muli v2196 c16_i32_2697
  let v2198 : BitVec 32 := v2197
  let c0_i32_2701 : BitVec 32 := 0#32
  ![v2198.toNat, 0]

def k0_chk7 (i : grid0.Coords) (v2196 : BitVec 32) : Prop :=
  (∀ (k0_h1 : k0_cond1 i = 1#1), 16 ∣ (k0_mult13 v2196).toNat) ∧
  (∀ (k0_h1 : k0_cond1 i = 1#1), ∀ a, (k0_off22 v2196) a + S16x128.size a ≤ S262144x128.size a)
theorem k0_mult13_dvd : ∀ (i : grid0.Coords) (v2196 : BitVec 32) (k0_hw7 : k0_chk7 i v2196), ∀ (k0_h1 : k0_cond1 i = 1#1), 16 ∣ (k0_mult13 v2196).toNat := fun i v2196 k0_hw7 k0_h1 => k0_hw7.1 k0_h1
theorem k0_off22_inb : ∀ (i : grid0.Coords) (v2196 : BitVec 32) (k0_hw7 : k0_chk7 i v2196), ∀ (k0_h1 : k0_cond1 i = 1#1), ∀ a, (k0_off22 v2196) a + S16x128.size a ≤ S262144x128.size a := fun i v2196 k0_hw7 k0_h1 => k0_hw7.2 k0_h1

def k0_off23 (k0_t1 : Fin k0_t1_loop.trips) : Fin 3 → Nat :=
  let c0_2703 : Index := 0#32
  let c0_2704 : Index := 0#32
  let c0_i32_2642 : BitVec 32 := 0#32
  let c1_i32_2644 : BitVec 32 := 1#32
  let arg16 : BitVec 32 := Scf.iv c0_i32_2642 c1_i32_2644 k0_t1
  let c8_i32_2702 : BitVec 32 := 8#32
  let v2205 : BitVec 32 := Scalar.muli arg16 c8_i32_2702
  let c7_i32 : BitVec 32 := 7#32
  let v2206 : BitVec 32 := Scalar.addi v2205 c7_i32
  let v2207 : Index := Scalar.indexCast v2206
  ![0, 0, v2207.toNat]
def k0_mult15 (v2208 : BitVec 32) : BitVec 32 :=
  let c16_i32_2705 : BitVec 32 := 16#32
  let v2209 : BitVec 32 := Scalar.muli v2208 c16_i32_2705
  v2209

def k0_mult16 (k0_t1 : Fin k0_t1_loop.trips) : BitVec 32 :=
  let c0_i32_2642 : BitVec 32 := 0#32
  let c1_i32_2644 : BitVec 32 := 1#32
  let arg16 : BitVec 32 := Scf.iv c0_i32_2642 c1_i32_2644 k0_t1
  let c8_i32_2702 : BitVec 32 := 8#32
  let v2205 : BitVec 32 := Scalar.muli arg16 c8_i32_2702
  let c7_i32 : BitVec 32 := 7#32
  let v2206 : BitVec 32 := Scalar.addi v2205 c7_i32
  let c16_i32_2706 : BitVec 32 := 16#32
  let v2211 : BitVec 32 := Scalar.muli v2206 c16_i32_2706
  v2211
def k0_off24 (k0_t1 : Fin k0_t1_loop.trips) : Fin 2 → Nat :=
  let c0_i32_2642 : BitVec 32 := 0#32
  let c1_i32_2644 : BitVec 32 := 1#32
  let arg16 : BitVec 32 := Scf.iv c0_i32_2642 c1_i32_2644 k0_t1
  let c8_i32_2702 : BitVec 32 := 8#32
  let v2205 : BitVec 32 := Scalar.muli arg16 c8_i32_2702
  let c7_i32 : BitVec 32 := 7#32
  let v2206 : BitVec 32 := Scalar.addi v2205 c7_i32
  let c16_i32_2706 : BitVec 32 := 16#32
  let v2211 : BitVec 32 := Scalar.muli v2206 c16_i32_2706
  let v2212 : BitVec 32 := v2211
  let c0_i32_2708 : BitVec 32 := 0#32
  ![v2212.toNat, 0]
def k0_off25 (v2208 : BitVec 32) : Fin 2 → Nat :=
  let c16_i32_2705 : BitVec 32 := 16#32
  let v2209 : BitVec 32 := Scalar.muli v2208 c16_i32_2705
  let v2210 : BitVec 32 := v2209
  let c0_i32_2709 : BitVec 32 := 0#32
  ![v2210.toNat, 0]

def k0_chk8 (i : grid0.Coords) (v2208 : BitVec 32) : Prop :=
  (∀ (k0_h1 : k0_cond1 i = 1#1), 16 ∣ (k0_mult15 v2208).toNat) ∧
  (∀ (k0_h1 : k0_cond1 i = 1#1), ∀ a, (k0_off25 v2208) a + S16x128.size a ≤ S262144x128.size a)
theorem k0_mult15_dvd : ∀ (i : grid0.Coords) (v2208 : BitVec 32) (k0_hw8 : k0_chk8 i v2208), ∀ (k0_h1 : k0_cond1 i = 1#1), 16 ∣ (k0_mult15 v2208).toNat := fun i v2208 k0_hw8 k0_h1 => k0_hw8.1 k0_h1
theorem k0_off25_inb : ∀ (i : grid0.Coords) (v2208 : BitVec 32) (k0_hw8 : k0_chk8 i v2208), ∀ (k0_h1 : k0_cond1 i = 1#1), ∀ a, (k0_off25 v2208) a + S16x128.size a ≤ S262144x128.size a := fun i v2208 k0_hw8 k0_h1 => k0_hw8.2 k0_h1

@[reducible] def k0_t2_loop : Scf.Loop 32 :=
  let c0_i32_1281 : BitVec 32 := 0#32
  let c32_i32 : BitVec 32 := 32#32
  let v1027 : BitVec 32 := Scalar.addi c0_i32_1281 c32_i32
  let c1_i32 : BitVec 32 := 1#32
  ⟨c0_i32_1281, v1027, c1_i32⟩
def k0_off26 (k0_t2 : Fin k0_t2_loop.trips) : Fin 3 → Nat :=
  let c0_2643 : Index := 0#32
  let c0_2644 : Index := 0#32
  let c0_i32_1281 : BitVec 32 := 0#32
  let c1_i32 : BitVec 32 := 1#32
  let arg16 : BitVec 32 := Scf.iv c0_i32_1281 c1_i32 k0_t2
  let c8_i32 : BitVec 32 := 8#32
  let v2120 : BitVec 32 := Scalar.muli arg16 c8_i32
  let c0_i32_2642 : BitVec 32 := 0#32
  let v2121 : BitVec 32 := Scalar.addi v2120 c0_i32_2642
  let v2122 : Index := Scalar.indexCast v2121
  ![0, 0, v2122.toNat]
def k0_mult17 (v2123 : BitVec 32) : BitVec 32 :=
  let c16_i32 : BitVec 32 := 16#32
  let v2124 : BitVec 32 := Scalar.muli v2123 c16_i32
  v2124

def k0_mult18 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32 : BitVec 32 := 8#32
  let v2120 : BitVec 32 := Scalar.muli arg16 c8_i32
  let c0_i32_2642 : BitVec 32 := 0#32
  let v2121 : BitVec 32 := Scalar.addi v2120 c0_i32_2642
  let c16_i32_2645 : BitVec 32 := 16#32
  let v2126 : BitVec 32 := Scalar.muli v2121 c16_i32_2645
  v2126
def k0_off27 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32 : BitVec 32 := 8#32
  let v2120 : BitVec 32 := Scalar.muli arg16 c8_i32
  let c0_i32_2642 : BitVec 32 := 0#32
  let v2121 : BitVec 32 := Scalar.addi v2120 c0_i32_2642
  let c16_i32_2645 : BitVec 32 := 16#32
  let v2126 : BitVec 32 := Scalar.muli v2121 c16_i32_2645
  let v2127 : BitVec 32 := v2126
  let c0_i32_2647 : BitVec 32 := 0#32
  ![v2127.toNat, 0]
def k0_off28 (v2123 : BitVec 32) : Fin 2 → Nat :=
  let c16_i32 : BitVec 32 := 16#32
  let v2124 : BitVec 32 := Scalar.muli v2123 c16_i32
  let v2125 : BitVec 32 := v2124
  let c0_i32_2648 : BitVec 32 := 0#32
  ![v2125.toNat, 0]

def k0_chk9 (v2123 : BitVec 32) : Prop :=
  (16 ∣ (k0_mult17 v2123).toNat) ∧
  (∀ a, (k0_off28 v2123) a + S16x128.size a ≤ S262144x128.size a)
theorem k0_mult17_dvd : ∀ (v2123 : BitVec 32) (k0_hw9 : k0_chk9 v2123), 16 ∣ (k0_mult17 v2123).toNat := fun v2123 k0_hw9 => k0_hw9.1
theorem k0_off28_inb : ∀ (v2123 : BitVec 32) (k0_hw9 : k0_chk9 v2123), ∀ a, (k0_off28 v2123) a + S16x128.size a ≤ S262144x128.size a := fun v2123 k0_hw9 => k0_hw9.2

def k0_off29 (k0_t2 : Fin k0_t2_loop.trips) : Fin 3 → Nat :=
  let c0_2651 : Index := 0#32
  let c0_2652 : Index := 0#32
  let c0_i32_1281 : BitVec 32 := 0#32
  let c1_i32 : BitVec 32 := 1#32
  let arg16 : BitVec 32 := Scf.iv c0_i32_1281 c1_i32 k0_t2
  let c8_i32_2649 : BitVec 32 := 8#32
  let v2132 : BitVec 32 := Scalar.muli arg16 c8_i32_2649
  let c1_i32_2650 : BitVec 32 := 1#32
  let v2133 : BitVec 32 := Scalar.addi v2132 c1_i32_2650
  let v2134 : Index := Scalar.indexCast v2133
  ![0, 0, v2134.toNat]
def k0_mult19 (v2135 : BitVec 32) : BitVec 32 :=
  let c16_i32_2653 : BitVec 32 := 16#32
  let v2136 : BitVec 32 := Scalar.muli v2135 c16_i32_2653
  v2136

def k0_mult20 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2649 : BitVec 32 := 8#32
  let v2132 : BitVec 32 := Scalar.muli arg16 c8_i32_2649
  let c1_i32_2650 : BitVec 32 := 1#32
  let v2133 : BitVec 32 := Scalar.addi v2132 c1_i32_2650
  let c16_i32_2654 : BitVec 32 := 16#32
  let v2138 : BitVec 32 := Scalar.muli v2133 c16_i32_2654
  v2138
def k0_off30 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2649 : BitVec 32 := 8#32
  let v2132 : BitVec 32 := Scalar.muli arg16 c8_i32_2649
  let c1_i32_2650 : BitVec 32 := 1#32
  let v2133 : BitVec 32 := Scalar.addi v2132 c1_i32_2650
  let c16_i32_2654 : BitVec 32 := 16#32
  let v2138 : BitVec 32 := Scalar.muli v2133 c16_i32_2654
  let v2139 : BitVec 32 := v2138
  let c0_i32_2656 : BitVec 32 := 0#32
  ![v2139.toNat, 0]
def k0_off31 (v2135 : BitVec 32) : Fin 2 → Nat :=
  let c16_i32_2653 : BitVec 32 := 16#32
  let v2136 : BitVec 32 := Scalar.muli v2135 c16_i32_2653
  let v2137 : BitVec 32 := v2136
  let c0_i32_2657 : BitVec 32 := 0#32
  ![v2137.toNat, 0]

def k0_chk10 (v2135 : BitVec 32) : Prop :=
  (16 ∣ (k0_mult19 v2135).toNat) ∧
  (∀ a, (k0_off31 v2135) a + S16x128.size a ≤ S262144x128.size a)
theorem k0_mult19_dvd : ∀ (v2135 : BitVec 32) (k0_hw10 : k0_chk10 v2135), 16 ∣ (k0_mult19 v2135).toNat := fun v2135 k0_hw10 => k0_hw10.1
theorem k0_off31_inb : ∀ (v2135 : BitVec 32) (k0_hw10 : k0_chk10 v2135), ∀ a, (k0_off31 v2135) a + S16x128.size a ≤ S262144x128.size a := fun v2135 k0_hw10 => k0_hw10.2

def k0_off32 (k0_t2 : Fin k0_t2_loop.trips) : Fin 3 → Nat :=
  let c0_2659 : Index := 0#32
  let c0_2660 : Index := 0#32
  let c0_i32_1281 : BitVec 32 := 0#32
  let c1_i32 : BitVec 32 := 1#32
  let arg16 : BitVec 32 := Scf.iv c0_i32_1281 c1_i32 k0_t2
  let c8_i32_2658 : BitVec 32 := 8#32
  let v2144 : BitVec 32 := Scalar.muli arg16 c8_i32_2658
  let c2_i32 : BitVec 32 := 2#32
  let v2145 : BitVec 32 := Scalar.addi v2144 c2_i32
  let v2146 : Index := Scalar.indexCast v2145
  ![0, 0, v2146.toNat]
def k0_mult21 (v2147 : BitVec 32) : BitVec 32 :=
  let c16_i32_2661 : BitVec 32 := 16#32
  let v2148 : BitVec 32 := Scalar.muli v2147 c16_i32_2661
  v2148

def k0_mult22 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2658 : BitVec 32 := 8#32
  let v2144 : BitVec 32 := Scalar.muli arg16 c8_i32_2658
  let c2_i32 : BitVec 32 := 2#32
  let v2145 : BitVec 32 := Scalar.addi v2144 c2_i32
  let c16_i32_2662 : BitVec 32 := 16#32
  let v2150 : BitVec 32 := Scalar.muli v2145 c16_i32_2662
  v2150
def k0_off33 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2658 : BitVec 32 := 8#32
  let v2144 : BitVec 32 := Scalar.muli arg16 c8_i32_2658
  let c2_i32 : BitVec 32 := 2#32
  let v2145 : BitVec 32 := Scalar.addi v2144 c2_i32
  let c16_i32_2662 : BitVec 32 := 16#32
  let v2150 : BitVec 32 := Scalar.muli v2145 c16_i32_2662
  let v2151 : BitVec 32 := v2150
  let c0_i32_2664 : BitVec 32 := 0#32
  ![v2151.toNat, 0]
def k0_off34 (v2147 : BitVec 32) : Fin 2 → Nat :=
  let c16_i32_2661 : BitVec 32 := 16#32
  let v2148 : BitVec 32 := Scalar.muli v2147 c16_i32_2661
  let v2149 : BitVec 32 := v2148
  let c0_i32_2665 : BitVec 32 := 0#32
  ![v2149.toNat, 0]

def k0_chk11 (v2147 : BitVec 32) : Prop :=
  (16 ∣ (k0_mult21 v2147).toNat) ∧
  (∀ a, (k0_off34 v2147) a + S16x128.size a ≤ S262144x128.size a)
theorem k0_mult21_dvd : ∀ (v2147 : BitVec 32) (k0_hw11 : k0_chk11 v2147), 16 ∣ (k0_mult21 v2147).toNat := fun v2147 k0_hw11 => k0_hw11.1
theorem k0_off34_inb : ∀ (v2147 : BitVec 32) (k0_hw11 : k0_chk11 v2147), ∀ a, (k0_off34 v2147) a + S16x128.size a ≤ S262144x128.size a := fun v2147 k0_hw11 => k0_hw11.2

def k0_off35 (k0_t2 : Fin k0_t2_loop.trips) : Fin 3 → Nat :=
  let c0_2667 : Index := 0#32
  let c0_2668 : Index := 0#32
  let c0_i32_1281 : BitVec 32 := 0#32
  let c1_i32 : BitVec 32 := 1#32
  let arg16 : BitVec 32 := Scf.iv c0_i32_1281 c1_i32 k0_t2
  let c8_i32_2666 : BitVec 32 := 8#32
  let v2156 : BitVec 32 := Scalar.muli arg16 c8_i32_2666
  let c3_i32 : BitVec 32 := 3#32
  let v2157 : BitVec 32 := Scalar.addi v2156 c3_i32
  let v2158 : Index := Scalar.indexCast v2157
  ![0, 0, v2158.toNat]
def k0_mult23 (v2159 : BitVec 32) : BitVec 32 :=
  let c16_i32_2669 : BitVec 32 := 16#32
  let v2160 : BitVec 32 := Scalar.muli v2159 c16_i32_2669
  v2160

def k0_mult24 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2666 : BitVec 32 := 8#32
  let v2156 : BitVec 32 := Scalar.muli arg16 c8_i32_2666
  let c3_i32 : BitVec 32 := 3#32
  let v2157 : BitVec 32 := Scalar.addi v2156 c3_i32
  let c16_i32_2670 : BitVec 32 := 16#32
  let v2162 : BitVec 32 := Scalar.muli v2157 c16_i32_2670
  v2162
def k0_off36 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2666 : BitVec 32 := 8#32
  let v2156 : BitVec 32 := Scalar.muli arg16 c8_i32_2666
  let c3_i32 : BitVec 32 := 3#32
  let v2157 : BitVec 32 := Scalar.addi v2156 c3_i32
  let c16_i32_2670 : BitVec 32 := 16#32
  let v2162 : BitVec 32 := Scalar.muli v2157 c16_i32_2670
  let v2163 : BitVec 32 := v2162
  let c0_i32_2672 : BitVec 32 := 0#32
  ![v2163.toNat, 0]
def k0_off37 (v2159 : BitVec 32) : Fin 2 → Nat :=
  let c16_i32_2669 : BitVec 32 := 16#32
  let v2160 : BitVec 32 := Scalar.muli v2159 c16_i32_2669
  let v2161 : BitVec 32 := v2160
  let c0_i32_2673 : BitVec 32 := 0#32
  ![v2161.toNat, 0]

def k0_chk12 (v2159 : BitVec 32) : Prop :=
  (16 ∣ (k0_mult23 v2159).toNat) ∧
  (∀ a, (k0_off37 v2159) a + S16x128.size a ≤ S262144x128.size a)
theorem k0_mult23_dvd : ∀ (v2159 : BitVec 32) (k0_hw12 : k0_chk12 v2159), 16 ∣ (k0_mult23 v2159).toNat := fun v2159 k0_hw12 => k0_hw12.1
theorem k0_off37_inb : ∀ (v2159 : BitVec 32) (k0_hw12 : k0_chk12 v2159), ∀ a, (k0_off37 v2159) a + S16x128.size a ≤ S262144x128.size a := fun v2159 k0_hw12 => k0_hw12.2

def k0_off38 (k0_t2 : Fin k0_t2_loop.trips) : Fin 3 → Nat :=
  let c0_2675 : Index := 0#32
  let c0_2676 : Index := 0#32
  let c0_i32_1281 : BitVec 32 := 0#32
  let c1_i32 : BitVec 32 := 1#32
  let arg16 : BitVec 32 := Scf.iv c0_i32_1281 c1_i32 k0_t2
  let c8_i32_2674 : BitVec 32 := 8#32
  let v2168 : BitVec 32 := Scalar.muli arg16 c8_i32_2674
  let c4_i32 : BitVec 32 := 4#32
  let v2169 : BitVec 32 := Scalar.addi v2168 c4_i32
  let v2170 : Index := Scalar.indexCast v2169
  ![0, 0, v2170.toNat]
def k0_mult25 (v2171 : BitVec 32) : BitVec 32 :=
  let c16_i32_2677 : BitVec 32 := 16#32
  let v2172 : BitVec 32 := Scalar.muli v2171 c16_i32_2677
  v2172

def k0_mult26 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2674 : BitVec 32 := 8#32
  let v2168 : BitVec 32 := Scalar.muli arg16 c8_i32_2674
  let c4_i32 : BitVec 32 := 4#32
  let v2169 : BitVec 32 := Scalar.addi v2168 c4_i32
  let c16_i32_2678 : BitVec 32 := 16#32
  let v2174 : BitVec 32 := Scalar.muli v2169 c16_i32_2678
  v2174
def k0_off39 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2674 : BitVec 32 := 8#32
  let v2168 : BitVec 32 := Scalar.muli arg16 c8_i32_2674
  let c4_i32 : BitVec 32 := 4#32
  let v2169 : BitVec 32 := Scalar.addi v2168 c4_i32
  let c16_i32_2678 : BitVec 32 := 16#32
  let v2174 : BitVec 32 := Scalar.muli v2169 c16_i32_2678
  let v2175 : BitVec 32 := v2174
  let c0_i32_2680 : BitVec 32 := 0#32
  ![v2175.toNat, 0]
def k0_off40 (v2171 : BitVec 32) : Fin 2 → Nat :=
  let c16_i32_2677 : BitVec 32 := 16#32
  let v2172 : BitVec 32 := Scalar.muli v2171 c16_i32_2677
  let v2173 : BitVec 32 := v2172
  let c0_i32_2681 : BitVec 32 := 0#32
  ![v2173.toNat, 0]

def k0_chk13 (v2171 : BitVec 32) : Prop :=
  (16 ∣ (k0_mult25 v2171).toNat) ∧
  (∀ a, (k0_off40 v2171) a + S16x128.size a ≤ S262144x128.size a)
theorem k0_mult25_dvd : ∀ (v2171 : BitVec 32) (k0_hw13 : k0_chk13 v2171), 16 ∣ (k0_mult25 v2171).toNat := fun v2171 k0_hw13 => k0_hw13.1
theorem k0_off40_inb : ∀ (v2171 : BitVec 32) (k0_hw13 : k0_chk13 v2171), ∀ a, (k0_off40 v2171) a + S16x128.size a ≤ S262144x128.size a := fun v2171 k0_hw13 => k0_hw13.2

def k0_off41 (k0_t2 : Fin k0_t2_loop.trips) : Fin 3 → Nat :=
  let c0_2683 : Index := 0#32
  let c0_2684 : Index := 0#32
  let c0_i32_1281 : BitVec 32 := 0#32
  let c1_i32 : BitVec 32 := 1#32
  let arg16 : BitVec 32 := Scf.iv c0_i32_1281 c1_i32 k0_t2
  let c8_i32_2682 : BitVec 32 := 8#32
  let v2180 : BitVec 32 := Scalar.muli arg16 c8_i32_2682
  let c5_i32 : BitVec 32 := 5#32
  let v2181 : BitVec 32 := Scalar.addi v2180 c5_i32
  let v2182 : Index := Scalar.indexCast v2181
  ![0, 0, v2182.toNat]
def k0_mult27 (v2183 : BitVec 32) : BitVec 32 :=
  let c16_i32_2685 : BitVec 32 := 16#32
  let v2184 : BitVec 32 := Scalar.muli v2183 c16_i32_2685
  v2184

def k0_mult28 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2682 : BitVec 32 := 8#32
  let v2180 : BitVec 32 := Scalar.muli arg16 c8_i32_2682
  let c5_i32 : BitVec 32 := 5#32
  let v2181 : BitVec 32 := Scalar.addi v2180 c5_i32
  let c16_i32_2686 : BitVec 32 := 16#32
  let v2186 : BitVec 32 := Scalar.muli v2181 c16_i32_2686
  v2186
def k0_off42 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2682 : BitVec 32 := 8#32
  let v2180 : BitVec 32 := Scalar.muli arg16 c8_i32_2682
  let c5_i32 : BitVec 32 := 5#32
  let v2181 : BitVec 32 := Scalar.addi v2180 c5_i32
  let c16_i32_2686 : BitVec 32 := 16#32
  let v2186 : BitVec 32 := Scalar.muli v2181 c16_i32_2686
  let v2187 : BitVec 32 := v2186
  let c0_i32_2688 : BitVec 32 := 0#32
  ![v2187.toNat, 0]
def k0_off43 (v2183 : BitVec 32) : Fin 2 → Nat :=
  let c16_i32_2685 : BitVec 32 := 16#32
  let v2184 : BitVec 32 := Scalar.muli v2183 c16_i32_2685
  let v2185 : BitVec 32 := v2184
  let c0_i32_2689 : BitVec 32 := 0#32
  ![v2185.toNat, 0]

def k0_chk14 (v2183 : BitVec 32) : Prop :=
  (16 ∣ (k0_mult27 v2183).toNat) ∧
  (∀ a, (k0_off43 v2183) a + S16x128.size a ≤ S262144x128.size a)
theorem k0_mult27_dvd : ∀ (v2183 : BitVec 32) (k0_hw14 : k0_chk14 v2183), 16 ∣ (k0_mult27 v2183).toNat := fun v2183 k0_hw14 => k0_hw14.1
theorem k0_off43_inb : ∀ (v2183 : BitVec 32) (k0_hw14 : k0_chk14 v2183), ∀ a, (k0_off43 v2183) a + S16x128.size a ≤ S262144x128.size a := fun v2183 k0_hw14 => k0_hw14.2

def k0_off44 (k0_t2 : Fin k0_t2_loop.trips) : Fin 3 → Nat :=
  let c0_2691 : Index := 0#32
  let c0_2692 : Index := 0#32
  let c0_i32_1281 : BitVec 32 := 0#32
  let c1_i32 : BitVec 32 := 1#32
  let arg16 : BitVec 32 := Scf.iv c0_i32_1281 c1_i32 k0_t2
  let c8_i32_2690 : BitVec 32 := 8#32
  let v2192 : BitVec 32 := Scalar.muli arg16 c8_i32_2690
  let c6_i32 : BitVec 32 := 6#32
  let v2193 : BitVec 32 := Scalar.addi v2192 c6_i32
  let v2194 : Index := Scalar.indexCast v2193
  ![0, 0, v2194.toNat]
def k0_mult29 (v2195 : BitVec 32) : BitVec 32 :=
  let c16_i32_2693 : BitVec 32 := 16#32
  let v2196 : BitVec 32 := Scalar.muli v2195 c16_i32_2693
  v2196

def k0_mult30 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2690 : BitVec 32 := 8#32
  let v2192 : BitVec 32 := Scalar.muli arg16 c8_i32_2690
  let c6_i32 : BitVec 32 := 6#32
  let v2193 : BitVec 32 := Scalar.addi v2192 c6_i32
  let c16_i32_2694 : BitVec 32 := 16#32
  let v2198 : BitVec 32 := Scalar.muli v2193 c16_i32_2694
  v2198
def k0_off45 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2690 : BitVec 32 := 8#32
  let v2192 : BitVec 32 := Scalar.muli arg16 c8_i32_2690
  let c6_i32 : BitVec 32 := 6#32
  let v2193 : BitVec 32 := Scalar.addi v2192 c6_i32
  let c16_i32_2694 : BitVec 32 := 16#32
  let v2198 : BitVec 32 := Scalar.muli v2193 c16_i32_2694
  let v2199 : BitVec 32 := v2198
  let c0_i32_2696 : BitVec 32 := 0#32
  ![v2199.toNat, 0]
def k0_off46 (v2195 : BitVec 32) : Fin 2 → Nat :=
  let c16_i32_2693 : BitVec 32 := 16#32
  let v2196 : BitVec 32 := Scalar.muli v2195 c16_i32_2693
  let v2197 : BitVec 32 := v2196
  let c0_i32_2697 : BitVec 32 := 0#32
  ![v2197.toNat, 0]

def k0_chk15 (v2195 : BitVec 32) : Prop :=
  (16 ∣ (k0_mult29 v2195).toNat) ∧
  (∀ a, (k0_off46 v2195) a + S16x128.size a ≤ S262144x128.size a)
theorem k0_mult29_dvd : ∀ (v2195 : BitVec 32) (k0_hw15 : k0_chk15 v2195), 16 ∣ (k0_mult29 v2195).toNat := fun v2195 k0_hw15 => k0_hw15.1
theorem k0_off46_inb : ∀ (v2195 : BitVec 32) (k0_hw15 : k0_chk15 v2195), ∀ a, (k0_off46 v2195) a + S16x128.size a ≤ S262144x128.size a := fun v2195 k0_hw15 => k0_hw15.2

def k0_off47 (k0_t2 : Fin k0_t2_loop.trips) : Fin 3 → Nat :=
  let c0_2699 : Index := 0#32
  let c0_2700 : Index := 0#32
  let c0_i32_1281 : BitVec 32 := 0#32
  let c1_i32 : BitVec 32 := 1#32
  let arg16 : BitVec 32 := Scf.iv c0_i32_1281 c1_i32 k0_t2
  let c8_i32_2698 : BitVec 32 := 8#32
  let v2204 : BitVec 32 := Scalar.muli arg16 c8_i32_2698
  let c7_i32 : BitVec 32 := 7#32
  let v2205 : BitVec 32 := Scalar.addi v2204 c7_i32
  let v2206 : Index := Scalar.indexCast v2205
  ![0, 0, v2206.toNat]
def k0_mult31 (v2207 : BitVec 32) : BitVec 32 :=
  let c16_i32_2701 : BitVec 32 := 16#32
  let v2208 : BitVec 32 := Scalar.muli v2207 c16_i32_2701
  v2208

def k0_mult32 (k0_t2 : Fin k0_t2_loop.trips) : BitVec 32 :=
  let c0_i32_1281 : BitVec 32 := 0#32
  let c1_i32 : BitVec 32 := 1#32
  let arg16 : BitVec 32 := Scf.iv c0_i32_1281 c1_i32 k0_t2
  let c8_i32_2698 : BitVec 32 := 8#32
  let v2204 : BitVec 32 := Scalar.muli arg16 c8_i32_2698
  let c7_i32 : BitVec 32 := 7#32
  let v2205 : BitVec 32 := Scalar.addi v2204 c7_i32
  let c16_i32_2702 : BitVec 32 := 16#32
  let v2210 : BitVec 32 := Scalar.muli v2205 c16_i32_2702
  v2210
def k0_off48 (k0_t2 : Fin k0_t2_loop.trips) : Fin 2 → Nat :=
  let c0_i32_1281 : BitVec 32 := 0#32
  let c1_i32 : BitVec 32 := 1#32
  let arg16 : BitVec 32 := Scf.iv c0_i32_1281 c1_i32 k0_t2
  let c8_i32_2698 : BitVec 32 := 8#32
  let v2204 : BitVec 32 := Scalar.muli arg16 c8_i32_2698
  let c7_i32 : BitVec 32 := 7#32
  let v2205 : BitVec 32 := Scalar.addi v2204 c7_i32
  let c16_i32_2702 : BitVec 32 := 16#32
  let v2210 : BitVec 32 := Scalar.muli v2205 c16_i32_2702
  let v2211 : BitVec 32 := v2210
  let c0_i32_2704 : BitVec 32 := 0#32
  ![v2211.toNat, 0]
def k0_off49 (v2207 : BitVec 32) : Fin 2 → Nat :=
  let c16_i32_2701 : BitVec 32 := 16#32
  let v2208 : BitVec 32 := Scalar.muli v2207 c16_i32_2701
  let v2209 : BitVec 32 := v2208
  let c0_i32_2705 : BitVec 32 := 0#32
  ![v2209.toNat, 0]

def k0_chk16 (v2207 : BitVec 32) : Prop :=
  (16 ∣ (k0_mult31 v2207).toNat) ∧
  (∀ a, (k0_off49 v2207) a + S16x128.size a ≤ S262144x128.size a)
theorem k0_mult31_dvd : ∀ (v2207 : BitVec 32) (k0_hw16 : k0_chk16 v2207), 16 ∣ (k0_mult31 v2207).toNat := fun v2207 k0_hw16 => k0_hw16.1
theorem k0_off49_inb : ∀ (v2207 : BitVec 32) (k0_hw16 : k0_chk16 v2207), ∀ a, (k0_off49 v2207) a + S16x128.size a ≤ S262144x128.size a := fun v2207 k0_hw16 => k0_hw16.2

@[reducible] def k0_t3_loop : Scf.Loop 32 :=
  let c0_i32_2592 : BitVec 32 := 0#32
  let c32_i32_2593 : BitVec 32 := 32#32
  let v2084 : BitVec 32 := Scalar.addi c0_i32_2592 c32_i32_2593
  let c1_i32_2594 : BitVec 32 := 1#32
  ⟨c0_i32_2592, v2084, c1_i32_2594⟩
def k0_off50 (k0_t3 : Fin k0_t3_loop.trips) : Fin 3 → Nat :=
  let c0_2643 : Index := 0#32
  let c0_2644 : Index := 0#32
  let c0_i32_2592 : BitVec 32 := 0#32
  let c1_i32_2594 : BitVec 32 := 1#32
  let arg16 : BitVec 32 := Scf.iv c0_i32_2592 c1_i32_2594 k0_t3
  let c8_i32 : BitVec 32 := 8#32
  let v2120 : BitVec 32 := Scalar.muli arg16 c8_i32
  let c0_i32_2642 : BitVec 32 := 0#32
  let v2121 : BitVec 32 := Scalar.addi v2120 c0_i32_2642
  let v2122 : Index := Scalar.indexCast v2121
  ![0, 0, v2122.toNat]
def k0_mult33 (v2123 : BitVec 32) : BitVec 32 :=
  let c16_i32 : BitVec 32 := 16#32
  let v2124 : BitVec 32 := Scalar.muli v2123 c16_i32
  v2124

def k0_mult34 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32 : BitVec 32 := 8#32
  let v2120 : BitVec 32 := Scalar.muli arg16 c8_i32
  let c0_i32_2642 : BitVec 32 := 0#32
  let v2121 : BitVec 32 := Scalar.addi v2120 c0_i32_2642
  let c16_i32_2645 : BitVec 32 := 16#32
  let v2126 : BitVec 32 := Scalar.muli v2121 c16_i32_2645
  v2126
def k0_off51 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32 : BitVec 32 := 8#32
  let v2120 : BitVec 32 := Scalar.muli arg16 c8_i32
  let c0_i32_2642 : BitVec 32 := 0#32
  let v2121 : BitVec 32 := Scalar.addi v2120 c0_i32_2642
  let c16_i32_2645 : BitVec 32 := 16#32
  let v2126 : BitVec 32 := Scalar.muli v2121 c16_i32_2645
  let v2127 : BitVec 32 := v2126
  let c0_i32_2647 : BitVec 32 := 0#32
  ![v2127.toNat, 0]
def k0_off52 (v2123 : BitVec 32) : Fin 2 → Nat :=
  let c16_i32 : BitVec 32 := 16#32
  let v2124 : BitVec 32 := Scalar.muli v2123 c16_i32
  let v2125 : BitVec 32 := v2124
  let c0_i32_2648 : BitVec 32 := 0#32
  ![v2125.toNat, 0]

def k0_chk17 (v2123 : BitVec 32) : Prop :=
  (16 ∣ (k0_mult33 v2123).toNat) ∧
  (∀ a, (k0_off52 v2123) a + S16x128.size a ≤ S262144x128.size a)
theorem k0_mult33_dvd : ∀ (v2123 : BitVec 32) (k0_hw17 : k0_chk17 v2123), 16 ∣ (k0_mult33 v2123).toNat := fun v2123 k0_hw17 => k0_hw17.1
theorem k0_off52_inb : ∀ (v2123 : BitVec 32) (k0_hw17 : k0_chk17 v2123), ∀ a, (k0_off52 v2123) a + S16x128.size a ≤ S262144x128.size a := fun v2123 k0_hw17 => k0_hw17.2

def k0_off53 (k0_t3 : Fin k0_t3_loop.trips) : Fin 3 → Nat :=
  let c0_2651 : Index := 0#32
  let c0_2652 : Index := 0#32
  let c0_i32_2592 : BitVec 32 := 0#32
  let c1_i32_2594 : BitVec 32 := 1#32
  let arg16 : BitVec 32 := Scf.iv c0_i32_2592 c1_i32_2594 k0_t3
  let c8_i32_2649 : BitVec 32 := 8#32
  let v2132 : BitVec 32 := Scalar.muli arg16 c8_i32_2649
  let c1_i32_2650 : BitVec 32 := 1#32
  let v2133 : BitVec 32 := Scalar.addi v2132 c1_i32_2650
  let v2134 : Index := Scalar.indexCast v2133
  ![0, 0, v2134.toNat]
def k0_mult35 (v2135 : BitVec 32) : BitVec 32 :=
  let c16_i32_2653 : BitVec 32 := 16#32
  let v2136 : BitVec 32 := Scalar.muli v2135 c16_i32_2653
  v2136

def k0_mult36 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2649 : BitVec 32 := 8#32
  let v2132 : BitVec 32 := Scalar.muli arg16 c8_i32_2649
  let c1_i32_2650 : BitVec 32 := 1#32
  let v2133 : BitVec 32 := Scalar.addi v2132 c1_i32_2650
  let c16_i32_2654 : BitVec 32 := 16#32
  let v2138 : BitVec 32 := Scalar.muli v2133 c16_i32_2654
  v2138
def k0_off54 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2649 : BitVec 32 := 8#32
  let v2132 : BitVec 32 := Scalar.muli arg16 c8_i32_2649
  let c1_i32_2650 : BitVec 32 := 1#32
  let v2133 : BitVec 32 := Scalar.addi v2132 c1_i32_2650
  let c16_i32_2654 : BitVec 32 := 16#32
  let v2138 : BitVec 32 := Scalar.muli v2133 c16_i32_2654
  let v2139 : BitVec 32 := v2138
  let c0_i32_2656 : BitVec 32 := 0#32
  ![v2139.toNat, 0]
def k0_off55 (v2135 : BitVec 32) : Fin 2 → Nat :=
  let c16_i32_2653 : BitVec 32 := 16#32
  let v2136 : BitVec 32 := Scalar.muli v2135 c16_i32_2653
  let v2137 : BitVec 32 := v2136
  let c0_i32_2657 : BitVec 32 := 0#32
  ![v2137.toNat, 0]

def k0_chk18 (v2135 : BitVec 32) : Prop :=
  (16 ∣ (k0_mult35 v2135).toNat) ∧
  (∀ a, (k0_off55 v2135) a + S16x128.size a ≤ S262144x128.size a)
theorem k0_mult35_dvd : ∀ (v2135 : BitVec 32) (k0_hw18 : k0_chk18 v2135), 16 ∣ (k0_mult35 v2135).toNat := fun v2135 k0_hw18 => k0_hw18.1
theorem k0_off55_inb : ∀ (v2135 : BitVec 32) (k0_hw18 : k0_chk18 v2135), ∀ a, (k0_off55 v2135) a + S16x128.size a ≤ S262144x128.size a := fun v2135 k0_hw18 => k0_hw18.2

def k0_off56 (k0_t3 : Fin k0_t3_loop.trips) : Fin 3 → Nat :=
  let c0_2659 : Index := 0#32
  let c0_2660 : Index := 0#32
  let c0_i32_2592 : BitVec 32 := 0#32
  let c1_i32_2594 : BitVec 32 := 1#32
  let arg16 : BitVec 32 := Scf.iv c0_i32_2592 c1_i32_2594 k0_t3
  let c8_i32_2658 : BitVec 32 := 8#32
  let v2144 : BitVec 32 := Scalar.muli arg16 c8_i32_2658
  let c2_i32 : BitVec 32 := 2#32
  let v2145 : BitVec 32 := Scalar.addi v2144 c2_i32
  let v2146 : Index := Scalar.indexCast v2145
  ![0, 0, v2146.toNat]
def k0_mult37 (v2147 : BitVec 32) : BitVec 32 :=
  let c16_i32_2661 : BitVec 32 := 16#32
  let v2148 : BitVec 32 := Scalar.muli v2147 c16_i32_2661
  v2148

def k0_mult38 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2658 : BitVec 32 := 8#32
  let v2144 : BitVec 32 := Scalar.muli arg16 c8_i32_2658
  let c2_i32 : BitVec 32 := 2#32
  let v2145 : BitVec 32 := Scalar.addi v2144 c2_i32
  let c16_i32_2662 : BitVec 32 := 16#32
  let v2150 : BitVec 32 := Scalar.muli v2145 c16_i32_2662
  v2150
def k0_off57 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2658 : BitVec 32 := 8#32
  let v2144 : BitVec 32 := Scalar.muli arg16 c8_i32_2658
  let c2_i32 : BitVec 32 := 2#32
  let v2145 : BitVec 32 := Scalar.addi v2144 c2_i32
  let c16_i32_2662 : BitVec 32 := 16#32
  let v2150 : BitVec 32 := Scalar.muli v2145 c16_i32_2662
  let v2151 : BitVec 32 := v2150
  let c0_i32_2664 : BitVec 32 := 0#32
  ![v2151.toNat, 0]
def k0_off58 (v2147 : BitVec 32) : Fin 2 → Nat :=
  let c16_i32_2661 : BitVec 32 := 16#32
  let v2148 : BitVec 32 := Scalar.muli v2147 c16_i32_2661
  let v2149 : BitVec 32 := v2148
  let c0_i32_2665 : BitVec 32 := 0#32
  ![v2149.toNat, 0]

def k0_chk19 (v2147 : BitVec 32) : Prop :=
  (16 ∣ (k0_mult37 v2147).toNat) ∧
  (∀ a, (k0_off58 v2147) a + S16x128.size a ≤ S262144x128.size a)
theorem k0_mult37_dvd : ∀ (v2147 : BitVec 32) (k0_hw19 : k0_chk19 v2147), 16 ∣ (k0_mult37 v2147).toNat := fun v2147 k0_hw19 => k0_hw19.1
theorem k0_off58_inb : ∀ (v2147 : BitVec 32) (k0_hw19 : k0_chk19 v2147), ∀ a, (k0_off58 v2147) a + S16x128.size a ≤ S262144x128.size a := fun v2147 k0_hw19 => k0_hw19.2

def k0_off59 (k0_t3 : Fin k0_t3_loop.trips) : Fin 3 → Nat :=
  let c0_2667 : Index := 0#32
  let c0_2668 : Index := 0#32
  let c0_i32_2592 : BitVec 32 := 0#32
  let c1_i32_2594 : BitVec 32 := 1#32
  let arg16 : BitVec 32 := Scf.iv c0_i32_2592 c1_i32_2594 k0_t3
  let c8_i32_2666 : BitVec 32 := 8#32
  let v2156 : BitVec 32 := Scalar.muli arg16 c8_i32_2666
  let c3_i32 : BitVec 32 := 3#32
  let v2157 : BitVec 32 := Scalar.addi v2156 c3_i32
  let v2158 : Index := Scalar.indexCast v2157
  ![0, 0, v2158.toNat]
def k0_mult39 (v2159 : BitVec 32) : BitVec 32 :=
  let c16_i32_2669 : BitVec 32 := 16#32
  let v2160 : BitVec 32 := Scalar.muli v2159 c16_i32_2669
  v2160

def k0_mult40 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2666 : BitVec 32 := 8#32
  let v2156 : BitVec 32 := Scalar.muli arg16 c8_i32_2666
  let c3_i32 : BitVec 32 := 3#32
  let v2157 : BitVec 32 := Scalar.addi v2156 c3_i32
  let c16_i32_2670 : BitVec 32 := 16#32
  let v2162 : BitVec 32 := Scalar.muli v2157 c16_i32_2670
  v2162
def k0_off60 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2666 : BitVec 32 := 8#32
  let v2156 : BitVec 32 := Scalar.muli arg16 c8_i32_2666
  let c3_i32 : BitVec 32 := 3#32
  let v2157 : BitVec 32 := Scalar.addi v2156 c3_i32
  let c16_i32_2670 : BitVec 32 := 16#32
  let v2162 : BitVec 32 := Scalar.muli v2157 c16_i32_2670
  let v2163 : BitVec 32 := v2162
  let c0_i32_2672 : BitVec 32 := 0#32
  ![v2163.toNat, 0]
def k0_off61 (v2159 : BitVec 32) : Fin 2 → Nat :=
  let c16_i32_2669 : BitVec 32 := 16#32
  let v2160 : BitVec 32 := Scalar.muli v2159 c16_i32_2669
  let v2161 : BitVec 32 := v2160
  let c0_i32_2673 : BitVec 32 := 0#32
  ![v2161.toNat, 0]

def k0_chk20 (v2159 : BitVec 32) : Prop :=
  (16 ∣ (k0_mult39 v2159).toNat) ∧
  (∀ a, (k0_off61 v2159) a + S16x128.size a ≤ S262144x128.size a)
theorem k0_mult39_dvd : ∀ (v2159 : BitVec 32) (k0_hw20 : k0_chk20 v2159), 16 ∣ (k0_mult39 v2159).toNat := fun v2159 k0_hw20 => k0_hw20.1
theorem k0_off61_inb : ∀ (v2159 : BitVec 32) (k0_hw20 : k0_chk20 v2159), ∀ a, (k0_off61 v2159) a + S16x128.size a ≤ S262144x128.size a := fun v2159 k0_hw20 => k0_hw20.2

def k0_off62 (k0_t3 : Fin k0_t3_loop.trips) : Fin 3 → Nat :=
  let c0_2675 : Index := 0#32
  let c0_2676 : Index := 0#32
  let c0_i32_2592 : BitVec 32 := 0#32
  let c1_i32_2594 : BitVec 32 := 1#32
  let arg16 : BitVec 32 := Scf.iv c0_i32_2592 c1_i32_2594 k0_t3
  let c8_i32_2674 : BitVec 32 := 8#32
  let v2168 : BitVec 32 := Scalar.muli arg16 c8_i32_2674
  let c4_i32 : BitVec 32 := 4#32
  let v2169 : BitVec 32 := Scalar.addi v2168 c4_i32
  let v2170 : Index := Scalar.indexCast v2169
  ![0, 0, v2170.toNat]
def k0_mult41 (v2171 : BitVec 32) : BitVec 32 :=
  let c16_i32_2677 : BitVec 32 := 16#32
  let v2172 : BitVec 32 := Scalar.muli v2171 c16_i32_2677
  v2172

def k0_mult42 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2674 : BitVec 32 := 8#32
  let v2168 : BitVec 32 := Scalar.muli arg16 c8_i32_2674
  let c4_i32 : BitVec 32 := 4#32
  let v2169 : BitVec 32 := Scalar.addi v2168 c4_i32
  let c16_i32_2678 : BitVec 32 := 16#32
  let v2174 : BitVec 32 := Scalar.muli v2169 c16_i32_2678
  v2174
def k0_off63 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2674 : BitVec 32 := 8#32
  let v2168 : BitVec 32 := Scalar.muli arg16 c8_i32_2674
  let c4_i32 : BitVec 32 := 4#32
  let v2169 : BitVec 32 := Scalar.addi v2168 c4_i32
  let c16_i32_2678 : BitVec 32 := 16#32
  let v2174 : BitVec 32 := Scalar.muli v2169 c16_i32_2678
  let v2175 : BitVec 32 := v2174
  let c0_i32_2680 : BitVec 32 := 0#32
  ![v2175.toNat, 0]
def k0_off64 (v2171 : BitVec 32) : Fin 2 → Nat :=
  let c16_i32_2677 : BitVec 32 := 16#32
  let v2172 : BitVec 32 := Scalar.muli v2171 c16_i32_2677
  let v2173 : BitVec 32 := v2172
  let c0_i32_2681 : BitVec 32 := 0#32
  ![v2173.toNat, 0]

def k0_chk21 (v2171 : BitVec 32) : Prop :=
  (16 ∣ (k0_mult41 v2171).toNat) ∧
  (∀ a, (k0_off64 v2171) a + S16x128.size a ≤ S262144x128.size a)
theorem k0_mult41_dvd : ∀ (v2171 : BitVec 32) (k0_hw21 : k0_chk21 v2171), 16 ∣ (k0_mult41 v2171).toNat := fun v2171 k0_hw21 => k0_hw21.1
theorem k0_off64_inb : ∀ (v2171 : BitVec 32) (k0_hw21 : k0_chk21 v2171), ∀ a, (k0_off64 v2171) a + S16x128.size a ≤ S262144x128.size a := fun v2171 k0_hw21 => k0_hw21.2

def k0_off65 (k0_t3 : Fin k0_t3_loop.trips) : Fin 3 → Nat :=
  let c0_2683 : Index := 0#32
  let c0_2684 : Index := 0#32
  let c0_i32_2592 : BitVec 32 := 0#32
  let c1_i32_2594 : BitVec 32 := 1#32
  let arg16 : BitVec 32 := Scf.iv c0_i32_2592 c1_i32_2594 k0_t3
  let c8_i32_2682 : BitVec 32 := 8#32
  let v2180 : BitVec 32 := Scalar.muli arg16 c8_i32_2682
  let c5_i32 : BitVec 32 := 5#32
  let v2181 : BitVec 32 := Scalar.addi v2180 c5_i32
  let v2182 : Index := Scalar.indexCast v2181
  ![0, 0, v2182.toNat]
def k0_mult43 (v2183 : BitVec 32) : BitVec 32 :=
  let c16_i32_2685 : BitVec 32 := 16#32
  let v2184 : BitVec 32 := Scalar.muli v2183 c16_i32_2685
  v2184

def k0_mult44 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2682 : BitVec 32 := 8#32
  let v2180 : BitVec 32 := Scalar.muli arg16 c8_i32_2682
  let c5_i32 : BitVec 32 := 5#32
  let v2181 : BitVec 32 := Scalar.addi v2180 c5_i32
  let c16_i32_2686 : BitVec 32 := 16#32
  let v2186 : BitVec 32 := Scalar.muli v2181 c16_i32_2686
  v2186
def k0_off66 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2682 : BitVec 32 := 8#32
  let v2180 : BitVec 32 := Scalar.muli arg16 c8_i32_2682
  let c5_i32 : BitVec 32 := 5#32
  let v2181 : BitVec 32 := Scalar.addi v2180 c5_i32
  let c16_i32_2686 : BitVec 32 := 16#32
  let v2186 : BitVec 32 := Scalar.muli v2181 c16_i32_2686
  let v2187 : BitVec 32 := v2186
  let c0_i32_2688 : BitVec 32 := 0#32
  ![v2187.toNat, 0]
def k0_off67 (v2183 : BitVec 32) : Fin 2 → Nat :=
  let c16_i32_2685 : BitVec 32 := 16#32
  let v2184 : BitVec 32 := Scalar.muli v2183 c16_i32_2685
  let v2185 : BitVec 32 := v2184
  let c0_i32_2689 : BitVec 32 := 0#32
  ![v2185.toNat, 0]

def k0_chk22 (v2183 : BitVec 32) : Prop :=
  (16 ∣ (k0_mult43 v2183).toNat) ∧
  (∀ a, (k0_off67 v2183) a + S16x128.size a ≤ S262144x128.size a)
theorem k0_mult43_dvd : ∀ (v2183 : BitVec 32) (k0_hw22 : k0_chk22 v2183), 16 ∣ (k0_mult43 v2183).toNat := fun v2183 k0_hw22 => k0_hw22.1
theorem k0_off67_inb : ∀ (v2183 : BitVec 32) (k0_hw22 : k0_chk22 v2183), ∀ a, (k0_off67 v2183) a + S16x128.size a ≤ S262144x128.size a := fun v2183 k0_hw22 => k0_hw22.2

def k0_off68 (k0_t3 : Fin k0_t3_loop.trips) : Fin 3 → Nat :=
  let c0_2691 : Index := 0#32
  let c0_2692 : Index := 0#32
  let c0_i32_2592 : BitVec 32 := 0#32
  let c1_i32_2594 : BitVec 32 := 1#32
  let arg16 : BitVec 32 := Scf.iv c0_i32_2592 c1_i32_2594 k0_t3
  let c8_i32_2690 : BitVec 32 := 8#32
  let v2192 : BitVec 32 := Scalar.muli arg16 c8_i32_2690
  let c6_i32 : BitVec 32 := 6#32
  let v2193 : BitVec 32 := Scalar.addi v2192 c6_i32
  let v2194 : Index := Scalar.indexCast v2193
  ![0, 0, v2194.toNat]
def k0_mult45 (v2195 : BitVec 32) : BitVec 32 :=
  let c16_i32_2693 : BitVec 32 := 16#32
  let v2196 : BitVec 32 := Scalar.muli v2195 c16_i32_2693
  v2196

def k0_mult46 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2690 : BitVec 32 := 8#32
  let v2192 : BitVec 32 := Scalar.muli arg16 c8_i32_2690
  let c6_i32 : BitVec 32 := 6#32
  let v2193 : BitVec 32 := Scalar.addi v2192 c6_i32
  let c16_i32_2694 : BitVec 32 := 16#32
  let v2198 : BitVec 32 := Scalar.muli v2193 c16_i32_2694
  v2198
def k0_off69 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2690 : BitVec 32 := 8#32
  let v2192 : BitVec 32 := Scalar.muli arg16 c8_i32_2690
  let c6_i32 : BitVec 32 := 6#32
  let v2193 : BitVec 32 := Scalar.addi v2192 c6_i32
  let c16_i32_2694 : BitVec 32 := 16#32
  let v2198 : BitVec 32 := Scalar.muli v2193 c16_i32_2694
  let v2199 : BitVec 32 := v2198
  let c0_i32_2696 : BitVec 32 := 0#32
  ![v2199.toNat, 0]
def k0_off70 (v2195 : BitVec 32) : Fin 2 → Nat :=
  let c16_i32_2693 : BitVec 32 := 16#32
  let v2196 : BitVec 32 := Scalar.muli v2195 c16_i32_2693
  let v2197 : BitVec 32 := v2196
  let c0_i32_2697 : BitVec 32 := 0#32
  ![v2197.toNat, 0]

def k0_chk23 (v2195 : BitVec 32) : Prop :=
  (16 ∣ (k0_mult45 v2195).toNat) ∧
  (∀ a, (k0_off70 v2195) a + S16x128.size a ≤ S262144x128.size a)
theorem k0_mult45_dvd : ∀ (v2195 : BitVec 32) (k0_hw23 : k0_chk23 v2195), 16 ∣ (k0_mult45 v2195).toNat := fun v2195 k0_hw23 => k0_hw23.1
theorem k0_off70_inb : ∀ (v2195 : BitVec 32) (k0_hw23 : k0_chk23 v2195), ∀ a, (k0_off70 v2195) a + S16x128.size a ≤ S262144x128.size a := fun v2195 k0_hw23 => k0_hw23.2

def k0_off71 (k0_t3 : Fin k0_t3_loop.trips) : Fin 3 → Nat :=
  let c0_2699 : Index := 0#32
  let c0_2700 : Index := 0#32
  let c0_i32_2592 : BitVec 32 := 0#32
  let c1_i32_2594 : BitVec 32 := 1#32
  let arg16 : BitVec 32 := Scf.iv c0_i32_2592 c1_i32_2594 k0_t3
  let c8_i32_2698 : BitVec 32 := 8#32
  let v2204 : BitVec 32 := Scalar.muli arg16 c8_i32_2698
  let c7_i32 : BitVec 32 := 7#32
  let v2205 : BitVec 32 := Scalar.addi v2204 c7_i32
  let v2206 : Index := Scalar.indexCast v2205
  ![0, 0, v2206.toNat]
def k0_mult47 (v2207 : BitVec 32) : BitVec 32 :=
  let c16_i32_2701 : BitVec 32 := 16#32
  let v2208 : BitVec 32 := Scalar.muli v2207 c16_i32_2701
  v2208

def k0_mult48 (k0_t3 : Fin k0_t3_loop.trips) : BitVec 32 :=
  let c0_i32_2592 : BitVec 32 := 0#32
  let c1_i32_2594 : BitVec 32 := 1#32
  let arg16 : BitVec 32 := Scf.iv c0_i32_2592 c1_i32_2594 k0_t3
  let c8_i32_2698 : BitVec 32 := 8#32
  let v2204 : BitVec 32 := Scalar.muli arg16 c8_i32_2698
  let c7_i32 : BitVec 32 := 7#32
  let v2205 : BitVec 32 := Scalar.addi v2204 c7_i32
  let c16_i32_2702 : BitVec 32 := 16#32
  let v2210 : BitVec 32 := Scalar.muli v2205 c16_i32_2702
  v2210
def k0_off72 (k0_t3 : Fin k0_t3_loop.trips) : Fin 2 → Nat :=
  let c0_i32_2592 : BitVec 32 := 0#32
  let c1_i32_2594 : BitVec 32 := 1#32
  let arg16 : BitVec 32 := Scf.iv c0_i32_2592 c1_i32_2594 k0_t3
  let c8_i32_2698 : BitVec 32 := 8#32
  let v2204 : BitVec 32 := Scalar.muli arg16 c8_i32_2698
  let c7_i32 : BitVec 32 := 7#32
  let v2205 : BitVec 32 := Scalar.addi v2204 c7_i32
  let c16_i32_2702 : BitVec 32 := 16#32
  let v2210 : BitVec 32 := Scalar.muli v2205 c16_i32_2702
  let v2211 : BitVec 32 := v2210
  let c0_i32_2704 : BitVec 32 := 0#32
  ![v2211.toNat, 0]
def k0_off73 (v2207 : BitVec 32) : Fin 2 → Nat :=
  let c16_i32_2701 : BitVec 32 := 16#32
  let v2208 : BitVec 32 := Scalar.muli v2207 c16_i32_2701
  let v2209 : BitVec 32 := v2208
  let c0_i32_2705 : BitVec 32 := 0#32
  ![v2209.toNat, 0]

def k0_chk24 (v2207 : BitVec 32) : Prop :=
  (16 ∣ (k0_mult47 v2207).toNat) ∧
  (∀ a, (k0_off73 v2207) a + S16x128.size a ≤ S262144x128.size a)
theorem k0_mult47_dvd : ∀ (v2207 : BitVec 32) (k0_hw24 : k0_chk24 v2207), 16 ∣ (k0_mult47 v2207).toNat := fun v2207 k0_hw24 => k0_hw24.1
theorem k0_off73_inb : ∀ (v2207 : BitVec 32) (k0_hw24 : k0_chk24 v2207), ∀ a, (k0_off73 v2207) a + S16x128.size a ≤ S262144x128.size a := fun v2207 k0_hw24 => k0_hw24.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c575_i32 : BitVec 32 := 575#32
  let v2 : BitVec 32 := Scalar.minsi v1 c575_i32
  let c0_i32 : BitVec 32 := 0#32
  let c0_i32_1 : BitVec 32 := 0#32
  let c0_i32_2 : BitVec 32 := 0#32
  ![v2.toNat, c0_i32.toNat, c0_i32_1.toNat]

def cc0_transform_4 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_6 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let v2 : Index := Scalar.indexCast v1
  let v3 : BitVec 32 := pf.at 0 (Rect.unit (s := S576) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_7 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 2), ∀ a, (k0_off1 i (BitVec.ofNat 32 r.val)) a + S1.size a ≤ S576.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S576) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S576 : Shape := ⟨1, ![576]⟩
abbrev S576x1x256 : Shape := ⟨3, ![576, 1, 256]⟩
abbrev S262144x128 : Shape := ⟨2, ![262144, 128]⟩
abbrev S64x2048x512 : Shape := ⟨3, ![64, 2048, 512]⟩
abbrev S64x512x2048 : Shape := ⟨3, ![64, 512, 2048]⟩
abbrev S16384x2048 : Shape := ⟨2, ![16384, 2048]⟩
abbrev S576x256 : Shape := ⟨2, ![576, 256]⟩
abbrev S_ : Shape := ⟨0, ![]⟩
abbrev S576x256x1 : Shape := ⟨3, ![576, 256, 1]⟩
abbrev S576x256x2048 : Shape := ⟨3, ![576, 256, 2048]⟩
abbrev S576x1 : Shape := ⟨2, ![576, 1]⟩
abbrev S576x2048x512 : Shape := ⟨3, ![576, 2048, 512]⟩
abbrev S576x256x512 : Shape := ⟨3, ![576, 256, 512]⟩
abbrev S576x512x2048 : Shape := ⟨3, ![576, 512, 2048]⟩
abbrev S147456x2048 : Shape := ⟨2, ![147456, 2048]⟩

abbrev nBuf : Space → Nat
  | .hbm => 61
  | .vmem => 0
  | .smem => 0
  | _ => 0

abbrev bufTy : (tb : Table) → Fin (tcTables nBuf tb) → BufTy
  | .hbm, ⟨0, _⟩ => ⟨S576, .i32⟩
  | .hbm, ⟨1, _⟩ => ⟨S576x1x256, .i32⟩
  | .hbm, ⟨2, _⟩ => ⟨S262144x128, .f32⟩
  | .hbm, ⟨3, _⟩ => ⟨S64x2048x512, .bf16⟩
  | .hbm, ⟨4, _⟩ => ⟨S64x2048x512, .bf16⟩
  | .hbm, ⟨5, _⟩ => ⟨S64x512x2048, .bf16⟩
  | .hbm, ⟨6, _⟩ => ⟨S16384x2048, .f32⟩
  | .hbm, ⟨7, _⟩ => ⟨S576x256, .i32⟩
  | .hbm, ⟨8, _⟩ => ⟨S_, .i32⟩
  | .hbm, ⟨9, _⟩ => ⟨S576x256, .i32⟩
  | .hbm, ⟨10, _⟩ => ⟨S576x256, .i1⟩
  | .hbm, ⟨11, _⟩ => ⟨S_, .i32⟩
  | .hbm, ⟨12, _⟩ => ⟨S576x256, .i32⟩
  | .hbm, ⟨13, _⟩ => ⟨S576x256, .i32⟩
  | .hbm, ⟨14, _⟩ => ⟨S576x256, .i32⟩
  | .hbm, ⟨15, _⟩ => ⟨S576x256x1, .i32⟩
  | .hbm, ⟨16, _⟩ => ⟨S576x256x2048, .f32⟩
  | .hbm, ⟨17, _⟩ => ⟨S64x2048x512, .f32⟩
  | .hbm, ⟨18, _⟩ => ⟨S_, .i32⟩
  | .hbm, ⟨19, _⟩ => ⟨S576, .i32⟩
  | .hbm, ⟨20, _⟩ => ⟨S576, .i1⟩
  | .hbm, ⟨21, _⟩ => ⟨S_, .i32⟩
  | .hbm, ⟨22, _⟩ => ⟨S576, .i32⟩
  | .hbm, ⟨23, _⟩ => ⟨S576, .i32⟩
  | .hbm, ⟨24, _⟩ => ⟨S576, .i32⟩
  | .hbm, ⟨25, _⟩ => ⟨S576x1, .i32⟩
  | .hbm, ⟨26, _⟩ => ⟨S576x2048x512, .f32⟩
  | .hbm, ⟨27, _⟩ => ⟨S576x256x512, .f32⟩
  | .hbm, ⟨28, _⟩ => ⟨S64x2048x512, .f32⟩
  | .hbm, ⟨29, _⟩ => ⟨S_, .i32⟩
  | .hbm, ⟨30, _⟩ => ⟨S576, .i32⟩
  | .hbm, ⟨31, _⟩ => ⟨S576, .i1⟩
  | .hbm, ⟨32, _⟩ => ⟨S_, .i32⟩
  | .hbm, ⟨33, _⟩ => ⟨S576, .i32⟩
  | .hbm, ⟨34, _⟩ => ⟨S576, .i32⟩
  | .hbm, ⟨35, _⟩ => ⟨S576, .i32⟩
  | .hbm, ⟨36, _⟩ => ⟨S576x1, .i32⟩
  | .hbm, ⟨37, _⟩ => ⟨S576x2048x512, .f32⟩
  | .hbm, ⟨38, _⟩ => ⟨S576x256x512, .f32⟩
  | .hbm, ⟨39, _⟩ => ⟨S576x256x512, .f32⟩
  | .hbm, ⟨40, _⟩ => ⟨S576x256x512, .f32⟩
  | .hbm, ⟨41, _⟩ => ⟨S_, .f32⟩
  | .hbm, ⟨42, _⟩ => ⟨S576x256x512, .f32⟩
  | .hbm, ⟨43, _⟩ => ⟨S576x256x512, .f32⟩
  | .hbm, ⟨44, _⟩ => ⟨S_, .f32⟩
  | .hbm, ⟨45, _⟩ => ⟨S576x256x512, .f32⟩
  | .hbm, ⟨46, _⟩ => ⟨S576x256x512, .f32⟩
  | .hbm, ⟨47, _⟩ => ⟨S576x256x512, .f32⟩
  | .hbm, ⟨48, _⟩ => ⟨S576x256x512, .f32⟩
  | .hbm, ⟨49, _⟩ => ⟨S64x512x2048, .f32⟩
  | .hbm, ⟨50, _⟩ => ⟨S_, .i32⟩
  | .hbm, ⟨51, _⟩ => ⟨S576, .i32⟩
  | .hbm, ⟨52, _⟩ => ⟨S576, .i1⟩
  | .hbm, ⟨53, _⟩ => ⟨S_, .i32⟩
  | .hbm, ⟨54, _⟩ => ⟨S576, .i32⟩
  | .hbm, ⟨55, _⟩ => ⟨S576, .i32⟩
  | .hbm, ⟨56, _⟩ => ⟨S576, .i32⟩
  | .hbm, ⟨57, _⟩ => ⟨S576x1, .i32⟩
  | .hbm, ⟨58, _⟩ => ⟨S576x512x2048, .f32⟩
  | .hbm, ⟨59, _⟩ => ⟨S576x256x2048, .f32⟩
  | .hbm, ⟨60, _⟩ => ⟨S147456x2048, .f32⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Kernel5.lean ====
abbrev S16384x6144 : Shape := ⟨2, ![16384, 6144]⟩
abbrev S1x512 : Shape := ⟨2, ![1, 512]⟩
abbrev S1x256 : Shape := ⟨2, ![1, 256]⟩
abbrev S8x512x256 : Shape := ⟨3, ![8, 512, 256]⟩
abbrev S8x256x256 : Shape := ⟨3, ![8, 256, 256]⟩
abbrev S16384x128 : Shape := ⟨2, ![16384, 128]⟩
abbrev S1x128 : Shape := ⟨2, ![1, 128]⟩
abbrev S2x8x8192x256 : Shape := ⟨4, ![2, 8, 8192, 256]⟩
abbrev S2x8x256x8192 : Shape := ⟨4, ![2, 8, 256, 8192]⟩
abbrev S2x8x8192x128 : Shape := ⟨4, ![2, 8, 8192, 128]⟩
abbrev S512x512 : Shape := ⟨2, ![512, 512]⟩
abbrev S512x128 : Shape := ⟨2, ![512, 128]⟩
abbrev S1x8x512x256 : Shape := ⟨4, ![1, 8, 512, 256]⟩
abbrev S1x8x256x512 : Shape := ⟨4, ![1, 8, 256, 512]⟩
abbrev S1x8x512x128 : Shape := ⟨4, ![1, 8, 512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1x1x512x128 : Shape := ⟨4, ![1, 1, 512, 128]⟩
abbrev S1x256x256 : Shape := ⟨3, ![1, 256, 256]⟩
abbrev S256x256 : Shape := ⟨2, ![256, 256]⟩
abbrev S256x512 : Shape := ⟨2, ![256, 512]⟩
abbrev S1x1x256x512 : Shape := ⟨4, ![1, 1, 256, 512]⟩

abbrev nBuf : Space → Nat
  | .hbm => 14
  | .vmem => 24
  | .smem => 0
  | _ => 0

abbrev bufTy : (tb : Table) → Fin (tcTables nBuf tb) → BufTy
  | .hbm, ⟨0, _⟩ => ⟨S16384x6144, .bf16⟩
  | .hbm, ⟨1, _⟩ => ⟨S1x512, .f32⟩
  | .hbm, ⟨2, _⟩ => ⟨S1x256, .f32⟩
  | .hbm, ⟨3, _⟩ => ⟨S8x512x256, .bf16⟩
  | .hbm, ⟨4, _⟩ => ⟨S8x256x256, .bf16⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S1x128, .f32⟩
  | .hbm, ⟨10, _⟩ => ⟨S1x128, .f32⟩
  | .hbm, ⟨11, _⟩ => ⟨S2x8x8192x256, .bf16⟩
  | .hbm, ⟨12, _⟩ => ⟨S2x8x256x8192, .bf16⟩
  | .hbm, ⟨13, _⟩ => ⟨S2x8x8192x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x256, .f32⟩
  | .local _ .vmem, ⟨6, _⟩ => ⟨S8x512x256, .bf16⟩
  | .local _ .vmem, ⟨7, _⟩ => ⟨S8x256x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S1x8x512x256, .bf16⟩
  | .local _ .vmem, ⟨19, _⟩ => ⟨S1x8x512x256, .bf16⟩
  | .local _ .vmem, ⟨20, _⟩ => ⟨S1x8x256x512, .bf16⟩
  | .local _ .vmem, ⟨21, _⟩ => ⟨S1x8x256x512, .bf16⟩
  | .local _ .vmem, ⟨22, _⟩ => ⟨S1x8x512x128, .bf16⟩
  | .local _ .vmem, ⟨23, _⟩ => ⟨S1x8x512x128, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x6144 : Shape := ⟨2, ![16384, 6144]⟩
abbrev S1x512 : Shape := ⟨2, ![1, 512]⟩
abbrev S1x256 : Shape := ⟨2, ![1, 256]⟩
abbrev S8x512x256 : Shape := ⟨3, ![8, 512, 256]⟩
abbrev S8x256x256 : Shape := ⟨3, ![8, 256, 256]⟩
abbrev S16384x128 : Shape := ⟨2, ![16384, 128]⟩
abbrev S1x128 : Shape := ⟨2, ![1, 128]⟩
abbrev S16384x512 : Shape := ⟨2, ![16384, 512]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8x256x16384 : Shape := ⟨3, ![8, 256, 16384]⟩
abbrev S8x16384x256 : Shape := ⟨3, ![8, 16384, 256]⟩
abbrev S8x16384x128 : Shape := ⟨3, ![8, 16384, 128]⟩
abbrev S1x1x128 : Shape := ⟨3, ![1, 1, 128]⟩
abbrev S1x16384x128 : Shape := ⟨3, ![1, 16384, 128]⟩
abbrev S8x16384x64 : Shape := ⟨3, ![8, 16384, 64]⟩
abbrev S8x16384 : Shape := ⟨2, ![8, 16384]⟩
abbrev S8x16384x1 : Shape := ⟨3, ![8, 16384, 1]⟩
abbrev S16384x64 : Shape := ⟨2, ![16384, 64]⟩
abbrev S1x16384 : Shape := ⟨2, ![1, 16384]⟩
abbrev S8x2x8192x256 : Shape := ⟨4, ![8, 2, 8192, 256]⟩
abbrev S2x8x8192x256 : Shape := ⟨4, ![2, 8, 8192, 256]⟩
abbrev S2x8x256x8192 : Shape := ⟨4, ![2, 8, 256, 8192]⟩
abbrev S8x2x8192x128 : Shape := ⟨4, ![8, 2, 8192, 128]⟩
abbrev S2x8x8192x128 : Shape := ⟨4, ![2, 8, 8192, 128]⟩

abbrev nBuf : Space → Nat
  | .hbm => 130
  | .vmem => 0
  | .smem => 0
  | _ => 0

abbrev hbmTy0_0 (i : Nat) : BufTy := match i % 128 with
  | 0 => ⟨S16384x6144, .bf16⟩
  | 1 => ⟨S1x512, .f32⟩
  | 2 => ⟨S1x256, .f32⟩
  | 3 => ⟨S8x512x256, .bf16⟩
  | 4 => ⟨S8x256x256, .bf16⟩
  | 5 => ⟨S16384x128, .f32⟩
  | 6 => ⟨S16384x128, .f32⟩
  | 7 => ⟨S16384x128, .f32⟩
  | 8 => ⟨S16384x128, .f32⟩
  | 9 => ⟨S1x128, .f32⟩
  | 10 => ⟨S1x128, .f32⟩
  | 11 => ⟨S16384x6144, .f32⟩
  | 12 => ⟨S16384x512, .f32⟩
  | 13 => ⟨S16384x256, .f32⟩
  | 14 => ⟨S16384x128, .f32⟩
  | 15 => ⟨S16384x512, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S16384x512, .f32⟩
  | 27 => ⟨S16384x512, .f32⟩
  | 28 => ⟨S16384x512, .f32⟩
  | 29 => ⟨S16384x512, .f32⟩
  | 30 => ⟨S8x512x256, .f32⟩
  | 31 => ⟨S8x256x16384, .f32⟩
  | 32 => ⟨S8x16384x256, .f32⟩
  | 33 => ⟨S8x16384x128, .f32⟩
  | 34 => ⟨S8x16384x128, .f32⟩
  | 35 => ⟨S1x1x128, .f32⟩
  | 36 => ⟨S8x16384x128, .f32⟩
  | 37 => ⟨S8x16384x128, .f32⟩
  | 38 => ⟨S1x16384x128, .f32⟩
  | 39 => ⟨S8x16384x128, .f32⟩
  | 40 => ⟨S8x16384x128, .f32⟩
  | 41 => ⟨S8x16384x64, .f32⟩
  | 42 => ⟨S8x16384x64, .f32⟩
  | 43 => ⟨S8x16384x128, .f32⟩
  | 44 => ⟨S1x16384x128, .f32⟩
  | 45 => ⟨S8x16384x128, .f32⟩
  | 46 => ⟨S8x16384x128, .f32⟩
  | 47 => ⟨S8x16384x128, .f32⟩
  | 48 => ⟨S8x16384x256, .f32⟩
  | 49 => ⟨S8x16384x64, .f32⟩
  | 50 => ⟨S8x16384x128, .f32⟩
  | 51 => ⟨S_, .f32⟩
  | 52 => ⟨S8x16384, .f32⟩
  | 53 => ⟨S8x16384x64, .f32⟩
  | 54 => ⟨S_, .f32⟩
  | 55 => ⟨S8x16384, .f32⟩
  | 56 => ⟨S8x16384, .f32⟩
  | 57 => ⟨S_, .f32⟩
  | 58 => ⟨S8x16384, .f32⟩
  | 59 => ⟨S8x16384, .f32⟩
  | 60 => ⟨S_, .f32⟩
  | 61 => ⟨S8x16384, .f32⟩
  | 62 => ⟨S8x16384, .f32⟩
  | 63 => ⟨S8x16384, .f32⟩
  | 64 => ⟨S8x16384x1, .f32⟩
  | 65 => ⟨S8x16384x256, .f32⟩
  | 66 => ⟨S8x16384x256, .f32⟩
  | 67 => ⟨S_, .f32⟩
  | 68 => ⟨S8x16384x256, .f32⟩
  | 69 => ⟨S8x16384x256, .f32⟩
  | 70 => ⟨S16384x256, .f32⟩
  | 71 => ⟨S_, .f32⟩
  | 72 => ⟨S16384, .f32⟩
  | 73 => ⟨S16384x1, .f32⟩
  | 74 => ⟨S_, .f32⟩
  | 75 => ⟨S16384x1, .f32⟩
  | 76 => ⟨S16384x1, .f32⟩
  | 77 => ⟨S_, .f32⟩
  | 78 => ⟨S16384x1, .f32⟩
  | 79 => ⟨S16384x1, .f32⟩
  | 80 => ⟨S16384x1, .f32⟩
  | 81 => ⟨S16384x256, .f32⟩
  | 82 => ⟨S16384x256, .f32⟩
  | 83 => ⟨S16384x256, .f32⟩
  | 84 => ⟨S16384x256, .f32⟩
  | 85 => ⟨S8x256x256, .f32⟩
  | 86 => ⟨S8x256x16384, .f32⟩
  | 87 => ⟨S8x16384x256, .f32⟩
  | 88 => ⟨S8x16384x128, .f32⟩
  | 89 => ⟨S8x16384x128, .f32⟩
  | 90 => ⟨S16384x128, .f32⟩
  | 91 => ⟨S16384x64, .f32⟩
  | 92 => ⟨S16384x64, .f32⟩
  | 93 => ⟨S16384x128, .f32⟩
  | 94 => ⟨S16384x128, .f32⟩
  | 95 => ⟨S16384x128, .f32⟩
  | 96 => ⟨S8x16384x128, .f32⟩
  | 97 => ⟨S1x1x128, .f32⟩
  | 98 => ⟨S8x16384x128, .f32⟩
  | 99 => ⟨S8x16384x128, .f32⟩
  | 100 => ⟨S8x16384x256, .f32⟩
  | 101 => ⟨S16384x64, .f32⟩
  | 102 => ⟨S8x16384x128, .f32⟩
  | 103 => ⟨S_, .f32⟩
  | 104 => ⟨S8x16384, .f32⟩
  | 105 => ⟨S16384x64, .f32⟩
  | 106 => ⟨S_, .f32⟩
  | 107 => ⟨S16384, .f32⟩
  | 108 => ⟨S1x16384, .f32⟩
  | 109 => ⟨S8x16384, .f32⟩
  | 110 => ⟨S8x16384, .f32⟩
  | 111 => ⟨S_, .f32⟩
  | 112 => ⟨S8x16384, .f32⟩
  | 113 => ⟨S8x16384, .f32⟩
  | 114 => ⟨S_, .f32⟩
  | 115 => ⟨S8x16384, .f32⟩
  | 116 => ⟨S8x16384, .f32⟩
  | 117 => ⟨S8x16384, .f32⟩
  | 118 => ⟨S8x16384x1, .f32⟩
  | 119 => ⟨S8x16384x256, .f32⟩
  | 120 => ⟨S8x16384x256, .f32⟩
  | 121 => ⟨S8x2x8192x256, .f32⟩
  | 122 => ⟨S2x8x8192x256, .f32⟩
  | 123 => ⟨S2x8x8192x256, .bf16⟩
  | 124 => ⟨S8x2x8192x256, .f32⟩
  | 125 => ⟨S2x8x256x8192, .f32⟩
  | 126 => ⟨S2x8x256x8192, .bf16⟩
  | 127 => ⟨S8x2x8192x128, .f32⟩
  | _ => ⟨S16384x6144, .bf16⟩

abbrev hbmTy0_1 (i : Nat) : BufTy := match i % 128 with
  | 0 => ⟨S2x8x8192x128, .f32⟩
  | 1 => ⟨S2x8x8192x128, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_10 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩

abbrev nD : Nat := 1
abbrev τ : Topo := Topo.v7x

variable {F : FTy → Type} [FloatOps F]
-- ==== Proof.Fold.lean ====
/-
  The body of the attention kernel as a function of its blocks: what one grid point writes is the closing step
  (`lastV`) of the fold (`foldV`) of the loop's step over the key blocks before the diagonal. The state of the fold is
  what the four scratch buffers hold: the scores of the next key block, the running maximum, the running denominator
  and the running numerator.
-/
module

public import proofs.«01_k».proof.Proof.Gen.KernelIdeal.Value
public import Idealize.ShloMosaic.Lib.Pipeline.Value
public import Idealize.ShloMosaic.Lib.VecWindow
public import Idealize.ShloMosaic.Lib.Tactic

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F]

/-- Key block `j` of the transposed keys: columns `512 j` to `512 j + 511`. -/
def keys (x : Vec F S1x1x256x8192 .bf16) (j : ℕ) : Vec F S1x1x256x512 .bf16 := fun y =>
  x (fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(512 * j + (y 3).val) % 8192, Nat.mod_lt _ (by decide)⟩)

/-- Value block `j`: rows `512 j` to `512 j + 511`. -/
def vals (x : Vec F S1x1x8192x128 .bf16) (j : ℕ) : Vec F S1x1x512x128 .bf16 := fun y =>
  x (fun a => match a with
    | ⟨0, _⟩ => ⟨(y 0).val, (y 0).isLt⟩
    | ⟨1, _⟩ => ⟨(y 1).val, (y 1).isLt⟩
    | ⟨2, _⟩ => ⟨(512 * j + (y 2).val) % 8192, Nat.mod_lt _ (by decide)⟩
    | ⟨3, _⟩ => ⟨(y 3).val, (y 3).isLt⟩)

/-- What the scratch buffers hold: scores, maximum, denominator, numerator. -/
abbrev St (F : FTy → Type) [FloatOps F] : Type :=
  Vec F S512x512 .f32 × Vec F S512x1 .f32 × Vec F S512x1 .f32 × Vec F S512x128 .f32

/-- Before the loop: the scores against key block 0, the maximum `-∞`, the sums 0. -/
def initV (x0 : Vec F S1x1x512x256 .bf16) (x1 : Vec F S1x1x256x8192 .bf16) : St F :=
  (k0_pay19 x0 (keys x1 0), k0_pay16, k0_pay17, k0_pay18)

/-- One trip: the scores of key block `k` are folded in, the scores against block `k + 1` take their place. -/
def stepV (x0 : Vec F S1x1x512x256 .bf16) (x1 : Vec F S1x1x256x8192 .bf16) (x2 : Vec F S1x1x8192x128 .bf16) (k : ℕ) (s : St F) : St F :=
  (k0_pay22 (k0_pay4 x0 (keys x1 (k + 1))), k0_pay21 (k0_pay6 s.1 s.2.1), k0_pay9 s.1 s.2.1 s.2.2.1,
    k0_pay20 (k0_pay5 (vals x2 k)) (k0_pay7 s.1 s.2.1) (k0_pay8 s.1 s.2.1) s.2.2.2)

/-- The state after `k` trips from `s`. -/
def foldV (x0 : Vec F S1x1x512x256 .bf16) (x1 : Vec F S1x1x256x8192 .bf16) (x2 : Vec F S1x1x8192x128 .bf16) (s : St F) : ℕ → St F
  | 0 => s
  | k + 1 => stepV x0 x1 x2 k (foldV x0 x1 x2 s k)

/-- A load of 512 columns of the keys at offset `512 j` is key block `j`. -/
theorem ld_keys (arg4 : Memref sig .tc .vmem S1x1x256x8192 .bf16) (harg4 : arg4.IsWhole) (x1 : Vec F S1x1x256x8192 .bf16)
    (off : Fin 4 → ℕ) (j : ℕ) (hoff : off = ![0, 0, 0, 512 * j]) (hj : j < 16)
    (inb : ∀ a, off a + S1x1x256x512.size a ≤ S1x1x256x8192.size a) :
    View.readAt (Elt F) arg4.view (Rect.unit (s := S1x1x256x8192) off S1x1x256x512.size inb).toLoadRect (harg4.unread x1) = keys x1 j := by
  subst hoff
  rw [View.readAt_eq_ld, harg4.read_unread]
  funext y
  refine congrArg x1 (funext fun a => Fin.ext ?_)
  have h3 : (y 3).val < 512 := (y 3).isLt
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 512 * j + 1 * (y 3).val = (512 * j + (y 3).val) % 8192; omega

/-- A load of 512 rows of the values at offset `512 j` is value block `j`. -/
theorem ld_vals (arg5 : Memref sig .tc .vmem S1x1x8192x128 .bf16) (harg5 : arg5.IsWhole) (x2 : Vec F S1x1x8192x128 .bf16)
    (off : Fin 4 → ℕ) (j : ℕ) (hoff : off = ![0, 0, 512 * j, 0]) (hj : j < 16)
    (inb : ∀ a, off a + S1x1x512x128.size a ≤ S1x1x8192x128.size a) :
    View.readAt (Elt F) arg5.view (Rect.unit (s := S1x1x8192x128) off S1x1x512x128.size inb).toLoadRect (harg5.unread x2) = vals x2 j := by
  subst hoff
  rw [View.readAt_eq_ld, harg5.read_unread]
  funext y
  refine congrArg x2 (funext fun a => Fin.ext ?_)
  have h3 : (y 2).val < 512 := (y 2).isLt
  match a with
  | ⟨0, _⟩ => show 0 + 1 * (y 0).val = (y 0).val; omega
  | ⟨1, _⟩ => show 0 + 1 * (y 1).val = (y 1).val; omega
  | ⟨2, _⟩ => show 512 * j + 1 * (y 2).val = (512 * j + (y 2).val) % 8192; omega
  | ⟨3, _⟩ => show 0 + 1 * (y 3).val = (y 3).val; omega

/-- The loop runs over the key blocks before the diagonal; the remainder loop behind it does not run. -/
theorem trips1 (i : grid0.Coords) : (k0_t1_loop i).trips = (i 2).val := by
  have h : ∀ q : Fin 16, Scf.trips 0#32 (Scalar.addi 0#32 (Scalar.muli (Scalar.divsi (Scalar.subi (BitVec.ofNat 32 q.val) 0#32) 1#32) 1#32)) 1#32
      = q.val := by decide
  exact h (i 2)

theorem trips2 (i : grid0.Coords) : (k0_t2_loop i).trips = 0 := by
  have h : ∀ q : Fin 16, Scf.trips (Scalar.addi 0#32 (Scalar.muli (Scalar.divsi (Scalar.subi (BitVec.ofNat 32 q.val) 0#32) 1#32) 1#32))
      (Scalar.addi 0#32 (Scalar.subi (BitVec.ofNat 32 q.val) 0#32)) 1#32 = 0 := by decide
  exact h (i 2)

theorem off1 (i : grid0.Coords) (k : Fin (k0_t1_loop i).trips) : k0_off1 i k = ![0, 0, 0, 512 * (k.val + 1)] := by
  have h : ∀ q : Fin 16, (Scalar.indexCast (Scalar.muli (Scalar.addi (Scf.iv 0#32 1#32 q.val) 1#32) 512#32)).toNat = 512 * (q.val + 1) := by decide
  have hk : k.val < 16 := lt_trans (lt_of_lt_of_eq k.isLt (trips1 i)) (i 2).isLt
  have e := h ⟨k.val, hk⟩
  show ![0, 0, 0, (Scalar.indexCast (Scalar.muli (Scalar.addi (Scf.iv 0#32 1#32 k.val) 1#32) 512#32)).toNat] = _
  rw [e]

theorem off2 (i : grid0.Coords) (k : Fin (k0_t1_loop i).trips) : k0_off2 i k = ![0, 0, 512 * k.val, 0] := by
  have h : ∀ q : Fin 16, (Scalar.indexCast (Scalar.muli (Scf.iv 0#32 1#32 q.val) 512#32)).toNat = 512 * q.val := by decide
  have hk : k.val < 16 := lt_trans (lt_of_lt_of_eq k.isLt (trips1 i)) (i 2).isLt
  have e := h ⟨k.val, hk⟩
  show ![0, 0, (Scalar.indexCast (Scalar.muli (Scf.iv 0#32 1#32 k.val) 512#32)).toNat, 0] = _
  rw [e]

theorem off5 (i : grid0.Coords) : k0_off5 i = ![0, 0, 512 * (i 2).val, 0] := by
  have h : ∀ q : Fin 16, (Scalar.indexCast (Scalar.muli (BitVec.ofNat 32 q.val) 512#32)).toNat = 512 * q.val := by decide
  have e := h (i 2)
  show ![0, 0, (Scalar.indexCast (Scalar.muli (BitVec.ofNat 32 (i 2).val) 512#32)).toNat, 0] = _
  rw [e]

section
variable {𝒱 : Variants} {c : Dev nD} {bd : Option 𝒱.V} {i : grid0.Coords} {arg3 : Memref sig .tc .vmem S1x1x512x256 .bf16} {harg3 : arg3.IsWhole} {arg4 : Memref sig .tc .vmem S1x1x256x8192 .bf16} {harg4 : arg4.IsWhole} {arg5 : Memref sig .tc .vmem S1x1x8192x128 .bf16} {harg5 : arg5.IsWhole} {arg6 : Memref sig .tc .vmem S1x512x128 .bf16} {harg6 : arg6.IsWhole} {arg7 : Memref sig .tc .vmem S512x512 .f32} {harg7 : arg7.IsWhole} {arg8 : Memref sig .tc .vmem S512x1 .f32} {harg8 : arg8.IsWhole} {arg9 : Memref sig .tc .vmem S512x1 .f32} {harg9 : arg9.IsWhole} {arg10 : Memref sig .tc .vmem S512x128 .f32} {harg10 : arg10.IsWhole}
  {x0 : Vec F S1x1x512x256 .bf16} {x1 : Vec F S1x1x256x8192 .bf16} {x2 : Vec F S1x1x8192x128 .bf16}

/-- The four pieces one trip writes, at the contents it finds. -/
theorem trip_pieces (k : Fin (k0_t1_loop i).trips) (f7 : BufTy.Contents (Elt F) arg7.view.ty) (f8 : BufTy.Contents (Elt F) arg8.view.ty) (f9 : BufTy.Contents (Elt F) arg9.view.ty) (f10 : BufTy.Contents (Elt F) arg10.view.ty)
    (s : St F) (hs : s = (arg7.view.read (Elt F) f7, arg8.view.read (Elt F) f8, arg9.view.read (Elt F) f9, arg10.view.read (Elt F) f10)) :
    tripL_k0_t1 (F := F) 𝒱 c bd i arg3 harg3 arg4 harg4 arg5 harg5 arg6 harg6 arg7 harg7 arg8 harg8 arg9 harg9 arg10 harg10 (harg3.unread x0) (harg4.unread x1) (harg5.unread x2) k f7 f8 f9 f10
      = ([⟨Rect.unit (s := S512x512) ![0, 0] S512x512.size inb_S512x512_S512x512_0_0, (stepV x0 x1 x2 k.val s).1⟩],
        [⟨Rect.unit (s := S512x1) ![0, 0] S512x1.size inb_S512x1_S512x1_0_0, (stepV x0 x1 x2 k.val s).2.1⟩],
        [⟨Rect.unit (s := S512x1) ![0, 0] S512x1.size inb_S512x1_S512x1_0_0, (stepV x0 x1 x2 k.val s).2.2.1⟩],
        [⟨Rect.unit (s := S512x128) ![0, 0] S512x128.size inb_S512x128_S512x128_0_0, (stepV x0 x1 x2 k.val s).2.2.2⟩]) := by
  have hk : k.val < 15 := by have := lt_of_lt_of_eq k.isLt (trips1 i); have h2 : (i 2).val < 16 := (i 2).isLt; omega
  have e7 := View.readAt_full arg7.view f7 inb_S512x512_S512x512_0_0
  have e8 := View.readAt_full arg8.view f8 inb_S512x1_S512x1_0_0
  have e9 := View.readAt_full arg9.view f9 inb_S512x1_S512x1_0_0
  have e10 := View.readAt_full arg10.view f10 inb_S512x128_S512x128_0_0
  have e3 := View.readAt_full arg3.view (harg3.unread x0) inb_S1x1x512x256_S1x1x512x256_0_0_0_0
  rw [harg3.read_unread] at e3
  have e4 := fun inb => ld_keys arg4 harg4 x1 (k0_off1 i k) (k.val + 1) (off1 i k) (by omega) inb
  have e5 := fun inb => ld_vals arg5 harg5 x2 (k0_off2 i k) k.val (off2 i k) (by omega) inb
  subst hs
  unfold tripL_k0_t1 trip_k0_t1 stepV
  dsimp only
  rw [← e7, ← e8, ← e9, ← e10, ← e4 (k0_off1_inb i k), ← e5 (k0_off2_inb i k)]
  conv => rhs; rw [← e3]
  rfl
/-- After `n` trips the four buffers hold the fold over the first `n` key blocks. -/
theorem loop_reads (G7 : BufTy.Contents (Elt F) arg7.view.ty) (G8 : BufTy.Contents (Elt F) arg8.view.ty) (G9 : BufTy.Contents (Elt F) arg9.view.ty) (G10 : BufTy.Contents (Elt F) arg10.view.ty)
    (s : St F) (hs : s = (arg7.view.read (Elt F) G7, arg8.view.read (Elt F) G8, arg9.view.read (Elt F) G9, arg10.view.read (Elt F) G10))
    (n : ℕ) (hn : n ≤ (k0_t1_loop i).trips) :
    foldV x0 x1 x2 s n
      = (arg7.view.read (Elt F) (arg7.view.writes (Elt F) G7 (pb_k0_t1 (F := F) 𝒱 c bd i arg3 harg3 arg4 harg4 arg5 harg5 arg6 harg6 arg7 harg7 arg8 harg8 arg9 harg9 arg10 harg10 (harg3.unread x0) (harg4.unread x1) (harg5.unread x2) G7 G8 G9 G10 n).1),
        arg8.view.read (Elt F) (arg8.view.writes (Elt F) G8 (pb_k0_t1 (F := F) 𝒱 c bd i arg3 harg3 arg4 harg4 arg5 harg5 arg6 harg6 arg7 harg7 arg8 harg8 arg9 harg9 arg10 harg10 (harg3.unread x0) (harg4.unread x1) (harg5.unread x2) G7 G8 G9 G10 n).2.1),
        arg9.view.read (Elt F) (arg9.view.writes (Elt F) G9 (pb_k0_t1 (F := F) 𝒱 c bd i arg3 harg3 arg4 harg4 arg5 harg5 arg6 harg6 arg7 harg7 arg8 harg8 arg9 harg9 arg10 harg10 (harg3.unread x0) (harg4.unread x1) (harg5.unread x2) G7 G8 G9 G10 n).2.2.1),
        arg10.view.read (Elt F) (arg10.view.writes (Elt F) G10 (pb_k0_t1 (F := F) 𝒱 c bd i arg3 harg3 arg4 harg4 arg5 harg5 arg6 harg6 arg7 harg7 arg8 harg8 arg9 harg9 arg10 harg10 (harg3.unread x0) (harg4.unread x1) (harg5.unread x2) G7 G8 G9 G10 n).2.2.2)) := by
  induction n with
  | zero => exact hs
  | succ k ih =>
    have hk : k < (k0_t1_loop i).trips := hn
    have ih := ih (le_of_lt hk)
    have e := pb_k0_t1_succ (F := F) 𝒱 c bd i arg3 harg3 arg4 harg4 arg5 harg5 arg6 harg6 arg7 harg7 arg8 harg8 arg9 harg9 arg10 harg10 (harg3.unread x0) (harg4.unread x1) (harg5.unread x2) G7 G8 G9 G10 ⟨k, hk⟩
    rw [trip_pieces (harg5 := harg5) ⟨k, hk⟩ _ _ _ _ _ ih] at e
    dsimp only [List.cons_append, List.nil_append] at e
    rw [e]
    dsimp only
    rw [View.read_writes_full, View.read_writes_full, View.read_writes_full, View.read_writes_full]
    rfl
end

theorem hz3 : (![0, 0, 0] : Fin 3 → ℕ) = fun _ => 0 := funext fun a => by fin_cases a <;> rfl

/-- The diagonal block's scores with the keys of later chunks at `-∞`. -/
def maskV (s : Vec F S512x512 .f32) : Vec F S512x512 .f32 :=
  k0_pay29 s k0_pay26 (iota .tc S512x512 32 [1] iota_S512x512_d1_w32) 64#32 k0_pay27 k0_pay28
    (Scalar.extui (Scalar.cmpi .sgt 64#32 0#32)) (Scalar.cmpi .slt 64#32 0#32)

/-- The closing step: the masked scores folded in, the numerator over the denominator. -/
def lastV (x2 : Vec F S1x1x8192x128 .bf16) (q : ℕ) (s : St F) : Vec F S1x512x128 .bf16 :=
  k0_pay3 (k0_pay20 (k0_pay5 (vals x2 q)) (k0_pay7 (maskV s.1) s.2.1) (k0_pay8 (maskV s.1) s.2.1) s.2.2.2)
    (k0_pay9 (maskV s.1) s.2.1 s.2.2.1)

/-- A load of the view's own sizes over the pieces of a loop and those before it. -/
theorem readCov_append {Val : EltTy → Type} [∀ e, Nonempty (Val e)] {sig : RefSig} {κ : Kind} {sp : Space} {s : Shape} {e : EltTy}
    (v : View sig κ sp s e) {off : Fin s.rank → ℕ} (inb : ∀ a, off a + s.size a ≤ s.size a) (L L' : List (View.Piece Val s e)) :
    v.readCov (L ++ L') (Rect.unit off s.size inb).toLoadRect = v.read Val (v.writes Val (v.writes Val v.junk L') L) := by
  rw [← View.writes_append]
  exact View.readAt_full v _ inb

/-- What the body writes at a grid point. -/
theorem out_eq (c : Dev nD) (i : grid0.Coords) (arg3 : Memref sig .tc .vmem S1x1x512x256 .bf16) (harg3 : arg3.IsWhole) (arg4 : Memref sig .tc .vmem S1x1x256x8192 .bf16) (harg4 : arg4.IsWhole) (arg5 : Memref sig .tc .vmem S1x1x8192x128 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (x0 : Vec F S1x1x512x256 .bf16) (x1 : Vec F S1x1x256x8192 .bf16) (x2 : Vec F S1x1x8192x128 .bf16) :
    out0_A_3 c i arg3 harg3 arg4 harg4 arg5 harg5 arg6 harg6 arg7 harg7 arg8 harg8 arg9 harg9 arg10 harg10 x0 x1 x2 = lastV x2 (i 2).val (foldV x0 x1 x2 (initV x0 x1) (i 2).val) := by
  unfold out0_A_3
  rw [View.read_writes_eq_canon _ _ _ (cover0_A_3 c i arg3 harg3 arg4 harg4 arg5 harg5 arg6 harg6 arg7 harg7 arg8 harg8 arg9 harg9 arg10 harg10 x0 x1 x2)]
  unfold kernelRun0_A
  dsimp only
  sl_unfold_words
  have t2 : Scf.trips (k0_t2_loop i).lb (k0_t2_loop i).ub (k0_t2_loop i).st = 0 := trips2 i
  have t1 : Scf.trips (k0_t1_loop i).lb (k0_t1_loop i).ub (k0_t1_loop i).st = (i 2).val := trips1 i
  rw [View.canon_unit_zero hz3]
  simp only [t2, t1, pb_k0_t2.eq_1, List.nil_append]
  have e3 := View.readAt_full arg3.view (harg3.unread x0) inb_S1x1x512x256_S1x1x512x256_0_0_0_0
  rw [harg3.read_unread] at e3
  have e4 := ld_keys arg4 harg4 x1 ![0, 0, 0, 0] 0 (by simp) (by omega) inb_S1x1x256x8192_S1x1x256x512_0_0_0_0
  have e5 := ld_vals arg5 harg5 x2 (k0_off5 i) (i 2).val (off5 i) (i 2).isLt (k0_off5_inb i)
  have hl := loop_reads (F := F) (𝒱 := Variants.none) (c := c) (bd := none) (harg3 := harg3) (harg4 := harg4) (harg5 := harg5) (arg6 := arg6) (harg6 := harg6) (harg7 := harg7) (harg8 := harg8) (harg9 := harg9) (harg10 := harg10)
    (x0 := x0) (x1 := x1) (x2 := x2) (i := i)
    (arg7.view.writes (Elt F) arg7.view.junk [⟨Rect.unit (s := S512x512) ![0, 0] S512x512.size inb_S512x512_S512x512_0_0, k0_pay19 x0 (keys x1 0)⟩])
    (arg8.view.writes (Elt F) arg8.view.junk [⟨Rect.unit (s := S512x1) ![0, 0] S512x1.size inb_S512x1_S512x1_0_0, k0_pay16⟩])
    (arg9.view.writes (Elt F) arg9.view.junk [⟨Rect.unit (s := S512x1) ![0, 0] S512x1.size inb_S512x1_S512x1_0_0, k0_pay17⟩])
    (arg10.view.writes (Elt F) arg10.view.junk [⟨Rect.unit (s := S512x128) ![0, 0] S512x128.size inb_S512x128_S512x128_0_0, k0_pay18⟩])
    (initV x0 x1) (by rw [View.read_writes_full, View.read_writes_full, View.read_writes_full, View.read_writes_full]; rfl)
    (i 2).val (le_of_eq (trips1 i).symm)
  rw [e3, e4]
  rw [View.readCov_full, View.readCov_full]
  erw [readCov_append, readCov_append, readCov_append, readCov_append]
  rw [hl]
  unfold lastV
  dsimp only
  rw [← e5]
  rfl

end Cert.KernelIdeal.Attn

end
-- ==== Proof.Payload.lean ====
/-
  The body's values read at an index on the extended reals: score products, row maxima, weights, row sums, the diagonal
  mask and the final quotient.
-/
module

public import proofs.«01_k».proof.Proof.Fold
public import Idealize.ShloMosaic.PureOps.Ideal.Laws
public import Idealize.ShloMosaic.Lib.MatmulPlain
public import Idealize.ShloMosaic.Lib.ValueIdxCore

@[expose] public section

set_option maxRecDepth 16384

noncomputable section

namespace Cert.KernelIdeal.Attn

open Idealize.ShloMosaic Idealize.ShloMosaic.TcCoe Idealize.SL.Sem
open Cert.KernelIdeal Cert.KernelIdeal.Gen Idealize.ShloMosaic.ValueIdx

theorem neg_inf : Ideal.ofBits .f32 0xFF800000#32 = ⊥ := by simp [Ideal.ofBits, Ideal.ieee]

/-- A maximum over the columns. -/
theorem row_max (s : FVec Ideal S512x512 .f32) (hφ : FKind.Formats .f32) (hacc : (0xFF800000#32 : BitVec 32) = FKind.maximumf.neutral .f32 hφ) (r : Fin 512) :
    multiReduction .maximumf [1] S512 s 0xFF800000#32 reduces_S512x512_S512 hφ hacc (ix1 r)
      = Finset.univ.sup fun j : Fin 512 => s (ix2 r j) := by
  rw [Ideal.multiReduction_maximumf_single]
  show Finset.fold max (Ideal.ofBits .f32 0xFF800000#32) _ _ = _
  rw [neg_inf]
  show Finset.univ.sup _ = _
  refine Finset.sup_congr rfl fun k _ => congrArg s ?_
  funext c; apply Fin.ext
  fin_cases c <;> rfl

/-- A sum over the columns. -/
theorem row_sum (s : FVec Ideal S512x512 .f32) (hφ : FKind.Formats .f32) (hacc : (0x00000000#32 : BitVec 32) = FKind.add.neutral .f32 hφ) (r : Fin 512) :
    multiReduction .add [1] S512 s 0x00000000#32 reduces_S512x512_S512 hφ hacc (ix1 r)
      = ∑ j : Fin 512, s (ix2 r j) := by
  rw [Ideal.multiReduction_add_single]
  refine Finset.sum_congr rfl fun k _ => congrArg s ?_
  funext c; apply Fin.ext
  fin_cases c <;> rfl

theorem col_cast {α : Type} (x : S512.Idx → α) (r : Fin 512) : shapeCast S512x1 x shapeCasts_S512_S512x1 (ix2 r 0) = x (ix1 r) :=
  shapeCast_apply x _ _ _ (by rw [Shape.rowMajor_val_one, Shape.rowMajor_val_two]; simp)

theorem bc512 {α : Type} (x : S512x1.Idx → α) (r j : Fin 512) : broadcastTo S512x512 x broadcasts_S512x1_S512x512 (ix2 r j) = x (ix2 r 0) :=
  broadcastTo_apply x _ _ _ (fun a => by fin_cases a <;> rfl)

theorem bc128 {α : Type} (x : S512x1.Idx → α) (r : Fin 512) (j : Fin 128) : broadcastTo S512x128 x broadcasts_S512x1_S512x128 (ix2 r j) = x (ix2 r 0) :=
  broadcastTo_apply x _ _ _ (fun a => by fin_cases a <;> rfl)

theorem cast_q {α : Type} (x : S1x1x512x256.Idx → α) (r : Fin 512) (k : Fin 256) :
    shapeCast S512x256 x shapeCasts_S1x1x512x256_S512x256 (ix2 r k) = x (ix4 0 0 r k) :=
  shapeCast_apply x _ _ _ (by rw [Shape.rowMajor_val_four, Shape.rowMajor_val_two]; simp)

theorem cast_k {α : Type} (x : S1x1x256x512.Idx → α) (r : Fin 256) (k : Fin 512) :
    shapeCast S256x512 x shapeCasts_S1x1x256x512_S256x512 (ix2 r k) = x (ix4 0 0 r k) :=
  shapeCast_apply x _ _ _ (by rw [Shape.rowMajor_val_four, Shape.rowMajor_val_two]; simp)

theorem cast_v {α : Type} (x : S1x1x512x128.Idx → α) (r : Fin 512) (k : Fin 128) :
    shapeCast S512x128 x shapeCasts_S1x1x512x128_S512x128 (ix2 r k) = x (ix4 0 0 r k) :=
  shapeCast_apply x _ _ _ (by rw [Shape.rowMajor_val_four, Shape.rowMajor_val_two]; simp)

theorem cast_o {α : Type} (x : S512x128.Idx → α) (r : Fin 512) (k : Fin 128) :
    shapeCast S1x512x128 x shapeCasts_S512x128_S1x512x128 (ix3 0 r k) = x (ix2 r k) :=
  shapeCast_apply x _ _ _ (by rw [Shape.rowMajor_val_three, Shape.rowMajor_val_two]; simp)

/-- The scores of a block of queries against a block of keys. -/
theorem score_apply (x0 : Vec Ideal S1x1x512x256 .bf16) (kb : Vec Ideal S1x1x256x512 .bf16) (r c : Fin 512) :
    k0_pay4 x0 kb (ix2 r c) = ∑ k : Fin 256, x0 (ix4 0 0 r k) * kb (ix4 0 0 k c) := by
  have h := Ideal.matmul_plain_apply (M := 512) (K := 256) (N := 512) (φ₁ := .bf16) (φ₂ := .bf16) none
    (shapeCast S512x256 x0 shapeCasts_S1x1x512x256_S512x256) (shapeCast S256x512 kb shapeCasts_S1x1x256x512_S256x512)
    (constant (F := Ideal) S512x512 .f32 0x00000000#32) r c
  refine Eq.trans (Eq.trans (by rfl) h) ?_
  rw [show constant (F := Ideal) S512x512 .f32 0x00000000#32 (ix2 r c) = 0 from Ideal.ofBits_zero_f32, zero_add]
  exact Finset.sum_congr rfl fun k _ => by rw [cast_q, cast_k]

theorem pay19_eq (x0 : Vec Ideal S1x1x512x256 .bf16) (kb : Vec Ideal S1x1x256x512 .bf16) : k0_pay19 x0 kb = k0_pay4 x0 kb :=
  shapeCast_self _ _

theorem pay22_eq (s : FVec Ideal S512x512 .f32) : k0_pay22 s = s := shapeCast_self _ _
theorem pay21_eq (s : FVec Ideal S512x1 .f32) : k0_pay21 s = s := shapeCast_self _ _

theorem pay16_apply (r : Fin 512) : k0_pay16 (F := Ideal) (ix2 r 0) = ⊥ := by
  unfold k0_pay16
  exact (congrFun (shapeCast_self _ _) _).trans neg_inf
theorem pay17_apply (r : Fin 512) : k0_pay17 (F := Ideal) (ix2 r 0) = 0 := by
  unfold k0_pay17
  exact (congrFun (shapeCast_self _ _) _).trans Ideal.ofBits_zero_f32
theorem pay18_apply (r : Fin 512) (d : Fin 128) : k0_pay18 (F := Ideal) (ix2 r d) = 0 := by
  unfold k0_pay18
  exact (congrFun (shapeCast_self _ _) _).trans Ideal.ofBits_zero_f32

/-- The new maximum. -/
theorem pay6_apply (s : Vec Ideal S512x512 .f32) (m : Vec Ideal S512x1 .f32) (r : Fin 512) :
    k0_pay6 s m (ix2 r 0) = max (m (ix2 r 0)) (Finset.univ.sup fun j : Fin 512 => s (ix2 r j)) := by
  show max (m (ix2 r 0)) (shapeCast S512x1 _ shapeCasts_S512_S512x1 (ix2 r 0)) = _
  rw [col_cast]
  exact congrArg (fun y : EReal => max (m (ix2 r 0)) y) (row_max s _ _ r)

/-- The rescaling factor. -/
theorem pay7_apply (s : Vec Ideal S512x512 .f32) (m : Vec Ideal S512x1 .f32) (r : Fin 512) :
    k0_pay7 s m (ix2 r 0) = Ideal.exp2 (m (ix2 r 0) - k0_pay6 s m (ix2 r 0)) := rfl

/-- The weights. -/
theorem pay8_apply (s : Vec Ideal S512x512 .f32) (m : Vec Ideal S512x1 .f32) (r j : Fin 512) :
    k0_pay8 s m (ix2 r j) = Ideal.exp2 (s (ix2 r j) - k0_pay6 s m (ix2 r 0)) := by
  show Ideal.exp2 (s (ix2 r j) - broadcastTo S512x512 (k0_pay6 s m) broadcasts_S512x1_S512x512 (ix2 r j)) = _
  rw [bc512]

/-- The new denominator. -/
theorem pay9_apply (s : Vec Ideal S512x512 .f32) (m l : Vec Ideal S512x1 .f32) (r : Fin 512) :
    k0_pay9 s m l (ix2 r 0) = k0_pay7 s m (ix2 r 0) * l (ix2 r 0) + ∑ j : Fin 512, k0_pay8 s m (ix2 r j) := by
  unfold k0_pay9
  refine (congrFun (shapeCast_self _ _) _).trans ?_
  show k0_pay7 s m (ix2 r 0) * l (ix2 r 0) + shapeCast S512x1 _ shapeCasts_S512_S512x1 (ix2 r 0) = _
  rw [col_cast]
  exact congrArg (fun y : EReal => k0_pay7 s m (ix2 r 0) * l (ix2 r 0) + y) (row_sum (k0_pay8 s m) _ _ r)

/-- The new numerator. -/
theorem pay20_apply (vb : Vec Ideal S1x1x512x128 .bf16) (a : FVec Ideal S512x1 .f32) (p : FVec Ideal S512x512 .f32)
    (acc : Vec Ideal S512x128 .f32) (r : Fin 512) (d : Fin 128) :
    k0_pay20 (k0_pay5 vb) a p acc (ix2 r d)
      = a (ix2 r 0) * acc (ix2 r d) + ∑ j : Fin 512, p (ix2 r j) * vb (ix4 0 0 j d) := by
  unfold k0_pay20
  refine (congrFun (shapeCast_self _ _) _).trans ?_
  have h := Ideal.matmul_plain_apply (M := 512) (K := 512) (N := 128) (φ₁ := .bf16) (φ₂ := .bf16) none
    (truncf .bf16 p bitsLt_bf16_f32) (k0_pay5 vb) (constant (F := Ideal) S512x128 .f32 0x00000000#32) r d
  rw [show constant (F := Ideal) S512x128 .f32 0x00000000#32 (ix2 r d) = 0 from Ideal.ofBits_zero_f32, zero_add] at h
  refine (congrArg₂ (fun x y : EReal => x + y) (congrArg (fun x : EReal => x * acc (ix2 r d)) (bc128 a r d)) h).trans ?_
  refine congrArg (fun y : EReal => a (ix2 r 0) * acc (ix2 r d) + y) (Finset.sum_congr rfl fun j _ => ?_)
  exact congrArg (fun y : EReal => p (ix2 r j) * y) (cast_v vb j d)

/-- The quotient. -/
theorem pay3_apply (acc : Vec Ideal S512x128 .f32) (l : Vec Ideal S512x1 .f32) (r : Fin 512) (d : Fin 128) :
    k0_pay3 acc l (ix3 0 r d) = Ideal.div (acc (ix2 r d)) (l (ix2 r 0)) := by
  unfold k0_pay3
  refine (cast_o _ r d).trans ?_
  show Ideal.div (acc (ix2 r d)) (broadcastTo S512x128 l broadcasts_S512x1_S512x128 (ix2 r d)) = _
  rw [bc128]

/-- The row's chunk, by the word chain of a floor division by 64. -/
theorem pay26_apply (r c : Fin 512) : k0_pay26 (ix2 r c) = BitVec.ofNat 32 (r.val / 64) := by
  have h : ∀ n : Fin 512, k0_pay26 (ix2 n 0) = BitVec.ofNat 32 (n.val / 64) := by decide +kernel
  exact h r

/-- The column's chunk, by the same chain. -/
def colChunk : IVec S512x512 32 :=
  select (andi (cmpi .ne k0_pay28 (broadcast S512x512 (Scalar.subi (Scalar.extui (Scalar.cmpi .sgt 64#32 0#32)) (Scalar.extui (Scalar.cmpi .slt 64#32 0#32)))))
      (cmpi .ne (remsi (iota .tc S512x512 32 [1] iota_S512x512_d1_w32) (broadcast S512x512 64#32)) (broadcast S512x512 0#32)))
    (subi k0_pay27 (broadcast S512x512 1#32)) k0_pay27

theorem colChunk_apply (r c : Fin 512) : colChunk (ix2 r c) = BitVec.ofNat 32 (c.val / 64) := by
  have h : ∀ n : Fin 512, colChunk (ix2 0 n) = BitVec.ofNat 32 (n.val / 64) := by decide +kernel
  exact h c

/-- The diagonal mask: a key of a chunk after the query's is at `⊥`. -/
theorem maskV_apply (s : Vec Ideal S512x512 .f32) (r c : Fin 512) :
    maskV s (ix2 r c) = if c.val / 64 ≤ r.val / 64 then s (ix2 r c) else ⊥ := by
  have h2 : ∀ a b : Fin 8, Scalar.cmpi .sle (BitVec.ofNat 32 a.val) (BitVec.ofNat 32 b.val) = if a.val ≤ b.val then 1#1 else 0#1 := by
    decide +kernel
  have e : maskV s (ix2 r c) = Scalar.select (Scalar.cmpi .sle (colChunk (ix2 r c)) (k0_pay26 (ix2 r c)))
      (s (ix2 r c)) (Ideal.ofBits .f32 0xFF800000#32) := rfl
  rw [e, neg_inf, pay26_apply, colChunk_apply, h2 ⟨c.val / 64, by omega⟩ ⟨r.val / 64, by omega⟩]
  dsimp only
  split <;> rfl

end Cert.KernelIdeal.Attn

end
-- ==== Proof.Online.lean ====
/-
  The online softmax on the extended reals, one row at a time. `supTo`, `denTo`, `numTo` are the maximum, the
  denominator and the numerator over the first `n` keys; each block of keys updates them by the kernel's recurrence
  (`supTo_block`, `denTo_block`, `numTo_block`), also where scores are infinite. `two_pow_eq_exp` turns powers of two of
  the scores into exponentials of the scores times `log 2`.
-/
module

public import Idealize.ShloMosaic.PureOps.Ideal

@[expose] public section

noncomputable section

namespace Cert.Softmax

open Idealize.ShloMosaic

/-- The maximum of the first `n` scores, `⊥` when there is none. -/
def supTo (s : ℕ → EReal) (n : ℕ) : EReal := (Finset.range n).sup s

/-- `Σ 2^(s k - max)` over the first `n` keys. -/
def denTo (s : ℕ → EReal) (n : ℕ) : EReal := ∑ k ∈ Finset.range n, Ideal.exp2 (s k - supTo s n)

/-- `Σ 2^(s k - max) v k` over the first `n` keys. -/
def numTo (s v : ℕ → EReal) (n : ℕ) : EReal := ∑ k ∈ Finset.range n, Ideal.exp2 (s k - supTo s n) * v k

theorem sub_top' (x : EReal) : x - ⊤ = ⊥ := by
  rw [sub_eq_add_neg, EReal.neg_top, EReal.add_bot]

theorem bot_sub' (x : EReal) : ⊥ - x = ⊥ := by
  rw [sub_eq_add_neg, EReal.bot_add]

/-- The rescaling factor is a nonnegative real. -/
theorem scale_real {m m' : EReal} (h : m ≤ m') : ∃ r : ℝ, 0 ≤ r ∧ Ideal.exp2 (m - m') = (r : EReal) := by
  induction m' with
  | bot =>
    obtain rfl : m = ⊥ := le_bot_iff.mp h
    exact ⟨0, le_rfl, by rw [bot_sub', Ideal.exp2_bot]; rfl⟩
  | top => exact ⟨0, le_rfl, by rw [sub_top', Ideal.exp2_bot]; rfl⟩
  | coe b =>
    induction m with
    | bot => exact ⟨0, le_rfl, by rw [bot_sub', Ideal.exp2_bot]; rfl⟩
    | top => exact absurd h (not_le.mpr (EReal.coe_lt_top b))
    | coe a =>
      refine ⟨Real.rpow 2 (a - b), Real.rpow_nonneg (by norm_num) _, ?_⟩
      rw [← EReal.coe_sub, Ideal.exp2_coe]

/-- Rescaling a weight from the old maximum to the new one. -/
theorem scale_mul {s m m' : EReal} (hs : s ≤ m) (h : m ≤ m') :
    Ideal.exp2 (m - m') * Ideal.exp2 (s - m) = Ideal.exp2 (s - m') := by
  induction m' with
  | bot =>
    obtain rfl : m = ⊥ := le_bot_iff.mp h
    rw [bot_sub', Ideal.exp2_bot, zero_mul, le_bot_iff.mp hs, bot_sub', Ideal.exp2_bot]
  | top => rw [sub_top', sub_top', Ideal.exp2_bot, zero_mul]
  | coe b =>
    induction m with
    | bot => rw [le_bot_iff.mp hs, bot_sub', bot_sub', Ideal.exp2_bot, mul_zero]
    | top => exact absurd h (not_le.mpr (EReal.coe_lt_top b))
    | coe a =>
      induction s with
      | bot => rw [bot_sub', bot_sub', Ideal.exp2_bot, mul_zero]
      | top => exact absurd hs (not_le.mpr (EReal.coe_lt_top a))
      | coe c =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (c - a) = (2 : ℝ) ^ (c - b)
        rw [← Real.rpow_add (by norm_num)]
        congr 1; ring

/-- A nonnegative real distributes over any finite sum. -/
theorem real_mul_sum {ι : Type*} (r : ℝ) (hr : 0 ≤ r) (t : Finset ι) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

theorem le_supTo (s : ℕ → EReal) {n k : ℕ} (h : k < n) : s k ≤ supTo s n :=
  Finset.le_sup (f := s) (Finset.mem_range.mpr h)

theorem supTo_mono (s : ℕ → EReal) {n n' : ℕ} (h : n ≤ n') : supTo s n ≤ supTo s n' :=
  Finset.sup_mono (Finset.range_mono h)

/-- The maximum after a further block of `w` keys. -/
theorem supTo_block (s : ℕ → EReal) (n w : ℕ) :
    supTo s (n + w) = max (supTo s n) (Finset.univ.sup fun j : Fin w => s (n + j.val)) := by
  apply le_antisymm
  · refine Finset.sup_le fun k hk => ?_
    rcases lt_or_ge k n with h | h
    · exact le_max_of_le_left (le_supTo s h)
    · have hk := Finset.mem_range.mp hk
      refine le_max_of_le_right ?_
      have := Finset.le_sup (f := fun j : Fin w => s (n + j.val)) (Finset.mem_univ ⟨k - n, by omega⟩)
      rwa [show n + (k - n) = k by omega] at this
  · refine max_le (supTo_mono s (Nat.le_add_right n w)) (Finset.sup_le fun j _ => le_supTo s ?_)
    have := j.isLt
    omega

/-- The numerator after a further block of `w` keys. -/
theorem numTo_block (s v : ℕ → EReal) (n w : ℕ) :
    numTo s v (n + w) = Ideal.exp2 (supTo s n - supTo s (n + w)) * numTo s v n
      + ∑ j : Fin w, Ideal.exp2 (s (n + j.val) - supTo s (n + w)) * v (n + j.val) := by
  have hm := supTo_mono s (Nat.le_add_right n w)
  obtain ⟨r, hr, er⟩ := scale_real hm
  unfold numTo
  rw [Finset.sum_range_add, Finset.sum_range (n := w)]
  congr 1
  rw [er, real_mul_sum r hr, ← er]
  refine Finset.sum_congr rfl fun k hk => ?_
  rw [← mul_assoc, scale_mul (le_supTo s (Finset.mem_range.mp hk)) hm]

/-- The denominator is the numerator of the values 1. -/
theorem denTo_eq (s : ℕ → EReal) (n : ℕ) : denTo s n = numTo s (fun _ => 1) n :=
  Finset.sum_congr rfl fun _ _ => (mul_one _).symm

/-- The denominator after a further block of `w` keys. -/
theorem denTo_block (s : ℕ → EReal) (n w : ℕ) :
    denTo s (n + w) = Ideal.exp2 (supTo s n - supTo s (n + w)) * denTo s n
      + ∑ j : Fin w, Ideal.exp2 (s (n + j.val) - supTo s (n + w)) := by
  rw [denTo_eq, denTo_eq, numTo_block]
  simp only [mul_one]

/-- Keys at `⊥` behind the first `n` change nothing. -/
theorem supTo_tail (s : ℕ → EReal) {n n' : ℕ} (h : n ≤ n') (hs : ∀ k, n ≤ k → s k = ⊥) : supTo s n' = supTo s n := by
  refine le_antisymm (Finset.sup_le fun k _ => ?_) (supTo_mono s h)
  rcases lt_or_ge k n with hk | hk
  · exact le_supTo s hk
  · rw [hs k hk]; exact bot_le

theorem numTo_tail (s v : ℕ → EReal) {n n' : ℕ} (h : n ≤ n') (hs : ∀ k, n ≤ k → s k = ⊥) : numTo s v n' = numTo s v n := by
  unfold numTo
  rw [supTo_tail s h hs]
  refine (Finset.sum_subset (Finset.range_mono h) fun k _ hk => ?_).symm
  rw [hs k (by simpa using hk), bot_sub', Ideal.exp2_bot, zero_mul]

theorem denTo_tail (s : ℕ → EReal) {n n' : ℕ} (h : n ≤ n') (hs : ∀ k, n ≤ k → s k = ⊥) : denTo s n' = denTo s n := by
  rw [denTo_eq, denTo_eq, numTo_tail s _ h hs]

theorem bot_mul_pos {c : ℝ} (hc : 0 < c) : (⊥ : EReal) * (c : EReal) = ⊥ := EReal.bot_mul_coe_of_pos hc

/-- `2^(s - m) = e^(s log 2 - m log 2)` for a score `s` not above `m`. -/
theorem two_pow_eq_exp {s m : EReal} (hs : s ≤ m) :
    Ideal.exp (s * (Real.log 2 : EReal) - m * (Real.log 2 : EReal)) = Ideal.exp2 (s - m) := by
  have h2 : 0 < Real.log 2 := Real.log_pos (by norm_num)
  induction m with
  | bot => rw [le_bot_iff.mp hs, bot_mul_pos h2, bot_sub', Ideal.exp_bot, Ideal.exp2_bot]
  | top => rw [EReal.top_mul_coe_of_pos h2, sub_top', sub_top', Ideal.exp_bot, Ideal.exp2_bot]
  | coe b =>
    induction s with
    | bot => rw [bot_mul_pos h2, bot_sub', bot_sub', Ideal.exp_bot, Ideal.exp2_bot]
    | top => exact absurd hs (not_le.mpr (EReal.coe_lt_top b))
    | coe a =>
      rw [← EReal.coe_mul, ← EReal.coe_mul, ← EReal.coe_sub, ← EReal.coe_sub, Ideal.exp_coe, Ideal.exp2_coe]
      congr 1
      show Real.exp _ = (2 : ℝ) ^ (a - b)
      rw [Real.rpow_def_of_pos (by norm_num)]
      congr 1; ring

theorem mul_log_mono : Monotone fun x : EReal => x * (Real.log 2 : EReal) := fun _ _ h =>
  mul_le_mul_of_nonneg_right h (by exact_mod_cast (Real.log_pos (by norm_num : (1 : ℝ) < 2)).le)

/-- The maximum of the scores times `log 2`. -/
theorem sup_mul_log {w : ℕ} (s : Fin w → EReal) :
    (Finset.univ.sup fun j => s j * (Real.log 2 : EReal)) = (Finset.univ.sup s) * (Real.log 2 : EReal) :=
  (Finset.comp_sup_eq_sup_comp_of_is_total (fun x : EReal => x * (Real.log 2 : EReal)) mul_log_mono
    (bot_mul_pos (Real.log_pos (by norm_num)))).symm

/-- The first `w` keys' maximum, taken over `Fin w`. -/
theorem supTo_eq (s : ℕ → EReal) (w : ℕ) : supTo s w = Finset.univ.sup fun j : Fin w => s j.val := by
  have := supTo_block s 0 w
  simpa [supTo] using this

end Cert.Softmax

end
-- ==== Proof.Spec.lean ====
/-
  The attention both programs compute, on the extended reals: for each batch, head, query and value column, the values
  weighted by `2^(score - max)` over the keys of chunks not after the query's, divided by the sum of the weights.
-/
module

public import proofs.«01_k».proof.Proof.Online
public import Idealize.ShloMosaic.Lib.ValueIdxCore

@[expose] public section

noncomputable section

namespace Cert.Softmax

open Idealize.ShloMosaic Idealize.ShloMosaic.ValueIdx

abbrev SQ : Shape := ⟨4, ![2, 8, 8192, 256]⟩
abbrev SK : Shape := ⟨4, ![2, 8, 256, 8192]⟩
abbrev SV : Shape := ⟨4, ![2, 8, 8192, 128]⟩
abbrev SO : Shape := ⟨3, ![2, 8192, 1024]⟩

/-- A key's position within the 8192. -/
abbrev pos (k : ℕ) : Fin 8192 := ⟨k % 8192, Nat.mod_lt _ (by decide)⟩

/-- The score of query `s` against key `k`, `⊥` when the key's chunk of 64 is after the query's. -/
def scoreOf (X0 : SQ.Idx → EReal) (X1 : SK.Idx → EReal) (b : Fin 2) (h : Fin 8) (s : Fin 8192) (k : ℕ) : EReal :=
  if k / 64 ≤ s.val / 64 then ∑ c : Fin 256, X0 (ix4 b h s c) * X1 (ix4 b h c (pos k)) else ⊥

/-- Column `d` of a head's values. -/
def valueOf (X2 : SV.Idx → EReal) (b : Fin 2) (h : Fin 8) (d : Fin 128) (k : ℕ) : EReal := X2 (ix4 b h (pos k) d)

/-- The attention of query `s` in value column `d`. -/
def attend (X0 : SQ.Idx → EReal) (X1 : SK.Idx → EReal) (X2 : SV.Idx → EReal) (b : Fin 2) (h : Fin 8) (s : Fin 8192) (d : Fin 128) : EReal :=
  Ideal.div (numTo (scoreOf X0 X1 b h s) (valueOf X2 b h d) 8192) (denTo (scoreOf X0 X1 b h s) 8192)

/-- The whole result, the heads' columns side by side. -/
def result (X0 : SQ.Idx → EReal) (X1 : SK.Idx → EReal) (X2 : SV.Idx → EReal) : SO.Idx → EReal := fun i =>
  attend X0 X1 X2 (i 0) ⟨(i 2).val / 128, by have h : (i 2).val < 1024 := (i 2).isLt; omega⟩ (i 1)
    ⟨(i 2).val % 128, Nat.mod_lt _ (by decide)⟩

end Cert.Softmax

end
-- ==== Proof.Rows.lean ====
/-
  The fold read row by row: after `k` key blocks a row's maximum, denominator and numerator are those of the online
  softmax over the first `512 k` keys, and what the body writes is the quotient of numerator and denominator over all
  keys, a key of a chunk after the query's counted at `⊥`.
-/
module

public import proofs.«01_k».proof.Proof.Payload
public import proofs.«01_k».proof.Proof.Spec

@[expose] public section

set_option maxRecDepth 16384

noncomputable section

namespace Cert.KernelIdeal.Attn

open Idealize.ShloMosaic Idealize.ShloMosaic.TcCoe Idealize.SL.Sem
open Cert.KernelIdeal Cert.KernelIdeal.Gen Idealize.ShloMosaic.ValueIdx Cert.Softmax

/-- The score of query row `r` of the block against key `k`. -/
def score (x0 : Vec Ideal S1x1x512x256 .bf16) (x1 : Vec Ideal S1x1x256x8192 .bf16) (r : Fin 512) (k : ℕ) : EReal :=
  ∑ c : Fin 256, x0 (ix4 0 0 r c) * x1 (ix4 0 0 c (pos k))

/-- The score, `⊥` when the key's chunk is after that of query `512 q + r`. -/
def mscore (x0 : Vec Ideal S1x1x512x256 .bf16) (x1 : Vec Ideal S1x1x256x8192 .bf16) (q : ℕ) (r : Fin 512) (k : ℕ) : EReal :=
  if k / 64 ≤ (512 * q + r.val) / 64 then score x0 x1 r k else ⊥

/-- Column `d` of the values. -/
def vcol (x2 : Vec Ideal S1x1x8192x128 .bf16) (d : Fin 128) (k : ℕ) : EReal := x2 (ix4 0 0 (pos k) d)

theorem keys_apply (x1 : Vec Ideal S1x1x256x8192 .bf16) (j : ℕ) (c : Fin 256) (y : Fin 512) :
    keys x1 j (ix4 0 0 c y) = x1 (ix4 0 0 c (pos (512 * j + y.val))) := by
  refine congrArg x1 (funext fun a => ?_)
  match a with
  | ⟨0, _⟩ => rfl
  | ⟨1, _⟩ => rfl
  | ⟨2, _⟩ => rfl
  | ⟨3, _⟩ => rfl

theorem vals_apply (x2 : Vec Ideal S1x1x8192x128 .bf16) (j : ℕ) (y : Fin 512) (d : Fin 128) :
    vals x2 j (ix4 0 0 y d) = vcol x2 d (512 * j + y.val) := by
  refine congrArg x2 (funext fun a => ?_)
  match a with
  | ⟨0, _⟩ => rfl
  | ⟨1, _⟩ => rfl
  | ⟨2, _⟩ => rfl
  | ⟨3, _⟩ => rfl

theorem score_block (x0 : Vec Ideal S1x1x512x256 .bf16) (x1 : Vec Ideal S1x1x256x8192 .bf16) (j : ℕ) (r c : Fin 512) :
    k0_pay4 x0 (keys x1 j) (ix2 r c) = score x0 x1 r (512 * j + c.val) := by
  rw [score_apply]
  exact Finset.sum_congr rfl fun k _ => by rw [keys_apply]

/-- One block folded into a row. -/
theorem step_row (f : ℕ → EReal) (g : Fin 128 → ℕ → EReal) (n : ℕ) (r : Fin 512) (s : Vec Ideal S512x512 .f32) (m l : Vec Ideal S512x1 .f32)
    (acc : Vec Ideal S512x128 .f32) (vb : Vec Ideal S1x1x512x128 .bf16)
    (hs : ∀ j, s (ix2 r j) = f (n + j.val)) (hv : ∀ j d, vb (ix4 0 0 j d) = g d (n + j.val))
    (hm : m (ix2 r 0) = supTo f n) (hl : l (ix2 r 0) = denTo f n) (ha : ∀ d, acc (ix2 r d) = numTo f (g d) n) :
    k0_pay6 s m (ix2 r 0) = supTo f (n + 512) ∧ k0_pay9 s m l (ix2 r 0) = denTo f (n + 512)
      ∧ ∀ d, k0_pay20 (k0_pay5 vb) (k0_pay7 s m) (k0_pay8 s m) acc (ix2 r d) = numTo f (g d) (n + 512) := by
  have h6 : k0_pay6 s m (ix2 r 0) = supTo f (n + 512) := by
    rw [pay6_apply, supTo_block, hm]
    exact congrArg _ (Finset.sup_congr rfl fun j _ => hs j)
  have h7 : k0_pay7 s m (ix2 r 0) = Ideal.exp2 (supTo f n - supTo f (n + 512)) := by rw [pay7_apply, h6, hm]
  have h8 : ∀ j, k0_pay8 s m (ix2 r j) = Ideal.exp2 (f (n + j.val) - supTo f (n + 512)) := fun j => by rw [pay8_apply, h6, hs]
  refine ⟨h6, ?_, fun d => ?_⟩
  · rw [pay9_apply, denTo_block, h7, hl]
    exact congrArg _ (Finset.sum_congr rfl fun j _ => h8 j)
  · rw [pay20_apply, numTo_block, h7, ha]
    exact congrArg _ (Finset.sum_congr rfl fun j _ => by rw [h8, hv])

section
variable (x0 : Vec Ideal S1x1x512x256 .bf16) (x1 : Vec Ideal S1x1x256x8192 .bf16) (x2 : Vec Ideal S1x1x8192x128 .bf16)

/-- The state after `k` blocks before the diagonal. -/
theorem fold_row (q : ℕ) (r : Fin 512) (k : ℕ) (hk : k ≤ q) :
    (∀ j, (foldV x0 x1 x2 (initV x0 x1) k).1 (ix2 r j) = score x0 x1 r (512 * k + j.val))
      ∧ (foldV x0 x1 x2 (initV x0 x1) k).2.1 (ix2 r 0) = supTo (mscore x0 x1 q r) (512 * k)
      ∧ (foldV x0 x1 x2 (initV x0 x1) k).2.2.1 (ix2 r 0) = denTo (mscore x0 x1 q r) (512 * k)
      ∧ ∀ d, (foldV x0 x1 x2 (initV x0 x1) k).2.2.2 (ix2 r d) = numTo (mscore x0 x1 q r) (vcol x2 d) (512 * k) := by
  induction k with
  | zero =>
    refine ⟨fun j => ?_, pay16_apply r, (pay17_apply r).trans ?_, fun d => (pay18_apply r d).trans ?_⟩
    · show k0_pay19 x0 (keys x1 0) (ix2 r j) = _
      rw [pay19_eq, score_block]
    · simp [denTo]
    · simp [numTo]
  | succ k ih =>
    obtain ⟨hs, hm, hl, ha⟩ := ih (by omega)
    have h := step_row (mscore x0 x1 q r) (vcol x2) (512 * k) r _ _ _ _ (vals x2 k)
      (fun j => (hs j).trans (by
        have := j.isLt
        unfold mscore
        rw [if_pos (by omega)]))
      (fun j d => vals_apply x2 k j d) hm hl ha
    refine ⟨fun j => ?_, ?_, h.2.1, h.2.2⟩
    · show k0_pay22 (k0_pay4 x0 (keys x1 (k + 1))) (ix2 r j) = _
      rw [pay22_eq, score_block]
    · exact (congrFun (pay21_eq (k0_pay6 _ _)) (ix2 r 0)).trans h.1

/-- What the body writes for query block `q`: the softmax-weighted mean over the keys of chunks not after the query's. -/
theorem last_row (q : ℕ) (hq : q < 16) (r : Fin 512) (d : Fin 128) :
    lastV x2 q (foldV x0 x1 x2 (initV x0 x1) q) (ix3 0 r d)
      = Ideal.div (numTo (mscore x0 x1 q r) (vcol x2 d) 8192) (denTo (mscore x0 x1 q r) 8192) := by
  obtain ⟨hs, hm, hl, ha⟩ := fold_row x0 x1 x2 q r q le_rfl
  have h := step_row (mscore x0 x1 q r) (vcol x2) (512 * q) r (maskV (foldV x0 x1 x2 (initV x0 x1) q).1) _ _ _ (vals x2 q)
    (fun j => by
      have h1 := j.isLt
      have h2 := r.isLt
      rw [maskV_apply, hs]
      unfold mscore
      by_cases hc : j.val / 64 ≤ r.val / 64
      · rw [if_pos hc, if_pos (by omega)]
      · rw [if_neg hc, if_neg (by omega)])
    (fun j d => vals_apply x2 q j d) hm hl ha
  have ht : ∀ k, 512 * q + 512 ≤ k → mscore x0 x1 q r k = ⊥ := fun k hk => if_neg (by have := r.isLt; omega)
  unfold lastV
  rw [pay3_apply, h.2.1, h.2.2 d, numTo_tail _ _ (show 512 * q + 512 ≤ 8192 by omega) ht, denTo_tail _ (show 512 * q + 512 ≤ 8192 by omega) ht]

end

end Cert.KernelIdeal.Attn

end
-- ==== Proof.Array.lean ====
/-
  The kernel's result array: each grid point writes its block of the attention, and the blocks cover the array.
-/
module

public import proofs.«01_k».proof.Proof.Rows
public import Idealize.ShloMosaic.Lib.Pipeline.Covers

@[expose] public section

set_option maxRecDepth 16384

noncomputable section

namespace Cert.KernelIdeal.Attn

open Idealize.ShloMosaic Idealize.ShloMosaic.TcCoe Idealize.SL.Sem
open Cert.KernelIdeal Cert.KernelIdeal.Gen Idealize.ShloMosaic.ValueIdx Cert.Softmax

variable (m : (ℓ : Loc nD τ sig) → Buf (Elt Ideal) ℓ) (c : Dev nD)

/-- The three operands. -/
abbrev A0 : SQ.Idx → EReal := m ((c : Thread nD τ).loc main_arg0)
abbrev A1 : SK.Idx → EReal := m ((c : Thread nD τ).loc main_arg1)
abbrev A2 : SV.Idx → EReal := m ((c : Thread nD τ).loc main_arg2)

theorem index0 (i : grid0.Coords) : cc0_transform_0 i = ![(i 0).val, (i 1).val, (i 2).val, 0] := by
  have h0 : (i 0).val < 2 := (i 0).isLt
  have h1 : (i 1).val < 8 := (i 1).isLt
  have h2 : (i 2).val < 16 := (i 2).isLt
  show ![(BitVec.ofNat 32 (i 0).val).toNat, (BitVec.ofNat 32 (i 1).val).toNat, (BitVec.ofNat 32 (i 2).val).toNat, 0] = _
  rw [BitVec.toNat_ofNat, BitVec.toNat_ofNat, BitVec.toNat_ofNat, Nat.mod_eq_of_lt (by omega), Nat.mod_eq_of_lt (by omega), Nat.mod_eq_of_lt (by omega)]

theorem index1 (i : grid0.Coords) : cc0_transform_1 i = ![(i 0).val, (i 1).val, 0, 0] := by
  have h0 : (i 0).val < 2 := (i 0).isLt
  have h1 : (i 1).val < 8 := (i 1).isLt
  show ![(BitVec.ofNat 32 (i 0).val).toNat, (BitVec.ofNat 32 (i 1).val).toNat, 0, 0] = _
  rw [BitVec.toNat_ofNat, BitVec.toNat_ofNat, Nat.mod_eq_of_lt (by omega), Nat.mod_eq_of_lt (by omega)]

theorem index2 (i : grid0.Coords) : cc0_transform_2 i = ![(i 0).val, (i 1).val, 0, 0] := index1 i

theorem index3 (i : grid0.Coords) : cc0_transform_3 i = ![(i 0).val, (i 2).val, (i 1).val] := by
  have h0 : (i 0).val < 2 := (i 0).isLt
  have h1 : (i 1).val < 8 := (i 1).isLt
  have h2 : (i 2).val < 16 := (i 2).isLt
  show ![(BitVec.ofNat 32 (i 0).val).toNat, (BitVec.ofNat 32 (i 2).val).toNat, (BitVec.ofNat 32 (i 1).val).toNat] = _
  rw [BitVec.toNat_ofNat, BitVec.toNat_ofNat, BitVec.toNat_ofNat, Nat.mod_eq_of_lt (by omega), Nat.mod_eq_of_lt (by omega), Nat.mod_eq_of_lt (by omega)]

/-- Query `r` of query block `q`. -/
abbrev row (q : Fin 16) (r : Fin 512) : Fin 8192 := ⟨512 * q.val + r.val, by omega⟩

/-- The query block at a grid point. -/
theorem iblk0_apply (t : Fin cfg0.N) (r : Fin 512) (k : Fin 256) :
    (iblk m c 0 t : Vec Ideal S1x1x512x256 .bf16) (ix4 0 0 r k)
      = A0 m c (ix4 (grid0.coords t 0) (grid0.coords t 1) (row (grid0.coords t 2) r) k) := by
  unfold iblk
  rw [View.read_apply]
  show V m c main_arg0 _ = m (c.tc.loc main_arg0) _
  unfold V
  congr 1
  have e := index0 (grid0.coords t)
  funext a
  apply Fin.ext
  match a with
  | ⟨0, _⟩ => show cc0_transform_0 (grid0.coords t) 0 * 1 + 1 * 0 = (grid0.coords t 0).val; rw [e]; show (grid0.coords t 0).val * 1 + 1 * 0 = _; omega
  | ⟨1, _⟩ => show cc0_transform_0 (grid0.coords t) 1 * 1 + 1 * 0 = (grid0.coords t 1).val; rw [e]; show (grid0.coords t 1).val * 1 + 1 * 0 = _; omega
  | ⟨2, _⟩ => show cc0_transform_0 (grid0.coords t) 2 * 512 + 1 * r.val = 512 * (grid0.coords t 2).val + r.val; rw [e]; show (grid0.coords t 2).val * 512 + 1 * r.val = _; omega
  | ⟨3, _⟩ => show cc0_transform_0 (grid0.coords t) 3 * 256 + 1 * k.val = k.val; rw [e]; show 0 * 256 + 1 * k.val = _; omega

/-- The keys at a grid point. -/
theorem iblk1_apply (t : Fin cfg0.N) (r : Fin 256) (k : Fin 8192) :
    (iblk m c 1 t : Vec Ideal S1x1x256x8192 .bf16) (ix4 0 0 r k)
      = A1 m c (ix4 (grid0.coords t 0) (grid0.coords t 1) r k) := by
  unfold iblk
  rw [View.read_apply]
  show V m c main_arg1 _ = m (c.tc.loc main_arg1) _
  unfold V
  congr 1
  have e := index1 (grid0.coords t)
  funext a
  apply Fin.ext
  match a with
  | ⟨0, _⟩ => show cc0_transform_1 (grid0.coords t) 0 * 1 + 1 * 0 = (grid0.coords t 0).val; rw [e]; show (grid0.coords t 0).val * 1 + 1 * 0 = _; omega
  | ⟨1, _⟩ => show cc0_transform_1 (grid0.coords t) 1 * 1 + 1 * 0 = (grid0.coords t 1).val; rw [e]; show (grid0.coords t 1).val * 1 + 1 * 0 = _; omega
  | ⟨2, _⟩ => show cc0_transform_1 (grid0.coords t) 2 * 256 + 1 * r.val = r.val; rw [e]; show 0 * 256 + 1 * r.val = _; omega
  | ⟨3, _⟩ => show cc0_transform_1 (grid0.coords t) 3 * 8192 + 1 * k.val = k.val; rw [e]; show 0 * 8192 + 1 * k.val = _; omega

/-- The values at a grid point. -/
theorem iblk2_apply (t : Fin cfg0.N) (k : Fin 8192) (d : Fin 128) :
    (iblk m c 2 t : Vec Ideal S1x1x8192x128 .bf16) (ix4 0 0 k d)
      = A2 m c (ix4 (grid0.coords t 0) (grid0.coords t 1) k d) := by
  unfold iblk
  rw [View.read_apply]
  show V m c main_arg2 _ = m (c.tc.loc main_arg2) _
  unfold V
  congr 1
  have e := index2 (grid0.coords t)
  funext a
  apply Fin.ext
  match a with
  | ⟨0, _⟩ => show cc0_transform_2 (grid0.coords t) 0 * 1 + 1 * 0 = (grid0.coords t 0).val; rw [e]; show (grid0.coords t 0).val * 1 + 1 * 0 = _; omega
  | ⟨1, _⟩ => show cc0_transform_2 (grid0.coords t) 1 * 1 + 1 * 0 = (grid0.coords t 1).val; rw [e]; show (grid0.coords t 1).val * 1 + 1 * 0 = _; omega
  | ⟨2, _⟩ => show cc0_transform_2 (grid0.coords t) 2 * 8192 + 1 * k.val = k.val; rw [e]; show 0 * 8192 + 1 * k.val = _; omega
  | ⟨3, _⟩ => show cc0_transform_2 (grid0.coords t) 3 * 128 + 1 * d.val = d.val; rw [e]; show 0 * 128 + 1 * d.val = _; omega

/-- What the body writes at a grid point, at an index: the attention of that query. -/
theorem block_apply (t : Fin cfg0.N) (r : Fin 512) (d : Fin 128) :
    lastV (iblk m c 2 t) (grid0.coords t 2).val
        (foldV (iblk m c 0 t) (iblk m c 1 t) (iblk m c 2 t) (initV (iblk m c 0 t) (iblk m c 1 t)) (grid0.coords t 2).val) (ix3 0 r d)
      = attend (A0 m c) (A1 m c) (A2 m c) (grid0.coords t 0) (grid0.coords t 1) (row (grid0.coords t 2) r) d := by
  refine (last_row (iblk m c 0 t) (iblk m c 1 t) (iblk m c 2 t) (grid0.coords t 2).val (grid0.coords t 2).isLt r d).trans ?_
  have es : mscore (iblk m c 0 t) (iblk m c 1 t) (grid0.coords t 2).val r
      = scoreOf (A0 m c) (A1 m c) (grid0.coords t 0) (grid0.coords t 1) (row (grid0.coords t 2) r) := funext fun k => by
    unfold mscore scoreOf score
    refine if_congr Iff.rfl (Finset.sum_congr rfl fun j _ => ?_) rfl
    rw [iblk0_apply, iblk1_apply]
  have ev : vcol (iblk m c 2 t) d = valueOf (A2 m c) (grid0.coords t 0) (grid0.coords t 1) d := funext fun k => by
    unfold vcol valueOf
    rw [iblk2_apply]
  rw [es, ev]
  rfl

/-- Each write-back writes its block of the result. -/
theorem flushed_eq (t : Fin cfg0.N) (hf : (cfg0.win 3).flush t = true) :
    (dats m 0 c).flushed 3 t = ((cfg0.win 3).blk t).view.read (Elt Ideal) (result (A0 m c) (A1 m c) (A2 m c)) := by
  rw [Cert.KernelIdeal.Value.flushed3_A, out_eq]
  have e := index3 (grid0.coords t)
  funext y
  have h0 : (y 0).val < 1 := (y 0).isLt
  have h1 : (y 1).val < 512 := (y 1).isLt
  have h2 : (y 2).val < 128 := (y 2).isLt
  have c1 : (grid0.coords t 1).val < 8 := (grid0.coords t 1).isLt
  have hy : (y : S1x512x128.Idx) = ix3 0 (y 1) (y 2) := funext fun a => match a with
    | ⟨0, _⟩ => Fin.ext (show (y 0).val = 0 by omega)
    | ⟨1, _⟩ => rfl
    | ⟨2, _⟩ => rfl
  rw [View.read_apply]
  refine Eq.trans (b := lastV (iblk m c 2 t) (grid0.coords t 2).val
        (foldV (iblk m c 0 t) (iblk m c 1 t) (iblk m c 2 t) (initV (iblk m c 0 t) (iblk m c 1 t)) (grid0.coords t 2).val) (ix3 0 (y 1) (y 2))) (congrArg _ hy) ?_
  refine (block_apply m c t ⟨(y 1).val, h1⟩ ⟨(y 2).val, h2⟩).trans ?_
  show _ = result (A0 m c) (A1 m c) (A2 m c) (((cfg0.win 3).blk t).view.emb y)
  have z0 : cc0_transform_3 (grid0.coords t) 0 * 1 + 1 * (y 0).val = (grid0.coords t 0).val := by
    rw [e]; show (grid0.coords t 0).val * 1 + 1 * (y 0).val = _; omega
  have z1 : cc0_transform_3 (grid0.coords t) 1 * 512 + 1 * (y 1).val = 512 * (grid0.coords t 2).val + (y 1).val := by
    rw [e]; show (grid0.coords t 2).val * 512 + 1 * (y 1).val = _; omega
  have z2 : cc0_transform_3 (grid0.coords t) 2 * 128 + 1 * (y 2).val = 128 * (grid0.coords t 1).val + (y 2).val := by
    rw [e]; show (grid0.coords t 1).val * 128 + 1 * (y 2).val = _; omega
  unfold result
  congr 1
  · exact Fin.ext z0.symm
  · refine Fin.ext ?_
    show (grid0.coords t 1).val = (cc0_transform_3 (grid0.coords t) 2 * 128 + 1 * (y 2).val) / 128
    rw [z2]; omega
  · exact Fin.ext z1.symm
  · refine Fin.ext ?_
    show (y 2).val = (cc0_transform_3 (grid0.coords t) 2 * 128 + 1 * (y 2).val) % 128
    rw [z2]; omega

/-- So the result array ends holding the attention. -/
theorem final : (dats m 0 c).arrAt 3 cfg0.N = result (A0 m c) (A1 m c) (A2 m c) :=
  (dats m 0 c).arrAt_eq_of_cover 3 (result (A0 m c) (A1 m c) (A2 m c)) (flushed_eq m c) fun i => by
    have h0 : (i 0 : Nat) < 2 := (i 0).isLt
    have h1 : (i 1 : Nat) < 8192 := (i 1).isLt
    have h2 : (i 2 : Nat) < 1024 := (i 2).isLt
    obtain ⟨t, ht⟩ := Pipeline.Grid.coords_surjective grid0 (fun a => match a with
      | ⟨0, _⟩ => ⟨(i 0).val, h0⟩
      | ⟨1, _⟩ => ⟨(i 2).val / 128, show (i 2).val / 128 < 8 by omega⟩
      | ⟨2, _⟩ => ⟨(i 1).val / 512, show (i 1).val / 512 < 16 by omega⟩)
    have e := index3 (grid0.coords t)
    rw [ht] at e
    refine ⟨t, flush0_3 t, ?_⟩
    show i ∈ ((View.whole main_v0).slice (win0_3.rect t)).set
    rw [View.set_slice_whole, Rect.mem_set_unit]
    intro a
    match a with
    | ⟨0, _⟩ => show cc0_transform_3 (grid0.coords t) 0 * 1 ≤ (i 0 : Nat) ∧ (i 0 : Nat) < cc0_transform_3 (grid0.coords t) 0 * 1 + 1
                rw [ht, e]; show (i 0).val * 1 ≤ (i 0 : Nat) ∧ (i 0 : Nat) < (i 0).val * 1 + 1; omega
    | ⟨1, _⟩ => show cc0_transform_3 (grid0.coords t) 1 * 512 ≤ (i 1 : Nat) ∧ (i 1 : Nat) < cc0_transform_3 (grid0.coords t) 1 * 512 + 512
                rw [ht, e]; show (i 1).val / 512 * 512 ≤ (i 1 : Nat) ∧ (i 1 : Nat) < (i 1).val / 512 * 512 + 512; omega
    | ⟨2, _⟩ => show cc0_transform_3 (grid0.coords t) 2 * 128 ≤ (i 2 : Nat) ∧ (i 2 : Nat) < cc0_transform_3 (grid0.coords t) 2 * 128 + 128
                rw [ht, e]; show (i 2).val / 128 * 128 ≤ (i 2 : Nat) ∧ (i 2 : Nat) < (i 2).val / 128 * 128 + 128; omega

end Cert.KernelIdeal.Attn

end
-- ==== Proof.Ref.lean ====
/-
  The reference's result: its scores are the kernel's times `log 2`, so its exponentials are the kernel's powers of two.
-/
module

public import proofs.«01_k».proof.Proof.Spec
public import proofs.«01_k».proof.Proof.Gen.ReferenceIdeal.Read
public import Idealize.ShloMosaic.Lib.KernelVsHost

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read Idealize.ShloMosaic.ValueIdx Cert.Softmax

variable {X0 : SQ.Idx → EReal} {X1 : SK.Idx → EReal} {X2 : SV.Idx → EReal}

theorem two_bits : Ideal.ofBits .f32 0x40000000#32 = ((2 : ℝ) : EReal) := by
  simp [Ideal.ofBits, Ideal.ieee, -EReal.coe_mul]; norm_num

theorem zero_bits : Ideal.ofBits .f32 0x00000000#32 = 0 := by
  simp [Ideal.ofBits, Ideal.ieee, -EReal.coe_mul]

theorem minus_inf : Ideal.ofBits .f32 0xFF800000#32 = ⊥ := by
  simp [Ideal.ofBits, Ideal.ieee, -EReal.coe_mul]

theorem log_two (i : S2x8x8192x8192.Idx) : val_main_v2 (F := Ideal) i = (Real.log 2 : EReal) := by
  rw [val_main_v2_apply, val_main_v1_apply, val_main_cst_apply]
  show Ideal.log (Ideal.ofBits .f32 0x40000000#32) = _
  rw [two_bits, Ideal.log_coe, if_neg (by norm_num)]

/-- The chunk of a position. -/
theorem chunk_word : ∀ n : Fin 8192, IntOp.divsi .host (BitVec.ofNat 32 n.val) 64#32 = BitVec.ofNat 32 (n.val / 64) := by
  decide +kernel

theorem le_word : ∀ a b : Fin 128, IntOp.cmpi .sle (BitVec.ofNat 32 a.val) (BitVec.ofNat 32 b.val) = if a.val ≤ b.val then 1#1 else 0#1 := by
  decide +kernel

theorem chunk_apply (n : Fin 8192) : val_main_v6 (F := Ideal) (ix1 n) = BitVec.ofNat 32 (n.val / 64) :=
  chunk_word n

theorem mask_apply (b : Fin 2) (h : Fin 8) (s k : Fin 8192) :
    val_main_call0_v1 (F := Ideal) (ix4 b h s k) = if k.val / 64 ≤ s.val / 64 then 1#1 else 0#1 := by
  rw [val_main_call0_v1_apply, val_main_v11_apply, val_main_v9_apply, val_main_v7_apply, val_main_v10_apply, val_main_v8_apply]
  have e1 : idx_main_v7 (idx_main_v9 (idx_main_call0_v1 (ix4 b h s k))) = ix1 k := funext fun a => match a with | ⟨0, _⟩ => rfl
  have e2 : idx_main_v8 (idx_main_v10 (idx_main_call0_v1 (ix4 b h s k))) = ix1 s := funext fun a => match a with | ⟨0, _⟩ => rfl
  rw [e1, e2, chunk_apply, chunk_apply]
  exact le_word ⟨k.val / 64, by omega⟩ ⟨s.val / 64, by omega⟩

/-- A masked score. -/
theorem score_apply (b : Fin 2) (h : Fin 8) (s k : Fin 8192) :
    val_main_v12 (F := Ideal) X0 X1 (ix4 b h s k) = scoreOf X0 X1 b h s k.val * (Real.log 2 : EReal) := by
  rw [val_main_v12_apply, mask_apply, val_main_call0_v2_apply, val_main_v3_apply, log_two, val_main_v0_apply]
  unfold scoreOf
  have ek : pos k.val = k := Fin.ext (Nat.mod_eq_of_lt k.isLt)
  rw [ek]
  by_cases hk : k.val / 64 ≤ s.val / 64
  · rw [if_pos hk, if_pos hk]
    refine congrArg (· * (Real.log 2 : EReal)) (Finset.sum_congr rfl fun c _ => ?_)
    refine congrArg₂ (· * ·) (congrArg X0 ?_) (congrArg X1 ?_)
    · funext a; fin_cases a <;> rfl
    · funext a; fin_cases a <;> rfl
  · rw [if_neg hk, if_neg hk, bot_mul_pos (Real.log_pos (by norm_num))]
    exact minus_inf

/-- A maximum over the last axis. -/
theorem reduce_max (y : FVec Ideal S2x8x8192x8192 .f32) (b : Fin 2) (h : Fin 8) (s : Fin 8192) :
    Host.reduce (α := Ideal .f32) (FloatOps.maximumf (F := Ideal) (φ := .f32)) y (constant S_ .f32 0xFF800000#32) reducesTo_S2x8x8192x8192_S2x8x8192_d3 h_S_ (ix3 b h s)
      = Finset.univ.sup fun k : Fin 8192 => y (ix4 b h s k) := by
  have hr : S2x8x8192x8192.Reduces [3] S2x8x8192 := by decide
  have hφ : FKind.Formats .f32 := by decide
  have hacc : (0xFF800000#32 : BitVec 32) = FKind.maximumf.neutral .f32 hφ := rfl
  rw [hostReduce_maximumf_eq_multiReduction y 0xFF800000#32 reducesTo_S2x8x8192x8192_S2x8x8192_d3 h_S_ hr hφ hacc]
  rw [Ideal.multiReduction_maximumf_single]
  show Finset.fold max (Ideal.ofBits .f32 0xFF800000#32) _ _ = _
  rw [minus_inf]
  show Finset.univ.sup _ = _
  refine Finset.sup_congr rfl fun k _ => congrArg y ?_
  funext a; apply Fin.ext
  fin_cases a <;> rfl

/-- A row's maximum. -/
theorem max_apply (b : Fin 2) (h : Fin 8) (s : Fin 8192) :
    val_main_v13 (F := Ideal) X0 X1 (ix3 b h s) = supTo (scoreOf X0 X1 b h s) 8192 * (Real.log 2 : EReal) := by
  unfold val_main_v13 val_main_cst_1
  refine (reduce_max (val_main_v12 (F := Ideal) X0 X1) b h s).trans ?_
  rw [supTo_eq, ← sup_mul_log]
  exact Finset.sup_congr rfl fun k _ => score_apply b h s k

/-- A weight. -/
theorem weight_apply (b : Fin 2) (h : Fin 8) (s k : Fin 8192) :
    val_main_v17 (F := Ideal) X0 X1 (ix4 b h s k)
      = Ideal.exp2 (scoreOf X0 X1 b h s k.val - supTo (scoreOf X0 X1 b h s) 8192) := by
  rw [val_main_v17_apply, val_main_v16_apply, score_apply, val_main_v15_apply, val_main_v14_apply]
  have e : idx_main_v14 (idx_main_v15 (ix4 b h s k)) = ix3 b h s := funext fun a => match a with
    | ⟨0, _⟩ => rfl
    | ⟨1, _⟩ => rfl
    | ⟨2, _⟩ => rfl
  rw [e, max_apply]
  exact two_pow_eq_exp (le_supTo _ k.isLt)

/-- The weighted values. -/
theorem num_apply (b : Fin 2) (h : Fin 8) (s : Fin 8192) (d : Fin 128) :
    val_main_v19 (F := Ideal) X0 X1 X2 (ix4 b h s d) = numTo (scoreOf X0 X1 b h s) (valueOf X2 b h d) 8192 := by
  rw [val_main_v19_apply]
  unfold numTo
  rw [Finset.sum_range]
  refine Finset.sum_congr rfl fun k _ => ?_
  have e1 : lidx_main_v19 (ix4 b h s d) k = ix4 b h s k := by funext a; fin_cases a <;> rfl
  have e2 : ridx_main_v19 (ix4 b h s d) k = ix4 b h k d := by funext a; fin_cases a <;> rfl
  have ek : pos k.val = k := Fin.ext (Nat.mod_eq_of_lt k.isLt)
  unfold valueOf
  rw [e1, e2, ek, val_main_v18_apply, weight_apply]
  rfl

/-- The sum of the weights. -/
theorem den_apply (b : Fin 2) (h : Fin 8) (s : Fin 8192) :
    val_main_v20 (F := Ideal) X0 X1 (ix3 b h s) = denTo (scoreOf X0 X1 b h s) 8192 := by
  rw [val_main_v20_apply, val_main_cst_2_apply]
  refine (congrArg (· + _) zero_bits).trans ((zero_add _).trans ?_)
  unfold denTo
  rw [Finset.sum_range]
  refine Finset.sum_congr rfl fun k _ => ?_
  have e : idx_main_v20 (ix3 b h s) k = ix4 b h s k := by funext a; fin_cases a <;> rfl
  rw [e, weight_apply]

/-- The attention before the heads are laid side by side. -/
theorem quotient_apply (b : Fin 2) (h : Fin 8) (s : Fin 8192) (d : Fin 128) :
    val_main_v23 (F := Ideal) X0 X1 X2 (ix4 b h s d) = attend X0 X1 X2 b h s d := by
  rw [val_main_v23_apply, num_apply, val_main_v22_apply, val_main_v21_apply]
  have e : idx_main_v21 (idx_main_v22 (ix4 b h s d)) = ix3 b h s := by funext a; fin_cases a <;> rfl
  rw [e, den_apply]
  rfl

/-- The reference's result. -/
theorem value (X0 : SQ.Idx → EReal) (X1 : SK.Idx → EReal) (X2 : SV.Idx → EReal) :
    val_main_v26 (F := Ideal) X0 X1 X2 = result X0 X1 X2 := by
  funext i
  have h0 : (i 0).val < 2 := (i 0).isLt
  have h1 : (i 1).val < 8192 := (i 1).isLt
  have h2 : (i 2).val < 1024 := (i 2).isLt
  rw [val_main_v26_apply, val_main_v25_apply, val_main_v24_apply]
  have e : idx_main_v24 (idx_main_v25 i)
      = ix4 (i 0) ⟨(i 2).val / 128, by omega⟩ (i 1) ⟨(i 2).val % 128, Nat.mod_lt _ (by decide)⟩ := by
    funext a; apply Fin.ext
    fin_cases a
    · show ((((i 0).val * 8192 + (i 1).val) * 1024 + (i 2).val) / 8388608) = (i 0).val
      omega
    · show ((((i 0).val * 8192 + (i 1).val) * 1024 + (i 2).val) / 128 % 8) = (i 2).val / 128
      omega
    · show ((((i 0).val * 8192 + (i 1).val) * 1024 + (i 2).val) / 1024 % 8192) = (i 1).val
      omega
    · show ((((i 0).val * 8192 + (i 1).val) * 1024 + (i 2).val) % 128) = (i 2).val % 128
      omega
  refine (congrArg (fun j => (val_main_v23 (F := Ideal) X0 X1 X2 j : EReal)) e).trans ?_
  exact quotient_apply _ _ _ _

end Cert.ReferenceIdeal.Attn

end
-- ==== Proof.Norm.lean ====
/-
  The input projection: a row scaled by the reciprocal root of its mean square and by the gain, times the weight. A row
  block's scaled rows are computed at its first column block and kept for the other five.
-/
module

public import Idealize.ShloMosaic.PureOps.Ideal.Laws
public import Idealize.ShloMosaic.Lib.ValueIdxCore
public import proofs.«01_k».proof.Proof.Gen.Kernel2Ideal.Value
public import proofs.«01_k».proof.Proof.Gen.Kernel2Ideal.Points
public import Idealize.ShloMosaic.Lib.MatmulPlain
public import Idealize.ShloMosaic.Lib.Pipeline.Covers
public import Idealize.ShloMosaic.Lib.VecWindow
public import Idealize.ShloMosaic.Lib.Tactic

@[expose] public section

set_option maxRecDepth 16384

noncomputable section

namespace Cert.Norm

open Idealize.ShloMosaic Idealize.ShloMosaic.ValueIdx

abbrev SX : Shape := ⟨2, ![16384, 2048]⟩
abbrev SG : Shape := ⟨2, ![1, 2048]⟩
abbrev SW : Shape := ⟨2, ![2048, 6144]⟩
abbrev SO : Shape := ⟨2, ![16384, 6144]⟩

/-- The reciprocal root of a row's mean square, `2048` and the small addend as the program's constants. -/
def scale (f : Fin 2048 → EReal) : EReal :=
  Ideal.rsqrt (Ideal.div (∑ j : Fin 2048, f j * f j) (Ideal.ofBits .f32 0x45000000#32) + Ideal.ofBits .f32 0x358637BD#32)

/-- A scaled row times the weight. -/
def target (x : SX.Idx → EReal) (g : SG.Idx → EReal) (w : SW.Idx → EReal) : SO.Idx → EReal :=
  fun i => ∑ k : Fin 2048, (x (ix2 (i 0) k) * scale (fun j => x (ix2 (i 0) j)) * g (ix2 0 k)) * w (ix2 k (i 1))

end Cert.Norm

namespace Cert.Kernel2Ideal.Norm

open Idealize.ShloMosaic Idealize.ShloMosaic.TcCoe Idealize.SL.Sem
open Cert.Kernel2Ideal Cert.Kernel2Ideal.Gen Idealize.ShloMosaic.ValueIdx Cert.Norm

/-! ## The body's values at an index -/

theorem row_sum (s : FVec Ideal S1024x2048 .f32) (hφ : FKind.Formats .f32) (hacc : (0x00000000#32 : BitVec 32) = FKind.add.neutral .f32 hφ) (r : Fin 1024) :
    multiReduction .add [1] S1024 s 0x00000000#32 reduces_S1024x2048_S1024 hφ hacc (ix1 r)
      = ∑ j : Fin 2048, s (ix2 r j) := by
  rw [Ideal.multiReduction_add_single]
  refine Finset.sum_congr rfl fun k _ => congrArg s ?_
  funext a; apply Fin.ext
  fin_cases a <;> rfl

theorem col_cast {α : Type} (x : S1024.Idx → α) (r : Fin 1024) : shapeCast S1024x1 x shapeCasts_S1024_S1024x1 (ix2 r 0) = x (ix1 r) :=
  shapeCast_apply x _ _ _ (by rw [Shape.rowMajor_val_one, Shape.rowMajor_val_two]; simp)

theorem bc_col {α : Type} (x : S1024x1.Idx → α) (r : Fin 1024) (k : Fin 2048) : broadcastTo S1024x2048 x broadcasts_S1024x1_S1024x2048 (ix2 r k) = x (ix2 r 0) :=
  broadcastTo_apply x _ _ _ (fun a => by fin_cases a <;> rfl)

theorem bc_row {α : Type} (x : S1x2048.Idx → α) (r : Fin 1024) (k : Fin 2048) : broadcastTo S1024x2048 x broadcasts_S1x2048_S1024x2048 (ix2 r k) = x (ix2 0 k) :=
  broadcastTo_apply x _ _ _ (fun a => by fin_cases a <;> rfl)

theorem scaled_apply (x : FVec Ideal S1024x2048 .f32) (g : FVec Ideal S1x2048 .f32) (r : Fin 1024) (k : Fin 2048) :
    k0_pay1 (F := Ideal) x g (ix2 r k) = x (ix2 r k) * scale (fun j => x (ix2 r j)) * g (ix2 0 k) := by
  unfold k0_pay1
  refine (congrFun (shapeCast_self _ _) _).trans ?_
  refine congrArg₂ (· * ·) (congrArg (x (ix2 r k) * ·) ((bc_col _ r k).trans ?_)) (bc_row g r k)
  exact congrArg (fun z => Ideal.rsqrt (Ideal.div z (Ideal.ofBits .f32 0x45000000#32) + Ideal.ofBits .f32 0x358637BD#32))
    ((col_cast _ r).trans (row_sum (mulf x x) _ _ r))

theorem project_apply (h : FVec Ideal S1024x2048 .bf16) (w : FVec Ideal S2048x1024 .bf16) (r d : Fin 1024) :
    k0_pay2 (F := Ideal) h w (ix2 r d) = ∑ k : Fin 2048, h (ix2 r k) * w (ix2 k d) := by
  have e := Ideal.matmul_plain_apply (M := 1024) (K := 2048) (N := 1024) (φ₁ := .bf16) (φ₂ := .bf16) none h w (constant S1024x1024 .f32 0x00000000#32) r d
  rw [show constant (F := Ideal) S1024x1024 .f32 0x00000000#32 (ix2 r d) = 0 from Ideal.ofBits_zero_f32, zero_add] at e
  exact Eq.trans (by rfl) e

theorem hz : (![0, 0] : Fin 2 → Nat) = fun _ => 0 := by funext a; fin_cases a <;> rfl

section
variable {F : FTy → Type} [FloatOps F]

theorem out_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0) (x0 : Vec F S1024x2048 .f32) (x1 : Vec F S1x2048 .f32) (x2 : Vec F S2048x1024 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz]
  have e2 := View.readAt_full arg2.view (harg2.unread x0) inb_S1024x2048_S1024x2048_0_0
  have e3 := View.readAt_full arg3.view (harg3.unread x1) inb_S1x2048_S1x2048_0_0
  have e4 := View.readAt_full arg4.view (harg4.unread x2) inb_S2048x1024_S2048x1024_0_0
  rw [harg2.read_unread] at e2
  rw [harg3.read_unread] at e3
  rw [harg4.read_unread] at e4
  rw [View.readCov_full, e2, e3, e4]

theorem scratch_first (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0) (x0 : Vec F S1024x2048 .f32) (x1 : Vec F S1x2048 .f32) (x2 : Vec F S2048x1024 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  have e2 := View.readAt_full arg2.view (harg2.unread x0) inb_S1024x2048_S1024x2048_0_0
  have e3 := View.readAt_full arg3.view (harg3.unread x1) inb_S1x2048_S1x2048_0_0
  rw [harg2.read_unread] at e2
  rw [harg3.read_unread] at e3
  rw [e2, e3]

theorem out_later (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0) (x0 : Vec F S1024x2048 .f32) (x1 : Vec F S1x2048 .f32) (x2 : Vec F S2048x1024 .bf16)
    (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz]
  have e4 := View.readAt_full arg4.view (harg4.unread x2) inb_S2048x1024_S2048x1024_0_0
  have e6 := View.readAt_full arg6.view (harg6.unread xs0) inb_S1024x2048_S1024x2048_0_0
  rw [harg4.read_unread] at e4
  rw [harg6.read_unread] at e6
  rw [e4, e6]
end

/-! ## The blocks -/

variable (m : (ℓ : Loc nD τ sig) → Buf (Elt Ideal) ℓ) (c : Dev nD)

/-- The operands. -/
abbrev X : SX.Idx → EReal := m ((c : Thread nD τ).loc main_arg0)
abbrev G : SG.Idx → EReal := m ((c : Thread nD τ).loc main_arg1)
abbrev W : SW.Idx → EReal := m ((c : Thread nD τ).loc main_arg2)

theorem rowIndex (i : grid0.Coords) : cc0_transform_0 i = ![(i 0).val, 0] := by
  have h0 : (i 0).val < 16 := (i 0).isLt
  show ![(BitVec.ofNat 32 (i 0).val).toNat, 0] = _
  rw [BitVec.toNat_ofNat, Nat.mod_eq_of_lt (by omega)]

theorem colIndex (i : grid0.Coords) : cc0_transform_2 i = ![0, (i 1).val] := by
  have h1 : (i 1).val < 6 := (i 1).isLt
  show ![0, (BitVec.ofNat 32 (i 1).val).toNat] = _
  rw [BitVec.toNat_ofNat, Nat.mod_eq_of_lt (by omega)]

theorem outIndex (i : grid0.Coords) : cc0_transform_3 i = ![(i 0).val, (i 1).val] := by
  have h0 : (i 0).val < 16 := (i 0).isLt
  have h1 : (i 1).val < 6 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem coord_row : ∀ t : Fin grid0.N, (grid0.coords t 0).val = t.val / 6 := by decide +kernel

/-- Row `r` of row block `b`, and column `d` of column block `b`. -/
abbrev row (b : Fin 16) (r : Fin 1024) : Fin 16384 := ⟨1024 * b.val + r.val, by omega⟩
abbrev col (b : Fin 6) (d : Fin 1024) : Fin 6144 := ⟨1024 * b.val + d.val, by omega⟩

theorem iblk0_apply (t : Fin cfg0.N) (r : Fin 1024) (k : Fin 2048) :
    (iblk m c 0 t : Vec Ideal S1024x2048 .f32) (ix2 r k) = X m c (ix2 (row (grid0.coords t 0) r) k) := by
  unfold iblk
  rw [View.read_apply]
  show V m c main_arg0 _ = m (c.tc.loc main_arg0) _
  unfold V
  congr 1
  have h := rowIndex (grid0.coords t)
  funext a
  apply Fin.ext
  match a with
  | ⟨0, _⟩ => show cc0_transform_0 (grid0.coords t) 0 * 1024 + 1 * r.val = 1024 * (grid0.coords t 0).val + r.val; rw [h]; show (grid0.coords t 0).val * 1024 + 1 * r.val = _; omega
  | ⟨1, _⟩ => show cc0_transform_0 (grid0.coords t) 1 * 2048 + 1 * k.val = k.val; rw [h]; show 0 * 2048 + 1 * k.val = _; omega

theorem iblk1_apply (t : Fin cfg0.N) (k : Fin 2048) :
    (iblk m c 1 t : Vec Ideal S1x2048 .f32) (ix2 0 k) = G m c (ix2 0 k) := by
  unfold iblk
  rw [View.read_apply]
  show V m c main_arg1 _ = m (c.tc.loc main_arg1) _
  unfold V
  congr 1
  funext a
  apply Fin.ext
  match a with
  | ⟨0, _⟩ => rfl
  | ⟨1, _⟩ => show 0 * 2048 + 1 * k.val = k.val; omega

theorem iblk2_apply (t : Fin cfg0.N) (k : Fin 2048) (d : Fin 1024) :
    (iblk m c 2 t : Vec Ideal S2048x1024 .bf16) (ix2 k d) = W m c (ix2 k (col (grid0.coords t 1) d)) := by
  unfold iblk
  rw [View.read_apply]
  show V m c main_arg2 _ = m (c.tc.loc main_arg2) _
  unfold V
  congr 1
  have h := colIndex (grid0.coords t)
  funext a
  apply Fin.ext
  match a with
  | ⟨0, _⟩ => show cc0_transform_2 (grid0.coords t) 0 * 2048 + 1 * k.val = k.val; rw [h]; show 0 * 2048 + 1 * k.val = _; omega
  | ⟨1, _⟩ => show cc0_transform_2 (grid0.coords t) 1 * 1024 + 1 * d.val = 1024 * (grid0.coords t 1).val + d.val; rw [h]; show (grid0.coords t 1).val * 1024 + 1 * d.val = _; omega

/-- The scaled rows of a point's row block. -/
def rows (t : Fin cfg0.N) : Vec Ideal S1024x2048 .bf16 := k0_pay1 (F := Ideal) (iblk m c 0 t) (iblk m c 1 t)

theorem rows_apply (t : Fin cfg0.N) (r : Fin 1024) (k : Fin 2048) :
    rows m c t (ix2 r k) = X m c (ix2 (row (grid0.coords t 0) r) k) * scale (fun j => X m c (ix2 (row (grid0.coords t 0) r) j)) * G m c (ix2 0 k) := by
  refine (scaled_apply (iblk m c 0 t) (iblk m c 1 t) r k).trans ?_
  simp only [iblk0_apply, iblk1_apply]

/-- Points of one row block have the same scaled rows. -/
theorem rows_same (t u : Fin cfg0.N) (h : t.val / 6 = u.val / 6) : rows m c t = rows m c u := by
  have e : (grid0.coords t 0 : Fin 16) = grid0.coords u 0 := Fin.ext ((coord_row t).trans (h.trans (coord_row u).symm))
  funext y
  obtain ⟨r, k, rfl⟩ : ∃ (r : Fin 1024) (k : Fin 2048), y = ix2 r k := ⟨y 0, y 1, by funext a; fin_cases a <;> rfl⟩
  rw [rows_apply, rows_apply, e]

theorem scratch_start (t : Fin cfg0.N) (h0 : t.val % 6 = 0) : (outsAt0 m c t.val t.isLt).2 = rows m c t := by
  rw [outsAt0_A m c t h0]
  dsimp only
  rw [scratch_first]
  rfl

theorem scratch_keep (t : Fin cfg0.N) (h0 : ¬ t.val % 6 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the scaled rows of its row block. -/
theorem scratch_eq (n : ℕ) : ∀ hn : n < cfg0.N, (outsAt0 m c n hn).2 = rows m c ⟨n, hn⟩ := by
  induction n with
  | zero => exact fun hn => scratch_start m c ⟨0, hn⟩ rfl
  | succ n ih =>
    intro hn
    by_cases h0 : (n + 1) % 6 = 0
    · exact scratch_start m c ⟨n + 1, hn⟩ h0
    · refine (scratch_keep m c ⟨n + 1, hn⟩ h0).trans ((ih (Nat.lt_of_succ_lt hn)).trans (rows_same m c _ _ ?_))
      show n / 6 = (n + 1) / 6
      omega

/-- What a point writes: its scaled rows times its columns of the weight. -/
theorem written (t : Fin cfg0.N) : (outsAt0 m c t.val t.isLt).1 = k0_pay2 (F := Ideal) (rows m c t) (iblk m c 2 t) := by
  by_cases h0 : t.val % 6 = 0
  · rw [outsAt0_A m c t h0]
    dsimp only
    rw [out_first]
    rfl
  · have hs := (scratch_eq m c (t.val - 1) (Nat.lt_of_le_of_lt (Nat.sub_le _ _) t.isLt)).trans (rows_same m c _ t (by show (t.val - 1) / 6 = t.val / 6; omega))
    rw [outsAt0_B m c t h0]
    dsimp only
    rw [out_later, hs]

/-- The array the kernel is to write. -/
abbrev result : SO.Idx → EReal := target (X m c) (G m c) (W m c)

theorem block_apply (t : Fin cfg0.N) (r d : Fin 1024) :
    k0_pay2 (F := Ideal) (rows m c t) (iblk m c 2 t) (ix2 r d) = result m c (ix2 (row (grid0.coords t 0) r) (col (grid0.coords t 1) d)) := by
  refine (project_apply (rows m c t) (iblk m c 2 t) r d).trans ?_
  unfold result target
  simp only [rows_apply, iblk2_apply]

/-- Each write-back writes its block of the result. -/
theorem flushed_eq (t : Fin cfg0.N) (hf : (cfg0.win 3).flush t = true) :
    (dats m 0 c).flushed 3 t = ((cfg0.win 3).blk t).view.read (Elt Ideal) (result m c) := by
  rw [Cert.Kernel2Ideal.Value.flushed3, written]
  have e := outIndex (grid0.coords t)
  funext y
  have h0 : (y 0).val < 1024 := (y 0).isLt
  have h1 : (y 1).val < 1024 := (y 1).isLt
  have hy : (y : S1024x1024.Idx) = ix2 (y 0) (y 1) := funext fun a => match a with
    | ⟨0, _⟩ => rfl
    | ⟨1, _⟩ => rfl
  rw [View.read_apply]
  refine Eq.trans (b := k0_pay2 (F := Ideal) (rows m c t) (iblk m c 2 t) (ix2 (y 0) (y 1))) (congrArg _ hy) ?_
  refine (block_apply m c t ⟨(y 0).val, h0⟩ ⟨(y 1).val, h1⟩).trans ?_
  show _ = result m c (((cfg0.win 3).blk t).view.emb y)
  refine congrArg (result m c) (funext fun a => Fin.ext ?_)
  match a with
  | ⟨0, _⟩ => show 1024 * (grid0.coords t 0).val + (y 0).val = cc0_transform_3 (grid0.coords t) 0 * 1024 + 1 * (y 0).val
              rw [e]; show _ = (grid0.coords t 0).val * 1024 + 1 * (y 0).val; omega
  | ⟨1, _⟩ => show 1024 * (grid0.coords t 1).val + (y 1).val = cc0_transform_3 (grid0.coords t) 1 * 1024 + 1 * (y 1).val
              rw [e]; show _ = (grid0.coords t 1).val * 1024 + 1 * (y 1).val; omega

/-- So the result array ends holding the projection. -/
theorem final : (dats m 0 c).arrAt 3 cfg0.N = result m c :=
  (dats m 0 c).arrAt_eq_of_cover 3 (result m c) (flushed_eq m c) fun i => by
    have h0 : (i 0 : Nat) < 16384 := (i 0).isLt
    have h1 : (i 1 : Nat) < 6144 := (i 1).isLt
    obtain ⟨t, ht⟩ := Pipeline.Grid.coords_surjective grid0 (fun a => match a with
      | ⟨0, _⟩ => ⟨(i 0).val / 1024, show (i 0).val / 1024 < 16 by omega⟩
      | ⟨1, _⟩ => ⟨(i 1).val / 1024, show (i 1).val / 1024 < 6 by omega⟩)
    have e := outIndex (grid0.coords t)
    rw [ht] at e
    refine ⟨t, flush0_3 t, ?_⟩
    show i ∈ ((View.whole main_v0).slice (win0_3.rect t)).set
    rw [View.set_slice_whole, Rect.mem_set_unit]
    intro a
    match a with
    | ⟨0, _⟩ => show cc0_transform_3 (grid0.coords t) 0 * 1024 ≤ (i 0 : Nat) ∧ (i 0 : Nat) < cc0_transform_3 (grid0.coords t) 0 * 1024 + 1024
                rw [ht, e]; show (i 0).val / 1024 * 1024 ≤ (i 0 : Nat) ∧ (i 0 : Nat) < (i 0).val / 1024 * 1024 + 1024; omega
    | ⟨1, _⟩ => show cc0_transform_3 (grid0.coords t) 1 * 1024 ≤ (i 1 : Nat) ∧ (i 1 : Nat) < cc0_transform_3 (grid0.coords t) 1 * 1024 + 1024
                rw [ht, e]; show (i 1).val / 1024 * 1024 ≤ (i 1 : Nat) ∧ (i 1 : Nat) < (i 1).val / 1024 * 1024 + 1024; omega

end Cert.Kernel2Ideal.Norm

end
-- ==== Proof.NormRef.lean ====
/-
  The reference of the input projection, operation by operation, is the same array.
-/
module

public import proofs.«01_k».proof.Proof.Norm
public import proofs.«01_k».proof.Proof.Gen.Reference2Ideal.Read

@[expose] public section

set_option maxRecDepth 16384

noncomputable section

namespace Cert.Reference2Ideal.Norm

open Idealize.ShloMosaic Idealize.ShloMosaic.TcCoe Idealize.SL.Sem
open Cert.Reference2Ideal Cert.Reference2Ideal.Gen Cert.Reference2Ideal.Read Idealize.ShloMosaic.ValueIdx Cert.Norm

variable {X0 : SX.Idx → EReal} {X1 : SG.Idx → EReal} {X2 : SW.Idx → EReal}

theorem squares (r : Fin 16384) : val_main_v1 (F := Ideal) X0 (ix1 r) = ∑ j : Fin 2048, X0 (ix2 r j) * X0 (ix2 r j) := by
  rw [val_main_v1_apply, val_main_cst_apply]
  refine (congrArg (· + _) (show (FloatOps.ofBits .f32 0x00000000#32 : Ideal .f32) = (0 : EReal) from Ideal.ofBits_zero_f32)).trans ((zero_add _).trans ?_)
  refine Finset.sum_congr rfl fun j _ => ?_
  have e : idx_main_v1 (ix1 r) j = ix2 r j := by funext a; fin_cases a <;> rfl
  rw [e, val_main_v0_apply]
  rfl

theorem scaled (r : Fin 16384) (k : Fin 2048) :
    val_main_v11 (F := Ideal) X0 X1 (ix2 r k) = X0 (ix2 r k) * scale (fun j => X0 (ix2 r j)) * X1 (ix2 0 k) := by
  rw [val_main_v11_apply, val_main_v9_apply, val_main_v8_apply, val_main_v7_apply, val_main_v6_apply, val_main_v5_apply, val_main_v4_apply,
    val_main_v3_apply, val_main_v2_apply, val_main_v10_apply]
  have e : idx_main_v2 (idx_main_v8 (ix2 r k)) = ix1 r := by funext a; fin_cases a; rfl
  have eg : idx_main_v10 (ix2 r k) = ix2 0 k := by funext a; fin_cases a <;> rfl
  rw [e, eg, squares]
  rfl

/-- The reference's result. -/
theorem value : val_main_v14 (F := Ideal) X0 X1 X2 = target X0 X1 X2 := by
  funext i
  obtain ⟨r, d, rfl⟩ : ∃ (r : Fin 16384) (d : Fin 6144), i = ix2 r d := ⟨i 0, i 1, by funext a; fin_cases a <;> rfl⟩
  rw [val_main_v14_apply]
  refine (val_main_v13_apply X0 X1 X2 (ix2 r d)).trans ?_
  unfold target
  refine Finset.sum_congr rfl fun k _ => ?_
  have el : lidx_main_v13 (ix2 r d) k = ix2 r k := by funext a; fin_cases a <;> rfl
  have er : ridx_main_v13 (ix2 r d) k = ix2 k d := by funext a; fin_cases a <;> rfl
  rw [el, er, scaled]
  rfl

end Cert.Reference2Ideal.Norm

end
-- ==== Proof.Mix.lean ====
/-
  The merged output projection: the recurrence's output through a value and a gate product, the attention's output through
  one product, each scaled by the logistic of its gate columns, summed, projected and added to the residual.
-/
module

public import Idealize.ShloMosaic.PureOps.Ideal.Laws
public import Idealize.ShloMosaic.Lib.ValueIdxCore
public import proofs.«01_k».proof.Proof.Gen.Kernel3Ideal.Value
public import proofs.«01_k».proof.Proof.Gen.Kernel3Ideal.Points
public import Idealize.ShloMosaic.Lib.MatmulPlain
public import Idealize.ShloMosaic.Lib.Pipeline.Covers

@[expose] public section

set_option maxRecDepth 16384

noncomputable section

namespace Cert.Mix

open Idealize.ShloMosaic Idealize.ShloMosaic.ValueIdx

abbrev SH : Shape := ⟨2, ![16384, 1024]⟩
abbrev SP : Shape := ⟨2, ![16384, 6144]⟩
abbrev SX : Shape := ⟨2, ![16384, 2048]⟩
abbrev SW : Shape := ⟨2, ![1024, 2048]⟩
abbrev SZ : Shape := ⟨2, ![2048, 2048]⟩

/-- An element of a product with one of the narrow weights. -/
def prod (a : SH.Idx → EReal) (w : SW.Idx → EReal) (r : Fin 16384) (k : Fin 2048) : EReal :=
  ∑ e : Fin 1024, a (ix2 r e) * w (ix2 e k)

/-- The two branches, each with its gate, summed. -/
def merged (y : SH.Idx → EReal) (p : SP.Idx → EReal) (o : SH.Idx → EReal) (wv wg wp : SW.Idx → EReal) (r : Fin 16384) (k : Fin 2048) : EReal :=
  prod y wv r k * Ideal.logistic (prod y wg r k) * Ideal.logistic (p (ix2 r ⟨k.val, by omega⟩))
    + prod o wp r k * Ideal.logistic (p (ix2 r ⟨2048 + k.val, by omega⟩))

/-- The residual plus the projection of the merged branches. -/
def target (y : SH.Idx → EReal) (p : SP.Idx → EReal) (o : SH.Idx → EReal) (x : SX.Idx → EReal) (wv wg wp : SW.Idx → EReal) (wo : SZ.Idx → EReal) : SX.Idx → EReal :=
  fun i => x i + ∑ k : Fin 2048, merged y p o wv wg wp (i 0) k * wo (ix2 k (i 1))

end Cert.Mix

namespace Cert.Kernel3Ideal.Mix

open Idealize.ShloMosaic Idealize.ShloMosaic.TcCoe Idealize.SL.Sem
open Cert.Kernel3Ideal Cert.Kernel3Ideal.Gen Idealize.ShloMosaic.ValueIdx Cert.Mix

/-! ## The body's value at an index -/

theorem narrow_apply (a : FVec Ideal S256x1024 .bf16) (w : FVec Ideal S1024x2048 .bf16) (r : Fin 256) (k : Fin 2048) :
    matmul dot_S256x1024_S1024x2048_S256x2048_1_0_0_1_n_n none a w (constant S256x2048 .f32 0x00000000#32) (ix2 r k)
      = ∑ e : Fin 1024, a (ix2 r e) * w (ix2 e k) := by
  have h := Ideal.matmul_plain_apply (M := 256) (K := 1024) (N := 2048) (φ₁ := .bf16) (φ₂ := .bf16) none a w (constant S256x2048 .f32 0x00000000#32) r k
  rw [show constant (F := Ideal) S256x2048 .f32 0x00000000#32 (ix2 r k) = 0 from Ideal.ofBits_zero_f32, zero_add] at h
  exact Eq.trans (by rfl) h

theorem wide_apply (a : FVec Ideal S256x2048 .bf16) (w : FVec Ideal S2048x2048 .bf16) (r : Fin 256) (k : Fin 2048) :
    matmul dot_S256x2048_S2048x2048_S256x2048_1_0_0_1_n_n none a w (constant S256x2048 .f32 0x00000000#32) (ix2 r k)
      = ∑ e : Fin 2048, a (ix2 r e) * w (ix2 e k) := by
  have h := Ideal.matmul_plain_apply (M := 256) (K := 2048) (N := 2048) (φ₁ := .bf16) (φ₂ := .bf16) none a w (constant S256x2048 .f32 0x00000000#32) r k
  rw [show constant (F := Ideal) S256x2048 .f32 0x00000000#32 (ix2 r k) = 0 from Ideal.ofBits_zero_f32, zero_add] at h
  exact Eq.trans (by rfl) h

theorem pay_apply (y : FVec Ideal S256x1024 .bf16) (wv wg : FVec Ideal S1024x2048 .bf16) (gs : FVec Ideal S256x2048 .bf16)
    (o : FVec Ideal S256x1024 .bf16) (wp : FVec Ideal S1024x2048 .bf16) (gm : FVec Ideal S256x2048 .bf16) (x : FVec Ideal S256x2048 .f32)
    (wo : FVec Ideal S2048x2048 .bf16) (r : Fin 256) (d : Fin 2048) :
    k0_pay1 (F := Ideal) y wv wg gs o wp gm x wo (ix2 r d)
      = x (ix2 r d) + ∑ k : Fin 2048,
          ((∑ e : Fin 1024, y (ix2 r e) * wv (ix2 e k)) * Ideal.logistic (∑ e : Fin 1024, y (ix2 r e) * wg (ix2 e k)) * Ideal.logistic (gs (ix2 r k))
            + (∑ e : Fin 1024, o (ix2 r e) * wp (ix2 e k)) * Ideal.logistic (gm (ix2 r k))) * wo (ix2 k d) := by
  unfold k0_pay1
  refine congrArg (x (ix2 r d) + ·) ((wide_apply _ wo r d).trans (Finset.sum_congr rfl fun k _ => congrArg (· * wo (ix2 k d)) ?_))
  exact congrArg₂ (· + ·) (congrArg (· * Ideal.logistic (gs (ix2 r k))) (congrArg₂ (· * ·) (narrow_apply y wv r k) (congrArg Ideal.logistic (narrow_apply y wg r k))))
    (congrArg (· * Ideal.logistic (gm (ix2 r k))) (narrow_apply o wp r k))

theorem hz : (![0, 0] : Fin 2 → Nat) = fun _ => 0 := by funext a; fin_cases a <;> rfl

theorem out_eq (x0 : Vec Ideal S256x1024 .bf16) (x1 : Vec Ideal S256x2048 .bf16) (x2 : Vec Ideal S256x1024 .bf16) (x3 : Vec Ideal S256x2048 .bf16)
    (x4 : Vec Ideal S256x2048 .f32) (x5 x6 x7 : Vec Ideal S1024x2048 .bf16) (x8 : Vec Ideal S2048x2048 .bf16) :
    out0_9 x0 x1 x2 x3 x4 x5 x6 x7 x8 = k0_pay1 (F := Ideal) x0 x5 x6 x1 x2 x7 x3 x4 x8 := by
  unfold out0_9
  rw [View.canon_unit_zero hz]
  simp only [View.ld_unit_zero (S := S256x1024) hz, View.ld_unit_zero (S := S256x2048) hz, View.ld_unit_zero (S := S1024x2048) hz, View.ld_unit_zero (S := S2048x2048) hz]

/-! ## The blocks -/

variable (m : (ℓ : Loc nD τ sig) → Buf (Elt Ideal) ℓ) (c : Dev nD)

/-- The operands. -/
abbrev Y : SH.Idx → EReal := m ((c : Thread nD τ).loc main_arg0)
abbrev P : SP.Idx → EReal := m ((c : Thread nD τ).loc main_arg1)
abbrev O : SH.Idx → EReal := m ((c : Thread nD τ).loc main_arg2)
abbrev X : SX.Idx → EReal := m ((c : Thread nD τ).loc main_arg3)
abbrev Wv : SW.Idx → EReal := m ((c : Thread nD τ).loc main_arg4)
abbrev Wg : SW.Idx → EReal := m ((c : Thread nD τ).loc main_arg5)
abbrev Wp : SW.Idx → EReal := m ((c : Thread nD τ).loc main_arg6)
abbrev Wo : SZ.Idx → EReal := m ((c : Thread nD τ).loc main_arg7)

theorem rowIndex (i : grid0.Coords) : cc0_transform_0 i = ![(i 0).val, 0] := by
  have h0 : (i 0).val < 64 := (i 0).isLt
  show ![(BitVec.ofNat 32 (i 0).val).toNat, 0] = _
  rw [BitVec.toNat_ofNat, Nat.mod_eq_of_lt (by omega)]

theorem gateIndex (i : grid0.Coords) : cc0_transform_3 i = ![(i 0).val, 1] := by
  have h0 : (i 0).val < 64 := (i 0).isLt
  show ![(BitVec.ofNat 32 (i 0).val).toNat, 1] = _
  rw [BitVec.toNat_ofNat, Nat.mod_eq_of_lt (by omega)]

theorem rowIndex1 (i : grid0.Coords) : cc0_transform_1 i = ![(i 0).val, 0] := rowIndex i
theorem rowIndex2 (i : grid0.Coords) : cc0_transform_2 i = ![(i 0).val, 0] := rowIndex i
theorem rowIndex4 (i : grid0.Coords) : cc0_transform_4 i = ![(i 0).val, 0] := rowIndex i
theorem rowIndex9 (i : grid0.Coords) : cc0_transform_9 i = ![(i 0).val, 0] := rowIndex i

/-- Row `r` of row block `b`. -/
abbrev row (b : Fin 64) (r : Fin 256) : Fin 16384 := ⟨256 * b.val + r.val, by omega⟩

theorem iblk0_apply (t : Fin cfg0.N) (r : Fin 256) (e : Fin 1024) :
    (iblk m c 0 t : Vec Ideal S256x1024 .bf16) (ix2 r e) = Y m c (ix2 (row (grid0.coords t 0) r) e) := by
  unfold iblk
  rw [View.read_apply]
  show V m c main_arg0 _ = m (c.tc.loc main_arg0) _
  unfold V
  congr 1
  have h := rowIndex (grid0.coords t)
  funext a
  apply Fin.ext
  match a with
  | ⟨0, _⟩ => show cc0_transform_0 (grid0.coords t) 0 * 256 + 1 * r.val = 256 * (grid0.coords t 0).val + r.val; rw [h]; show (grid0.coords t 0).val * 256 + 1 * r.val = _; omega
  | ⟨1, _⟩ => show cc0_transform_0 (grid0.coords t) 1 * 1024 + 1 * e.val = e.val; rw [h]; show 0 * 1024 + 1 * e.val = _; omega

theorem iblk1_apply (t : Fin cfg0.N) (r : Fin 256) (k : Fin 2048) :
    (iblk m c 1 t : Vec Ideal S256x2048 .bf16) (ix2 r k) = P m c (ix2 (row (grid0.coords t 0) r) ⟨k.val, by omega⟩) := by
  unfold iblk
  rw [View.read_apply]
  show V m c main_arg1 _ = m (c.tc.loc main_arg1) _
  unfold V
  congr 1
  have h := rowIndex1 (grid0.coords t)
  funext a
  apply Fin.ext
  match a with
  | ⟨0, _⟩ => show cc0_transform_1 (grid0.coords t) 0 * 256 + 1 * r.val = 256 * (grid0.coords t 0).val + r.val; rw [h]; show (grid0.coords t 0).val * 256 + 1 * r.val = _; omega
  | ⟨1, _⟩ => show cc0_transform_1 (grid0.coords t) 1 * 2048 + 1 * k.val = k.val; rw [h]; show 0 * 2048 + 1 * k.val = _; omega

theorem iblk2_apply (t : Fin cfg0.N) (r : Fin 256) (e : Fin 1024) :
    (iblk m c 2 t : Vec Ideal S256x1024 .bf16) (ix2 r e) = O m c (ix2 (row (grid0.coords t 0) r) e) := by
  unfold iblk
  rw [View.read_apply]
  show V m c main_arg2 _ = m (c.tc.loc main_arg2) _
  unfold V
  congr 1
  have h := rowIndex2 (grid0.coords t)
  funext a
  apply Fin.ext
  match a with
  | ⟨0, _⟩ => show cc0_transform_2 (grid0.coords t) 0 * 256 + 1 * r.val = 256 * (grid0.coords t 0).val + r.val; rw [h]; show (grid0.coords t 0).val * 256 + 1 * r.val = _; omega
  | ⟨1, _⟩ => show cc0_transform_2 (grid0.coords t) 1 * 1024 + 1 * e.val = e.val; rw [h]; show 0 * 1024 + 1 * e.val = _; omega

theorem iblk3_apply (t : Fin cfg0.N) (r : Fin 256) (k : Fin 2048) :
    (iblk m c 3 t : Vec Ideal S256x2048 .bf16) (ix2 r k) = P m c (ix2 (row (grid0.coords t 0) r) ⟨2048 + k.val, by omega⟩) := by
  unfold iblk
  rw [View.read_apply]
  show V m c main_arg1 _ = m (c.tc.loc main_arg1) _
  unfold V
  congr 1
  have h := gateIndex (grid0.coords t)
  funext a
  apply Fin.ext
  match a with
  | ⟨0, _⟩ => show cc0_transform_3 (grid0.coords t) 0 * 256 + 1 * r.val = 256 * (grid0.coords t 0).val + r.val; rw [h]; show (grid0.coords t 0).val * 256 + 1 * r.val = _; omega
  | ⟨1, _⟩ => show cc0_transform_3 (grid0.coords t) 1 * 2048 + 1 * k.val = 2048 + k.val; rw [h]; show 1 * 2048 + 1 * k.val = _; omega

theorem iblk4_apply (t : Fin cfg0.N) (r : Fin 256) (k : Fin 2048) :
    (iblk m c 4 t : Vec Ideal S256x2048 .f32) (ix2 r k) = X m c (ix2 (row (grid0.coords t 0) r) k) := by
  unfold iblk
  rw [View.read_apply]
  show V m c main_arg3 _ = m (c.tc.loc main_arg3) _
  unfold V
  congr 1
  have h := rowIndex4 (grid0.coords t)
  funext a
  apply Fin.ext
  match a with
  | ⟨0, _⟩ => show cc0_transform_4 (grid0.coords t) 0 * 256 + 1 * r.val = 256 * (grid0.coords t 0).val + r.val; rw [h]; show (grid0.coords t 0).val * 256 + 1 * r.val = _; omega
  | ⟨1, _⟩ => show cc0_transform_4 (grid0.coords t) 1 * 2048 + 1 * k.val = k.val; rw [h]; show 0 * 2048 + 1 * k.val = _; omega

theorem iblk5_apply (t : Fin cfg0.N) (e : Fin 1024) (k : Fin 2048) :
    (iblk m c 5 t : Vec Ideal S1024x2048 .bf16) (ix2 e k) = Wv m c (ix2 e k) := by
  unfold iblk
  rw [View.read_apply]
  show V m c main_arg4 _ = m (c.tc.loc main_arg4) _
  unfold V
  congr 1
  funext a
  apply Fin.ext
  match a with
  | ⟨0, _⟩ => show 0 * 1024 + 1 * e.val = e.val; omega
  | ⟨1, _⟩ => show 0 * 2048 + 1 * k.val = k.val; omega

theorem iblk6_apply (t : Fin cfg0.N) (e : Fin 1024) (k : Fin 2048) :
    (iblk m c 6 t : Vec Ideal S1024x2048 .bf16) (ix2 e k) = Wg m c (ix2 e k) := by
  unfold iblk
  rw [View.read_apply]
  show V m c main_arg5 _ = m (c.tc.loc main_arg5) _
  unfold V
  congr 1
  funext a
  apply Fin.ext
  match a with
  | ⟨0, _⟩ => show 0 * 1024 + 1 * e.val = e.val; omega
  | ⟨1, _⟩ => show 0 * 2048 + 1 * k.val = k.val; omega

theorem iblk7_apply (t : Fin cfg0.N) (e : Fin 1024) (k : Fin 2048) :
    (iblk m c 7 t : Vec Ideal S1024x2048 .bf16) (ix2 e k) = Wp m c (ix2 e k) := by
  unfold iblk
  rw [View.read_apply]
  show V m c main_arg6 _ = m (c.tc.loc main_arg6) _
  unfold V
  congr 1
  funext a
  apply Fin.ext
  match a with
  | ⟨0, _⟩ => show 0 * 1024 + 1 * e.val = e.val; omega
  | ⟨1, _⟩ => show 0 * 2048 + 1 * k.val = k.val; omega

theorem iblk8_apply (t : Fin cfg0.N) (e k : Fin 2048) :
    (iblk m c 8 t : Vec Ideal S2048x2048 .bf16) (ix2 e k) = Wo m c (ix2 e k) := by
  unfold iblk
  rw [View.read_apply]
  show V m c main_arg7 _ = m (c.tc.loc main_arg7) _
  unfold V
  congr 1
  funext a
  apply Fin.ext
  match a with
  | ⟨0, _⟩ => show 0 * 2048 + 1 * e.val = e.val; omega
  | ⟨1, _⟩ => show 0 * 2048 + 1 * k.val = k.val; omega

/-- The array the kernel is to write. -/
abbrev result : SX.Idx → EReal := target (Y m c) (P m c) (O m c) (X m c) (Wv m c) (Wg m c) (Wp m c) (Wo m c)

theorem block_apply (t : Fin cfg0.N) (r : Fin 256) (d : Fin 2048) :
    k0_pay1 (F := Ideal) (iblk m c 0 t) (iblk m c 5 t) (iblk m c 6 t) (iblk m c 1 t) (iblk m c 2 t) (iblk m c 7 t) (iblk m c 3 t) (iblk m c 4 t) (iblk m c 8 t) (ix2 r d)
      = result m c (ix2 (row (grid0.coords t 0) r) d) := by
  refine (pay_apply (iblk m c 0 t) (iblk m c 5 t) (iblk m c 6 t) (iblk m c 1 t) (iblk m c 2 t) (iblk m c 7 t) (iblk m c 3 t) (iblk m c 4 t) (iblk m c 8 t) r d).trans ?_
  unfold result target merged prod
  simp only [iblk0_apply, iblk1_apply, iblk2_apply, iblk3_apply, iblk4_apply, iblk5_apply, iblk6_apply, iblk7_apply, iblk8_apply]

/-- Each write-back writes its block of the result. -/
theorem flushed_eq (t : Fin cfg0.N) (hf : (cfg0.win 9).flush t = true) :
    (dats m 0 c).flushed 9 t = ((cfg0.win 9).blk t).view.read (Elt Ideal) (result m c) := by
  rw [Cert.Kernel3Ideal.Value.flushed9, out_eq]
  have e := rowIndex9 (grid0.coords t)
  funext y
  have h0 : (y 0).val < 256 := (y 0).isLt
  have h1 : (y 1).val < 2048 := (y 1).isLt
  have hy : (y : S256x2048.Idx) = ix2 (y 0) (y 1) := funext fun a => match a with
    | ⟨0, _⟩ => rfl
    | ⟨1, _⟩ => rfl
  rw [View.read_apply]
  refine Eq.trans (b := k0_pay1 (F := Ideal) (iblk m c 0 t) (iblk m c 5 t) (iblk m c 6 t) (iblk m c 1 t) (iblk m c 2 t) (iblk m c 7 t) (iblk m c 3 t) (iblk m c 4 t) (iblk m c 8 t) (ix2 (y 0) (y 1))) (congrArg _ hy) ?_
  refine (block_apply m c t ⟨(y 0).val, h0⟩ ⟨(y 1).val, h1⟩).trans ?_
  show _ = result m c (((cfg0.win 9).blk t).view.emb y)
  refine congrArg (result m c) (funext fun a => Fin.ext ?_)
  match a with
  | ⟨0, _⟩ => show 256 * (grid0.coords t 0).val + (y 0).val = cc0_transform_9 (grid0.coords t) 0 * 256 + 1 * (y 0).val
              rw [e]; show _ = (grid0.coords t 0).val * 256 + 1 * (y 0).val; omega
  | ⟨1, _⟩ => show (y 1).val = cc0_transform_9 (grid0.coords t) 1 * 2048 + 1 * (y 1).val
              rw [e]; show _ = 0 * 2048 + 1 * (y 1).val; omega

/-- So the result array ends holding the merged projection. -/
theorem final : (dats m 0 c).arrAt 9 cfg0.N = result m c :=
  (dats m 0 c).arrAt_eq_of_cover 9 (result m c) (flushed_eq m c) fun i => by
    have h0 : (i 0 : Nat) < 16384 := (i 0).isLt
    have h1 : (i 1 : Nat) < 2048 := (i 1).isLt
    obtain ⟨t, ht⟩ := Pipeline.Grid.coords_surjective grid0 (fun a => match a with
      | ⟨0, _⟩ => ⟨(i 0).val / 256, show (i 0).val / 256 < 64 by omega⟩)
    have e := rowIndex9 (grid0.coords t)
    rw [ht] at e
    refine ⟨t, flush0_9 t, ?_⟩
    show i ∈ ((View.whole main_v0).slice (win0_9.rect t)).set
    rw [View.set_slice_whole, Rect.mem_set_unit]
    intro a
    match a with
    | ⟨0, _⟩ => show cc0_transform_9 (grid0.coords t) 0 * 256 ≤ (i 0 : Nat) ∧ (i 0 : Nat) < cc0_transform_9 (grid0.coords t) 0 * 256 + 256
                rw [ht, e]; show (i 0).val / 256 * 256 ≤ (i 0 : Nat) ∧ (i 0 : Nat) < (i 0).val / 256 * 256 + 256; omega
    | ⟨1, _⟩ => show cc0_transform_9 (grid0.coords t) 1 * 2048 ≤ (i 1 : Nat) ∧ (i 1 : Nat) < cc0_transform_9 (grid0.coords t) 1 * 2048 + 2048
                rw [ht, e]; show 0 * 2048 ≤ (i 1 : Nat) ∧ (i 1 : Nat) < 0 * 2048 + 2048; omega

end Cert.Kernel3Ideal.Mix

end
-- ==== Proof.MixRef.lean ====
/-
  The reference of the merged output projection, operation by operation, is the same array.
-/
module

public import proofs.«01_k».proof.Proof.Mix
public import proofs.«01_k».proof.Proof.Gen.Reference3Ideal.Read

@[expose] public section

set_option maxRecDepth 16384

noncomputable section

namespace Cert.Reference3Ideal.Mix

open Idealize.ShloMosaic Idealize.ShloMosaic.TcCoe Idealize.SL.Sem
open Cert.Reference3Ideal Cert.Reference3Ideal.Gen Cert.Reference3Ideal.Read Idealize.ShloMosaic.ValueIdx Cert.Mix

variable {X0 X2 : SH.Idx → EReal} {X1 : SP.Idx → EReal} {X3 : SX.Idx → EReal} {X4 X5 X6 : SW.Idx → EReal} {X7 : SZ.Idx → EReal}

theorem one_bits : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

/-- One over one plus the exponential of the negative is the logistic. -/
theorem logistic_bits (x : EReal) : Ideal.div (Ideal.ofBits .f32 0x3F800000#32) (Ideal.ofBits .f32 0x3F800000#32 + Ideal.exp (-x)) = Ideal.logistic x := by
  rw [one_bits]; rfl

theorem value_branch (r : Fin 16384) (k : Fin 2048) : val_main_v7 (F := Ideal) X0 X4 (ix2 r k) = prod X0 X4 r k := by
  rw [val_main_v7_apply]
  refine Finset.sum_congr rfl fun e _ => congrArg₂ (· * ·) (congrArg X0 ?_) (congrArg X4 ?_)
  · funext a; fin_cases a <;> rfl
  · funext a; fin_cases a <;> rfl

theorem gate_branch (r : Fin 16384) (k : Fin 2048) : val_main_v9 (F := Ideal) X0 X5 (ix2 r k) = prod X0 X5 r k := by
  rw [val_main_v9_apply]
  refine Finset.sum_congr rfl fun e _ => congrArg₂ (· * ·) (congrArg X0 ?_) (congrArg X5 ?_)
  · funext a; fin_cases a <;> rfl
  · funext a; fin_cases a <;> rfl

theorem attention_branch (r : Fin 16384) (k : Fin 2048) : val_main_v18 (F := Ideal) X2 X6 (ix2 r k) = prod X2 X6 r k := by
  rw [val_main_v18_apply]
  refine Finset.sum_congr rfl fun e _ => congrArg₂ (· * ·) (congrArg X2 ?_) (congrArg X6 ?_)
  · funext a; fin_cases a <;> rfl
  · funext a; fin_cases a <;> rfl

theorem gate (r : Fin 16384) (k : Fin 2048) : val_main_v15 (F := Ideal) X0 X5 (ix2 r k) = Ideal.logistic (prod X0 X5 r k) := by
  rw [val_main_v15_apply, val_main_v14_apply, val_main_v13_apply, val_main_v12_apply, val_main_v11_apply, val_main_v10_apply, gate_branch]
  exact logistic_bits _

theorem first_gate (r : Fin 16384) (k : Fin 2048) : val_main_v24 (F := Ideal) X1 (ix2 r k) = Ideal.logistic (X1 (ix2 r ⟨k.val, by omega⟩)) := by
  rw [val_main_v24_apply, val_main_v23_apply, val_main_v22_apply, val_main_v21_apply, val_main_v20_apply, val_main_v19_apply, val_main_v1_apply, val_main_v0_apply]
  have e : idx_main_v0 (ix2 r k) = ix2 r ⟨k.val, by omega⟩ := by funext a; fin_cases a <;> rfl
  rw [e]
  exact logistic_bits _

theorem second_gate (r : Fin 16384) (k : Fin 2048) : val_main_v31 (F := Ideal) X1 (ix2 r k) = Ideal.logistic (X1 (ix2 r ⟨2048 + k.val, by omega⟩)) := by
  rw [val_main_v31_apply, val_main_v30_apply, val_main_v29_apply, val_main_v28_apply, val_main_v27_apply, val_main_v26_apply, val_main_v3_apply, val_main_v2_apply]
  have e : idx_main_v2 (ix2 r k) = ix2 r ⟨2048 + k.val, by omega⟩ := by funext a; fin_cases a <;> rfl
  rw [e]
  exact logistic_bits _

theorem merged_apply (r : Fin 16384) (k : Fin 2048) :
    val_main_v33 (F := Ideal) X0 X1 X2 X4 X5 X6 (ix2 r k) = merged X0 X1 X2 X4 X5 X6 r k := by
  rw [val_main_v33_apply, val_main_v25_apply, val_main_v16_apply, val_main_v32_apply, value_branch, gate, attention_branch, first_gate, second_gate]
  unfold merged
  exact congrArg₂ (· + ·) (mul_comm (G := EReal) _ _) (mul_comm (G := EReal) _ _)

/-- The reference's result. -/
theorem value : val_main_v36 (F := Ideal) X0 X1 X2 X3 X4 X5 X6 X7 = target X0 X1 X2 X3 X4 X5 X6 X7 := by
  funext i
  obtain ⟨r, d, rfl⟩ : ∃ (r : Fin 16384) (d : Fin 2048), i = ix2 r d := ⟨i 0, i 1, by funext a; fin_cases a <;> rfl⟩
  rw [val_main_v36_apply, val_main_v35_apply]
  unfold target
  refine congrArg (X3 (ix2 r d) + ·) (Finset.sum_congr rfl fun k _ => ?_)
  have el : lidx_main_v35 (ix2 r d) k = ix2 r k := by funext a; fin_cases a <;> rfl
  have er : ridx_main_v35 (ix2 r d) k = ix2 k d := by funext a; fin_cases a <;> rfl
  rw [el, er, merged_apply]
  rfl

end Cert.Reference3Ideal.Mix

end
-- ==== Proof.Range.lean ====
/-
  What the range condition says of the two tables.
-/
module

public import proofs.«01_k».proof.Proof.Gen.Pre_slots_in_range
public import Idealize.ShloMosaic.Lib.ReduceAll
public import Idealize.ShloMosaic.Lib.StableHlo.Predicate
public import Idealize.ShloMosaic.Lib.ValueIdxCore

@[expose] public section

noncomputable section

namespace Cert.Range

open Idealize.ShloMosaic Idealize.ShloMosaic.ValueIdx Cert.Pre_slots_in_range Cert.Pre_slots_in_range.Gen

variable {F : FTy → Type} [FloatOps F]

theorem both {a b : BitVec 1} (h : IntOp.andi a b = 1#1) : a = 1#1 ∧ b = 1#1 := by revert a b; decide

/-- A word at least zero and below a small bound, both read signed, is below it as a natural. -/
theorem below {a b : BitVec 32} (hb : b.toNat < 2 ^ 31) (h0 : IntOp.cmpi .sge a 0#32 = 1#1) (h1 : IntOp.cmpi .slt a b = 1#1) : a.toNat < b.toNat := by
  have e0 : (0#32 : BitVec 32).sle a = true := by
    by_contra hc; simp only [Bool.not_eq_true] at hc; unfold IntOp.cmpi at h0; simp only [hc] at h0; exact absurd h0 (by decide)
  have ha : a.toNat < 2 ^ 31 := by
    rw [BitVec.sle_eq_decide, decide_eq_true_eq, BitVec.toInt_eq_toNat_cond a] at e0
    have := a.isLt
    by_contra hc
    rw [if_neg (by omega)] at e0
    simp at e0
    omega
  exact (StableHlo.Predicate.slt_iff_toNat ha hb).mp h1

variable {x0 : IVec S576 32} {x1 : IVec S576x1x256 32} {x2 : FVec F S262144x128 .f32} {x3 x4 : FVec F S64x2048x512 .bf16} {x5 : FVec F S64x512x2048 .bf16}

theorem parts (h : fn (F := F) x0 x1 x2 x3 x4 x5 = fun _ => 1#1) :
    (∀ i, (x0 i).toNat < 64) ∧ (∀ i, (x1 i).toNat < 16384) := by
  have h' := congrFun h (fun a => a.elim0)
  unfold fn at h'
  obtain ⟨h10, h13⟩ := both h'
  obtain ⟨h6, h9⟩ := both h10
  obtain ⟨h2, h5⟩ := both h6
  haveI : Subsingleton S_.Idx := ⟨fun a b => funext fun q => q.elim0⟩
  refine ⟨fun i => ?_, fun i => ?_⟩
  · exact below (b := 64#32) (by decide) (Host.reduce_andi_all _ _ _ _ _ h2 i) (Host.reduce_andi_all _ _ _ _ _ h5 i)
  · exact below (b := 16384#32) (by decide) (Host.reduce_andi_all _ _ _ _ _ h9 i) (Host.reduce_andi_all _ _ _ _ _ h13 i)

end Cert.Range

end
-- ==== Proof.Issue.lean ====
/-
  One copy of a batch whose source is a part of an array that is held whole: the rest of the array's share goes with the
  copy, so that what the batch hands back at the end is the whole array at that share. And steps at the head of a program,
  stated over what follows as a predicate.
-/
module

public import Idealize.ShloMosaic.Lib.Batch
public import Idealize.ShloMosaic.Lib.Ring
public import Idealize.ShloMosaic.Lib.Tactic
public import Idealize.ShloMosaic.Lib.ViewIndex

@[expose] public section

noncomputable section

namespace Cert.Issue

open Idealize.ShloMosaic Idealize.ShloMosaic.TcCoe Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

variable (EC : UEmb Counters (MT nD τ sig Ix Val Name U Lvl))
variable {Λ : Labels} {defs : Defs nD τ sig Val Λ} (𝒱 : Variants) (c : Thread nD τ) (bd : Option 𝒱.V)

/-- The next copy of a batch, out of an array held whole at a share: its delivery is the destination at what the source
    view reads, and the whole array back. -/
theorem issue [Infinite Name] [EC.LandsIn (upEmb : UEmb _ (MT nD τ sig Ix Val Name U Lvl))] {sp sp' : Space} {s : Shape} {e : EltTy} {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {Q : PUnit → sProp (MT nD τ sig Ix Val Name U Lvl)} {q : PosShare TreeShare} {fs : Buf Val (src.view.loc c)}
    {D : Fin n → sProp (MT nD τ sig Ix Val Name U Lvl)} {j : ℕ}
    (ι : Ix) (N : ℕ) (hN : dst.view.amount sm = N) (hj : j < n)
    (hD : iprop(owns c dst fullShare (src.view.read Val fs) ∗ (src.view.loc c ↦{q} fs)) ⊢ D ⟨j, hj⟩) :
    iprop((src.view.loc c ↦{q} fs) ∗ (∃ d, owns c dst fullShare d) ∗ Batch EC c sm ι N D j 0)
      ⊢ iprop((Batch EC c sm ι N D (j + 1) 0 -∗ Q ⟨⟩)
          -∗ wp frame (wpE defs 𝒱 c bd) Set.univ (Prog.lift (.enqueueDma src (.here dst) sm hsrc hdst hsem)) Q) := by
  unfold Batch owns
  iintro ⟨Hs, ⟨%d, %fd, %hd, Hd⟩, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (bigSep_pending_step _ j hj)) $$ HI
  icases HI' with ⟨Ht, HI⟩
  ihave Hs' := (show (src.view.loc c ↦{q} fs : sProp (MT nD τ sig Ix Val Name U Lvl)) ⊢ iprop((src.view.loc c ↦[src.view.set]{q} fs) ∗ src.view.loc c ↦[Finset.univ \ src.view.set]{q} fs)
    from (pointsTo_split_subset (Finset.subset_univ _)).1) $$ Hs
  icases Hs' with ⟨Hs, Hrest⟩
  iapply (wp_enqueueDmaAs 𝒱 c bd Set.univ ι N hN) $$ [Hs Hd] [Ht Hrest]
  · isplitl [Hs]; · iexact Hs
    iapply (pointsTo_writeUpdate c (v := dst.view) subset_rfl) $$ Hd
  · iapply (batch_creditUpdate_with EC ⟨j, hj⟩ (put := (src.view.loc c ↦[Finset.univ \ src.view.set]{q} fs)) ?_)
    · iintro ⟨Hrest, Hd, Hs⟩
      iapply hD
      isplitl [Hd]
      · unfold owns
        iexists _
        isplitr; swap; · iexact Hd
        ipureintro; exact View.read_write_univ _ _
      iapply (show iprop((src.view.loc c ↦[src.view.set]{q} fs) ∗ src.view.loc c ↦[Finset.univ \ src.view.set]{q} fs) ⊢ (src.view.loc c ↦{q} fs : sProp (MT nD τ sig Ix Val Name U Lvl))
        from (pointsTo_split_subset (Finset.subset_univ _)).2)
      isplitl [Hs] <;> iassumption
    isplitr; · iexact Hinv
    isplitl [Ht] <;> iassumption
  iintro Hcred'
  iapply (le_wp_ret frame (wpE defs 𝒱 c bd) Set.univ)
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-- One step, then the rest at the value the step returns. -/
theorem seqAt {α β : Type} {p : Prog (TpuEff nD τ sig Val Λ c.2) α} {k : α → Prog (TpuEff nD τ sig Val Λ c.2) β} {Q : β → sProp (MT nD τ sig Ix Val Name U Lvl)} {P P' : sProp (MT nD τ sig Ix Val Name U Lvl)} (v : α)
    (h1 : P ⊢ wp frame (wpE defs 𝒱 c bd) Set.univ p (fun a => iprop(⌜a = v⌝ ∗ P'))) (h2 : P' ⊢ wp frame (wpE defs 𝒱 c bd) Set.univ (k v) Q) :
    P ⊢ wp frame (wpE defs 𝒱 c bd) Set.univ (p >>= k) Q := by
  rw [wp_bind]
  refine h1.trans (wp_mono frame (wpE defs 𝒱 c bd) Set.univ fun a => ?_)
  iintro ⟨%ha, H⟩
  subst ha
  iapply h2 $$ H

/-- One part, then the rest at any value it returns. -/
theorem seqAny {α β : Type} {p : Prog (TpuEff nD τ sig Val Λ c.2) α} {k : α → Prog (TpuEff nD τ sig Val Λ c.2) β} {Q : β → sProp (MT nD τ sig Ix Val Name U Lvl)} {P : sProp (MT nD τ sig Ix Val Name U Lvl)} {R : α → sProp (MT nD τ sig Ix Val Name U Lvl)}
    (h1 : P ⊢ wp frame (wpE defs 𝒱 c bd) Set.univ p R) (h2 : ∀ a, R a ⊢ wp frame (wpE defs 𝒱 c bd) Set.univ (k a) Q) :
    P ⊢ wp frame (wpE defs 𝒱 c bd) Set.univ (p >>= k) Q := by
  rw [wp_bind]
  exact h1.trans (wp_mono frame (wpE defs 𝒱 c bd) Set.univ h2)

/-- A check that holds. -/
theorem check {P : Prop} {d : Decidable P} {Q : PLift P → sProp (MT nD τ sig Ix Val Name U Lvl)} (h : P) :
    Q ⟨h⟩ ⊢ wp frame (wpE defs 𝒱 c bd) Set.univ (Prog.lift (.assume P d)) Q :=
  (le_wp_ret frame (wpE defs 𝒱 c bd) Set.univ _ _).trans (wp_assume 𝒱 c bd Set.univ h)

/-- A load of a view held at known values. -/
theorem loadAt {cs : CoreSpace} {s : Shape} {e : EltTy} {M : Memref sig c.2.kind cs s e} {r : LoadRect s} {hl : M.view.LoadsAt r}
    {Q : (r.shape.Idx → Val e) → sProp (MT nD τ sig Ix Val Name U Lvl)} {q : PosShare TreeShare} {X : s.Idx → Val e} :
    (owns c M q X : sProp (MT nD τ sig Ix Val Name U Lvl))
      ⊢ iprop((owns c M q X -∗ Q (fun y => X (r.idx y))) -∗ wp frame (wpE defs 𝒱 c bd) Set.univ (Prog.lift (.load M r hl)) Q) := by
  unfold owns
  iintro ⟨%f, %hf, H⟩ Hk
  iapply (wp_load 𝒱 c bd Set.univ (S := M.view.set) (View.setOn_subset_set _ _)) $$ H
  iintro H
  iapply (le_wp_ret frame (wpE defs 𝒱 c bd) Set.univ)
  rw [show M.view.readAt Val r f = fun y => X (r.idx y) from by subst hf; rfl]
  iapply Hk
  iexists f
  isplitr; · ipureintro; exact hf
  iexact H

/-- A word of scalar memory read out of a view held at known values. -/
theorem wordAt {s : Shape} {e : EltTy} {M : Memref sig c.2.kind .smem s e} {r : Rect s} {h1 : r.shape.numel = 1} {hp : e.packing = 1}
    {Q : Val e → sProp (MT nD τ sig Ix Val Name U Lvl)} {q : PosShare TreeShare} {X : s.Idx → Val e} (x : s.Idx) (hx : ∀ y, r.emb y = x) :
    (owns c M q X : sProp (MT nD τ sig Ix Val Name U Lvl))
      ⊢ iprop((owns c M q X -∗ Q (X x)) -∗ wp frame (wpE defs 𝒱 c bd) Set.univ (smemLoad M r h1 hp) Q) := by
  unfold owns
  iintro ⟨%f, %hf, H⟩ Hk
  iapply (wp_smemLoadElt 𝒱 c bd Set.univ (m := M) (r := r) (f := f) (q := q) (k := fun a => .ret a) (S := M.view.set) (View.set_slice_subset _ _)) $$ H
  iintro H
  iapply (le_wp_ret frame (wpE defs 𝒱 c bd) Set.univ)
  rw [show (M.access r).read Val f (Shape.Idx.first (h1.symm ▸ Nat.one_pos)) = X x from by rw [← hf, ← hx]; rfl]
  iapply Hk
  iexists f
  isplitr; · ipureintro; exact hf
  iexact H

/-- A store through a rectangle of a view held whole: the new values are the stored ones in the rectangle, the old outside. -/
theorem storeAt {cs : CoreSpace} {s : Shape} {e : EltTy} {M : Memref sig c.2.kind cs s e} {r : Rect s} {w : r.shape.Idx → Val e}
    {hx : (M.access r).Stores Finset.univ} {hm : Finset.univ = Finset.univ ∨ ∀ a, r.stride a = 1}
    {Q : PUnit → sProp (MT nD τ sig Ix Val Name U Lvl)} {X : s.Idx → Val e} (X' : s.Idx → Val e) (hin : ∀ y, X' (r.emb y) = w y)
    (hout : ∀ y, y ∉ Finset.univ.map r.emb → X' y = X y) :
    (owns c M fullShare X : sProp (MT nD τ sig Ix Val Name U Lvl))
      ⊢ iprop((owns c M fullShare X' -∗ Q ⟨⟩) -∗ wp frame (wpE defs 𝒱 c bd) Set.univ (Prog.lift (.store M r w Finset.univ hx hm)) Q) := by
  unfold owns
  iintro ⟨%f, %hf, H⟩ Hk
  iapply (wp_store 𝒱 c bd Set.univ (m := M) (r := r) (f := f) (S := M.view.set) (by rw [View.setOn_univ]; exact View.set_slice_subset _ _)) $$ H
  iintro H
  iapply (le_wp_ret frame (wpE defs 𝒱 c bd) Set.univ)
  iapply Hk
  iexists _
  isplitr; swap; · iexact H
  ipureintro
  funext y
  by_cases hy : y ∈ Finset.univ.map r.emb
  · obtain ⟨z, -, rfl⟩ := Finset.mem_map.mp hy
    rw [hin]; exact View.read_slice_write_emb r f w (Finset.mem_univ z)
  · rw [hout y hy, ← hf]; exact View.read_slice_write_of_not_mem r f w _ hy

/-- A batch whose copies have all been issued, `u` of its units waited for, and what the core owes. -/
def Flying {n : ℕ} (sem : DmaSem sig) (ι : Ix) (N : ℕ) (D : Fin n → sProp (MT nD τ sig Ix Val Name U Lvl)) (u : ℕ) : sProp (MT nD τ sig Ix Val Name U Lvl) :=
  iprop(∃ W, Batch EC c (.dma sem) ι N D n u ∗ owes c 0 W)

/-- What the last wait of a batch hands over. -/
def Landed {n : ℕ} (sem : DmaSem sig) (D : Fin n → sProp (MT nD τ sig Ix Val Name U Lvl)) : sProp (MT nD τ sig Ix Val Name U Lvl) :=
  iprop(bigSep Finset.univ D ∗ semVal (c, .dma sem) 0 ∗ ∃ W, owes c 0 W)

/-- A wait that is not the last. -/
theorem waitOne [EC.LandsIn (upEmb : UEmb _ (MT nD τ sig Ix Val Name U Lvl))] {n : ℕ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {Q : PUnit → sProp (MT nD τ sig Ix Val Name U Lvl)} (ι : Ix) {N : ℕ} (hN : dstw.view.dmaCredit = N) {D : Fin n → sProp (MT nD τ sig Ix Val Name U Lvl)} {u : ℕ} (hu : u + N < N * n) :
    (Flying EC c sem ι N D u : sProp (MT nD τ sig Ix Val Name U Lvl))
      ⊢ iprop((Flying EC c sem ι N D (u + N) -∗ Q ⟨⟩) -∗ wp frame (wpE defs 𝒱 c bd) Set.univ (Prog.lift (.waitDma2 sem srcw dstw hsrc hdst)) Q) := by
  unfold Flying
  iintro ⟨%W, HB, HW⟩ Hk
  iapply (wp_waitBatch EC 𝒱 c bd ι hN hu) $$ [HB HW]
  · isplitl [HB] <;> iassumption
  iintro ⟨HB, HW⟩
  iapply (le_wp_ret frame (wpE defs 𝒱 c bd) Set.univ)
  iapply Hk
  iexists _
  isplitl [HB] <;> iassumption

/-- The last wait. -/
theorem waitLast [EC.LandsIn (upEmb : UEmb _ (MT nD τ sig Ix Val Name U Lvl))] {n : ℕ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {Q : PUnit → sProp (MT nD τ sig Ix Val Name U Lvl)} (ι : Ix) {N : ℕ} (hN : dstw.view.dmaCredit = N) (hN0 : 0 < N) {D : Fin n → sProp (MT nD τ sig Ix Val Name U Lvl)} {u : ℕ} (hu : u + N = N * n) :
    (Flying EC c sem ι N D u : sProp (MT nD τ sig Ix Val Name U Lvl))
      ⊢ iprop((Landed c sem D -∗ Q ⟨⟩) -∗ wp frame (wpE defs 𝒱 c bd) Set.univ (Prog.lift (.waitDma2 sem srcw dstw hsrc hdst)) Q) := by
  unfold Flying Landed
  iintro ⟨%W, HB, HW⟩ Hk
  iapply (wp_waitBatchLast EC 𝒱 c bd ι hN hN0 hu) $$ [HB HW]
  · isplitl [HB] <;> iassumption
  iintro ⟨HD, Hs, HW⟩
  iapply (le_wp_ret frame (wpE defs 𝒱 c bd) Set.univ)
  iapply Hk
  isplitl [HD]; · iexact HD
  isplitl [Hs]; · iexact Hs
  iexists _
  iexact HW

/-- A step beside resources it does not use. -/
theorem framed {α : Type} {p : Prog (TpuEff nD τ sig Val Λ c.2) α} {P R : sProp (MT nD τ sig Ix Val Name U Lvl)} {Q : α → sProp (MT nD τ sig Ix Val Name U Lvl)}
    (h : P ⊢ wp frame (wpE defs 𝒱 c bd) Set.univ p Q) :
    iprop(P ∗ R) ⊢ wp frame (wpE defs 𝒱 c bd) Set.univ p (fun a => iprop(Q a ∗ R)) :=
  (sep_mono_left h).trans (wp_frame_r frame (wpE defs 𝒱 c bd) Set.univ)

/-- A load, as a step at the head of a program. -/
theorem load {cs : CoreSpace} {s : Shape} {e : EltTy} {M : Memref sig c.2.kind cs s e} {r : LoadRect s} {hl : M.view.LoadsAt r}
    {R : sProp (MT nD τ sig Ix Val Name U Lvl)} {q : PosShare TreeShare} {X : s.Idx → Val e} :
    iprop(owns c M q X ∗ R)
      ⊢ wp frame (wpE defs 𝒱 c bd) Set.univ (Prog.lift (.load M r hl)) (fun a => iprop(⌜a = fun y => X (r.idx y)⌝ ∗ owns c M q X ∗ R)) := by
  iintro ⟨H, HR⟩
  iapply (loadAt 𝒱 c bd) $$ H
  iintro H
  isplitr; · ipureintro; rfl
  isplitl [H] <;> iassumption

/-- A store, as a step at the head of a program. -/
theorem store {cs : CoreSpace} {s : Shape} {e : EltTy} {M : Memref sig c.2.kind cs s e} {r : Rect s} {w : r.shape.Idx → Val e}
    {hx : (M.access r).Stores Finset.univ} {hm : Finset.univ = Finset.univ ∨ ∀ a, r.stride a = 1}
    {R : sProp (MT nD τ sig Ix Val Name U Lvl)} {X : s.Idx → Val e} (X' : s.Idx → Val e) (hin : ∀ y, X' (r.emb y) = w y)
    (hout : ∀ y, y ∉ Finset.univ.map r.emb → X' y = X y) :
    iprop(owns c M fullShare X ∗ R)
      ⊢ wp frame (wpE defs 𝒱 c bd) Set.univ (Prog.lift (.store M r w Finset.univ hx hm)) (fun a => iprop(⌜a = ⟨⟩⌝ ∗ owns c M fullShare X' ∗ R)) := by
  iintro ⟨H, HR⟩
  iapply (storeAt 𝒱 c bd X' hin hout) $$ H
  iintro H
  isplitr; · ipureintro; rfl
  isplitl [H] <;> iassumption

theorem up1 {P Q R : sProp (MT nD τ sig Ix Val Name U Lvl)} : iprop(P ∗ Q ∗ R) ⊢ iprop(Q ∗ P ∗ R) := by
  iintro ⟨HP, HQ, HR⟩
  isplitl [HQ]; · iexact HQ
  isplitl [HP] <;> iassumption

theorem up2 {P Q S R : sProp (MT nD τ sig Ix Val Name U Lvl)} : iprop(P ∗ Q ∗ S ∗ R) ⊢ iprop(S ∗ P ∗ Q ∗ R) := (sep_mono_right up1).trans up1

theorem up3 {P Q S T R : sProp (MT nD τ sig Ix Val Name U Lvl)} : iprop(P ∗ Q ∗ S ∗ T ∗ R) ⊢ iprop(T ∗ P ∗ Q ∗ S ∗ R) := (sep_mono_right up2).trans up1

theorem up4 {P Q S T V R : sProp (MT nD τ sig Ix Val Name U Lvl)} : iprop(P ∗ Q ∗ S ∗ T ∗ V ∗ R) ⊢ iprop(V ∗ P ∗ Q ∗ S ∗ T ∗ R) := (sep_mono_right up3).trans up1

theorem up5 {P Q S T V Y R : sProp (MT nD τ sig Ix Val Name U Lvl)} : iprop(P ∗ Q ∗ S ∗ T ∗ V ∗ Y ∗ R) ⊢ iprop(Y ∗ P ∗ Q ∗ S ∗ T ∗ V ∗ R) := (sep_mono_right up4).trans up1

theorem up6 {P Q S T V Y Z R : sProp (MT nD τ sig Ix Val Name U Lvl)} : iprop(P ∗ Q ∗ S ∗ T ∗ V ∗ Y ∗ Z ∗ R) ⊢ iprop(Z ∗ P ∗ Q ∗ S ∗ T ∗ V ∗ Y ∗ R) := (sep_mono_right up5).trans up1

theorem up7 {P Q S T V Y Z A R : sProp (MT nD τ sig Ix Val Name U Lvl)} : iprop(P ∗ Q ∗ S ∗ T ∗ V ∗ Y ∗ Z ∗ A ∗ R) ⊢ iprop(A ∗ P ∗ Q ∗ S ∗ T ∗ V ∗ Y ∗ Z ∗ R) := (sep_mono_right up6).trans up1

theorem up8 {P Q S T V Y Z A B R : sProp (MT nD τ sig Ix Val Name U Lvl)} : iprop(P ∗ Q ∗ S ∗ T ∗ V ∗ Y ∗ Z ∗ A ∗ B ∗ R) ⊢ iprop(B ∗ P ∗ Q ∗ S ∗ T ∗ V ∗ Y ∗ Z ∗ A ∗ R) := (sep_mono_right up7).trans up1

theorem up9 {P Q S T V Y Z A B C R : sProp (MT nD τ sig Ix Val Name U Lvl)} : iprop(P ∗ Q ∗ S ∗ T ∗ V ∗ Y ∗ Z ∗ A ∗ B ∗ C ∗ R) ⊢ iprop(C ∗ P ∗ Q ∗ S ∗ T ∗ V ∗ Y ∗ Z ∗ A ∗ B ∗ R) := (sep_mono_right up8).trans up1

theorem up10 {P Q S T V Y Z A B C D R : sProp (MT nD τ sig Ix Val Name U Lvl)} : iprop(P ∗ Q ∗ S ∗ T ∗ V ∗ Y ∗ Z ∗ A ∗ B ∗ C ∗ D ∗ R) ⊢ iprop(D ∗ P ∗ Q ∗ S ∗ T ∗ V ∗ Y ∗ Z ∗ A ∗ B ∗ C ∗ R) := (sep_mono_right up9).trans up1

theorem up11 {P Q S T V Y Z A B C D E R : sProp (MT nD τ sig Ix Val Name U Lvl)} : iprop(P ∗ Q ∗ S ∗ T ∗ V ∗ Y ∗ Z ∗ A ∗ B ∗ C ∗ D ∗ E ∗ R) ⊢ iprop(E ∗ P ∗ Q ∗ S ∗ T ∗ V ∗ Y ∗ Z ∗ A ∗ B ∗ C ∗ D ∗ R) := (sep_mono_right up10).trans up1

theorem up12 {P Q S T V Y Z A B C D E G R : sProp (MT nD τ sig Ix Val Name U Lvl)} : iprop(P ∗ Q ∗ S ∗ T ∗ V ∗ Y ∗ Z ∗ A ∗ B ∗ C ∗ D ∗ E ∗ G ∗ R) ⊢ iprop(G ∗ P ∗ Q ∗ S ∗ T ∗ V ∗ Y ∗ Z ∗ A ∗ B ∗ C ∗ D ∗ E ∗ R) := (sep_mono_right up11).trans up1

theorem up13 {P Q S T V Y Z A B C D E G H R : sProp (MT nD τ sig Ix Val Name U Lvl)} : iprop(P ∗ Q ∗ S ∗ T ∗ V ∗ Y ∗ Z ∗ A ∗ B ∗ C ∗ D ∗ E ∗ G ∗ H ∗ R) ⊢ iprop(H ∗ P ∗ Q ∗ S ∗ T ∗ V ∗ Y ∗ Z ∗ A ∗ B ∗ C ∗ D ∗ E ∗ G ∗ R) := (sep_mono_right up12).trans up1

theorem up14 {P Q S T V Y Z A B C D E G H J R : sProp (MT nD τ sig Ix Val Name U Lvl)} : iprop(P ∗ Q ∗ S ∗ T ∗ V ∗ Y ∗ Z ∗ A ∗ B ∗ C ∗ D ∗ E ∗ G ∗ H ∗ J ∗ R) ⊢ iprop(J ∗ P ∗ Q ∗ S ∗ T ∗ V ∗ Y ∗ Z ∗ A ∗ B ∗ C ∗ D ∗ E ∗ G ∗ H ∗ R) := (sep_mono_right up13).trans up1

section Parts

variable {sp : Space} {s s' : Shape} {e : EltTy} {n : ℕ}

/-- A whole held in parts of one shape that are disjoint and make it up. -/
structure Cut (M : Memref sig c.2.kind sp s e) (part : Fin n → Memref sig c.2.kind sp s' e) where
  emb : Fin n → s'.Idx ↪ s.Idx
  loc : ∀ t, (part t).view.loc c = M.view.loc c
  holds : ∀ t q (d : s'.Idx → Val e), (owns c (part t) q d : sProp (MT nD τ sig Ix Val Name U Lvl))
    = iprop(∃ f : Buf Val (M.view.loc c), ⌜∀ y, M.view.read Val f (emb t y) = d y⌝ ∗ (M.view.loc c ↦[(Finset.univ.map (emb t)).map M.view.emb]{q} f))
  disjoint : ∀ t t', t ≠ t' → ∀ y y', emb t y ≠ emb t' y'
  cover : ∀ z, ∃ t y, emb t y = z

variable {c}

theorem Cut.disj {M : Memref sig c.2.kind sp s e} {part : Fin n → Memref sig c.2.kind sp s' e} (K : Cut (Ix := Ix) (Val := Val) (Name := Name) (U := U) (Lvl := Lvl) c M part) (t t' : Fin n) (h : t ≠ t') :
    Disjoint ((Finset.univ.map (K.emb t)).map M.view.emb) ((Finset.univ.map (K.emb t')).map M.view.emb) := by
  rw [Finset.disjoint_map, Finset.disjoint_left]
  intro z hz hz'
  obtain ⟨y, -, rfl⟩ := Finset.mem_map.mp hz
  obtain ⟨y', -, hy⟩ := Finset.mem_map.mp hz'
  exact K.disjoint t t' h y y' hy.symm

theorem Cut.union {M : Memref sig c.2.kind sp s e} {part : Fin n → Memref sig c.2.kind sp s' e} (K : Cut (Ix := Ix) (Val := Val) (Name := Name) (U := U) (Lvl := Lvl) c M part) :
    Finset.univ.biUnion (fun t => (Finset.univ.map (K.emb t)).map M.view.emb) = M.view.set := by
  ext i
  rw [Finset.mem_biUnion]
  constructor
  · rintro ⟨t, -, ht⟩
    obtain ⟨z, -, rfl⟩ := Finset.mem_map.mp ht
    exact Finset.mem_map_of_mem _ (Finset.mem_univ _)
  · intro hi
    obtain ⟨z, -, rfl⟩ := Finset.mem_map.mp hi
    obtain ⟨t, y, rfl⟩ := K.cover z
    exact ⟨t, Finset.mem_univ _, Finset.mem_map_of_mem _ (Finset.mem_map_of_mem _ (Finset.mem_univ _))⟩

/-- The part's elements. -/
def Cut.elts {M : Memref sig c.2.kind sp s e} {part : Fin n → Memref sig c.2.kind sp s' e} (K : Cut (Ix := Ix) (Val := Val) (Name := Name) (U := U) (Lvl := Lvl) c M part) (t : Fin n) :
    Finset (Idx (M.view.loc c)) := (Finset.univ.map (K.emb t)).map M.view.emb

theorem Cut.parts {M : Memref sig c.2.kind sp s e} {part : Fin n → Memref sig c.2.kind sp s' e} (K : Cut (Ix := Ix) (Val := Val) (Name := Name) (U := U) (Lvl := Lvl) c M part) {q : PosShare TreeShare} (f : Buf Val (M.view.loc c)) :
    ((M.view.loc c ↦[M.view.set]{q} f) : sProp (MT nD τ sig Ix Val Name U Lvl)) = bigSep Finset.univ fun t => (M.view.loc c ↦[K.elts t]{q} f) :=
  Ring.pointsTo_sub_blocks (ℓ := M.view.loc c) K.elts K.disj M.view.set K.union f

theorem Cut.split {M : Memref sig c.2.kind sp s e} {part : Fin n → Memref sig c.2.kind sp s' e} (K : Cut (Ix := Ix) (Val := Val) (Name := Name) (U := U) (Lvl := Lvl) c M part) {q : PosShare TreeShare} {d : s.Idx → Val e} :
    (owns c M q d : sProp (MT nD τ sig Ix Val Name U Lvl)) ⊢ bigSep Finset.univ (fun t => iprop(∃ d, owns c (part t) q d)) := by
  have one : ∀ (f : Buf Val (M.view.loc c)) (t : Fin n), ((M.view.loc c ↦[K.elts t]{q} f) : sProp (MT nD τ sig Ix Val Name U Lvl)) ⊢ iprop(∃ d, owns c (part t) q d) := fun f t => by
    iintro H
    iexists fun y => M.view.read Val f (K.emb t y)
    rw [K.holds]
    iexists f
    isplitr; · ipureintro; exact fun _ => rfl
    iexact H
  have all : ∀ f : Buf Val (M.view.loc c), ((M.view.loc c ↦[M.view.set]{q} f) : sProp (MT nD τ sig Ix Val Name U Lvl)) ⊢ bigSep Finset.univ (fun t => iprop(∃ d, owns c (part t) q d)) := fun f =>
    (Entails.of_eq (K.parts f)).trans (Idealize.SL.BI.bigSep_mono fun t _ => one f t)
  unfold owns at *
  iintro ⟨%f, -, H⟩
  iapply (all f) $$ H

theorem Cut.join {M : Memref sig c.2.kind sp s e} {part : Fin n → Memref sig c.2.kind sp s' e} (K : Cut (Ix := Ix) (Val := Val) (Name := Name) (U := U) (Lvl := Lvl) c M part) {q : PosShare TreeShare}
    {X : s.Idx → Val e} {d : Fin n → s'.Idx → Val e} (hX : ∀ t y, X (K.emb t y) = d t y) (t₀ : Fin n) :
    bigSep Finset.univ (fun t => (owns c (part t) q (d t) : sProp (MT nD τ sig Ix Val Name U Lvl))) ⊢ owns c M q X := by
  have some_one : bigSep Finset.univ (fun t => (owns c (part t) q (d t) : sProp (MT nD τ sig Ix Val Name U Lvl)))
      ⊢ iprop(∃ _f : Buf Val (M.view.loc c), bigSep Finset.univ (fun t => (owns c (part t) q (d t) : sProp (MT nD τ sig Ix Val Name U Lvl)))) := by
    have he : bigSep Finset.univ (fun t => (owns c (part t) q (d t) : sProp (MT nD τ sig Ix Val Name U Lvl)))
        = iprop(owns c (part t₀) q (d t₀) ∗ bigSep (Finset.univ.erase t₀) (fun t => owns c (part t) q (d t))) := by
      conv_lhs => rw [← Finset.insert_erase (Finset.mem_univ t₀)]
      exact bigSep_insert (Finset.notMem_erase _ _)
    rw [he, K.holds]
    iintro ⟨⟨%f, %hf, H⟩, HR⟩
    iexists f
    isplitl [H]
    · iexists f
      isplitr; · ipureintro; exact hf
      iexact H
    iexact HR
  refine some_one.trans ?_
  iintro ⟨%f₀, H⟩
  iapply (?_ : bigSep Finset.univ (fun t => (owns c (part t) q (d t) : sProp (MT nD τ sig Ix Val Name U Lvl))) ⊢ owns c M q X) $$ H
  obtain ⟨g, hr⟩ : ∃ g : Buf Val (M.view.loc c), M.view.read Val g = X := ⟨M.view.write Val f₀ X Finset.univ, View.read_write_univ _ _⟩
  have one : ∀ t : Fin n, (owns c (part t) q (d t) : sProp (MT nD τ sig Ix Val Name U Lvl)) ⊢ ((M.view.loc c ↦[K.elts t]{q} g) : sProp (MT nD τ sig Ix Val Name U Lvl)) := fun t => by
    rw [K.holds]
    iintro ⟨%f, %hf, H⟩
    have he : ((M.view.loc c ↦[(Finset.univ.map (K.emb t)).map M.view.emb]{q} f) : sProp (MT nD τ sig Ix Val Name U Lvl)) = (M.view.loc c ↦[K.elts t]{q} g) := by
      refine pointsTo_congr fun i hi => ?_
      obtain ⟨z, hz, rfl⟩ := Finset.mem_map.mp hi
      obtain ⟨y, -, rfl⟩ := Finset.mem_map.mp hz
      exact View.eq_of_read_eq ((hf y).trans ((hX t y).symm.trans (congrFun hr _).symm))
    iapply (Entails.of_eq he) $$ H
  have whole : ((M.view.loc c ↦[M.view.set]{q} g) : sProp (MT nD τ sig Ix Val Name U Lvl)) ⊢ owns c M q X := by
    unfold owns
    iintro H
    iexists g
    isplitr; · ipureintro; exact hr
    iexact H
  exact (Idealize.SL.BI.bigSep_mono fun t _ => one t).trans ((Entails.of_eq (K.parts g).symm).trans whole)

end Parts

end Cert.Issue

end
-- ==== Proof.Experts.lean ====
/-
  The routed experts on their slots: slot `r` of block `b` runs the block's expert on the token the slot names.
-/
module

public import Idealize.ShloMosaic.PureOps.Ideal.Laws
public import Idealize.ShloMosaic.Lib.ValueIdxCore

@[expose] public section

noncomputable section

namespace Cert.Experts

open Idealize.ShloMosaic Idealize.ShloMosaic.ValueIdx

abbrev SE : Shape := ⟨1, ![576]⟩
abbrev ST : Shape := ⟨3, ![576, 1, 256]⟩
abbrev SX : Shape := ⟨2, ![262144, 128]⟩
abbrev SW : Shape := ⟨3, ![64, 2048, 512]⟩
abbrev SD : Shape := ⟨3, ![64, 512, 2048]⟩
abbrev SO : Shape := ⟨2, ![147456, 2048]⟩

/-- Feature `k` of a token: its 2048 features lie in sixteen rows of 128. -/
def feature (x : SX.Idx → EReal) (t : ℕ) (k : Fin 2048) : EReal :=
  x (ix2 ⟨(16 * t + k.val / 128) % 262144, Nat.mod_lt _ (by decide)⟩ ⟨k.val % 128, Nat.mod_lt _ (by decide)⟩)

/-- An expert's hidden unit on a row: the gate's product times its logistic, times the up product. -/
def unit (x : Fin 2048 → EReal) (g u : Fin 2048 → Fin 512 → EReal) (j : Fin 512) : EReal :=
  (∑ k : Fin 2048, x k * g k j) * Ideal.logistic (∑ k : Fin 2048, x k * g k j) * ∑ k : Fin 2048, x k * u k j

/-- An expert on a row. -/
def expert (x : Fin 2048 → EReal) (g u : Fin 2048 → Fin 512 → EReal) (d : Fin 512 → Fin 2048 → EReal) (o : Fin 2048) : EReal :=
  ∑ j : Fin 512, unit x g u j * d j o

/-- The expert of a block, and the token of a slot. -/
def name (e : SE.Idx → BitVec 32) (b : Fin 576) : Fin 64 := ⟨(e (ix1 b)).toNat % 64, Nat.mod_lt _ (by decide)⟩
def token (s : ST.Idx → BitVec 32) (b : Fin 576) (r : Fin 256) : ℕ := (s (ix3 b 0 r)).toNat

def atSlot (e : SE.Idx → BitVec 32) (s : ST.Idx → BitVec 32) (x : SX.Idx → EReal) (g u : SW.Idx → EReal) (d : SD.Idx → EReal)
    (b : Fin 576) (r : Fin 256) (o : Fin 2048) : EReal :=
  expert (feature x (token s b r)) (fun k j => g (ix3 (name e b) k j)) (fun k j => u (ix3 (name e b) k j)) (fun j o => d (ix3 (name e b) j o)) o

/-- Every slot's output row, block after block. -/
def target (e : SE.Idx → BitVec 32) (s : ST.Idx → BitVec 32) (x : SX.Idx → EReal) (g u : SW.Idx → EReal) (d : SD.Idx → EReal) : SO.Idx → EReal :=
  fun z => atSlot e s x g u d ⟨(z 0).val / 256, by have h := (z 0).isLt; change _ < 147456 at h; omega⟩ ⟨(z 0).val % 256, Nat.mod_lt _ (by decide)⟩ (z 1)

end Cert.Experts

end
-- ==== Proof.Kernel4Ideal.Kit.lean ====
/-
  What the launch starts from: the arrays as launched, the prefetched table, the windows' blocks, the scratch and the semaphores.
-/
module

public import Idealize.ShloMosaic.Lib.ValueIdxCore
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.Claim
public import proofs.«01_k».proof.Proof.Issue
public import proofs.«01_k».proof.Proof.Gen.Kernel4Ideal.Launch
public import proofs.«01_k».proof.Proof.Gen.Kernel4Ideal.Skeleton
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Issue

variable {F : FTy → Type} [FloatOps F]

variable (m : (ℓ : Loc nD τ sig) → Buf (Elt F) ℓ) (ρ : Dev nD → PrngReg)

/-- A core's buffers when the region is entered are the launched ones. -/
abbrev V (c : Dev nD) (b : Ref sig .tc) : Buf (Elt F) ((c : Thread nD τ).loc b) := m ((c : Thread nD τ).loc b)

set_option maxHeartbeats 800000 in
theorem mainIsRegion (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The prefetched table, read off the launch memory. -/
def tbl : pre0.Contents (Elt F) := fun j => V m (0 : Dev nD) (pre0.ref j)

theorem tbl_eq (c : Dev nD) (j : Fin 1) : V m c (pre0.ref j) = tbl m j := by
  obtain rfl : c = 0 := Subsingleton.elim _ _
  rfl

/-- The experts the table names exist. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- The body at a point, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole main_arg2) (Memref.isWhole_whole _) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) cc0_scratch2

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev at0 (hO : Ok m) (t : Fin (cfgM m hO).N) : Memref sig .tc .smem S1x1x256 .i32 := spec0_0.stage ((cfgM m hO).slots t 0)
abbrev at1 (hO : Ok m) (t : Fin (cfgM m hO).N) : Memref sig .tc .smem S1x1x256 .i32 := spec0_1.stage ((cfgM m hO).slots t 1)
abbrev at2 (hO : Ok m) (t : Fin (cfgM m hO).N) : Memref sig .tc .smem S1x1x256 .i32 := spec0_2.stage ((cfgM m hO).slots t 2)
abbrev at3 (hO : Ok m) (t : Fin (cfgM m hO).N) : Memref sig .tc .vmem S1x2048x512 .bf16 := spec0_3.stage ((cfgM m hO).slots t 3)
abbrev at4 (hO : Ok m) (t : Fin (cfgM m hO).N) : Memref sig .tc .vmem S1x2048x512 .bf16 := spec0_4.stage ((cfgM m hO).slots t 4)
abbrev at5 (hO : Ok m) (t : Fin (cfgM m hO).N) : Memref sig .tc .vmem S1x512x2048 .bf16 := spec0_5.stage ((cfgM m hO).slots t 5)
abbrev at6 (hO : Ok m) (t : Fin (cfgM m hO).N) : Memref sig .tc .vmem S1x2048x512 .bf16 := spec0_6.stage ((cfgM m hO).slots t 6)
abbrev at7 (hO : Ok m) (t : Fin (cfgM m hO).N) : Memref sig .tc .vmem S1x2048x512 .bf16 := spec0_7.stage ((cfgM m hO).slots t 7)
abbrev at8 (hO : Ok m) (t : Fin (cfgM m hO).N) : Memref sig .tc .vmem S1x512x2048 .bf16 := spec0_8.stage ((cfgM m hO).slots t 8)
abbrev at9 (hO : Ok m) (t : Fin (cfgM m hO).N) : Memref sig .tc .vmem S512x2048 .f32 := spec0_9.stage ((cfgM m hO).slots t 9)

abbrev cells : Fin 2 → SemLoc sig := fun j => (![SemLoc.dma 19, SemLoc.dma 20] : Fin 2 → SemLoc sig) j

theorem cells_own : Pipeline.OwnSemFacts spec0 cells := by decide

/-- The array the body copies from by itself. -/
def Own : Finset (Ref sig .tc) := {main_arg2}

theorem Own_sub : Own ⊆ Pipeline.restRefsP sig pre0 spec0 := by decide

/-- The half of the table the body is handed. -/
abbrev Table (c : Dev nD) : sProp (MT nD τ sig Unit (Elt F) ℕ (Pipeline.UD sig nD τ) ℕ) :=
  (Memref.whole main_arg0 : Memref sig .tc .smem S576 .i32).view.loc (c : Thread nD τ) ↦{fullShare.right} (tbl m 0)

theorem table_eq (c : Dev nD) : (Pipeline.ΦT pre0 (tbl m) c : sProp (MT nD τ sig Unit (Elt F) ℕ (Pipeline.UD sig nD τ) ℕ)) = Table m c := by
  unfold Pipeline.ΦT Pipeline.prefHeld
  rw [show (Finset.univ : Finset (Fin 1)) = {(0 : Fin 1)} from by decide, bigSep_singleton]
  rfl

/-- What the body finds and leaves when nothing is in flight. -/
abbrev Idle (c : Dev nD) : sProp (MT nD τ sig Unit (Elt F) ℕ (Pipeline.UD sig nD τ) ℕ) :=
  iprop(iprop((∃ d, owns (Val := Elt F) (c : Thread nD τ) (Memref.whole cc0_scratch0 : Memref sig .tc .vmem S4096x128 .f32) fullShare d) ∗ (∃ d, owns (Val := Elt F) (c : Thread nD τ) (Memref.whole cc0_scratch1 : Memref sig .tc .vmem S4096x128 .f32) fullShare d)) ∗ (∃ r, prngReg c r)
    ∗ iprop(semVal ((c : Thread nD τ), SemLoc.dma 19) 0 ∗ semVal ((c : Thread nD τ), SemLoc.dma 20) 0) ∗ (((c : Thread nD τ).loc main_arg2) ↦{fullShare} V m c main_arg2))

theorem idle_eq (c : Dev nD) : (Pipeline.ΦD cells spec0 Own (V m) c : sProp (MT nD τ sig Unit (Elt F) ℕ (Pipeline.UD sig nD τ) ℕ)) = Idle m c := by
  rw [Pipeline.ΦD_eq, scopedRest0_eq, Pipeline.ownSems0_eq_of_list c cells [0, 1] (by decide) (by decide),
    BI.bigSep_eq_bigSepL_of_eq [main_arg2] (by decide) (by decide)]
  unfold Idle
  simp only [owns_whole]
  rfl

/-- The argument arrays end as launched, whatever the data, so long as the data's arrays are the launched ones. -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_arg0 (by decide : main_arg0 ∈ Pipeline.restRefs sig spec0),
    ((h c).1 2).trans (((dats 0 c).arrAt_in 2 rfl _).trans (hA c 2)),
    (h c).2 main_arg2 (by decide : main_arg2 ∈ Pipeline.restRefs sig spec0),
    ((h c).1 6).trans (((dats 0 c).arrAt_in 6 rfl _).trans (hA c 6)),
    ((h c).1 7).trans (((dats 0 c).arrAt_in 7 rfl _).trans (hA c 7)),
    ((h c).1 8).trans (((dats 0 c).arrAt_in 8 rfl _).trans (hA c 8))⟩) h

end Cert.Kernel4Ideal.Moe

end
-- ==== Proof.Kernel4Ideal.Gather.lean ====
/-
  The gather of an expert block's rows: for each of a block's 256 tokens one copy of the token's 16 pieces of 128 out of
  the activations into its place in the row buffer, all on one counter. What is in flight, and one trip of eight copies.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton

@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

abbrev EC : UEmb Counters (MT nD τ sig Unit (Elt F) ℕ (Pipeline.UD sig nD τ) ℕ) := countersEmb

/-- The activations, the two row buffers and their counters. -/
abbrev H2 : Memref sig .tc .hbm S262144x128 .f32 := Memref.whole main_arg2
abbrev XA : Memref sig .tc .vmem S4096x128 .f32 := Memref.whole cc0_scratch0
abbrev XB : Memref sig .tc .vmem S4096x128 .f32 := Memref.whole cc0_scratch1
abbrev semA : DmaSem sig := ((cc0_scratch2.slice (Rect.unit (s := S2) ![0] S1.size inb_S2_S1_0)).squeeze S_ squeezes_S1_S_).sem
abbrev semB : DmaSem sig := ((cc0_scratch2.slice (Rect.unit (s := S2) ![1] S1.size inb_S2_S1_1)).squeeze S_ squeezes_S1_S_).sem

theorem slab_inb (t : Fin 256) : ∀ a, (![16 * t.val, 0] : Fin 2 → Nat) a + S16x128.size a ≤ S4096x128.size a
  | ⟨0, _⟩ => show 16 * t.val + 16 ≤ 4096 by have := t.isLt; omega
  | ⟨1, _⟩ => show 0 + 128 ≤ 128 by omega

/-- A token's place in a row buffer. -/
def slab (X : Memref sig .tc .vmem S4096x128 .f32) (t : Fin 256) : Memref sig .tc .vmem S16x128 .f32 :=
  X.slice (Rect.unit (s := S4096x128) ![16 * t.val, 0] S16x128.size (slab_inb t)) (fun _ => rfl)

/-- A token's row of the activations, as its 16 pieces. -/
def rowOf (h : S262144x128.Idx → Elt F .f32) (w : BitVec 32) : S16x128.Idx → Elt F .f32 :=
  fun y => h (ix2 ⟨(16 * w.toNat + (y 0).val) % 262144, Nat.mod_lt _ (by decide)⟩ (y 1))

variable (c : Dev nD)

/-- What the copy of token `t` hands back: its row in place, and the share of the activations it read from. -/
def Deliv (X : Memref sig .tc .vmem S4096x128 .f32) (x : S1x1x256.Idx → BitVec 32) (h : Buf (Elt F) ((c : Thread nD τ).loc main_arg2))
    (t : Fin 256) : sProp (MT nD τ sig Unit (Elt F) ℕ (Pipeline.UD sig nD τ) ℕ) :=
  iprop(owns (c : Thread nD τ) (slab X t) fullShare (rowOf h (x (ix3 0 0 t))) ∗ ((c : Thread nD τ).loc main_arg2 ↦{shareTokN fullShare t.val} h))

/-- What a copy not yet issued is to use. -/
def Wanted (X : Memref sig .tc .vmem S4096x128 .f32) (h : Buf (Elt F) ((c : Thread nD τ).loc main_arg2)) (t : Fin 256) : sProp (MT nD τ sig Unit (Elt F) ℕ (Pipeline.UD sig nD τ) ℕ) :=
  iprop((∃ d, owns (c : Thread nD τ) (slab X t) fullShare d) ∗ ((c : Thread nD τ).loc main_arg2 ↦{shareTokN fullShare t.val} h))

/-- The first `j` copies issued, the others to come. -/
def Issuing (sem : DmaSem sig) (X : Memref sig .tc .vmem S4096x128 .f32) (x : S1x1x256.Idx → BitVec 32)
    (h : Buf (Elt F) ((c : Thread nD τ).loc main_arg2)) (j : ℕ) : sProp (MT nD τ sig Unit (Elt F) ℕ (Pipeline.UD sig nD τ) ℕ) :=
  iprop(Batch EC (c : Thread nD τ) (.dma sem) () 256 (Deliv c X x h) j 0 ∗ bigSep (pending j) (Wanted c X h))

variable {α : Type} {c}

theorem read_row (h : Buf (Elt F) ((c : Thread nD τ).loc main_arg2)) (w : BitVec 32) (hw : w.toNat < 16384) (off : Fin 2 → Nat)
    (ho : off = ![16 * w.toNat, 0]) (inb : ∀ a, off a + S16x128.size a ≤ S262144x128.size a) :
    (H2.slice (Rect.unit (s := S262144x128) off S16x128.size inb) (fun _ => rfl)).view.read (Elt F) h = rowOf h w := by
  subst ho
  funext y
  unfold rowOf
  have h0 : (y 0).val < 16 := (y 0).isLt
  refine congrArg h (funext fun a => Fin.ext ?_)
  match a with
  | ⟨0, _⟩ => show 16 * w.toNat + 1 * (y 0).val = (16 * w.toNat + (y 0).val) % 262144
              rw [Nat.mod_eq_of_lt (by omega)]; omega
  | ⟨1, _⟩ => show 0 + 1 * (y 1).val = (y 1).val
              omega

/-- One copy. -/
theorem copy {sem : DmaSem sig} {X : Memref sig .tc .vmem S4096x128 .f32} {x : S1x1x256.Idx → BitVec 32}
    {h : Buf (Elt F) ((c : Thread nD τ).loc main_arg2)} {R : sProp (MT nD τ sig Unit (Elt F) ℕ (Pipeline.UD sig nD τ) ℕ)} (n : ℕ) (hn : n < 256) {offD offS : Fin 2 → Nat}
    (hD : offD = ![16 * n, 0]) (hlt : (x (ix3 0 0 ⟨n, hn⟩)).toNat < 16384) (hS : offS = ![16 * (x (ix3 0 0 ⟨n, hn⟩)).toNat, 0])
    (hN : ∀ t, (slab X t).view.amount (.dma sem) = 256)
    {inbD : ∀ a, offD a + S16x128.size a ≤ S4096x128.size a} {inbS : ∀ a, offS a + S16x128.size a ≤ S262144x128.size a}
    {w1 : (H2.slice (Rect.unit (s := S262144x128) offS S16x128.size inbS) (fun _ => rfl)).view.WordExact}
    {w2 : (X.slice (Rect.unit (s := S4096x128) offD S16x128.size inbD) (fun _ => rfl)).view.WordExact} {w3} :
    iprop(Issuing c sem X x h n ∗ R)
      ⊢ wp frame (wpE (defs₀ (F := F)) Variants.none (c : Thread nD τ) none) Set.univ
          (Prog.lift (.enqueueDma (H2.slice (Rect.unit (s := S262144x128) offS S16x128.size inbS) (fun _ => rfl))
            (.here (X.slice (Rect.unit (s := S4096x128) offD S16x128.size inbD) (fun _ => rfl))) (.dma sem) w1 w2 w3))
          (fun a => iprop(⌜a = ⟨⟩⌝ ∗ Issuing c sem X x h (n + 1) ∗ R)) := by
  subst hD
  unfold Issuing
  rw [bigSep_pending_step _ n hn]
  unfold Wanted
  iintro ⟨⟨HB, ⟨Hd, Hs⟩, HP⟩, HR⟩
  iapply (issue EC Variants.none (c : Thread nD τ) none (dst := slab X ⟨n, hn⟩) () 256 (hN _) hn (fs := h) (q := shareTokN fullShare n) (D := Deliv c X x h) (by
    unfold Deliv
    rw [read_row h _ hlt _ hS])) $$ [HB Hd Hs]
  · isplitl [Hs]; · iexact Hs
    isplitl [Hd]; · iexact Hd
    iexact HB
  iintro HB
  isplitr; · ipureintro; rfl
  isplitl [HB HP]
  · isplitl [HB]; · iexact HB
    iexact HP
  iexact HR

/-- A token read. -/
theorem token {sem : DmaSem sig} {X : Memref sig .tc .vmem S4096x128 .f32} {x : S1x1x256.Idx → BitVec 32}
    {h : Buf (Elt F) ((c : Thread nD τ).loc main_arg2)} {M : Memref sig .tc .smem S1x1x256 .i32} {j : ℕ} (n : ℕ) (hn : n < 256) {off : Fin 3 → Nat}
    (ho : off = ![0, 0, n]) {inb : ∀ a, off a + S1x1x1.size a ≤ S1x1x256.size a} {h1 hp} :
    iprop(Issuing c sem X x h j ∗ owns (Val := Elt F) (c : Thread nD τ) M fullShare x)
      ⊢ wp frame (wpE (defs₀ (F := F)) Variants.none (c : Thread nD τ) none) Set.univ
          (smemLoad M (Rect.unit (s := S1x1x256) off S1x1x1.size inb) h1 hp)
          (fun a => iprop(⌜a = x (ix3 0 0 ⟨n, hn⟩)⌝ ∗ Issuing c sem X x h j ∗ owns (Val := Elt F) (c : Thread nD τ) M fullShare x)) := by
  subst ho
  iintro ⟨HI, Hx⟩
  iapply (wordAt Variants.none (c : Thread nD τ) none (ix3 0 0 ⟨n, hn⟩) (fun y => by
    have h0 : (y 0).val < 1 := (y 0).isLt
    have h1 : (y 1).val < 1 := (y 1).isLt
    have h2 : (y 2).val < 1 := (y 2).isLt
    funext a; apply Fin.ext
    match a with
    | ⟨0, _⟩ => show 0 + 1 * (y 0).val = 0; omega
    | ⟨1, _⟩ => show 0 + 1 * (y 1).val = 0; omega
    | ⟨2, _⟩ => show n + 1 * (y 2).val = n; omega)) $$ Hx
  iintro Hx
  isplitr; · ipureintro; rfl
  isplitl [HI]; · iexact HI
  iexact Hx

theorem withFact {φ : Prop} {P Q : sProp (MT nD τ sig Unit (Elt F) ℕ (Pipeline.UD sig nD τ) ℕ)} (h : φ → P ⊢ Q) : iprop(⌜φ⌝ ∗ P) ⊢ Q := by
  iintro ⟨%hφ, H⟩
  iapply h hφ $$ H

/-- A check that holds. -/
theorem checked {P : Prop} {d : Decidable P} {R : sProp (MT nD τ sig Unit (Elt F) ℕ (Pipeline.UD sig nD τ) ℕ)} (h : P) :
    R ⊢ wp frame (wpE (defs₀ (F := F)) Variants.none (c : Thread nD τ) none) Set.univ (Prog.lift (.assume P d)) (fun a => iprop(⌜a = ⟨h⟩⌝ ∗ R)) := by
  iintro H
  iapply (check Variants.none (c : Thread nD τ) none h)
  isplitr; · ipureintro; rfl
  iexact H

theorem mul16 (v : BitVec 32) (hv : v.toNat < 16384) : (v * 16#32).toNat = 16 * v.toNat := by
  rw [BitVec.toNat_mul, show (16#32 : BitVec 32).toNat = 16 from rfl, Nat.mod_eq_of_lt (by omega)]; omega

theorem row16 (v : BitVec 32) (hv : v.toNat < 16384) : (![(v * 16#32).toNat, 0] : Fin 2 → Nat) = ![16 * v.toNat, 0] := by
  rw [mul16 v hv]

theorem row_dvd (v : BitVec 32) (hv : v.toNat < 16384) : 16 ∣ (v * 16#32).toNat := mul16 v hv ▸ Nat.dvd_mul_right 16 _

theorem piece_inb (v : BitVec 32) (hv : v.toNat < 16384) : ∀ a, (![(v * 16#32).toNat, 0] : Fin 2 → Nat) a + S16x128.size a ≤ S262144x128.size a
  | ⟨0, _⟩ => show (v * 16#32).toNat + 16 ≤ 262144 by rw [mul16 v hv]; omega
  | ⟨1, _⟩ => show 0 + 128 ≤ 128 by omega

theorem amountA (t : Fin 256) : (slab XA t).view.amount (.dma semA) = 256 := rfl
theorem amountB (t : Fin 256) : (slab XB t).view.amount (.dma semB) = 256 := rfl

end Cert.Kernel4Ideal.Moe

end
-- ==== Proof.Kernel4Ideal.Trips.lean ====
/-
  One trip of each of the three gathers: eight tokens read and their copies issued.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Gather
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

variable {c : Dev nD}
variable (i : grid0.Coords)
variable (arg1 : Memref sig .tc .smem S576 .i32) (harg1 : arg1.IsWhole)
variable (arg2 : Memref sig .tc .smem S1x1x256 .i32) (harg2 : arg2.IsWhole)
variable (arg3 : Memref sig .tc .smem S1x1x256 .i32) (harg3 : arg3.IsWhole)
variable (arg4 : Memref sig .tc .smem S1x1x256 .i32) (harg4 : arg4.IsWhole)
variable (arg6 : Memref sig .tc .vmem S1x2048x512 .bf16) (harg6 : arg6.IsWhole)
variable (arg7 : Memref sig .tc .vmem S1x2048x512 .bf16) (harg7 : arg7.IsWhole)
variable (arg8 : Memref sig .tc .vmem S1x512x2048 .bf16) (harg8 : arg8.IsWhole)
variable (arg9 : Memref sig .tc .vmem S1x2048x512 .bf16) (harg9 : arg9.IsWhole)
variable (arg10 : Memref sig .tc .vmem S1x2048x512 .bf16) (harg10 : arg10.IsWhole)
variable (arg11 : Memref sig .tc .vmem S1x512x2048 .bf16) (harg11 : arg11.IsWhole)
variable (arg12 : Memref sig .tc .vmem S512x2048 .f32) (harg12 : arg12.IsWhole)
variable (x : S1x1x256.Idx → BitVec 32) (h : Buf (Elt F) ((c : Thread nD τ).loc main_arg2))

theorem trips1 (k : Fin k0_t1_loop.trips) : k.val < 32 := Nat.lt_of_lt_of_le k.isLt (by decide)

theorem k0_off2_eq : ∀ k : Fin k0_t1_loop.trips, k0_off2 k = ![0, 0, 8 * k.val + 0] := by decide +kernel
theorem k0_off3_eq : ∀ k : Fin k0_t1_loop.trips, k0_off3 k = ![16 * (8 * k.val + 0), 0] := by decide +kernel
theorem k0_off5_eq : ∀ k : Fin k0_t1_loop.trips, k0_off5 k = ![0, 0, 8 * k.val + 1] := by decide +kernel
theorem k0_off6_eq : ∀ k : Fin k0_t1_loop.trips, k0_off6 k = ![16 * (8 * k.val + 1), 0] := by decide +kernel
theorem k0_off8_eq : ∀ k : Fin k0_t1_loop.trips, k0_off8 k = ![0, 0, 8 * k.val + 2] := by decide +kernel

theorem part1 (hx : ∀ t, (x (ix3 0 0 t)).toNat < 16384) (k : Fin k0_t1_loop.trips) (k0_h1 : k0_cond1 i = 1#1) (c0_i32_2642 : BitVec 32) (c1_i32_2644 : BitVec 32) :
    iprop(Issuing c semA XA x h (8 * k.val + 0) ∗ owns (Val := Elt F) (c : Thread nD τ) arg2 fullShare x)
      ⊢ wp frame (wpE (defs₀ (F := F)) Variants.none (c : Thread nD τ) none) Set.univ (k0_part1 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k0_h1 c0_i32_2642 c1_i32_2644 k)
          (fun a => iprop(⌜a.2.2.1 = x (ix3 0 0 ⟨8 * k.val + 2, by have := trips1 k; omega⟩)⌝ ∗ Issuing c semA XA x h (8 * k.val + 2) ∗ owns (Val := Elt F) (c : Thread nD τ) arg2 fullShare x)) := by
  have hk := trips1 k
  rw [k0_part1_eq_skeleton]
  unfold k0_part1_skel
  refine seqAt _ _ _ _ (token (8 * k.val + 0) (by omega) (k0_off2_eq k)) ?_
  refine seqAt _ _ _ _ (checked ⟨fun _ => row_dvd _ (hx _), fun _ => piece_inb _ (hx _)⟩) ?_
  refine seqAt _ _ _ ⟨⟩ (copy (8 * k.val + 0) (by omega) (k0_off3_eq k) (hx _) (row16 _ (hx _)) amountA) ?_
  refine seqAt _ _ _ _ (token (8 * k.val + 1) (by omega) (k0_off5_eq k)) ?_
  refine seqAt _ _ _ _ (checked ⟨fun _ => row_dvd _ (hx _), fun _ => piece_inb _ (hx _)⟩) ?_
  refine seqAt _ _ _ ⟨⟩ (copy (8 * k.val + 1) (by omega) (k0_off6_eq k) (hx _) (row16 _ (hx _)) amountA) ?_
  refine seqAt _ _ _ _ (token (8 * k.val + 2) (by omega) (k0_off8_eq k)) ?_
  refine seqAt _ _ _ _ (checked ⟨fun _ => row_dvd _ (hx _), fun _ => piece_inb _ (hx _)⟩) ?_
  iintro H
  iapply (le_wp_ret frame (wpE (defs₀ (F := F)) Variants.none (c : Thread nD τ) none) Set.univ)
  isplitr; · ipureintro; rfl
  iexact H

theorem k0_off9_eq : ∀ k : Fin k0_t1_loop.trips, k0_off9 k = ![16 * (8 * k.val + 2), 0] := by decide +kernel
theorem k0_off11_eq : ∀ k : Fin k0_t1_loop.trips, k0_off11 k = ![0, 0, 8 * k.val + 3] := by decide +kernel
theorem k0_off12_eq : ∀ k : Fin k0_t1_loop.trips, k0_off12 k = ![16 * (8 * k.val + 3), 0] := by decide +kernel
theorem k0_off14_eq : ∀ k : Fin k0_t1_loop.trips, k0_off14 k = ![0, 0, 8 * k.val + 4] := by decide +kernel
theorem k0_off15_eq : ∀ k : Fin k0_t1_loop.trips, k0_off15 k = ![16 * (8 * k.val + 4), 0] := by decide +kernel

theorem part2 (hx : ∀ t, (x (ix3 0 0 t)).toNat < 16384) (k : Fin k0_t1_loop.trips) (k0_h1 : k0_cond1 i = 1#1) (arg16 : BitVec 32) (v2146 : BitVec 32) (v2148 : Elt F .i32) (k0_hw3 : k0_chk3 i v2148) (c16_i32_2666 : BitVec 32) (hv : v2148 = x (ix3 0 0 ⟨8 * k.val + 2, by have := trips1 k; omega⟩)) :
    iprop(Issuing c semA XA x h (8 * k.val + 2) ∗ owns (Val := Elt F) (c : Thread nD τ) arg2 fullShare x)
      ⊢ wp frame (wpE (defs₀ (F := F)) Variants.none (c : Thread nD τ) none) Set.univ (k0_part2 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k0_h1 k arg16 v2146 v2148 k0_hw3 c16_i32_2666)
          (fun _ => iprop(Issuing c semA XA x h (8 * k.val + 5) ∗ owns (Val := Elt F) (c : Thread nD τ) arg2 fullShare x)) := by
  have hk := trips1 k
  subst hv
  rw [k0_part2_eq_skeleton]
  unfold k0_part2_skel
  refine seqAt _ _ _ ⟨⟩ (copy (8 * k.val + 2) (by omega) (k0_off9_eq k) (hx _) (row16 _ (hx _)) amountA) ?_
  refine seqAt _ _ _ _ (token (8 * k.val + 3) (by omega) (k0_off11_eq k)) ?_
  refine seqAt _ _ _ _ (checked ⟨fun _ => row_dvd _ (hx _), fun _ => piece_inb _ (hx _)⟩) ?_
  refine seqAt _ _ _ ⟨⟩ (copy (8 * k.val + 3) (by omega) (k0_off12_eq k) (hx _) (row16 _ (hx _)) amountA) ?_
  refine seqAt _ _ _ _ (token (8 * k.val + 4) (by omega) (k0_off14_eq k)) ?_
  refine seqAt _ _ _ _ (checked ⟨fun _ => row_dvd _ (hx _), fun _ => piece_inb _ (hx _)⟩) ?_
  refine seqAt _ _ _ ⟨⟩ (copy (8 * k.val + 4) (by omega) (k0_off15_eq k) (hx _) (row16 _ (hx _)) amountA) ?_
  exact le_wp_ret frame (wpE (defs₀ (F := F)) Variants.none (c : Thread nD τ) none) Set.univ _ _

theorem k0_off17_eq : ∀ k : Fin k0_t1_loop.trips, k0_off17 k = ![0, 0, 8 * k.val + 5] := by decide +kernel
theorem k0_off18_eq : ∀ k : Fin k0_t1_loop.trips, k0_off18 k = ![16 * (8 * k.val + 5), 0] := by decide +kernel
theorem k0_off20_eq : ∀ k : Fin k0_t1_loop.trips, k0_off20 k = ![0, 0, 8 * k.val + 6] := by decide +kernel
theorem k0_off21_eq : ∀ k : Fin k0_t1_loop.trips, k0_off21 k = ![16 * (8 * k.val + 6), 0] := by decide +kernel
theorem k0_off23_eq : ∀ k : Fin k0_t1_loop.trips, k0_off23 k = ![0, 0, 8 * k.val + 7] := by decide +kernel

theorem part3 (hx : ∀ t, (x (ix3 0 0 t)).toNat < 16384) (k : Fin k0_t1_loop.trips) (k0_h1 : k0_cond1 i = 1#1) (arg16 : BitVec 32) (v2182 : BitVec 32) :
    iprop(Issuing c semA XA x h (8 * k.val + 5) ∗ owns (Val := Elt F) (c : Thread nD τ) arg2 fullShare x)
      ⊢ wp frame (wpE (defs₀ (F := F)) Variants.none (c : Thread nD τ) none) Set.univ (k0_part3 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k0_h1 k arg16 v2182)
          (fun a => iprop(⌜a.1 = x (ix3 0 0 ⟨8 * k.val + 7, by have := trips1 k; omega⟩)⌝ ∗ Issuing c semA XA x h (8 * k.val + 7) ∗ owns (Val := Elt F) (c : Thread nD τ) arg2 fullShare x)) := by
  have hk := trips1 k
  rw [k0_part3_eq_skeleton]
  unfold k0_part3_skel
  refine seqAt _ _ _ _ (token (8 * k.val + 5) (by omega) (k0_off17_eq k)) ?_
  refine seqAt _ _ _ _ (checked ⟨fun _ => row_dvd _ (hx _), fun _ => piece_inb _ (hx _)⟩) ?_
  refine seqAt _ _ _ ⟨⟩ (copy (8 * k.val + 5) (by omega) (k0_off18_eq k) (hx _) (row16 _ (hx _)) amountA) ?_
  refine seqAt _ _ _ _ (token (8 * k.val + 6) (by omega) (k0_off20_eq k)) ?_
  refine seqAt _ _ _ _ (checked ⟨fun _ => row_dvd _ (hx _), fun _ => piece_inb _ (hx _)⟩) ?_
  refine seqAt _ _ _ ⟨⟩ (copy (8 * k.val + 6) (by omega) (k0_off21_eq k) (hx _) (row16 _ (hx _)) amountA) ?_
  refine seqAt _ _ _ _ (token (8 * k.val + 7) (by omega) (k0_off23_eq k)) ?_
  refine seqAt _ _ _ _ (checked ⟨fun _ => row_dvd _ (hx _), fun _ => piece_inb _ (hx _)⟩) ?_
  iintro H
  iapply (le_wp_ret frame (wpE (defs₀ (F := F)) Variants.none (c : Thread nD τ) none) Set.univ)
  isplitr; · ipureintro; rfl
  iexact H

theorem k0_off24_eq : ∀ k : Fin k0_t1_loop.trips, k0_off24 k = ![16 * (8 * k.val + 7), 0] := by decide +kernel

/-- One trip of gather 1. -/
theorem trip1 (hx : ∀ t, (x (ix3 0 0 t)).toNat < 16384) (k : Fin k0_t1_loop.trips) (k0_h1 : k0_cond1 i = 1#1) :
    iprop(Issuing c semA XA x h (8 * k.val) ∗ owns (Val := Elt F) (c : Thread nD τ) arg2 fullShare x)
      ⊢ wp frame (wpE (defs₀ (F := F)) Variants.none (c : Thread nD τ) none) Set.univ (k0_t1_body i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k0_h1 k ())
          (fun _ => iprop(Issuing c semA XA x h (8 * (k.val + 1)) ∗ owns (Val := Elt F) (c : Thread nD τ) arg2 fullShare x)) := by
  have hk := trips1 k
  unfold k0_t1_body
  refine seqAny _ _ _ (part1 i arg1 harg1 arg2 harg2 arg3 harg3 arg4 harg4 arg6 harg6 arg7 harg7 arg8 harg8 arg9 harg9 arg10 harg10 arg11 harg11 arg12 harg12 x h hx k k0_h1 _ _) (fun ⟨a, v, w, hw, d⟩ => ?_)
  refine withFact fun hv => ?_
  refine seqAny _ _ _ (part2 i arg1 harg1 arg2 harg2 arg3 harg3 arg4 harg4 arg6 harg6 arg7 harg7 arg8 harg8 arg9 harg9 arg10 harg10 arg11 harg11 arg12 harg12 x h hx k k0_h1 a v w hw d hv) (fun r => ?_)
  refine seqAny _ _ _ (part3 i arg1 harg1 arg2 harg2 arg3 harg3 arg4 harg4 arg6 harg6 arg7 harg7 arg8 harg8 arg9 harg9 arg10 harg10 arg11 harg11 arg12 harg12 x h hx k k0_h1 a r) (fun ⟨w, hw⟩ => ?_)
  refine withFact fun hv => ?_
  dsimp only at hv
  subst hv
  refine seqAt _ _ _ ⟨⟩ (copy (8 * k.val + 7) (by omega) (k0_off24_eq k) (hx _) (row16 _ (hx _)) amountA) ?_
  exact le_wp_ret frame (wpE (defs₀ (F := F)) Variants.none (c : Thread nD τ) none) Set.univ _ _

theorem trips2 (k : Fin k0_t2_loop.trips) : k.val < 32 := Nat.lt_of_lt_of_le k.isLt (by decide)

theorem k0_off26_eq : ∀ k : Fin k0_t2_loop.trips, k0_off26 k = ![0, 0, 8 * k.val + 0] := by decide +kernel
theorem k0_off27_eq : ∀ k : Fin k0_t2_loop.trips, k0_off27 k = ![16 * (8 * k.val + 0), 0] := by decide +kernel
theorem k0_off29_eq : ∀ k : Fin k0_t2_loop.trips, k0_off29 k = ![0, 0, 8 * k.val + 1] := by decide +kernel
theorem k0_off30_eq : ∀ k : Fin k0_t2_loop.trips, k0_off30 k = ![16 * (8 * k.val + 1), 0] := by decide +kernel
theorem k0_off32_eq : ∀ k : Fin k0_t2_loop.trips, k0_off32 k = ![0, 0, 8 * k.val + 2] := by decide +kernel

theorem part4 (hx : ∀ t, (x (ix3 0 0 t)).toNat < 16384) (k : Fin k0_t2_loop.trips) (c0_i32_1281 : BitVec 32) (c1_i32 : BitVec 32) :
    iprop(Issuing c semB XB x h (8 * k.val + 0) ∗ owns (Val := Elt F) (c : Thread nD τ) arg3 fullShare x)
      ⊢ wp frame (wpE (defs₀ (F := F)) Variants.none (c : Thread nD τ) none) Set.univ (k0_part4 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 c0_i32_1281 c1_i32 k)
          (fun a => iprop(⌜a.2.2.1 = x (ix3 0 0 ⟨8 * k.val + 2, by have := trips2 k; omega⟩)⌝ ∗ Issuing c semB XB x h (8 * k.val + 2) ∗ owns (Val := Elt F) (c : Thread nD τ) arg3 fullShare x)) := by
  have hk := trips2 k
  rw [k0_part4_eq_skeleton]
  unfold k0_part4_skel
  refine seqAt _ _ _ _ (token (8 * k.val + 0) (by omega) (k0_off26_eq k)) ?_
  refine seqAt _ _ _ _ (checked ⟨row_dvd _ (hx _), piece_inb _ (hx _)⟩) ?_
  refine seqAt _ _ _ ⟨⟩ (copy (8 * k.val + 0) (by omega) (k0_off27_eq k) (hx _) (row16 _ (hx _)) amountB) ?_
  refine seqAt _ _ _ _ (token (8 * k.val + 1) (by omega) (k0_off29_eq k)) ?_
  refine seqAt _ _ _ _ (checked ⟨row_dvd _ (hx _), piece_inb _ (hx _)⟩) ?_
  refine seqAt _ _ _ ⟨⟩ (copy (8 * k.val + 1) (by omega) (k0_off30_eq k) (hx _) (row16 _ (hx _)) amountB) ?_
  refine seqAt _ _ _ _ (token (8 * k.val + 2) (by omega) (k0_off32_eq k)) ?_
  refine seqAt _ _ _ _ (checked ⟨row_dvd _ (hx _), piece_inb _ (hx _)⟩) ?_
  iintro H
  iapply (le_wp_ret frame (wpE (defs₀ (F := F)) Variants.none (c : Thread nD τ) none) Set.univ)
  isplitr; · ipureintro; rfl
  iexact H

theorem k0_off33_eq : ∀ k : Fin k0_t2_loop.trips, k0_off33 k = ![16 * (8 * k.val + 2), 0] := by decide +kernel
theorem k0_off35_eq : ∀ k : Fin k0_t2_loop.trips, k0_off35 k = ![0, 0, 8 * k.val + 3] := by decide +kernel
theorem k0_off36_eq : ∀ k : Fin k0_t2_loop.trips, k0_off36 k = ![16 * (8 * k.val + 3), 0] := by decide +kernel
theorem k0_off38_eq : ∀ k : Fin k0_t2_loop.trips, k0_off38 k = ![0, 0, 8 * k.val + 4] := by decide +kernel
theorem k0_off39_eq : ∀ k : Fin k0_t2_loop.trips, k0_off39 k = ![16 * (8 * k.val + 4), 0] := by decide +kernel

theorem part5 (hx : ∀ t, (x (ix3 0 0 t)).toNat < 16384) (k : Fin k0_t2_loop.trips) (arg16 : BitVec 32) (v2145 : BitVec 32) (v2147 : Elt F .i32) (k0_hw11 : k0_chk11 v2147) (c16_i32_2662 : BitVec 32) (hv : v2147 = x (ix3 0 0 ⟨8 * k.val + 2, by have := trips2 k; omega⟩)) :
    iprop(Issuing c semB XB x h (8 * k.val + 2) ∗ owns (Val := Elt F) (c : Thread nD τ) arg3 fullShare x)
      ⊢ wp frame (wpE (defs₀ (F := F)) Variants.none (c : Thread nD τ) none) Set.univ (k0_part5 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k arg16 v2145 v2147 k0_hw11 c16_i32_2662)
          (fun _ => iprop(Issuing c semB XB x h (8 * k.val + 5) ∗ owns (Val := Elt F) (c : Thread nD τ) arg3 fullShare x)) := by
  have hk := trips2 k
  subst hv
  rw [k0_part5_eq_skeleton]
  unfold k0_part5_skel
  refine seqAt _ _ _ ⟨⟩ (copy (8 * k.val + 2) (by omega) (k0_off33_eq k) (hx _) (row16 _ (hx _)) amountB) ?_
  refine seqAt _ _ _ _ (token (8 * k.val + 3) (by omega) (k0_off35_eq k)) ?_
  refine seqAt _ _ _ _ (checked ⟨row_dvd _ (hx _), piece_inb _ (hx _)⟩) ?_
  refine seqAt _ _ _ ⟨⟩ (copy (8 * k.val + 3) (by omega) (k0_off36_eq k) (hx _) (row16 _ (hx _)) amountB) ?_
  refine seqAt _ _ _ _ (token (8 * k.val + 4) (by omega) (k0_off38_eq k)) ?_
  refine seqAt _ _ _ _ (checked ⟨row_dvd _ (hx _), piece_inb _ (hx _)⟩) ?_
  refine seqAt _ _ _ ⟨⟩ (copy (8 * k.val + 4) (by omega) (k0_off39_eq k) (hx _) (row16 _ (hx _)) amountB) ?_
  exact le_wp_ret frame (wpE (defs₀ (F := F)) Variants.none (c : Thread nD τ) none) Set.univ _ _

theorem k0_off41_eq : ∀ k : Fin k0_t2_loop.trips, k0_off41 k = ![0, 0, 8 * k.val + 5] := by decide +kernel
theorem k0_off42_eq : ∀ k : Fin k0_t2_loop.trips, k0_off42 k = ![16 * (8 * k.val + 5), 0] := by decide +kernel
theorem k0_off44_eq : ∀ k : Fin k0_t2_loop.trips, k0_off44 k = ![0, 0, 8 * k.val + 6] := by decide +kernel
theorem k0_off45_eq : ∀ k : Fin k0_t2_loop.trips, k0_off45 k = ![16 * (8 * k.val + 6), 0] := by decide +kernel
theorem k0_off47_eq : ∀ k : Fin k0_t2_loop.trips, k0_off47 k = ![0, 0, 8 * k.val + 7] := by decide +kernel

theorem part6 (hx : ∀ t, (x (ix3 0 0 t)).toNat < 16384) (k : Fin k0_t2_loop.trips) (arg16 : BitVec 32) (v2181 : BitVec 32) :
    iprop(Issuing c semB XB x h (8 * k.val + 5) ∗ owns (Val := Elt F) (c : Thread nD τ) arg3 fullShare x)
      ⊢ wp frame (wpE (defs₀ (F := F)) Variants.none (c : Thread nD τ) none) Set.univ (k0_part6 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k arg16 v2181)
          (fun a => iprop(⌜a.1 = x (ix3 0 0 ⟨8 * k.val + 7, by have := trips2 k; omega⟩)⌝ ∗ Issuing c semB XB x h (8 * k.val + 7) ∗ owns (Val := Elt F) (c : Thread nD τ) arg3 fullShare x)) := by
  have hk := trips2 k
  rw [k0_part6_eq_skeleton]
  unfold k0_part6_skel
  refine seqAt _ _ _ _ (token (8 * k.val + 5) (by omega) (k0_off41_eq k)) ?_
  refine seqAt _ _ _ _ (checked ⟨row_dvd _ (hx _), piece_inb _ (hx _)⟩) ?_
  refine seqAt _ _ _ ⟨⟩ (copy (8 * k.val + 5) (by omega) (k0_off42_eq k) (hx _) (row16 _ (hx _)) amountB) ?_
  refine seqAt _ _ _ _ (token (8 * k.val + 6) (by omega) (k0_off44_eq k)) ?_
  refine seqAt _ _ _ _ (checked ⟨row_dvd _ (hx _), piece_inb _ (hx _)⟩) ?_
  refine seqAt _ _ _ ⟨⟩ (copy (8 * k.val + 6) (by omega) (k0_off45_eq k) (hx _) (row16 _ (hx _)) amountB) ?_
  refine seqAt _ _ _ _ (token (8 * k.val + 7) (by omega) (k0_off47_eq k)) ?_
  refine seqAt _ _ _ _ (checked ⟨row_dvd _ (hx _), piece_inb _ (hx _)⟩) ?_
  iintro H
  iapply (le_wp_ret frame (wpE (defs₀ (F := F)) Variants.none (c : Thread nD τ) none) Set.univ)
  isplitr; · ipureintro; rfl
  iexact H

theorem k0_off48_eq : ∀ k : Fin k0_t2_loop.trips, k0_off48 k = ![16 * (8 * k.val + 7), 0] := by decide +kernel

/-- One trip of gather 2. -/
theorem trip2 (hx : ∀ t, (x (ix3 0 0 t)).toNat < 16384) (k : Fin k0_t2_loop.trips) :
    iprop(Issuing c semB XB x h (8 * k.val) ∗ owns (Val := Elt F) (c : Thread nD τ) arg3 fullShare x)
      ⊢ wp frame (wpE (defs₀ (F := F)) Variants.none (c : Thread nD τ) none) Set.univ (k0_t2_body i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k ())
          (fun _ => iprop(Issuing c semB XB x h (8 * (k.val + 1)) ∗ owns (Val := Elt F) (c : Thread nD τ) arg3 fullShare x)) := by
  have hk := trips2 k
  unfold k0_t2_body
  refine seqAny _ _ _ (part4 i arg1 harg1 arg2 harg2 arg3 harg3 arg4 harg4 arg6 harg6 arg7 harg7 arg8 harg8 arg9 harg9 arg10 harg10 arg11 harg11 arg12 harg12 x h hx k _ _) (fun ⟨a, v, w, hw, d⟩ => ?_)
  refine withFact fun hv => ?_
  refine seqAny _ _ _ (part5 i arg1 harg1 arg2 harg2 arg3 harg3 arg4 harg4 arg6 harg6 arg7 harg7 arg8 harg8 arg9 harg9 arg10 harg10 arg11 harg11 arg12 harg12 x h hx k a v w hw d hv) (fun r => ?_)
  refine seqAny _ _ _ (part6 i arg1 harg1 arg2 harg2 arg3 harg3 arg4 harg4 arg6 harg6 arg7 harg7 arg8 harg8 arg9 harg9 arg10 harg10 arg11 harg11 arg12 harg12 x h hx k a r) (fun ⟨w, hw⟩ => ?_)
  refine withFact fun hv => ?_
  dsimp only at hv
  subst hv
  refine seqAt _ _ _ ⟨⟩ (copy (8 * k.val + 7) (by omega) (k0_off48_eq k) (hx _) (row16 _ (hx _)) amountB) ?_
  exact le_wp_ret frame (wpE (defs₀ (F := F)) Variants.none (c : Thread nD τ) none) Set.univ _ _

theorem trips3 (k : Fin k0_t3_loop.trips) : k.val < 32 := Nat.lt_of_lt_of_le k.isLt (by decide)

theorem k0_off50_eq : ∀ k : Fin k0_t3_loop.trips, k0_off50 k = ![0, 0, 8 * k.val + 0] := by decide +kernel
theorem k0_off51_eq : ∀ k : Fin k0_t3_loop.trips, k0_off51 k = ![16 * (8 * k.val + 0), 0] := by decide +kernel
theorem k0_off53_eq : ∀ k : Fin k0_t3_loop.trips, k0_off53 k = ![0, 0, 8 * k.val + 1] := by decide +kernel
theorem k0_off54_eq : ∀ k : Fin k0_t3_loop.trips, k0_off54 k = ![16 * (8 * k.val + 1), 0] := by decide +kernel
theorem k0_off56_eq : ∀ k : Fin k0_t3_loop.trips, k0_off56 k = ![0, 0, 8 * k.val + 2] := by decide +kernel

theorem part7 (hx : ∀ t, (x (ix3 0 0 t)).toNat < 16384) (k : Fin k0_t3_loop.trips) (c0_i32_2592 : BitVec 32) (c1_i32_2594 : BitVec 32) :
    iprop(Issuing c semA XA x h (8 * k.val + 0) ∗ owns (Val := Elt F) (c : Thread nD τ) arg4 fullShare x)
      ⊢ wp frame (wpE (defs₀ (F := F)) Variants.none (c : Thread nD τ) none) Set.univ (k0_part7 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 c0_i32_2592 c1_i32_2594 k)
          (fun a => iprop(⌜a.2.2.1 = x (ix3 0 0 ⟨8 * k.val + 2, by have := trips3 k; omega⟩)⌝ ∗ Issuing c semA XA x h (8 * k.val + 2) ∗ owns (Val := Elt F) (c : Thread nD τ) arg4 fullShare x)) := by
  have hk := trips3 k
  rw [k0_part7_eq_skeleton]
  unfold k0_part7_skel
  refine seqAt _ _ _ _ (token (8 * k.val + 0) (by omega) (k0_off50_eq k)) ?_
  refine seqAt _ _ _ _ (checked ⟨row_dvd _ (hx _), piece_inb _ (hx _)⟩) ?_
  refine seqAt _ _ _ ⟨⟩ (copy (8 * k.val + 0) (by omega) (k0_off51_eq k) (hx _) (row16 _ (hx _)) amountA) ?_
  refine seqAt _ _ _ _ (token (8 * k.val + 1) (by omega) (k0_off53_eq k)) ?_
  refine seqAt _ _ _ _ (checked ⟨row_dvd _ (hx _), piece_inb _ (hx _)⟩) ?_
  refine seqAt _ _ _ ⟨⟩ (copy (8 * k.val + 1) (by omega) (k0_off54_eq k) (hx _) (row16 _ (hx _)) amountA) ?_
  refine seqAt _ _ _ _ (token (8 * k.val + 2) (by omega) (k0_off56_eq k)) ?_
  refine seqAt _ _ _ _ (checked ⟨row_dvd _ (hx _), piece_inb _ (hx _)⟩) ?_
  iintro H
  iapply (le_wp_ret frame (wpE (defs₀ (F := F)) Variants.none (c : Thread nD τ) none) Set.univ)
  isplitr; · ipureintro; rfl
  iexact H

theorem k0_off57_eq : ∀ k : Fin k0_t3_loop.trips, k0_off57 k = ![16 * (8 * k.val + 2), 0] := by decide +kernel
theorem k0_off59_eq : ∀ k : Fin k0_t3_loop.trips, k0_off59 k = ![0, 0, 8 * k.val + 3] := by decide +kernel
theorem k0_off60_eq : ∀ k : Fin k0_t3_loop.trips, k0_off60 k = ![16 * (8 * k.val + 3), 0] := by decide +kernel
theorem k0_off62_eq : ∀ k : Fin k0_t3_loop.trips, k0_off62 k = ![0, 0, 8 * k.val + 4] := by decide +kernel
theorem k0_off63_eq : ∀ k : Fin k0_t3_loop.trips, k0_off63 k = ![16 * (8 * k.val + 4), 0] := by decide +kernel

theorem part8 (hx : ∀ t, (x (ix3 0 0 t)).toNat < 16384) (k : Fin k0_t3_loop.trips) (arg16 : BitVec 32) (v2145 : BitVec 32) (v2147 : Elt F .i32) (k0_hw19 : k0_chk19 v2147) (c16_i32_2662 : BitVec 32) (hv : v2147 = x (ix3 0 0 ⟨8 * k.val + 2, by have := trips3 k; omega⟩)) :
    iprop(Issuing c semA XA x h (8 * k.val + 2) ∗ owns (Val := Elt F) (c : Thread nD τ) arg4 fullShare x)
      ⊢ wp frame (wpE (defs₀ (F := F)) Variants.none (c : Thread nD τ) none) Set.univ (k0_part8 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k arg16 v2145 v2147 k0_hw19 c16_i32_2662)
          (fun _ => iprop(Issuing c semA XA x h (8 * k.val + 5) ∗ owns (Val := Elt F) (c : Thread nD τ) arg4 fullShare x)) := by
  have hk := trips3 k
  subst hv
  rw [k0_part8_eq_skeleton]
  unfold k0_part8_skel
  refine seqAt _ _ _ ⟨⟩ (copy (8 * k.val + 2) (by omega) (k0_off57_eq k) (hx _) (row16 _ (hx _)) amountA) ?_
  refine seqAt _ _ _ _ (token (8 * k.val + 3) (by omega) (k0_off59_eq k)) ?_
  refine seqAt _ _ _ _ (checked ⟨row_dvd _ (hx _), piece_inb _ (hx _)⟩) ?_
  refine seqAt _ _ _ ⟨⟩ (copy (8 * k.val + 3) (by omega) (k0_off60_eq k) (hx _) (row16 _ (hx _)) amountA) ?_
  refine seqAt _ _ _ _ (token (8 * k.val + 4) (by omega) (k0_off62_eq k)) ?_
  refine seqAt _ _ _ _ (checked ⟨row_dvd _ (hx _), piece_inb _ (hx _)⟩) ?_
  refine seqAt _ _ _ ⟨⟩ (copy (8 * k.val + 4) (by omega) (k0_off63_eq k) (hx _) (row16 _ (hx _)) amountA) ?_
  exact le_wp_ret frame (wpE (defs₀ (F := F)) Variants.none (c : Thread nD τ) none) Set.univ _ _

theorem k0_off65_eq : ∀ k : Fin k0_t3_loop.trips, k0_off65 k = ![0, 0, 8 * k.val + 5] := by decide +kernel
theorem k0_off66_eq : ∀ k : Fin k0_t3_loop.trips, k0_off66 k = ![16 * (8 * k.val + 5), 0] := by decide +kernel
theorem k0_off68_eq : ∀ k : Fin k0_t3_loop.trips, k0_off68 k = ![0, 0, 8 * k.val + 6] := by decide +kernel
theorem k0_off69_eq : ∀ k : Fin k0_t3_loop.trips, k0_off69 k = ![16 * (8 * k.val + 6), 0] := by decide +kernel
theorem k0_off71_eq : ∀ k : Fin k0_t3_loop.trips, k0_off71 k = ![0, 0, 8 * k.val + 7] := by decide +kernel

theorem part9 (hx : ∀ t, (x (ix3 0 0 t)).toNat < 16384) (k : Fin k0_t3_loop.trips) (arg16 : BitVec 32) (v2181 : BitVec 32) :
    iprop(Issuing c semA XA x h (8 * k.val + 5) ∗ owns (Val := Elt F) (c : Thread nD τ) arg4 fullShare x)
      ⊢ wp frame (wpE (defs₀ (F := F)) Variants.none (c : Thread nD τ) none) Set.univ (k0_part9 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k arg16 v2181)
          (fun a => iprop(⌜a.1 = x (ix3 0 0 ⟨8 * k.val + 7, by have := trips3 k; omega⟩)⌝ ∗ Issuing c semA XA x h (8 * k.val + 7) ∗ owns (Val := Elt F) (c : Thread nD τ) arg4 fullShare x)) := by
  have hk := trips3 k
  rw [k0_part9_eq_skeleton]
  unfold k0_part9_skel
  refine seqAt _ _ _ _ (token (8 * k.val + 5) (by omega) (k0_off65_eq k)) ?_
  refine seqAt _ _ _ _ (checked ⟨row_dvd _ (hx _), piece_inb _ (hx _)⟩) ?_
  refine seqAt _ _ _ ⟨⟩ (copy (8 * k.val + 5) (by omega) (k0_off66_eq k) (hx _) (row16 _ (hx _)) amountA) ?_
  refine seqAt _ _ _ _ (token (8 * k.val + 6) (by omega) (k0_off68_eq k)) ?_
  refine seqAt _ _ _ _ (checked ⟨row_dvd _ (hx _), piece_inb _ (hx _)⟩) ?_
  refine seqAt _ _ _ ⟨⟩ (copy (8 * k.val + 6) (by omega) (k0_off69_eq k) (hx _) (row16 _ (hx _)) amountA) ?_
  refine seqAt _ _ _ _ (token (8 * k.val + 7) (by omega) (k0_off71_eq k)) ?_
  refine seqAt _ _ _ _ (checked ⟨row_dvd _ (hx _), piece_inb _ (hx _)⟩) ?_
  iintro H
  iapply (le_wp_ret frame (wpE (defs₀ (F := F)) Variants.none (c : Thread nD τ) none) Set.univ)
  isplitr; · ipureintro; rfl
  iexact H

theorem k0_off72_eq : ∀ k : Fin k0_t3_loop.trips, k0_off72 k = ![16 * (8 * k.val + 7), 0] := by decide +kernel

/-- One trip of gather 3. -/
theorem trip3 (hx : ∀ t, (x (ix3 0 0 t)).toNat < 16384) (k : Fin k0_t3_loop.trips) :
    iprop(Issuing c semA XA x h (8 * k.val) ∗ owns (Val := Elt F) (c : Thread nD τ) arg4 fullShare x)
      ⊢ wp frame (wpE (defs₀ (F := F)) Variants.none (c : Thread nD τ) none) Set.univ (k0_t3_body i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 k ())
          (fun _ => iprop(Issuing c semA XA x h (8 * (k.val + 1)) ∗ owns (Val := Elt F) (c : Thread nD τ) arg4 fullShare x)) := by
  have hk := trips3 k
  unfold k0_t3_body
  refine seqAny _ _ _ (part7 i arg1 harg1 arg2 harg2 arg3 harg3 arg4 harg4 arg6 harg6 arg7 harg7 arg8 harg8 arg9 harg9 arg10 harg10 arg11 harg11 arg12 harg12 x h hx k _ _) (fun ⟨a, v, w, hw, d⟩ => ?_)
  refine withFact fun hv => ?_
  refine seqAny _ _ _ (part8 i arg1 harg1 arg2 harg2 arg3 harg3 arg4 harg4 arg6 harg6 arg7 harg7 arg8 harg8 arg9 harg9 arg10 harg10 arg11 harg11 arg12 harg12 x h hx k a v w hw d hv) (fun r => ?_)
  refine seqAny _ _ _ (part9 i arg1 harg1 arg2 harg2 arg3 harg3 arg4 harg4 arg6 harg6 arg7 harg7 arg8 harg8 arg9 harg9 arg10 harg10 arg11 harg11 arg12 harg12 x h hx k a r) (fun ⟨w, hw⟩ => ?_)
  refine withFact fun hv => ?_
  dsimp only at hv
  subst hv
  refine seqAt _ _ _ ⟨⟩ (copy (8 * k.val + 7) (by omega) (k0_off72_eq k) (hx _) (row16 _ (hx _)) amountA) ?_
  exact le_wp_ret frame (wpE (defs₀ (F := F)) Variants.none (c : Thread nD τ) none) Set.univ _ _

end Cert.Kernel4Ideal.Moe

end
-- ==== Proof.Kernel4Ideal.Rooms.lean ====
/-
  A row buffer in pieces and whole: what a gather starts from, and what it leaves. The activations' share is dealt among
  the copies and comes back whole.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Gather
public import Idealize.ShloMosaic.Lib.ViewIndex
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

/-- A row buffer after a gather: 16 pieces a token. -/
def rows (x : S1x1x256.Idx → BitVec 32) (h : S262144x128.Idx → Elt F .f32) : S4096x128.Idx → Elt F .f32 :=
  fun z => rowOf h (x (ix3 0 0 ⟨(z 0).val / 16, by have h := (z 0).isLt; change _ < 4096 at h; omega⟩)) (ix2 ⟨(z 0).val % 16, Nat.mod_lt _ (by decide)⟩ (z 1))

variable (c : Dev nD)

/-- A row buffer cut into the pieces of its 256 copies. -/
def cut (X : Memref sig .tc .vmem S4096x128 .f32) :
    Cut (n := 256) (Ix := Unit) (Val := Elt F) (Name := ℕ) (U := Pipeline.UD sig nD τ) (Lvl := ℕ) (c : Thread nD τ) X (slab X) where
  emb t := (Rect.unit (s := S4096x128) ![16 * t.val, 0] S16x128.size (slab_inb t)).emb
  loc _ := rfl
  holds t q d := by
    unfold owns
    congr 1
    funext f
    have hs : (slab X t).view.set = (Finset.univ.map (Rect.unit (s := S4096x128) ![16 * t.val, 0] S16x128.size (slab_inb t)).emb).map X.view.emb := (Finset.map_map _ _ _).symm
    have hr : ((slab X t).view.read (Elt F) f = d) = (∀ y, X.view.read (Elt F) f ((Rect.unit (s := S4096x128) ![16 * t.val, 0] S16x128.size (slab_inb t)).emb y) = d y) :=
      propext ⟨fun h y => congrFun h y, fun h => funext h⟩
    exact congr (congrArg (fun p q => iprop(⌜p⌝ ∗ q)) hr) (congrArg (fun S => ((X.view.loc (c : Thread nD τ) ↦[S]{q} f) : sProp (MT nD τ sig Unit (Elt F) ℕ (Pipeline.UD sig nD τ) ℕ))) hs)
  disjoint t t' ht y y' h := by
    have h0 : (y 0).val < 16 := (y 0).isLt
    have h0' : (y' 0).val < 16 := (y' 0).isLt
    have := congrArg (fun z => (z 0).val) h
    change 16 * t.val + 1 * (y 0).val = 16 * t'.val + 1 * (y' 0).val at this
    exact ht (Fin.ext (by omega))
  cover z := by
    have h0 : (z 0).val < 4096 := (z 0).isLt
    refine ⟨⟨(z 0).val / 16, by omega⟩, ix2 ⟨(z 0).val % 16, Nat.mod_lt _ (by decide)⟩ (z 1), ?_⟩
    funext a
    match a with
    | ⟨0, _⟩ => exact Fin.ext (by show 16 * ((z 0).val / 16) + 1 * ((z 0).val % 16) = (z 0).val; omega)
    | ⟨1, _⟩ => exact Fin.ext (by show 0 + 1 * (z 1).val = (z 1).val; omega)

theorem rows_piece (x : S1x1x256.Idx → BitVec 32) (h : S262144x128.Idx → Elt F .f32) (t : Fin 256) (y : S16x128.Idx) :
    rows x h ((Rect.unit (s := S4096x128) ![16 * t.val, 0] S16x128.size (slab_inb t)).emb y) = rowOf h (x (ix3 0 0 t)) y := by
  have h0 : (y 0).val < 16 := (y 0).isLt
  have ht := t.isLt
  unfold rows
  have e0 : ((Rect.unit (s := S4096x128) ![16 * t.val, 0] S16x128.size (slab_inb t)).emb y 0).val = 16 * t.val + (y 0).val := by
    show 16 * t.val + 1 * (y 0).val = _; omega
  have e1 : ((Rect.unit (s := S4096x128) ![16 * t.val, 0] S16x128.size (slab_inb t)).emb y 1).val = (y 1).val := by
    show 0 + 1 * (y 1).val = _; omega
  generalize (Rect.unit (s := S4096x128) ![16 * t.val, 0] S16x128.size (slab_inb t)).emb y = z at e0 e1
  have h4 : (z 0).val < 4096 := (z 0).isLt
  have a1 : (⟨(z 0).val / 16, by omega⟩ : Fin 256) = t := Fin.ext (by show (z 0).val / 16 = _; rw [e0]; omega)
  have a2 : (ix2 ⟨(z 0).val % 16, Nat.mod_lt _ (by decide)⟩ (z 1) : S16x128.Idx) = y := by
    funext a
    match a with
    | ⟨0, _⟩ => exact Fin.ext (by show (z 0).val % 16 = (y 0).val; rw [e0]; omega)
    | ⟨1, _⟩ => exact Fin.ext e1
  exact congr (congrArg (fun u => rowOf h (x (ix3 0 0 u))) a1) a2

theorem of_slabs (X : Memref sig .tc .vmem S4096x128 .f32) (x : S1x1x256.Idx → BitVec 32) (h : S262144x128.Idx → Elt F .f32) :
    bigSep Finset.univ (fun t : Fin 256 => (owns (c : Thread nD τ) (slab X t) fullShare (rowOf h (x (ix3 0 0 t))) : sProp (MT nD τ sig Unit (Elt F) ℕ (Pipeline.UD sig nD τ) ℕ)))
      ⊢ owns (c : Thread nD τ) X fullShare (rows x h) :=
  (cut c X).join (fun t y => rows_piece x h t y) 0

/-- What is left of the activations' share while copies read them. -/
def Rest (h : Buf (Elt F) ((c : Thread nD τ).loc main_arg2)) : sProp (MT nD τ sig Unit (Elt F) ℕ (Pipeline.UD sig nD τ) ℕ) := iprop((c : Thread nD τ).loc main_arg2 ↦{shareDrop fullShare 256} h)

/-- The activations held whole. -/
def Whole (h : Buf (Elt F) ((c : Thread nD τ).loc main_arg2)) : sProp (MT nD τ sig Unit (Elt F) ℕ (Pipeline.UD sig nD τ) ℕ) := iprop((c : Thread nD τ).loc main_arg2 ↦{fullShare} h)

variable {c}

theorem deal (h : Buf (Elt F) ((c : Thread nD τ).loc main_arg2)) :
    (Whole c h : sProp (MT nD τ sig Unit (Elt F) ℕ (Pipeline.UD sig nD τ) ℕ)) ⊣⊢ iprop(Rest c h ∗ bigSep Finset.univ (fun t : Fin 256 => ((c : Thread nD τ).loc main_arg2 ↦{shareTokN fullShare t.val} h : sProp (MT nD τ sig Unit (Elt F) ℕ (Pipeline.UD sig nD τ) ℕ)))) :=
  pointsTo_toks fullShare 256

instance storable (X : Memref sig .tc .vmem S4096x128 .f32) (x : S1x1x256.Idx → BitVec 32) (h : Buf (Elt F) ((c : Thread nD τ).loc main_arg2)) (t : Fin 256) :
    Storable (upEmb : UEmb _ (MT nD τ sig Unit (Elt F) ℕ (Pipeline.UD sig nD τ) ℕ)) (Deliv c X x h t) := by
  unfold Deliv owns; infer_instance

/-- A batch issued, none of it waited for. -/
def Sent (c : Dev nD) (sem : DmaSem sig) (X : Memref sig .tc .vmem S4096x128 .f32) (x : S1x1x256.Idx → BitVec 32)
    (h : Buf (Elt F) ((c : Thread nD τ).loc main_arg2)) : sProp (MT nD τ sig Unit (Elt F) ℕ (Pipeline.UD sig nD τ) ℕ) :=
  Batch EC (c : Thread nD τ) (.dma sem) () 256 (Deliv c X x h) 256 0

/-- A whole gather. -/
theorem gather {sem : DmaSem sig} {X : Memref sig .tc .vmem S4096x128 .f32} {x : S1x1x256.Idx → BitVec 32} {d : S4096x128.Idx → Elt F .f32}
    {h : Buf (Elt F) ((c : Thread nD τ).loc main_arg2)} {R : sProp (MT nD τ sig Unit (Elt F) ℕ (Pipeline.UD sig nD τ) ℕ)} {n : ℕ} {lb ub st : BitVec n} {hok} {body : Fin (Scf.trips lb ub st) → Unit → _}
    (htr : Scf.trips lb ub st = 32)
    (hbody : ∀ k, iprop(Issuing c sem X x h (8 * k.val) ∗ R)
      ⊢ wp frame (wpE (defs₀ (F := F)) Variants.none (c : Thread nD τ) none) Set.univ (body k ()) (fun _ => iprop(Issuing c sem X x h (8 * (k.val + 1)) ∗ R))) :
    iprop(owns (c : Thread nD τ) X fullShare d ∗ Whole c h ∗ semVal ((c : Thread nD τ), .dma sem) 0 ∗ R)
      ⊢ wp frame (wpE (defs₀ (F := F)) Variants.none (c : Thread nD τ) none) Set.univ (Scf.for lb ub st hok () body)
          (fun a => iprop(⌜a = ()⌝ ∗ Sent c sem X x h ∗ Rest c h ∗ R)) := by
  iintro ⟨HX, HH, HS, HR⟩
  imod (batch_alloc' EC (c : Thread nD τ) () 256 (Deliv c X x h)) $$ HS with HB
  ihave HX := (cut c X).split $$ HX
  ihave HH := (deal h).1 $$ HH
  icases HH with ⟨HRest, HT⟩
  iapply (Scf.wp_for frame (wpE (defs₀ (F := F)) Variants.none (c : Thread nD τ) none) Set.univ lb ub st hok () body
    (fun k _ => iprop(Issuing c sem X x h (8 * k) ∗ R)) (fun k _ => hbody k))
  rw [htr]
  isplitr [HRest]
  · isplitr [HR]
    · unfold Issuing
      isplitl [HB]; · iexact HB
      rw [Nat.mul_zero, ← bigSep_pending_zero]
      iapply (show iprop(bigSep Finset.univ (fun t : Fin 256 => iprop(∃ d, owns (c : Thread nD τ) (slab X t) fullShare d)) ∗ bigSep Finset.univ (fun t : Fin 256 => ((c : Thread nD τ).loc main_arg2 ↦{shareTokN fullShare t.val} h : sProp (MT nD τ sig Unit (Elt F) ℕ (Pipeline.UD sig nD τ) ℕ))))
        ⊢ bigSep Finset.univ (Wanted c X h) from Entails.of_eq (Idealize.SL.BI.bigSep_sep _ _ _).symm)
      isplitl [HX]; · iexact HX
      iexact HT
    iexact HR
  · unfold Issuing Sent
    iintro %_ ⟨⟨HB, -⟩, HR⟩
    isplitr; · ipureintro; rfl
    isplitl [HB]; · iexact HB
    isplitl [HRest] <;> iassumption

/-- `n` of a batch's units waited for. -/
def Fly (c : Dev nD) (sem : DmaSem sig) (X : Memref sig .tc .vmem S4096x128 .f32) (x : S1x1x256.Idx → BitVec 32)
    (h : Buf (Elt F) ((c : Thread nD τ).loc main_arg2)) (n : ℕ) : sProp (MT nD τ sig Unit (Elt F) ℕ (Pipeline.UD sig nD τ) ℕ) :=
  Flying EC (c : Thread nD τ) sem () 256 (Deliv c X x h) (256 * n)

/-- What the core owes. -/
def Owes (c : Dev nD) : sProp (MT nD τ sig Unit (Elt F) ℕ (Pipeline.UD sig nD τ) ℕ) := iprop(∃ W, owes (c : Thread nD τ) 0 W)

theorem fly {sem : DmaSem sig} {X : Memref sig .tc .vmem S4096x128 .f32} {x : S1x1x256.Idx → BitVec 32}
    {h : Buf (Elt F) ((c : Thread nD τ).loc main_arg2)} : iprop(Sent c sem X x h ∗ Owes c) ⊢ (Fly c sem X x h 0 : sProp (MT nD τ sig Unit (Elt F) ℕ (Pipeline.UD sig nD τ) ℕ)) := by
  unfold Sent Owes Fly Flying
  iintro ⟨HB, %W, HW⟩
  iexists W
  isplitl [HB] <;> iassumption

/-- A wait that is not the last of its batch. -/
theorem wait {sem : DmaSem sig} {X : Memref sig .tc .vmem S4096x128 .f32} {x : S1x1x256.Idx → BitVec 32}
    {h : Buf (Elt F) ((c : Thread nD τ).loc main_arg2)} {R : sProp (MT nD τ sig Unit (Elt F) ℕ (Pipeline.UD sig nD τ) ℕ)} (n : ℕ) (hn : n + 1 < 256)
    {srcw : Memref sig .tc .hbm S16x128 .f32} {dstw : Memref sig .tc .vmem S16x128 .f32} {hsrc : srcw.view.WordExact} {hdst : dstw.view.WordExact}
    (hN : dstw.view.dmaCredit = 256) :
    iprop(Fly c sem X x h n ∗ R)
      ⊢ wp frame (wpE (defs₀ (F := F)) Variants.none (c : Thread nD τ) none) Set.univ (Prog.lift (.waitDma2 sem srcw dstw hsrc hdst))
          (fun a => iprop(⌜a = ⟨⟩⌝ ∗ Fly c sem X x h (n + 1) ∗ R)) := by
  unfold Fly
  iintro ⟨HF, HR⟩
  iapply (waitOne EC Variants.none (c : Thread nD τ) none () hN (by omega)) $$ HF
  iintro HF
  isplitr; · ipureintro; rfl
  isplitl [HF]; · iexact HF
  iexact HR

/-- The last wait: the rows are in place, the activations whole, the counter at zero. -/
theorem waitEnd {sem : DmaSem sig} {X : Memref sig .tc .vmem S4096x128 .f32} {x : S1x1x256.Idx → BitVec 32}
    {h : Buf (Elt F) ((c : Thread nD τ).loc main_arg2)} {R : sProp (MT nD τ sig Unit (Elt F) ℕ (Pipeline.UD sig nD τ) ℕ)}
    {srcw : Memref sig .tc .hbm S16x128 .f32} {dstw : Memref sig .tc .vmem S16x128 .f32} {hsrc : srcw.view.WordExact} {hdst : dstw.view.WordExact}
    (hN : dstw.view.dmaCredit = 256) :
    iprop(Fly c sem X x h 255 ∗ Rest c h ∗ R)
      ⊢ wp frame (wpE (defs₀ (F := F)) Variants.none (c : Thread nD τ) none) Set.univ (Prog.lift (.waitDma2 sem srcw dstw hsrc hdst))
          (fun a => iprop(⌜a = ⟨⟩⌝ ∗ owns (c : Thread nD τ) X fullShare (rows x h) ∗ Whole c h ∗ semVal ((c : Thread nD τ), .dma sem) 0 ∗ Owes c ∗ R)) := by
  unfold Fly
  iintro ⟨HF, HRest, HR⟩
  iapply (waitLast EC Variants.none (c : Thread nD τ) none () hN (by decide) (by decide)) $$ HF
  unfold Landed Owes
  iintro ⟨HD, HS, HW⟩
  isplitr; · ipureintro; rfl
  ihave HD := (show bigSep Finset.univ (Deliv c X x h) ⊢ iprop(bigSep Finset.univ (fun t : Fin 256 => (owns (c : Thread nD τ) (slab X t) fullShare (rowOf h (x (ix3 0 0 t))) : sProp (MT nD τ sig Unit (Elt F) ℕ (Pipeline.UD sig nD τ) ℕ))) ∗ bigSep Finset.univ (fun t : Fin 256 => ((c : Thread nD τ).loc main_arg2 ↦{shareTokN fullShare t.val} h : sProp (MT nD τ sig Unit (Elt F) ℕ (Pipeline.UD sig nD τ) ℕ))))
    from Entails.of_eq (Idealize.SL.BI.bigSep_sep _ _ _)) $$ HD
  icases HD with ⟨HX, HT⟩
  isplitl [HX]; · iapply (of_slabs c X x h) $$ HX
  isplitl [HT HRest]
  · iapply (deal h).2
    isplitl [HRest] <;> iassumption
  isplitl [HS]; · iexact HS
  isplitl [HW]; · iexact HW
  iexact HR

end Cert.Kernel4Ideal.Moe

end
-- ==== Proof.Kernel4Ideal.Waits.lean ====
/-
  The waits of a batch, six at a time, and chains of them.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Trips
public import proofs.«01_k».proof.Proof.Kernel4Ideal.Rooms
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

/-- What a step of the body needs, for what it leaves. -/
abbrev Run (c : Dev nD) {α : Type} (p : Prog (TpuEff nD τ sig (Elt F) Λ₀ .tc) α) (Q : α → sProp (MT nD τ sig Unit (Elt F) ℕ (Pipeline.UD sig nD τ) ℕ)) : sProp (MT nD τ sig Unit (Elt F) ℕ (Pipeline.UD sig nD τ) ℕ) :=
  wp frame (wpE (defs₀ (F := F)) Variants.none (c : Thread nD τ) none) Set.univ p Q

variable {c : Dev nD}

theorem done {α : Type} {v : α} {P : sProp (MT nD τ sig Unit (Elt F) ℕ (Pipeline.UD sig nD τ) ℕ)} : P ⊢ Run c (pure v) (fun a => iprop(⌜a = v⌝ ∗ P)) := by
  refine Entails.trans ?_ (le_wp_ret frame (wpE (defs₀ (F := F)) Variants.none (c : Thread nD τ) none) Set.univ _ _)
  iintro H
  isplitr; · ipureintro; rfl
  iexact H

variable (i : grid0.Coords)
variable (arg1 : Memref sig .tc .smem S576 .i32) (harg1 : arg1.IsWhole)
variable (arg2 : Memref sig .tc .smem S1x1x256 .i32) (harg2 : arg2.IsWhole)
variable (arg3 : Memref sig .tc .smem S1x1x256 .i32) (harg3 : arg3.IsWhole)
variable (arg4 : Memref sig .tc .smem S1x1x256 .i32) (harg4 : arg4.IsWhole)
variable (arg6 : Memref sig .tc .vmem S1x2048x512 .bf16) (harg6 : arg6.IsWhole)
variable (arg7 : Memref sig .tc .vmem S1x2048x512 .bf16) (harg7 : arg7.IsWhole)
variable (arg8 : Memref sig .tc .vmem S1x512x2048 .bf16) (harg8 : arg8.IsWhole)
variable (arg9 : Memref sig .tc .vmem S1x2048x512 .bf16) (harg9 : arg9.IsWhole)
variable (arg10 : Memref sig .tc .vmem S1x2048x512 .bf16) (harg10 : arg10.IsWhole)
variable (arg11 : Memref sig .tc .vmem S1x512x2048 .bf16) (harg11 : arg11.IsWhole)
variable (arg12 : Memref sig .tc .vmem S512x2048 .f32) (harg12 : arg12.IsWhole)
variable {x : S1x1x256.Idx → BitVec 32} {h : Buf (Elt F) ((c : Thread nD τ).loc main_arg2)}

theorem waits54 {R : sProp (MT nD τ sig Unit (Elt F) ℕ (Pipeline.UD sig nD τ) ℕ)} (n : ℕ) (hn : n + 6 < 256) :
    iprop(Fly c semA XA x h n ∗ R) ⊢ Run c (k0_part54 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ Fly c semA XA x h (n + 6) ∗ R)) := by
  rw [k0_part54_eq_skeleton]
  unfold k0_part54_skel
  refine seqAt _ _ _ ⟨⟩ (wait (n + 0) (by omega) rfl) ?_
  refine seqAt _ _ _ ⟨⟩ (wait (n + 1) (by omega) rfl) ?_
  refine seqAt _ _ _ ⟨⟩ (wait (n + 2) (by omega) rfl) ?_
  refine seqAt _ _ _ ⟨⟩ (wait (n + 3) (by omega) rfl) ?_
  refine seqAt _ _ _ ⟨⟩ (wait (n + 4) (by omega) rfl) ?_
  refine seqAt _ _ _ ⟨⟩ (wait (n + 5) (by omega) rfl) ?_
  exact done

theorem waits98 {R : sProp (MT nD τ sig Unit (Elt F) ℕ (Pipeline.UD sig nD τ) ℕ)} (n : ℕ) (hn : n + 6 < 256) :
    iprop(Fly c semB XB x h n ∗ R) ⊢ Run c (k0_part98 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ Fly c semB XB x h (n + 6) ∗ R)) := by
  rw [k0_part98_eq_skeleton]
  unfold k0_part98_skel
  refine seqAt _ _ _ ⟨⟩ (wait (n + 0) (by omega) rfl) ?_
  refine seqAt _ _ _ ⟨⟩ (wait (n + 1) (by omega) rfl) ?_
  refine seqAt _ _ _ ⟨⟩ (wait (n + 2) (by omega) rfl) ?_
  refine seqAt _ _ _ ⟨⟩ (wait (n + 3) (by omega) rfl) ?_
  refine seqAt _ _ _ ⟨⟩ (wait (n + 4) (by omega) rfl) ?_
  refine seqAt _ _ _ ⟨⟩ (wait (n + 5) (by omega) rfl) ?_
  exact done

theorem same10 : k0_part10 (F := F) = k0_part54 := rfl
theorem same11 : k0_part11 (F := F) = k0_part54 := rfl
theorem same12 : k0_part12 (F := F) = k0_part54 := rfl
theorem same13 : k0_part13 (F := F) = k0_part54 := rfl
theorem same14 : k0_part14 (F := F) = k0_part54 := rfl
theorem same15 : k0_part15 (F := F) = k0_part54 := rfl
theorem same16 : k0_part16 (F := F) = k0_part54 := rfl
theorem same17 : k0_part17 (F := F) = k0_part54 := rfl
theorem same18 : k0_part18 (F := F) = k0_part54 := rfl
theorem same19 : k0_part19 (F := F) = k0_part54 := rfl
theorem same20 : k0_part20 (F := F) = k0_part54 := rfl
theorem same21 : k0_part21 (F := F) = k0_part54 := rfl
theorem same22 : k0_part22 (F := F) = k0_part54 := rfl
theorem same23 : k0_part23 (F := F) = k0_part54 := rfl
theorem same24 : k0_part24 (F := F) = k0_part54 := rfl
theorem same25 : k0_part25 (F := F) = k0_part54 := rfl
theorem same26 : k0_part26 (F := F) = k0_part54 := rfl
theorem same27 : k0_part27 (F := F) = k0_part54 := rfl
theorem same28 : k0_part28 (F := F) = k0_part54 := rfl
theorem same29 : k0_part29 (F := F) = k0_part54 := rfl
theorem same30 : k0_part30 (F := F) = k0_part54 := rfl
theorem same31 : k0_part31 (F := F) = k0_part54 := rfl
theorem same32 : k0_part32 (F := F) = k0_part54 := rfl
theorem same33 : k0_part33 (F := F) = k0_part54 := rfl
theorem same34 : k0_part34 (F := F) = k0_part54 := rfl
theorem same35 : k0_part35 (F := F) = k0_part54 := rfl
theorem same36 : k0_part36 (F := F) = k0_part54 := rfl
theorem same37 : k0_part37 (F := F) = k0_part54 := rfl
theorem same38 : k0_part38 (F := F) = k0_part54 := rfl
theorem same39 : k0_part39 (F := F) = k0_part54 := rfl
theorem same40 : k0_part40 (F := F) = k0_part54 := rfl
theorem same41 : k0_part41 (F := F) = k0_part54 := rfl
theorem same42 : k0_part42 (F := F) = k0_part54 := rfl
theorem same43 : k0_part43 (F := F) = k0_part54 := rfl
theorem same44 : k0_part44 (F := F) = k0_part54 := rfl
theorem same45 : k0_part45 (F := F) = k0_part54 := rfl
theorem same46 : k0_part46 (F := F) = k0_part54 := rfl
theorem same47 : k0_part47 (F := F) = k0_part54 := rfl
theorem same48 : k0_part48 (F := F) = k0_part54 := rfl
theorem same49 : k0_part49 (F := F) = k0_part54 := rfl
theorem same50 : k0_part50 (F := F) = k0_part54 := rfl
theorem same51 : k0_part51 (F := F) = k0_part54 := rfl
theorem same55 : k0_part55 (F := F) = k0_part54 := rfl
theorem same56 : k0_part56 (F := F) = k0_part54 := rfl
theorem same57 : k0_part57 (F := F) = k0_part54 := rfl
theorem same58 : k0_part58 (F := F) = k0_part54 := rfl
theorem same59 : k0_part59 (F := F) = k0_part54 := rfl
theorem same60 : k0_part60 (F := F) = k0_part54 := rfl
theorem same61 : k0_part61 (F := F) = k0_part54 := rfl
theorem same62 : k0_part62 (F := F) = k0_part54 := rfl
theorem same63 : k0_part63 (F := F) = k0_part54 := rfl
theorem same64 : k0_part64 (F := F) = k0_part54 := rfl
theorem same65 : k0_part65 (F := F) = k0_part54 := rfl
theorem same66 : k0_part66 (F := F) = k0_part54 := rfl
theorem same67 : k0_part67 (F := F) = k0_part54 := rfl
theorem same68 : k0_part68 (F := F) = k0_part54 := rfl
theorem same69 : k0_part69 (F := F) = k0_part54 := rfl
theorem same70 : k0_part70 (F := F) = k0_part54 := rfl
theorem same71 : k0_part71 (F := F) = k0_part54 := rfl
theorem same72 : k0_part72 (F := F) = k0_part54 := rfl
theorem same73 : k0_part73 (F := F) = k0_part54 := rfl
theorem same74 : k0_part74 (F := F) = k0_part54 := rfl
theorem same75 : k0_part75 (F := F) = k0_part54 := rfl
theorem same76 : k0_part76 (F := F) = k0_part54 := rfl
theorem same77 : k0_part77 (F := F) = k0_part54 := rfl
theorem same78 : k0_part78 (F := F) = k0_part54 := rfl
theorem same79 : k0_part79 (F := F) = k0_part54 := rfl
theorem same80 : k0_part80 (F := F) = k0_part54 := rfl
theorem same81 : k0_part81 (F := F) = k0_part54 := rfl
theorem same82 : k0_part82 (F := F) = k0_part54 := rfl
theorem same83 : k0_part83 (F := F) = k0_part54 := rfl
theorem same84 : k0_part84 (F := F) = k0_part54 := rfl
theorem same85 : k0_part85 (F := F) = k0_part54 := rfl
theorem same86 : k0_part86 (F := F) = k0_part54 := rfl
theorem same87 : k0_part87 (F := F) = k0_part54 := rfl
theorem same88 : k0_part88 (F := F) = k0_part54 := rfl
theorem same89 : k0_part89 (F := F) = k0_part54 := rfl
theorem same90 : k0_part90 (F := F) = k0_part54 := rfl
theorem same91 : k0_part91 (F := F) = k0_part54 := rfl
theorem same92 : k0_part92 (F := F) = k0_part54 := rfl
theorem same93 : k0_part93 (F := F) = k0_part54 := rfl
theorem same94 : k0_part94 (F := F) = k0_part54 := rfl
theorem same99 : k0_part99 (F := F) = k0_part98 := rfl
theorem same100 : k0_part100 (F := F) = k0_part98 := rfl
theorem same101 : k0_part101 (F := F) = k0_part98 := rfl
theorem same102 : k0_part102 (F := F) = k0_part98 := rfl
theorem same103 : k0_part103 (F := F) = k0_part98 := rfl
theorem same104 : k0_part104 (F := F) = k0_part98 := rfl
theorem same105 : k0_part105 (F := F) = k0_part98 := rfl
theorem same106 : k0_part106 (F := F) = k0_part98 := rfl
theorem same107 : k0_part107 (F := F) = k0_part98 := rfl
theorem same108 : k0_part108 (F := F) = k0_part98 := rfl
theorem same109 : k0_part109 (F := F) = k0_part98 := rfl
theorem same110 : k0_part110 (F := F) = k0_part98 := rfl
theorem same111 : k0_part111 (F := F) = k0_part98 := rfl
theorem same112 : k0_part112 (F := F) = k0_part98 := rfl
theorem same113 : k0_part113 (F := F) = k0_part98 := rfl
theorem same114 : k0_part114 (F := F) = k0_part98 := rfl
theorem same115 : k0_part115 (F := F) = k0_part98 := rfl
theorem same116 : k0_part116 (F := F) = k0_part98 := rfl
theorem same117 : k0_part117 (F := F) = k0_part98 := rfl
theorem same118 : k0_part118 (F := F) = k0_part98 := rfl
theorem same119 : k0_part119 (F := F) = k0_part98 := rfl
theorem same120 : k0_part120 (F := F) = k0_part98 := rfl
theorem same121 : k0_part121 (F := F) = k0_part98 := rfl
theorem same122 : k0_part122 (F := F) = k0_part98 := rfl
theorem same123 : k0_part123 (F := F) = k0_part98 := rfl
theorem same124 : k0_part124 (F := F) = k0_part98 := rfl
theorem same125 : k0_part125 (F := F) = k0_part98 := rfl
theorem same126 : k0_part126 (F := F) = k0_part98 := rfl
theorem same127 : k0_part127 (F := F) = k0_part98 := rfl
theorem same128 : k0_part128 (F := F) = k0_part98 := rfl
theorem same129 : k0_part129 (F := F) = k0_part98 := rfl
theorem same130 : k0_part130 (F := F) = k0_part98 := rfl
theorem same131 : k0_part131 (F := F) = k0_part98 := rfl
theorem same132 : k0_part132 (F := F) = k0_part98 := rfl
theorem same133 : k0_part133 (F := F) = k0_part98 := rfl
theorem same134 : k0_part134 (F := F) = k0_part98 := rfl
theorem same135 : k0_part135 (F := F) = k0_part98 := rfl
theorem same136 : k0_part136 (F := F) = k0_part98 := rfl
theorem same137 : k0_part137 (F := F) = k0_part98 := rfl
theorem same138 : k0_part138 (F := F) = k0_part98 := rfl

end Cert.Kernel4Ideal.Moe

end
-- ==== Proof.Kernel4Ideal.Steps.lean ====
/-
  The steps of the body between the waits: the gathers, the two experts' products, and their stores.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Waits
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

section Values

variable (x : S1x1x256.Idx → BitVec 32) (h : S262144x128.Idx → Elt F .f32)

/-- A read of a gathered buffer. -/
def piece (r : LoadRect S4096x128) : r.shape.Idx → Elt F .f32 := fun y => rows x h (r.idx y)

/-- A read of a whole weight. -/
def wide (g : S1x2048x512.Idx → Elt F .bf16) : S1x2048x512.Idx → Elt F .bf16 := fun y => g ((Rect.unit (s := S1x2048x512) ![0, 0, 0] S1x2048x512.size inb_S1x2048x512_S1x2048x512_0_0_0).toLoadRect.idx y)
def tall (d : S1x512x2048.Idx → Elt F .bf16) : S1x512x2048.Idx → Elt F .bf16 := fun y => d ((Rect.unit (s := S1x512x2048) ![0, 0, 0] S1x512x2048.size inb_S1x512x2048_S1x512x2048_0_0_0).toLoadRect.idx y)

/-- The first expert's hidden rows. -/
def hidden (g u : S1x2048x512.Idx → Elt F .bf16) : FVec F S256x512 .f32 :=
  k0_pay2 (piece x h (⟨![0, 0], S256x128.size, ![16, 1], inb_S4096x128_S256x128_0_0_s_16_1⟩ : LoadRect S4096x128)) (piece x h (⟨![1, 0], S256x128.size, ![16, 1], inb_S4096x128_S256x128_1_0_s_16_1⟩ : LoadRect S4096x128)) (piece x h (⟨![2, 0], S256x128.size, ![16, 1], inb_S4096x128_S256x128_2_0_s_16_1⟩ : LoadRect S4096x128)) (piece x h (⟨![3, 0], S256x128.size, ![16, 1], inb_S4096x128_S256x128_3_0_s_16_1⟩ : LoadRect S4096x128)) (piece x h (⟨![4, 0], S256x128.size, ![16, 1], inb_S4096x128_S256x128_4_0_s_16_1⟩ : LoadRect S4096x128)) (piece x h (⟨![5, 0], S256x128.size, ![16, 1], inb_S4096x128_S256x128_5_0_s_16_1⟩ : LoadRect S4096x128)) (piece x h (⟨![6, 0], S256x128.size, ![16, 1], inb_S4096x128_S256x128_6_0_s_16_1⟩ : LoadRect S4096x128)) (piece x h (⟨![7, 0], S256x128.size, ![16, 1], inb_S4096x128_S256x128_7_0_s_16_1⟩ : LoadRect S4096x128)) (piece x h (⟨![8, 0], S256x128.size, ![16, 1], inb_S4096x128_S256x128_8_0_s_16_1⟩ : LoadRect S4096x128)) (piece x h (⟨![9, 0], S256x128.size, ![16, 1], inb_S4096x128_S256x128_9_0_s_16_1⟩ : LoadRect S4096x128)) (piece x h (⟨![10, 0], S256x128.size, ![16, 1], inb_S4096x128_S256x128_10_0_s_16_1⟩ : LoadRect S4096x128)) (piece x h (⟨![11, 0], S256x128.size, ![16, 1], inb_S4096x128_S256x128_11_0_s_16_1⟩ : LoadRect S4096x128)) (piece x h (⟨![12, 0], S256x128.size, ![16, 1], inb_S4096x128_S256x128_12_0_s_16_1⟩ : LoadRect S4096x128)) (piece x h (⟨![13, 0], S256x128.size, ![16, 1], inb_S4096x128_S256x128_13_0_s_16_1⟩ : LoadRect S4096x128)) (piece x h (⟨![14, 0], S256x128.size, ![16, 1], inb_S4096x128_S256x128_14_0_s_16_1⟩ : LoadRect S4096x128)) (piece x h (⟨![15, 0], S256x128.size, ![16, 1], inb_S4096x128_S256x128_15_0_s_16_1⟩ : LoadRect S4096x128)) (wide g) (wide u)

/-- The second expert's rows, and its gate's. -/
def input : FVec F S256x2048 .bf16 := k0_pay4 (piece x h (⟨![0, 0], S256x128.size, ![16, 1], inb_S4096x128_S256x128_0_0_s_16_1⟩ : LoadRect S4096x128)) (piece x h (⟨![1, 0], S256x128.size, ![16, 1], inb_S4096x128_S256x128_1_0_s_16_1⟩ : LoadRect S4096x128)) (piece x h (⟨![2, 0], S256x128.size, ![16, 1], inb_S4096x128_S256x128_2_0_s_16_1⟩ : LoadRect S4096x128)) (piece x h (⟨![3, 0], S256x128.size, ![16, 1], inb_S4096x128_S256x128_3_0_s_16_1⟩ : LoadRect S4096x128)) (piece x h (⟨![4, 0], S256x128.size, ![16, 1], inb_S4096x128_S256x128_4_0_s_16_1⟩ : LoadRect S4096x128)) (piece x h (⟨![5, 0], S256x128.size, ![16, 1], inb_S4096x128_S256x128_5_0_s_16_1⟩ : LoadRect S4096x128)) (piece x h (⟨![6, 0], S256x128.size, ![16, 1], inb_S4096x128_S256x128_6_0_s_16_1⟩ : LoadRect S4096x128)) (piece x h (⟨![7, 0], S256x128.size, ![16, 1], inb_S4096x128_S256x128_7_0_s_16_1⟩ : LoadRect S4096x128)) (piece x h (⟨![8, 0], S256x128.size, ![16, 1], inb_S4096x128_S256x128_8_0_s_16_1⟩ : LoadRect S4096x128)) (piece x h (⟨![9, 0], S256x128.size, ![16, 1], inb_S4096x128_S256x128_9_0_s_16_1⟩ : LoadRect S4096x128)) (piece x h (⟨![10, 0], S256x128.size, ![16, 1], inb_S4096x128_S256x128_10_0_s_16_1⟩ : LoadRect S4096x128)) (piece x h (⟨![11, 0], S256x128.size, ![16, 1], inb_S4096x128_S256x128_11_0_s_16_1⟩ : LoadRect S4096x128)) (piece x h (⟨![12, 0], S256x128.size, ![16, 1], inb_S4096x128_S256x128_12_0_s_16_1⟩ : LoadRect S4096x128)) (piece x h (⟨![13, 0], S256x128.size, ![16, 1], inb_S4096x128_S256x128_13_0_s_16_1⟩ : LoadRect S4096x128)) (piece x h (⟨![14, 0], S256x128.size, ![16, 1], inb_S4096x128_S256x128_14_0_s_16_1⟩ : LoadRect S4096x128)) (piece x h (⟨![15, 0], S256x128.size, ![16, 1], inb_S4096x128_S256x128_15_0_s_16_1⟩ : LoadRect S4096x128))

/-- The first expert's output rows. -/
def upper (g u : S1x2048x512.Idx → Elt F .bf16) (d : S1x512x2048.Idx → Elt F .bf16) : FVec F S256x2048 .f32 := k0_pay3 (hidden x h g u) (tall d)

/-- The second expert's output rows. -/
def lower (g u : S1x2048x512.Idx → Elt F .bf16) (d : S1x512x2048.Idx → Elt F .bf16) : FVec F S256x2048 .f32 :=
  k0_pay1 (input x h) (k0_pay5 (input x h) (wide g)) (wide u) (tall d)

/-- A block with its upper rows replaced. -/
def setUpper (w : FVec F S256x2048 .f32) (y : S512x2048.Idx → Elt F .f32) : S512x2048.Idx → Elt F .f32 :=
  fun z => if hz : (z 0).val < 256 then w (ix2 ⟨(z 0).val, hz⟩ (z 1)) else y z

/-- A block with its lower rows replaced. -/
def setLower (w : FVec F S256x2048 .f32) (y : S512x2048.Idx → Elt F .f32) : S512x2048.Idx → Elt F .f32 :=
  fun z => if hz : 256 ≤ (z 0).val then w (ix2 ⟨(z 0).val - 256, by have := (z 0).isLt; change _ < 512 at this; omega⟩ (z 1)) else y z

theorem setUpper_in (w : FVec F S256x2048 .f32) (y : S512x2048.Idx → Elt F .f32) (v : S256x2048.Idx) : setUpper w y ((Rect.unit (s := S512x2048) ![0, 0] S256x2048.size inb_S512x2048_S256x2048_0_0).emb v) = w v := by
  have h0 : (v 0).val < 256 := (v 0).isLt
  have e0 : ((Rect.unit (s := S512x2048) ![0, 0] S256x2048.size inb_S512x2048_S256x2048_0_0).emb v 0).val = (v 0).val := by show 0 + 1 * (v 0).val = _; omega
  have e1 : ((Rect.unit (s := S512x2048) ![0, 0] S256x2048.size inb_S512x2048_S256x2048_0_0).emb v 1).val = (v 1).val := by show 0 + 1 * (v 1).val = _; omega
  generalize (Rect.unit (s := S512x2048) ![0, 0] S256x2048.size inb_S512x2048_S256x2048_0_0).emb v = z at e0 e1
  unfold setUpper
  rw [dif_pos (by omega)]
  congr 1
  funext a
  match a with
  | ⟨0, _⟩ => exact Fin.ext e0
  | ⟨1, _⟩ => exact Fin.ext e1

theorem setUpper_out (w : FVec F S256x2048 .f32) (y : S512x2048.Idx → Elt F .f32) (z : S512x2048.Idx) (hz : z ∉ Finset.univ.map (Rect.unit (s := S512x2048) ![0, 0] S256x2048.size inb_S512x2048_S256x2048_0_0).emb) : setUpper w y z = y z := by
  unfold setUpper
  rw [dif_neg]
  intro h0
  refine hz (Finset.mem_map.mpr ⟨ix2 ⟨(z 0).val, h0⟩ (z 1), Finset.mem_univ _, ?_⟩)
  funext a
  match a with
  | ⟨0, _⟩ => exact Fin.ext (by show 0 + 1 * (z 0).val = (z 0).val; omega)
  | ⟨1, _⟩ => exact Fin.ext (by show 0 + 1 * (z 1).val = (z 1).val; omega)

theorem setLower_in (w : FVec F S256x2048 .f32) (y : S512x2048.Idx → Elt F .f32) (v : S256x2048.Idx) : setLower w y ((Rect.unit (s := S512x2048) ![256, 0] S256x2048.size inb_S512x2048_S256x2048_256_0).emb v) = w v := by
  have h0 : (v 0).val < 256 := (v 0).isLt
  have e0 : ((Rect.unit (s := S512x2048) ![256, 0] S256x2048.size inb_S512x2048_S256x2048_256_0).emb v 0).val = 256 + (v 0).val := by show 256 + 1 * (v 0).val = _; omega
  have e1 : ((Rect.unit (s := S512x2048) ![256, 0] S256x2048.size inb_S512x2048_S256x2048_256_0).emb v 1).val = (v 1).val := by show 0 + 1 * (v 1).val = _; omega
  generalize (Rect.unit (s := S512x2048) ![256, 0] S256x2048.size inb_S512x2048_S256x2048_256_0).emb v = z at e0 e1
  unfold setLower
  rw [dif_pos (by omega)]
  congr 1
  funext a
  match a with
  | ⟨0, _⟩ => exact Fin.ext (by show (z 0).val - 256 = (v 0).val; omega)
  | ⟨1, _⟩ => exact Fin.ext e1

theorem setLower_out (w : FVec F S256x2048 .f32) (y : S512x2048.Idx → Elt F .f32) (z : S512x2048.Idx) (hz : z ∉ Finset.univ.map (Rect.unit (s := S512x2048) ![256, 0] S256x2048.size inb_S512x2048_S256x2048_256_0).emb) : setLower w y z = y z := by
  unfold setLower
  rw [dif_neg]
  intro h0
  have h1 : (z 0).val < 512 := (z 0).isLt
  refine hz (Finset.mem_map.mpr ⟨ix2 ⟨(z 0).val - 256, by omega⟩ (z 1), Finset.mem_univ _, ?_⟩)
  funext a
  match a with
  | ⟨0, _⟩ => exact Fin.ext (by show 256 + 1 * ((z 0).val - 256) = (z 0).val; omega)
  | ⟨1, _⟩ => exact Fin.ext (by show 0 + 1 * (z 1).val = (z 1).val; omega)

end Values

variable {c : Dev nD}
variable (i : grid0.Coords)
variable (arg1 : Memref sig .tc .smem S576 .i32) (harg1 : arg1.IsWhole)
variable (arg2 : Memref sig .tc .smem S1x1x256 .i32) (harg2 : arg2.IsWhole)
variable (arg3 : Memref sig .tc .smem S1x1x256 .i32) (harg3 : arg3.IsWhole)
variable (arg4 : Memref sig .tc .smem S1x1x256 .i32) (harg4 : arg4.IsWhole)
variable (arg6 : Memref sig .tc .vmem S1x2048x512 .bf16) (harg6 : arg6.IsWhole)
variable (arg7 : Memref sig .tc .vmem S1x2048x512 .bf16) (harg7 : arg7.IsWhole)
variable (arg8 : Memref sig .tc .vmem S1x512x2048 .bf16) (harg8 : arg8.IsWhole)
variable (arg9 : Memref sig .tc .vmem S1x2048x512 .bf16) (harg9 : arg9.IsWhole)
variable (arg10 : Memref sig .tc .vmem S1x2048x512 .bf16) (harg10 : arg10.IsWhole)
variable (arg11 : Memref sig .tc .vmem S1x512x2048 .bf16) (harg11 : arg11.IsWhole)
variable (arg12 : Memref sig .tc .vmem S512x2048 .f32) (harg12 : arg12.IsWhole)
variable {x x' : S1x1x256.Idx → BitVec 32} {h : Buf (Elt F) ((c : Thread nD τ).loc main_arg2)}

/-- A gather of the body, with what else is held. -/
theorem gatherAt {sem : DmaSem sig} {X : Memref sig .tc .vmem S4096x128 .f32} {d : S4096x128.Idx → Elt F .f32}
    {T R : sProp (MT nD τ sig Unit (Elt F) ℕ (Pipeline.UD sig nD τ) ℕ)} {n : ℕ} {lb ub st : BitVec n} {hok} {body : Fin (Scf.trips lb ub st) → Unit → _}
    (htr : Scf.trips lb ub st = 32)
    (hbody : ∀ k, iprop(Issuing c sem X x h (8 * k.val) ∗ T) ⊢ Run c (body k ()) (fun _ => iprop(Issuing c sem X x h (8 * (k.val + 1)) ∗ T))) :
    iprop(owns (c : Thread nD τ) X fullShare d ∗ Whole c h ∗ semVal ((c : Thread nD τ), .dma sem) 0 ∗ T ∗ R)
      ⊢ Run c (Scf.for lb ub st hok () body) (fun a => iprop(⌜a = ()⌝ ∗ Sent c sem X x h ∗ Rest c h ∗ T ∗ R)) :=
  gather htr fun k => sep_assoc.2.trans ((framed Variants.none (c : Thread nD τ) none (hbody k)).trans
    (wp_mono frame (wpE (defs₀ (F := F)) Variants.none (c : Thread nD τ) none) Set.univ fun _ => sep_assoc.1))

theorem first (hx : ∀ t, (x (ix3 0 0 t)).toNat < 16384) {R : sProp (MT nD τ sig Unit (Elt F) ℕ (Pipeline.UD sig nD τ) ℕ)} (k0_h1 : k0_cond1 i = 1#1) {d : S4096x128.Idx → Elt F .f32} :
    iprop(owns (c : Thread nD τ) XA fullShare d ∗ Whole c h ∗ semVal ((c : Thread nD τ), .dma semA) 0 ∗ owns (Val := Elt F) (c : Thread nD τ) arg2 fullShare x ∗ Owes c ∗ R)
      ⊢ Run c (k0_part53 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semA XA x h 5 ∗ Rest c h ∗ owns (Val := Elt F) (c : Thread nD τ) arg2 fullShare x ∗ R)) := by
  rw [k0_part53_eq_skeleton]
  unfold k0_part53_skel
  dsimp only
  rw [dif_pos k0_h1]
  refine seqAt _ _ _ ⟨⟩ (gatherAt rfl fun k => trip1 i arg1 harg1 arg2 harg2 arg3 harg3 arg4 harg4 arg6 harg6 arg7 harg7 arg8 harg8 arg9 harg9 arg10 harg10 arg11 harg11 arg12 harg12 x h hx k k0_h1) ?_
  refine up2.trans ?_
  refine up2.trans ?_
  refine up3.trans ?_
  refine up3.trans ?_
  refine (sep_assoc.2.trans (sep_mono_left fly)).trans ?_
  refine seqAt _ _ _ ⟨⟩ (wait 0 (by decide) rfl) ?_
  refine seqAt _ _ _ ⟨⟩ (wait 1 (by decide) rfl) ?_
  refine seqAt _ _ _ ⟨⟩ (wait 2 (by decide) rfl) ?_
  refine seqAt _ _ _ ⟨⟩ (wait 3 (by decide) rfl) ?_
  refine seqAt _ _ _ ⟨⟩ (wait 4 (by decide) rfl) ?_
  exact done

theorem later (k0_h1 : ¬ k0_cond1 i = 1#1) {R : sProp (MT nD τ sig Unit (Elt F) ℕ (Pipeline.UD sig nD τ) ℕ)} :
    iprop(Fly c semA XA x h 0 ∗ R)
      ⊢ Run c (k0_part53 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semA XA x h 5 ∗ R)) := by
  rw [k0_part53_eq_skeleton]
  unfold k0_part53_skel
  dsimp only
  rw [dif_neg k0_h1]
  refine seqAt _ _ _ ⟨⟩ (wait 0 (by decide) rfl) ?_
  refine seqAt _ _ _ ⟨⟩ (wait 1 (by decide) rfl) ?_
  refine seqAt _ _ _ ⟨⟩ (wait 2 (by decide) rfl) ?_
  refine seqAt _ _ _ ⟨⟩ (wait 3 (by decide) rfl) ?_
  refine seqAt _ _ _ ⟨⟩ (wait 4 (by decide) rfl) ?_
  exact done

theorem middle (hx : ∀ t, (x' (ix3 0 0 t)).toNat < 16384) {d : S4096x128.Idx → Elt F .f32} {R : sProp (MT nD τ sig Unit (Elt F) ℕ (Pipeline.UD sig nD τ) ℕ)} :
    iprop(Fly c semA XA x h 251 ∗ Rest c h ∗ owns (Val := Elt F) (c : Thread nD τ) XB fullShare d ∗ semVal ((c : Thread nD τ), .dma semB) 0 ∗ owns (Val := Elt F) (c : Thread nD τ) arg3 fullShare x' ∗ R)
      ⊢ Run c (k0_part95 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨piece x h (⟨![0, 0], S256x128.size, ![16, 1], inb_S4096x128_S256x128_0_0_s_16_1⟩ : LoadRect S4096x128), piece x h (⟨![1, 0], S256x128.size, ![16, 1], inb_S4096x128_S256x128_1_0_s_16_1⟩ : LoadRect S4096x128)⟩⌝ ∗ owns (Val := Elt F) (c : Thread nD τ) XA fullShare (rows x h) ∗ Fly c semB XB x' h 0 ∗ Rest c h ∗ semVal ((c : Thread nD τ), .dma semA) 0 ∗ owns (Val := Elt F) (c : Thread nD τ) arg3 fullShare x' ∗ R)) := by
  rw [k0_part95_eq_skeleton]
  unfold k0_part95_skel
  refine seqAt _ _ _ ⟨⟩ (wait 251 (by decide) rfl) ?_
  refine seqAt _ _ _ ⟨⟩ (wait 252 (by decide) rfl) ?_
  refine seqAt _ _ _ ⟨⟩ (wait 253 (by decide) rfl) ?_
  refine seqAt _ _ _ ⟨⟩ (wait 254 (by decide) rfl) ?_
  refine seqAt _ _ _ ⟨⟩ (waitEnd rfl) ?_
  refine up3.trans ?_
  refine up3.trans ?_
  refine up2.trans ?_
  refine up6.trans ?_
  refine up6.trans ?_
  refine up5.trans ?_
  refine up6.trans ?_
  refine seqAt _ _ _ ⟨⟩ (gatherAt rfl fun k => trip2 i arg1 harg1 arg2 harg2 arg3 harg3 arg4 harg4 arg6 harg6 arg7 harg7 arg8 harg8 arg9 harg9 arg10 harg10 arg11 harg11 arg12 harg12 x' h hx k) ?_
  refine up2.trans ?_
  refine up4.trans ?_
  refine up3.trans ?_
  refine up4.trans ?_
  refine up5.trans ?_
  refine up5.trans ?_
  refine (sep_assoc.2.trans (sep_mono_left fly)).trans ?_
  refine up1.trans ?_
  refine seqAt _ _ _ _ (load _ _ _) ?_
  refine seqAt _ _ _ _ (load _ _ _) ?_
  exact done

theorem expert0 {g u : S1x2048x512.Idx → Elt F .bf16} {R : sProp (MT nD τ sig Unit (Elt F) ℕ (Pipeline.UD sig nD τ) ℕ)} :
    iprop(owns (Val := Elt F) (c : Thread nD τ) XA fullShare (rows x h) ∗ owns (Val := Elt F) (c : Thread nD τ) arg6 fullShare g ∗ owns (Val := Elt F) (c : Thread nD τ) arg7 fullShare u ∗ R)
      ⊢ Run c (k0_part96 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 (piece x h (⟨![0, 0], S256x128.size, ![16, 1], inb_S4096x128_S256x128_0_0_s_16_1⟩ : LoadRect S4096x128)) (piece x h (⟨![1, 0], S256x128.size, ![16, 1], inb_S4096x128_S256x128_1_0_s_16_1⟩ : LoadRect S4096x128))) (fun a => iprop(⌜a = hidden x h g u⌝ ∗ owns (Val := Elt F) (c : Thread nD τ) arg7 fullShare u ∗ owns (Val := Elt F) (c : Thread nD τ) arg6 fullShare g ∗ owns (Val := Elt F) (c : Thread nD τ) XA fullShare (rows x h) ∗ R)) := by
  rw [k0_part96_eq_skeleton]
  unfold k0_part96_skel
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine up1.trans ?_
  refine seqAt _ _ _ _ (load _ _ _) ?_
  refine up2.trans ?_
  refine seqAt _ _ _ _ (load _ _ _) ?_
  exact done

theorem expert0Out {v : FVec F S256x512 .f32} {d : S1x512x2048.Idx → Elt F .bf16} {y : S512x2048.Idx → Elt F .f32} {R : sProp (MT nD τ sig Unit (Elt F) ℕ (Pipeline.UD sig nD τ) ℕ)} :
    iprop(owns (Val := Elt F) (c : Thread nD τ) arg8 fullShare d ∗ owns (Val := Elt F) (c : Thread nD τ) arg12 fullShare y ∗ Fly c semB XB x' h 0 ∗ R)
      ⊢ Run c (k0_part97 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 v) (fun a => iprop(⌜a = ⟨⟩⌝ ∗ Fly c semB XB x' h 4 ∗ owns (Val := Elt F) (c : Thread nD τ) arg12 fullShare (setUpper (k0_pay3 v (tall d)) y) ∗ owns (Val := Elt F) (c : Thread nD τ) arg8 fullShare d ∗ R)) := by
  rw [k0_part97_eq_skeleton]
  unfold k0_part97_skel
  refine seqAt _ _ _ _ (load _ _ _) ?_
  refine up1.trans ?_
  refine seqAt _ _ _ _ (load _ _ _) ?_
  refine seqAt _ _ _ ⟨⟩ (store Variants.none (c : Thread nD τ) none (setUpper (k0_pay3 v (tall d)) y) (setUpper_in _ _) (setUpper_out _ _)) ?_
  refine up2.trans ?_
  refine seqAt _ _ _ ⟨⟩ (wait 0 (by decide) rfl) ?_
  refine seqAt _ _ _ ⟨⟩ (wait 1 (by decide) rfl) ?_
  refine seqAt _ _ _ ⟨⟩ (wait 2 (by decide) rfl) ?_
  refine seqAt _ _ _ ⟨⟩ (wait 3 (by decide) rfl) ?_
  exact done

theorem second (hx : ∀ t, (x' (ix3 0 0 t)).toNat < 16384) {d : S4096x128.Idx → Elt F .f32} {R : sProp (MT nD τ sig Unit (Elt F) ℕ (Pipeline.UD sig nD τ) ℕ)} :
    iprop(Fly c semB XB x h 250 ∗ Rest c h ∗ owns (Val := Elt F) (c : Thread nD τ) XA fullShare d ∗ semVal ((c : Thread nD τ), .dma semA) 0 ∗ owns (Val := Elt F) (c : Thread nD τ) arg4 fullShare x' ∗ R)
      ⊢ Run c (k0_part139 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ Sent c semA XA x' h ∗ Rest c h ∗ owns (Val := Elt F) (c : Thread nD τ) arg4 fullShare x' ∗ owns (Val := Elt F) (c : Thread nD τ) XB fullShare (rows x h) ∗ semVal ((c : Thread nD τ), .dma semB) 0 ∗ Owes c ∗ R)) := by
  rw [k0_part139_eq_skeleton]
  unfold k0_part139_skel
  refine seqAt _ _ _ ⟨⟩ (wait 250 (by decide) rfl) ?_
  refine seqAt _ _ _ ⟨⟩ (wait 251 (by decide) rfl) ?_
  refine seqAt _ _ _ ⟨⟩ (wait 252 (by decide) rfl) ?_
  refine seqAt _ _ _ ⟨⟩ (wait 253 (by decide) rfl) ?_
  refine seqAt _ _ _ ⟨⟩ (wait 254 (by decide) rfl) ?_
  refine seqAt _ _ _ ⟨⟩ (waitEnd rfl) ?_
  refine up3.trans ?_
  refine up3.trans ?_
  refine up2.trans ?_
  refine up6.trans ?_
  refine up6.trans ?_
  refine up5.trans ?_
  refine up6.trans ?_
  refine seqAt _ _ _ ⟨⟩ (gatherAt rfl fun k => trip3 i arg1 harg1 arg2 harg2 arg3 harg3 arg4 harg4 arg6 harg6 arg7 harg7 arg8 harg8 arg9 harg9 arg10 harg10 arg11 harg11 arg12 harg12 x' h hx k) ?_
  exact done

theorem expert1 {g : S1x2048x512.Idx → Elt F .bf16} {R : sProp (MT nD τ sig Unit (Elt F) ℕ (Pipeline.UD sig nD τ) ℕ)} :
    iprop(owns (Val := Elt F) (c : Thread nD τ) XB fullShare (rows x h) ∗ owns (Val := Elt F) (c : Thread nD τ) arg9 fullShare g ∗ R)
      ⊢ Run c (k0_part140 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨input x h, k0_pay5 (input x h) (wide g)⟩⌝ ∗ owns (Val := Elt F) (c : Thread nD τ) arg9 fullShare g ∗ owns (Val := Elt F) (c : Thread nD τ) XB fullShare (rows x h) ∗ R)) := by
  rw [k0_part140_eq_skeleton]
  unfold k0_part140_skel
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine seqAt _ _ _ _ (load _ _ _) ?_
  refine up1.trans ?_
  refine seqAt _ _ _ _ (load _ _ _) ?_
  exact done

theorem lastWaits  {R : sProp (MT nD τ sig Unit (Elt F) ℕ (Pipeline.UD sig nD τ) ℕ)} :
    iprop(Fly c semA XA x h 0 ∗ R)
      ⊢ Run c (k0_part52 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ Fly c semA XA x h 253 ∗ R)) := by
  rw [k0_part52_eq_skeleton]
  unfold k0_part52_skel
  have w54 := fun x R n hn => waits54 (x := x) (h := h) (R := R) i arg1 harg1 arg2 harg2 arg3 harg3 arg4 harg4 arg6 harg6 arg7 harg7 arg8 harg8 arg9 harg9 arg10 harg10 arg11 harg11 arg12 harg12 n hn
  refine seqAt _ _ _ ⟨⟩ (w54 _ _ 0 (by decide)) ?_
  refine seqAt _ _ _ ⟨⟩ (w54 _ _ 6 (by decide)) ?_
  refine seqAt _ _ _ ⟨⟩ (w54 _ _ 12 (by decide)) ?_
  refine seqAt _ _ _ ⟨⟩ (w54 _ _ 18 (by decide)) ?_
  refine seqAt _ _ _ ⟨⟩ (w54 _ _ 24 (by decide)) ?_
  refine seqAt _ _ _ ⟨⟩ (w54 _ _ 30 (by decide)) ?_
  refine seqAt _ _ _ ⟨⟩ (w54 _ _ 36 (by decide)) ?_
  refine seqAt _ _ _ ⟨⟩ (w54 _ _ 42 (by decide)) ?_
  refine seqAt _ _ _ ⟨⟩ (w54 _ _ 48 (by decide)) ?_
  refine seqAt _ _ _ ⟨⟩ (w54 _ _ 54 (by decide)) ?_
  refine seqAt _ _ _ ⟨⟩ (w54 _ _ 60 (by decide)) ?_
  refine seqAt _ _ _ ⟨⟩ (w54 _ _ 66 (by decide)) ?_
  refine seqAt _ _ _ ⟨⟩ (w54 _ _ 72 (by decide)) ?_
  refine seqAt _ _ _ ⟨⟩ (w54 _ _ 78 (by decide)) ?_
  refine seqAt _ _ _ ⟨⟩ (w54 _ _ 84 (by decide)) ?_
  refine seqAt _ _ _ ⟨⟩ (w54 _ _ 90 (by decide)) ?_
  refine seqAt _ _ _ ⟨⟩ (w54 _ _ 96 (by decide)) ?_
  refine seqAt _ _ _ ⟨⟩ (w54 _ _ 102 (by decide)) ?_
  refine seqAt _ _ _ ⟨⟩ (w54 _ _ 108 (by decide)) ?_
  refine seqAt _ _ _ ⟨⟩ (w54 _ _ 114 (by decide)) ?_
  refine seqAt _ _ _ ⟨⟩ (w54 _ _ 120 (by decide)) ?_
  refine seqAt _ _ _ ⟨⟩ (w54 _ _ 126 (by decide)) ?_
  refine seqAt _ _ _ ⟨⟩ (w54 _ _ 132 (by decide)) ?_
  refine seqAt _ _ _ ⟨⟩ (w54 _ _ 138 (by decide)) ?_
  refine seqAt _ _ _ ⟨⟩ (w54 _ _ 144 (by decide)) ?_
  refine seqAt _ _ _ ⟨⟩ (w54 _ _ 150 (by decide)) ?_
  refine seqAt _ _ _ ⟨⟩ (w54 _ _ 156 (by decide)) ?_
  refine seqAt _ _ _ ⟨⟩ (w54 _ _ 162 (by decide)) ?_
  refine seqAt _ _ _ ⟨⟩ (w54 _ _ 168 (by decide)) ?_
  refine seqAt _ _ _ ⟨⟩ (w54 _ _ 174 (by decide)) ?_
  refine seqAt _ _ _ ⟨⟩ (w54 _ _ 180 (by decide)) ?_
  refine seqAt _ _ _ ⟨⟩ (w54 _ _ 186 (by decide)) ?_
  refine seqAt _ _ _ ⟨⟩ (w54 _ _ 192 (by decide)) ?_
  refine seqAt _ _ _ ⟨⟩ (w54 _ _ 198 (by decide)) ?_
  refine seqAt _ _ _ ⟨⟩ (w54 _ _ 204 (by decide)) ?_
  refine seqAt _ _ _ ⟨⟩ (w54 _ _ 210 (by decide)) ?_
  refine seqAt _ _ _ ⟨⟩ (w54 _ _ 216 (by decide)) ?_
  refine seqAt _ _ _ ⟨⟩ (w54 _ _ 222 (by decide)) ?_
  refine seqAt _ _ _ ⟨⟩ (w54 _ _ 228 (by decide)) ?_
  refine seqAt _ _ _ ⟨⟩ (w54 _ _ 234 (by decide)) ?_
  refine seqAt _ _ _ ⟨⟩ (w54 _ _ 240 (by decide)) ?_
  refine seqAt _ _ _ ⟨⟩ (w54 _ _ 246 (by decide)) ?_
  refine seqAt _ _ _ ⟨⟩ (wait 252 (by decide) rfl) ?_
  exact done

end Cert.Kernel4Ideal.Moe

end
-- ==== Proof.Kernel4Ideal.Body.lean ====
/-
  The whole body: a batch in flight when it starts, the next one in flight when it ends, and both experts' rows stored.
-/
module

public import Idealize.ShloMosaic.Lib.ValueIdxCore
public import Idealize.ShloMosaic.Lib.Pipeline.FrameBody
public import Idealize.ShloMosaic.Lib.Ring
public import Idealize.ShloMosaic.Lib.Tactic
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Steps
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel4Ideal Cert.Kernel4Ideal.Gen Cert.Issue

variable {F : FTy → Type} [FloatOps F]

/-- The block of rows a grid point stores. -/
def output (xa x₁ : S1x1x256.Idx → BitVec 32) (h : S262144x128.Idx → Elt F .f32) (g₁ u₁ : S1x2048x512.Idx → Elt F .bf16) (d₁ : S1x512x2048.Idx → Elt F .bf16)
    (g₂ u₂ : S1x2048x512.Idx → Elt F .bf16) (d₂ : S1x512x2048.Idx → Elt F .bf16) (y : S512x2048.Idx → Elt F .f32) : S512x2048.Idx → Elt F .f32 :=
  setLower (lower x₁ h g₂ u₂ d₂) (setUpper (upper xa h g₁ u₁ d₁) y)

/-- The last grid point, as the body tests it. -/
abbrev IsLast (i : grid0.Coords) : Prop :=
  Scalar.cmpi .ne (Scalar.extui (Scalar.cmpi .eq (BitVec.ofNat 32 (i 0).val) 287#32) : BitVec 32) 0#32 = 1#1

variable {c : Dev nD}
variable (i : grid0.Coords)
variable (arg1 : Memref sig .tc .smem S576 .i32) (harg1 : arg1.IsWhole)
variable (arg2 : Memref sig .tc .smem S1x1x256 .i32) (harg2 : arg2.IsWhole)
variable (arg3 : Memref sig .tc .smem S1x1x256 .i32) (harg3 : arg3.IsWhole)
variable (arg4 : Memref sig .tc .smem S1x1x256 .i32) (harg4 : arg4.IsWhole)
variable (arg6 : Memref sig .tc .vmem S1x2048x512 .bf16) (harg6 : arg6.IsWhole)
variable (arg7 : Memref sig .tc .vmem S1x2048x512 .bf16) (harg7 : arg7.IsWhole)
variable (arg8 : Memref sig .tc .vmem S1x512x2048 .bf16) (harg8 : arg8.IsWhole)
variable (arg9 : Memref sig .tc .vmem S1x2048x512 .bf16) (harg9 : arg9.IsWhole)
variable (arg10 : Memref sig .tc .vmem S1x2048x512 .bf16) (harg10 : arg10.IsWhole)
variable (arg11 : Memref sig .tc .vmem S1x512x2048 .bf16) (harg11 : arg11.IsWhole)
variable (arg12 : Memref sig .tc .vmem S512x2048 .f32) (harg12 : arg12.IsWhole)
variable {xa x₁ x₂ : S1x1x256.Idx → BitVec 32} {h : Buf (Elt F) ((c : Thread nD τ).loc main_arg2)}
variable {g₁ u₁ g₂ u₂ : S1x2048x512.Idx → Elt F .bf16} {d₁ d₂ : S1x512x2048.Idx → Elt F .bf16} {y : S512x2048.Idx → Elt F .f32} {dB : S4096x128.Idx → Elt F .f32}

attribute [local irreducible] k0_part52

theorem lastSeq {R : sProp (MT nD τ sig Unit (Elt F) ℕ (Pipeline.UD sig nD τ) ℕ)} {Q : PUnit → sProp (MT nD τ sig Unit (Elt F) ℕ (Pipeline.UD sig nD τ) ℕ)} {p : PUnit → Prog (TpuEff nD τ sig (Elt F) Λ₀ .tc) PUnit}
    (hq : iprop(Fly c semA XA x₂ h 253 ∗ R) ⊢ Run c (p ⟨⟩) Q) :
    iprop(Fly c semA XA x₂ h 0 ∗ R) ⊢ Run c (k0_part52 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2 >>= p) Q := by
  refine seqAt _ _ _ ⟨⟩ (lastWaits i arg1 harg1 arg2 harg2 arg3 harg3 arg4 harg4 arg6 harg6 arg7 harg7 arg8 harg8 arg9 harg9 arg10 harg10 arg11 harg11 arg12 harg12) ?_
  exact hq

theorem head {P R : sProp (MT nD τ sig Unit (Elt F) ℕ (Pipeline.UD sig nD τ) ℕ)} (hx₁ : ∀ t, (x₁ (ix3 0 0 t)).toNat < 16384)
    (h53 : P ⊢ Run c (k0_part53 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semA XA xa h 5 ∗ Rest c h ∗ owns (Val := Elt F) (c : Thread nD τ) XB fullShare dB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare y ∗ R))) :
    P ⊢ Run c (k0_part141 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semB XB x₁ h 94 ∗ owns (Val := Elt F) (c : Thread nD τ) arg12 fullShare (setUpper (upper xa h g₁ u₁ d₁) y) ∗ owns (Val := Elt F) (c : Thread nD τ) arg8 fullShare d₁ ∗ owns (Val := Elt F) (c : Thread nD τ) arg7 fullShare u₁ ∗ owns (Val := Elt F) (c : Thread nD τ) arg6 fullShare g₁ ∗ owns (Val := Elt F) (c : Thread nD τ) XA fullShare (rows xa h) ∗ Rest c h ∗ semVal ((c : Thread nD τ), .dma semA) 0 ∗ owns (Val := Elt F) (c : Thread nD τ) arg3 fullShare x₁ ∗ R)) := by
  rw [k0_part141_eq_skeleton]
  unfold k0_part141_skel
  refine seqAt _ _ _ _ h53 ?_
  have w54 := fun x R n hn => waits54 (x := x) (h := h) (R := R) i arg1 harg1 arg2 harg2 arg3 harg3 arg4 harg4 arg6 harg6 arg7 harg7 arg8 harg8 arg9 harg9 arg10 harg10 arg11 harg11 arg12 harg12 n hn
  refine seqAt _ _ _ ⟨⟩ (w54 _ _ 5 (by decide)) ?_
  refine seqAt _ _ _ ⟨⟩ (w54 _ _ 11 (by decide)) ?_
  refine seqAt _ _ _ ⟨⟩ (w54 _ _ 17 (by decide)) ?_
  refine seqAt _ _ _ ⟨⟩ (w54 _ _ 23 (by decide)) ?_
  refine seqAt _ _ _ ⟨⟩ (w54 _ _ 29 (by decide)) ?_
  refine seqAt _ _ _ ⟨⟩ (w54 _ _ 35 (by decide)) ?_
  refine seqAt _ _ _ ⟨⟩ (w54 _ _ 41 (by decide)) ?_
  refine seqAt _ _ _ ⟨⟩ (w54 _ _ 47 (by decide)) ?_
  refine seqAt _ _ _ ⟨⟩ (w54 _ _ 53 (by decide)) ?_
  refine seqAt _ _ _ ⟨⟩ (w54 _ _ 59 (by decide)) ?_
  refine seqAt _ _ _ ⟨⟩ (w54 _ _ 65 (by decide)) ?_
  refine seqAt _ _ _ ⟨⟩ (w54 _ _ 71 (by decide)) ?_
  refine seqAt _ _ _ ⟨⟩ (w54 _ _ 77 (by decide)) ?_
  refine seqAt _ _ _ ⟨⟩ (w54 _ _ 83 (by decide)) ?_
  refine seqAt _ _ _ ⟨⟩ (w54 _ _ 89 (by decide)) ?_
  refine seqAt _ _ _ ⟨⟩ (w54 _ _ 95 (by decide)) ?_
  refine seqAt _ _ _ ⟨⟩ (w54 _ _ 101 (by decide)) ?_
  refine seqAt _ _ _ ⟨⟩ (w54 _ _ 107 (by decide)) ?_
  refine seqAt _ _ _ ⟨⟩ (w54 _ _ 113 (by decide)) ?_
  refine seqAt _ _ _ ⟨⟩ (w54 _ _ 119 (by decide)) ?_
  refine seqAt _ _ _ ⟨⟩ (w54 _ _ 125 (by decide)) ?_
  refine seqAt _ _ _ ⟨⟩ (w54 _ _ 131 (by decide)) ?_
  refine seqAt _ _ _ ⟨⟩ (w54 _ _ 137 (by decide)) ?_
  refine seqAt _ _ _ ⟨⟩ (w54 _ _ 143 (by decide)) ?_
  refine seqAt _ _ _ ⟨⟩ (w54 _ _ 149 (by decide)) ?_
  refine seqAt _ _ _ ⟨⟩ (w54 _ _ 155 (by decide)) ?_
  refine seqAt _ _ _ ⟨⟩ (w54 _ _ 161 (by decide)) ?_
  refine seqAt _ _ _ ⟨⟩ (w54 _ _ 167 (by decide)) ?_
  refine seqAt _ _ _ ⟨⟩ (w54 _ _ 173 (by decide)) ?_
  refine seqAt _ _ _ ⟨⟩ (w54 _ _ 179 (by decide)) ?_
  refine seqAt _ _ _ ⟨⟩ (w54 _ _ 185 (by decide)) ?_
  refine seqAt _ _ _ ⟨⟩ (w54 _ _ 191 (by decide)) ?_
  refine seqAt _ _ _ ⟨⟩ (w54 _ _ 197 (by decide)) ?_
  refine seqAt _ _ _ ⟨⟩ (w54 _ _ 203 (by decide)) ?_
  refine seqAt _ _ _ ⟨⟩ (w54 _ _ 209 (by decide)) ?_
  refine seqAt _ _ _ ⟨⟩ (w54 _ _ 215 (by decide)) ?_
  refine seqAt _ _ _ ⟨⟩ (w54 _ _ 221 (by decide)) ?_
  refine seqAt _ _ _ ⟨⟩ (w54 _ _ 227 (by decide)) ?_
  refine seqAt _ _ _ ⟨⟩ (w54 _ _ 233 (by decide)) ?_
  refine seqAt _ _ _ ⟨⟩ (w54 _ _ 239 (by decide)) ?_
  refine seqAt _ _ _ ⟨⟩ (w54 _ _ 245 (by decide)) ?_
  refine seqAt _ _ _ _ (middle i arg1 harg1 arg2 harg2 arg3 harg3 arg4 harg4 arg6 harg6 arg7 harg7 arg8 harg8 arg9 harg9 arg10 harg10 arg11 harg11 arg12 harg12 hx₁) ?_
  refine up8.trans ?_
  refine up8.trans ?_
  refine up6.trans ?_
  refine up6.trans ?_
  refine up6.trans ?_
  refine up6.trans ?_
  refine up8.trans ?_
  refine up8.trans ?_
  refine up8.trans ?_
  refine seqAt _ _ _ _ (expert0 i arg1 harg1 arg2 harg2 arg3 harg3 arg4 harg4 arg6 harg6 arg7 harg7 arg8 harg8 arg9 harg9 arg10 harg10 arg11 harg11 arg12 harg12) ?_
  refine up6.trans ?_
  refine up6.trans ?_
  refine up6.trans ?_
  refine up5.trans ?_
  refine up5.trans ?_
  refine up5.trans ?_
  refine up6.trans ?_
  refine up8.trans ?_
  refine up8.trans ?_
  refine seqAt _ _ _ _ (expert0Out i arg1 harg1 arg2 harg2 arg3 harg3 arg4 harg4 arg6 harg6 arg7 harg7 arg8 harg8 arg9 harg9 arg10 harg10 arg11 harg11 arg12 harg12) ?_
  have w98 := fun x R n hn => waits98 (x := x) (h := h) (R := R) i arg1 harg1 arg2 harg2 arg3 harg3 arg4 harg4 arg6 harg6 arg7 harg7 arg8 harg8 arg9 harg9 arg10 harg10 arg11 harg11 arg12 harg12 n hn
  refine seqAt _ _ _ ⟨⟩ (w98 _ _ 4 (by decide)) ?_
  refine seqAt _ _ _ ⟨⟩ (w98 _ _ 10 (by decide)) ?_
  refine seqAt _ _ _ ⟨⟩ (w98 _ _ 16 (by decide)) ?_
  refine seqAt _ _ _ ⟨⟩ (w98 _ _ 22 (by decide)) ?_
  refine seqAt _ _ _ ⟨⟩ (w98 _ _ 28 (by decide)) ?_
  refine seqAt _ _ _ ⟨⟩ (w98 _ _ 34 (by decide)) ?_
  refine seqAt _ _ _ ⟨⟩ (w98 _ _ 40 (by decide)) ?_
  refine seqAt _ _ _ ⟨⟩ (w98 _ _ 46 (by decide)) ?_
  refine seqAt _ _ _ ⟨⟩ (w98 _ _ 52 (by decide)) ?_
  refine seqAt _ _ _ ⟨⟩ (w98 _ _ 58 (by decide)) ?_
  refine seqAt _ _ _ ⟨⟩ (w98 _ _ 64 (by decide)) ?_
  refine seqAt _ _ _ ⟨⟩ (w98 _ _ 70 (by decide)) ?_
  refine seqAt _ _ _ ⟨⟩ (w98 _ _ 76 (by decide)) ?_
  refine seqAt _ _ _ ⟨⟩ (w98 _ _ 82 (by decide)) ?_
  refine seqAt _ _ _ ⟨⟩ (w98 _ _ 88 (by decide)) ?_
  exact done

theorem body_mid {P R : sProp (MT nD τ sig Unit (Elt F) ℕ (Pipeline.UD sig nD τ) ℕ)} (hx₁ : ∀ t, (x₁ (ix3 0 0 t)).toNat < 16384) (hx₂ : ∀ t, (x₂ (ix3 0 0 t)).toNat < 16384) (hl : ¬ IsLast i)
    (h53 : P ⊢ Run c (k0_part53 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semA XA xa h 5 ∗ Rest c h ∗ owns (Val := Elt F) (c : Thread nD τ) XB fullShare dB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare y ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ R))) :
    P ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ Sent c semA XA x₂ h ∗ Rest c h ∗ owns (Val := Elt F) (c : Thread nD τ) XB fullShare (rows x₁ h) ∗ semVal ((c : Thread nD τ), .dma semB) 0 ∗ Owes c ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (output xa x₁ h g₁ u₁ d₁ g₂ u₂ d₂ y) ∗ R)) := by
  rw [cc0_moe_experts_eq_skeleton]
  unfold cc0_moe_experts_skel
  refine seqAt _ _ _ _ (head i arg1 harg1 arg2 harg2 arg3 harg3 arg4 harg4 arg6 harg6 arg7 harg7 arg8 harg8 arg9 harg9 arg10 harg10 arg11 harg11 arg12 harg12 hx₁ h53) ?_
  have w98 := fun x R n hn => waits98 (x := x) (h := h) (R := R) i arg1 harg1 arg2 harg2 arg3 harg3 arg4 harg4 arg6 harg6 arg7 harg7 arg8 harg8 arg9 harg9 arg10 harg10 arg11 harg11 arg12 harg12 n hn
  refine seqAt _ _ _ ⟨⟩ (w98 _ _ 94 (by decide)) ?_
  refine seqAt _ _ _ ⟨⟩ (w98 _ _ 100 (by decide)) ?_
  refine seqAt _ _ _ ⟨⟩ (w98 _ _ 106 (by decide)) ?_
  refine seqAt _ _ _ ⟨⟩ (w98 _ _ 112 (by decide)) ?_
  refine seqAt _ _ _ ⟨⟩ (w98 _ _ 118 (by decide)) ?_
  refine seqAt _ _ _ ⟨⟩ (w98 _ _ 124 (by decide)) ?_
  refine seqAt _ _ _ ⟨⟩ (w98 _ _ 130 (by decide)) ?_
  refine seqAt _ _ _ ⟨⟩ (w98 _ _ 136 (by decide)) ?_
  refine seqAt _ _ _ ⟨⟩ (w98 _ _ 142 (by decide)) ?_
  refine seqAt _ _ _ ⟨⟩ (w98 _ _ 148 (by decide)) ?_
  refine seqAt _ _ _ ⟨⟩ (w98 _ _ 154 (by decide)) ?_
  refine seqAt _ _ _ ⟨⟩ (w98 _ _ 160 (by decide)) ?_
  refine seqAt _ _ _ ⟨⟩ (w98 _ _ 166 (by decide)) ?_
  refine seqAt _ _ _ ⟨⟩ (w98 _ _ 172 (by decide)) ?_
  refine seqAt _ _ _ ⟨⟩ (w98 _ _ 178 (by decide)) ?_
  refine seqAt _ _ _ ⟨⟩ (w98 _ _ 184 (by decide)) ?_
  refine seqAt _ _ _ ⟨⟩ (w98 _ _ 190 (by decide)) ?_
  refine seqAt _ _ _ ⟨⟩ (w98 _ _ 196 (by decide)) ?_
  refine seqAt _ _ _ ⟨⟩ (w98 _ _ 202 (by decide)) ?_
  refine seqAt _ _ _ ⟨⟩ (w98 _ _ 208 (by decide)) ?_
  refine seqAt _ _ _ ⟨⟩ (w98 _ _ 214 (by decide)) ?_
  refine seqAt _ _ _ ⟨⟩ (w98 _ _ 220 (by decide)) ?_
  refine seqAt _ _ _ ⟨⟩ (w98 _ _ 226 (by decide)) ?_
  refine seqAt _ _ _ ⟨⟩ (w98 _ _ 232 (by decide)) ?_
  refine seqAt _ _ _ ⟨⟩ (w98 _ _ 238 (by decide)) ?_
  refine seqAt _ _ _ ⟨⟩ (w98 _ _ 244 (by decide)) ?_
  refine up12.trans ?_
  refine up12.trans ?_
  refine up12.trans ?_
  refine up11.trans ?_
  refine up8.trans ?_
  refine up8.trans ?_
  refine up8.trans ?_
  refine up8.trans ?_
  refine up12.trans ?_
  refine up12.trans ?_
  refine up11.trans ?_
  refine up12.trans ?_
  refine up12.trans ?_
  refine seqAt _ _ _ ⟨⟩ (second i arg1 harg1 arg2 harg2 arg3 harg3 arg4 harg4 arg6 harg6 arg7 harg7 arg8 harg8 arg9 harg9 arg10 harg10 arg11 harg11 arg12 harg12 hx₂) ?_
  refine up13.trans ?_
  refine up13.trans ?_
  refine up12.trans ?_
  refine up12.trans ?_
  refine up12.trans ?_
  refine up12.trans ?_
  refine up12.trans ?_
  refine up12.trans ?_
  refine up12.trans ?_
  refine up11.trans ?_
  refine up11.trans ?_
  refine up11.trans ?_
  refine up13.trans ?_
  refine up13.trans ?_
  refine seqAt _ _ _ _ (expert1 i arg1 harg1 arg2 harg2 arg3 harg3 arg4 harg4 arg6 harg6 arg7 harg7 arg8 harg8 arg9 harg9 arg10 harg10 arg11 harg11 arg12 harg12) ?_
  refine up11.trans ?_
  refine up11.trans ?_
  refine up11.trans ?_
  refine up11.trans ?_
  refine up10.trans ?_
  refine up10.trans ?_
  refine up10.trans ?_
  refine up10.trans ?_
  refine up10.trans ?_
  refine up10.trans ?_
  refine up10.trans ?_
  refine up11.trans ?_
  refine up13.trans ?_
  refine up13.trans ?_
  refine seqAt _ _ _ _ (load _ _ _) ?_
  refine up1.trans ?_
  refine seqAt _ _ _ _ (load _ _ _) ?_
  refine up2.trans ?_
  refine seqAt _ _ _ _ (load _ _ _) ?_
  refine seqAt _ _ _ ⟨⟩ (store Variants.none (c : Thread nD τ) none (output xa x₁ h g₁ u₁ d₁ g₂ u₂ d₂ y) (setLower_in (lower x₁ h g₂ u₂ d₂) _) (setLower_out (lower x₁ h g₂ u₂ d₂) _)) ?_
  refine up1.trans ?_
  refine up2.trans ?_
  refine up3.trans ?_
  refine up10.trans ?_
  refine up11.trans ?_
  refine up12.trans ?_
  refine up10.trans ?_
  refine up13.trans ?_
  refine up13.trans ?_
  refine up13.trans ?_
  refine up11.trans ?_
  refine up13.trans ?_
  refine up13.trans ?_
  dsimp only
  rw [dif_neg hl]
  exact done

theorem body_last {P R : sProp (MT nD τ sig Unit (Elt F) ℕ (Pipeline.UD sig nD τ) ℕ)} (hx₁ : ∀ t, (x₁ (ix3 0 0 t)).toNat < 16384) (hx₂ : ∀ t, (x₂ (ix3 0 0 t)).toNat < 16384) (hl : IsLast i)
    (h53 : P ⊢ Run c (k0_part53 i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = BitVec.ofNat 32 (i 0).val⌝ ∗ Fly c semA XA xa h 5 ∗ Rest c h ∗ owns (Val := Elt F) (c : Thread nD τ) XB fullShare dB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare y ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ R))) :
    P ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun a => iprop(⌜a = ⟨⟩⌝ ∗ owns (Val := Elt F) (c : Thread nD τ) XA fullShare (rows x₂ h) ∗ Whole c h ∗ semVal ((c : Thread nD τ), .dma semA) 0 ∗ Owes c ∗ owns (Val := Elt F) (c : Thread nD τ) XB fullShare (rows x₁ h) ∗ semVal ((c : Thread nD τ), .dma semB) 0 ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (output xa x₁ h g₁ u₁ d₁ g₂ u₂ d₂ y) ∗ R)) := by
  rw [cc0_moe_experts_eq_skeleton]
  unfold cc0_moe_experts_skel
  refine seqAt _ _ _ _ (head i arg1 harg1 arg2 harg2 arg3 harg3 arg4 harg4 arg6 harg6 arg7 harg7 arg8 harg8 arg9 harg9 arg10 harg10 arg11 harg11 arg12 harg12 hx₁ h53) ?_
  have w98 := fun x R n hn => waits98 (x := x) (h := h) (R := R) i arg1 harg1 arg2 harg2 arg3 harg3 arg4 harg4 arg6 harg6 arg7 harg7 arg8 harg8 arg9 harg9 arg10 harg10 arg11 harg11 arg12 harg12 n hn
  refine seqAt _ _ _ ⟨⟩ (w98 _ _ 94 (by decide)) ?_
  refine seqAt _ _ _ ⟨⟩ (w98 _ _ 100 (by decide)) ?_
  refine seqAt _ _ _ ⟨⟩ (w98 _ _ 106 (by decide)) ?_
  refine seqAt _ _ _ ⟨⟩ (w98 _ _ 112 (by decide)) ?_
  refine seqAt _ _ _ ⟨⟩ (w98 _ _ 118 (by decide)) ?_
  refine seqAt _ _ _ ⟨⟩ (w98 _ _ 124 (by decide)) ?_
  refine seqAt _ _ _ ⟨⟩ (w98 _ _ 130 (by decide)) ?_
  refine seqAt _ _ _ ⟨⟩ (w98 _ _ 136 (by decide)) ?_
  refine seqAt _ _ _ ⟨⟩ (w98 _ _ 142 (by decide)) ?_
  refine seqAt _ _ _ ⟨⟩ (w98 _ _ 148 (by decide)) ?_
  refine seqAt _ _ _ ⟨⟩ (w98 _ _ 154 (by decide)) ?_
  refine seqAt _ _ _ ⟨⟩ (w98 _ _ 160 (by decide)) ?_
  refine seqAt _ _ _ ⟨⟩ (w98 _ _ 166 (by decide)) ?_
  refine seqAt _ _ _ ⟨⟩ (w98 _ _ 172 (by decide)) ?_
  refine seqAt _ _ _ ⟨⟩ (w98 _ _ 178 (by decide)) ?_
  refine seqAt _ _ _ ⟨⟩ (w98 _ _ 184 (by decide)) ?_
  refine seqAt _ _ _ ⟨⟩ (w98 _ _ 190 (by decide)) ?_
  refine seqAt _ _ _ ⟨⟩ (w98 _ _ 196 (by decide)) ?_
  refine seqAt _ _ _ ⟨⟩ (w98 _ _ 202 (by decide)) ?_
  refine seqAt _ _ _ ⟨⟩ (w98 _ _ 208 (by decide)) ?_
  refine seqAt _ _ _ ⟨⟩ (w98 _ _ 214 (by decide)) ?_
  refine seqAt _ _ _ ⟨⟩ (w98 _ _ 220 (by decide)) ?_
  refine seqAt _ _ _ ⟨⟩ (w98 _ _ 226 (by decide)) ?_
  refine seqAt _ _ _ ⟨⟩ (w98 _ _ 232 (by decide)) ?_
  refine seqAt _ _ _ ⟨⟩ (w98 _ _ 238 (by decide)) ?_
  refine seqAt _ _ _ ⟨⟩ (w98 _ _ 244 (by decide)) ?_
  refine up12.trans ?_
  refine up12.trans ?_
  refine up12.trans ?_
  refine up11.trans ?_
  refine up8.trans ?_
  refine up8.trans ?_
  refine up8.trans ?_
  refine up8.trans ?_
  refine up12.trans ?_
  refine up12.trans ?_
  refine up11.trans ?_
  refine up12.trans ?_
  refine up12.trans ?_
  refine seqAt _ _ _ ⟨⟩ (second i arg1 harg1 arg2 harg2 arg3 harg3 arg4 harg4 arg6 harg6 arg7 harg7 arg8 harg8 arg9 harg9 arg10 harg10 arg11 harg11 arg12 harg12 hx₂) ?_
  refine up13.trans ?_
  refine up13.trans ?_
  refine up12.trans ?_
  refine up12.trans ?_
  refine up12.trans ?_
  refine up12.trans ?_
  refine up12.trans ?_
  refine up12.trans ?_
  refine up12.trans ?_
  refine up11.trans ?_
  refine up11.trans ?_
  refine up11.trans ?_
  refine up13.trans ?_
  refine up13.trans ?_
  refine seqAt _ _ _ _ (expert1 i arg1 harg1 arg2 harg2 arg3 harg3 arg4 harg4 arg6 harg6 arg7 harg7 arg8 harg8 arg9 harg9 arg10 harg10 arg11 harg11 arg12 harg12) ?_
  refine up11.trans ?_
  refine up11.trans ?_
  refine up11.trans ?_
  refine up11.trans ?_
  refine up10.trans ?_
  refine up10.trans ?_
  refine up10.trans ?_
  refine up10.trans ?_
  refine up10.trans ?_
  refine up10.trans ?_
  refine up10.trans ?_
  refine up11.trans ?_
  refine up13.trans ?_
  refine up13.trans ?_
  refine seqAt _ _ _ _ (load _ _ _) ?_
  refine up1.trans ?_
  refine seqAt _ _ _ _ (load _ _ _) ?_
  refine up2.trans ?_
  refine seqAt _ _ _ _ (load _ _ _) ?_
  refine seqAt _ _ _ ⟨⟩ (store Variants.none (c : Thread nD τ) none (output xa x₁ h g₁ u₁ d₁ g₂ u₂ d₂ y) (setLower_in (lower x₁ h g₂ u₂ d₂) _) (setLower_out (lower x₁ h g₂ u₂ d₂) _)) ?_
  refine up1.trans ?_
  refine up2.trans ?_
  refine up3.trans ?_
  refine up10.trans ?_
  refine up11.trans ?_
  refine up12.trans ?_
  refine up10.trans ?_
  refine up13.trans ?_
  refine up12.trans ?_
  refine up10.trans ?_
  refine up12.trans ?_
  refine up13.trans ?_
  refine up13.trans ?_
  refine (sep_assoc.2.trans (sep_mono_left fly)).trans ?_
  dsimp -proj only
  rw [dif_pos hl]
  refine lastSeq i arg1 harg1 arg2 harg2 arg3 harg3 arg4 harg4 arg6 harg6 arg7 harg7 arg8 harg8 arg9 harg9 arg10 harg10 arg11 harg11 arg12 harg12 ?_
  refine seqAt _ _ _ ⟨⟩ (wait 253 (by decide) rfl) ?_
  refine seqAt _ _ _ ⟨⟩ (wait 254 (by decide) rfl) ?_
  refine seqAt _ _ _ ⟨⟩ (waitEnd rfl) ?_
  exact done

end Cert.Kernel4Ideal.Moe

end
-- ==== Proof.Kernel4Ideal.Points.lean ====
/-
  One grid point: nothing in flight or the point's own rows in flight before it, the next point's rows or nothing after it.
-/
module

public import Idealize.ShloMosaic.Lib.ValueIdxCore
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.Claim
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Body
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Issue

variable {F : FTy → Type} [FloatOps F]

/-- The rows a grid point stores: the first expert's above, the second's below. -/
def block (xa x₁ : S1x1x256.Idx → BitVec 32) (h : S262144x128.Idx → Elt F .f32) (g₁ u₁ : S1x2048x512.Idx → Elt F .bf16) (d₁ : S1x512x2048.Idx → Elt F .bf16)
    (g₂ u₂ : S1x2048x512.Idx → Elt F .bf16) (d₂ : S1x512x2048.Idx → Elt F .bf16) : S512x2048.Idx → Elt F .f32 :=
  fun z => if hz : (z 0).val < 256 then upper xa h g₁ u₁ d₁ (ix2 ⟨(z 0).val, hz⟩ (z 1))
    else lower x₁ h g₂ u₂ d₂ (ix2 ⟨(z 0).val - 256, by have := (z 0).isLt; change _ < 512 at this; omega⟩ (z 1))

theorem output_eq (xa x₁ : S1x1x256.Idx → BitVec 32) (h : S262144x128.Idx → Elt F .f32) (g₁ u₁ : S1x2048x512.Idx → Elt F .bf16) (d₁ : S1x512x2048.Idx → Elt F .bf16)
    (g₂ u₂ : S1x2048x512.Idx → Elt F .bf16) (d₂ : S1x512x2048.Idx → Elt F .bf16) (y : S512x2048.Idx → Elt F .f32) :
    output xa x₁ h g₁ u₁ d₁ g₂ u₂ d₂ y = block xa x₁ h g₁ u₁ d₁ g₂ u₂ d₂ := by
  funext z
  unfold output block setLower setUpper
  by_cases hz : (z 0).val < 256
  · rw [dif_neg (by omega), dif_pos hz, dif_pos hz]
  · rw [dif_pos (by omega), dif_neg hz]

variable {c : Dev nD}
variable (i : grid0.Coords)
variable (arg1 : Memref sig .tc .smem S576 .i32) (harg1 : arg1.IsWhole)
variable (arg2 : Memref sig .tc .smem S1x1x256 .i32) (harg2 : arg2.IsWhole)
variable (arg3 : Memref sig .tc .smem S1x1x256 .i32) (harg3 : arg3.IsWhole)
variable (arg4 : Memref sig .tc .smem S1x1x256 .i32) (harg4 : arg4.IsWhole)
variable (arg6 : Memref sig .tc .vmem S1x2048x512 .bf16) (harg6 : arg6.IsWhole)
variable (arg7 : Memref sig .tc .vmem S1x2048x512 .bf16) (harg7 : arg7.IsWhole)
variable (arg8 : Memref sig .tc .vmem S1x512x2048 .bf16) (harg8 : arg8.IsWhole)
variable (arg9 : Memref sig .tc .vmem S1x2048x512 .bf16) (harg9 : arg9.IsWhole)
variable (arg10 : Memref sig .tc .vmem S1x2048x512 .bf16) (harg10 : arg10.IsWhole)
variable (arg11 : Memref sig .tc .vmem S1x512x2048 .bf16) (harg11 : arg11.IsWhole)
variable (arg12 : Memref sig .tc .vmem S512x2048 .f32) (harg12 : arg12.IsWhole)
variable {xa x₀ x₁ x₂ : S1x1x256.Idx → BitVec 32} {h : Buf (Elt F) ((c : Thread nD τ).loc main_arg2)}
variable {g₁ u₁ g₂ u₂ : S1x2048x512.Idx → Elt F .bf16} {d₁ d₂ : S1x512x2048.Idx → Elt F .bf16}

theorem pointFirstRun (hxa : ∀ t, (xa (ix3 0 0 t)).toNat < 16384) (hx₁ : ∀ t, (x₁ (ix3 0 0 t)).toNat < 16384) (hx₂ : ∀ t, (x₂ (ix3 0 0 t)).toNat < 16384) (hl : ¬ IsLast i) (h1 : k0_cond1 i = 1#1) {R Q : sProp (MT nD τ sig Unit (Elt F) ℕ (Pipeline.UD sig nD τ) ℕ)} {eA eB : S4096x128.Idx → Elt F .f32} {eY : S512x2048.Idx → Elt F .f32} (hQ : iprop(Sent c semA XA x₂ h ∗ Rest c h ∗ (∃ d, owns (Val := Elt F) (c : Thread nD τ) XB fullShare d) ∗ semVal ((c : Thread nD τ), .dma semB) 0 ∗ Owes c ∗ owns (Val := Elt F) (c : Thread nD τ) arg2 fullShare xa ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop(owns (Val := Elt F) (c : Thread nD τ) XA fullShare eA ∗ Whole c h ∗ semVal ((c : Thread nD τ), .dma semA) 0 ∗ owns (Val := Elt F) (c : Thread nD τ) arg2 fullShare xa ∗ Owes c ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  refine Entails.trans (body_mid (R := iprop(owns (Val := Elt F) (c : Thread nD τ) arg2 fullShare xa ∗ R)) (P := iprop(owns (Val := Elt F) (c : Thread nD τ) XA fullShare eA ∗ Whole c h ∗ semVal ((c : Thread nD τ), .dma semA) 0 ∗ owns (Val := Elt F) (c : Thread nD τ) arg2 fullShare xa ∗ Owes c ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ R)) (xa := xa) (h := h) (g₁ := g₁) (u₁ := u₁) (d₁ := d₁) (g₂ := g₂) (u₂ := u₂) (d₂ := d₂) (dB := eB) (y := eY) i arg1 harg1 arg2 harg2 arg3 harg3 arg4 harg4 arg6 harg6 arg7 harg7 arg8 harg8 arg9 harg9 arg10 harg10 arg11 harg11 arg12 harg12 hx₁ hx₂ hl ?_) (wp_mono frame (wpE (defs₀ (F := F)) Variants.none (c : Thread nD τ) none) Set.univ fun a => ?_)
  · refine (first i arg1 harg1 arg2 harg2 arg3 harg3 arg4 harg4 arg6 harg6 arg7 harg7 arg8 harg8 arg9 harg9 arg10 harg10 arg11 harg11 arg12 harg12 hxa h1).trans (wp_mono frame (wpE (defs₀ (F := F)) Variants.none (c : Thread nD τ) none) Set.univ fun a => ?_)
    iintro ⟨%ea, HSA, HR, H2a, HB, HsB, H3, H6, H7, H8, HY, H4, H9, H10, H11, HF⟩
    isplitr; · ipureintro; exact ea
    isplitl [HSA]; · iexact HSA
    isplitl [HR]; · iexact HR
    isplitl [HB]; · iexact HB
    isplitl [HsB]; · iexact HsB
    isplitl [H3]; · iexact H3
    isplitl [H6]; · iexact H6
    isplitl [H7]; · iexact H7
    isplitl [H8]; · iexact H8
    isplitl [HY]; · iexact HY
    isplitl [H4]; · iexact H4
    isplitl [H9]; · iexact H9
    isplitl [H10]; · iexact H10
    isplitl [H11]; · iexact H11
    isplitl [H2a]; · iexact H2a
    iexact HF
  · rw [output_eq]
    refine Entails.trans ?_ hQ
    iintro ⟨-, HSA2, HR, HB, HsB, HO, H3, H4, H6, H7, H8, H9, H10, H11, HOUT, H2a, HF⟩
    isplitl [HSA2]; · iexact HSA2
    isplitl [HR]; · iexact HR
    isplitl [HB]; · iexists _; iexact HB
    isplitl [HsB]; · iexact HsB
    isplitl [HO]; · iexact HO
    isplitl [H2a]; · iexact H2a
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [HOUT]; · iexact HOUT
    iexact HF

/-- The first point. -/
theorem pointFirst (hxa : ∀ t, (xa (ix3 0 0 t)).toNat < 16384) (hx₁ : ∀ t, (x₁ (ix3 0 0 t)).toNat < 16384) (hx₂ : ∀ t, (x₂ (ix3 0 0 t)).toNat < 16384) (hl : ¬ IsLast i) (h1 : k0_cond1 i = 1#1) {R Q : sProp (MT nD τ sig Unit (Elt F) ℕ (Pipeline.UD sig nD τ) ℕ)} (hQ : iprop(Sent c semA XA x₂ h ∗ Rest c h ∗ (∃ d, owns (Val := Elt F) (c : Thread nD τ) XB fullShare d) ∗ semVal ((c : Thread nD τ), .dma semB) 0 ∗ Owes c ∗ owns (Val := Elt F) (c : Thread nD τ) arg2 fullShare xa ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop((∃ d, owns (Val := Elt F) (c : Thread nD τ) XA fullShare d) ∗ (∃ d, owns (Val := Elt F) (c : Thread nD τ) XB fullShare d) ∗ semVal ((c : Thread nD τ), .dma semA) 0 ∗ semVal ((c : Thread nD τ), .dma semB) 0 ∗ Whole c h ∗ Owes c ∗ owns (Val := Elt F) (c : Thread nD τ) arg2 fullShare xa ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ (∃ d, owns (Val := Elt F) (c : Thread nD τ) arg12 fullShare d) ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  iintro ⟨⟨%eA, HA⟩, ⟨%eB, HB⟩, HsA, HsB, HW, HO, H2a, H3, H4, H6, H7, H8, H9, H10, H11, ⟨%eY, HY⟩, HF⟩
  iapply (pointFirstRun i arg1 harg1 arg2 harg2 arg3 harg3 arg4 harg4 arg6 harg6 arg7 harg7 arg8 harg8 arg9 harg9 arg10 harg10 arg11 harg11 arg12 harg12 hxa hx₁ hx₂ hl h1 (eA := eA) (R := R) (eB := eB) (eY := eY) hQ)
  isplitl [HA]; · iexact HA
  isplitl [HW]; · iexact HW
  isplitl [HsA]; · iexact HsA
  isplitl [H2a]; · iexact H2a
  isplitl [HO]; · iexact HO
  isplitl [HB]; · iexact HB
  isplitl [HsB]; · iexact HsB
  isplitl [H3]; · iexact H3
  isplitl [H6]; · iexact H6
  isplitl [H7]; · iexact H7
  isplitl [H8]; · iexact H8
  isplitl [HY]; · iexact HY
  isplitl [H4]; · iexact H4
  isplitl [H9]; · iexact H9
  isplitl [H10]; · iexact H10
  isplitl [H11]; · iexact H11
  iexact HF

theorem pointMidRun (hx₁ : ∀ t, (x₁ (ix3 0 0 t)).toNat < 16384) (hx₂ : ∀ t, (x₂ (ix3 0 0 t)).toNat < 16384) (hl : ¬ IsLast i) (h1 : ¬ k0_cond1 i = 1#1) {R Q : sProp (MT nD τ sig Unit (Elt F) ℕ (Pipeline.UD sig nD τ) ℕ)} {eA eB : S4096x128.Idx → Elt F .f32} {eY : S512x2048.Idx → Elt F .f32} (hQ : iprop(Sent c semA XA x₂ h ∗ Rest c h ∗ (∃ d, owns (Val := Elt F) (c : Thread nD τ) XB fullShare d) ∗ semVal ((c : Thread nD τ), .dma semB) 0 ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop(Sent c semA XA xa h ∗ Owes c ∗ Rest c h ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg2 fullShare x₀ ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  refine Entails.trans (body_mid (R := iprop(owns (Val := Elt F) (c : Thread nD τ) arg2 fullShare x₀ ∗ R)) (P := iprop(Sent c semA XA xa h ∗ Owes c ∗ Rest c h ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg2 fullShare x₀ ∗ R)) (xa := xa) (h := h) (g₁ := g₁) (u₁ := u₁) (d₁ := d₁) (g₂ := g₂) (u₂ := u₂) (d₂ := d₂) (dB := eB) (y := eY) i arg1 harg1 arg2 harg2 arg3 harg3 arg4 harg4 arg6 harg6 arg7 harg7 arg8 harg8 arg9 harg9 arg10 harg10 arg11 harg11 arg12 harg12 hx₁ hx₂ hl ?_) (wp_mono frame (wpE (defs₀ (F := F)) Variants.none (c : Thread nD τ) none) Set.univ fun a => ?_)
  · refine (sep_assoc.2.trans (sep_mono_left fly)).trans ?_
    exact later i arg1 harg1 arg2 harg2 arg3 harg3 arg4 harg4 arg6 harg6 arg7 harg7 arg8 harg8 arg9 harg9 arg10 harg10 arg11 harg11 arg12 harg12 h1
  · rw [output_eq]
    refine Entails.trans ?_ hQ
    iintro ⟨-, HSA2, HR, HB, HsB, HO, H3, H4, H6, H7, H8, H9, H10, H11, HOUT, H2, HF⟩
    isplitl [HSA2]; · iexact HSA2
    isplitl [HR]; · iexact HR
    isplitl [HB]; · iexists _; iexact HB
    isplitl [HsB]; · iexact HsB
    isplitl [HO]; · iexact HO
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [HOUT]; · iexact HOUT
    iexact HF

/-- A point between. -/
theorem pointMid (hx₁ : ∀ t, (x₁ (ix3 0 0 t)).toNat < 16384) (hx₂ : ∀ t, (x₂ (ix3 0 0 t)).toNat < 16384) (hl : ¬ IsLast i) (h1 : ¬ k0_cond1 i = 1#1) {R Q : sProp (MT nD τ sig Unit (Elt F) ℕ (Pipeline.UD sig nD τ) ℕ)} (hQ : iprop(Sent c semA XA x₂ h ∗ Rest c h ∗ (∃ d, owns (Val := Elt F) (c : Thread nD τ) XB fullShare d) ∗ semVal ((c : Thread nD τ), .dma semB) 0 ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop(Sent c semA XA xa h ∗ Rest c h ∗ (∃ d, owns (Val := Elt F) (c : Thread nD τ) XB fullShare d) ∗ semVal ((c : Thread nD τ), .dma semB) 0 ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ (∃ d, owns (Val := Elt F) (c : Thread nD τ) arg12 fullShare d) ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  iintro ⟨HSA, HR, ⟨%eB, HB⟩, HsB, HO, H2, H3, H4, H6, H7, H8, H9, H10, H11, ⟨%eY, HY⟩, HF⟩
  iapply (pointMidRun i arg1 harg1 arg2 harg2 arg3 harg3 arg4 harg4 arg6 harg6 arg7 harg7 arg8 harg8 arg9 harg9 arg10 harg10 arg11 harg11 arg12 harg12 hx₁ hx₂ hl h1 (eA := eB) (R := R) (eB := eB) (eY := eY) hQ)
  isplitl [HSA]; · iexact HSA
  isplitl [HO]; · iexact HO
  isplitl [HR]; · iexact HR
  isplitl [HB]; · iexact HB
  isplitl [HsB]; · iexact HsB
  isplitl [H3]; · iexact H3
  isplitl [H6]; · iexact H6
  isplitl [H7]; · iexact H7
  isplitl [H8]; · iexact H8
  isplitl [HY]; · iexact HY
  isplitl [H4]; · iexact H4
  isplitl [H9]; · iexact H9
  isplitl [H10]; · iexact H10
  isplitl [H11]; · iexact H11
  isplitl [H2]; · iexact H2
  iexact HF

theorem pointLastRun (hx₁ : ∀ t, (x₁ (ix3 0 0 t)).toNat < 16384) (hx₂ : ∀ t, (x₂ (ix3 0 0 t)).toNat < 16384) (hl : IsLast i) (h1 : ¬ k0_cond1 i = 1#1) {R Q : sProp (MT nD τ sig Unit (Elt F) ℕ (Pipeline.UD sig nD τ) ℕ)} {eA eB : S4096x128.Idx → Elt F .f32} {eY : S512x2048.Idx → Elt F .f32} (hQ : iprop((∃ d, owns (Val := Elt F) (c : Thread nD τ) XA fullShare d) ∗ (∃ d, owns (Val := Elt F) (c : Thread nD τ) XB fullShare d) ∗ semVal ((c : Thread nD τ), .dma semA) 0 ∗ semVal ((c : Thread nD τ), .dma semB) 0 ∗ Whole c h ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop(Sent c semA XA xa h ∗ Owes c ∗ Rest c h ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg2 fullShare x₀ ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  refine Entails.trans (body_last (R := iprop(owns (Val := Elt F) (c : Thread nD τ) arg2 fullShare x₀ ∗ R)) (P := iprop(Sent c semA XA xa h ∗ Owes c ∗ Rest c h ∗ owns (Val := Elt F) (c : Thread nD τ) XB fullShare eB ∗ semVal ((c : Thread nD τ), .dma semB) 0 ∗ owns (Val := Elt F) (c : Thread nD τ) arg3 fullShare x₁ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg12 fullShare eY ∗ owns (Val := Elt F) (c : Thread nD τ) arg4 fullShare x₂ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg2 fullShare x₀ ∗ R)) (xa := xa) (h := h) (g₁ := g₁) (u₁ := u₁) (d₁ := d₁) (g₂ := g₂) (u₂ := u₂) (d₂ := d₂) (dB := eB) (y := eY) i arg1 harg1 arg2 harg2 arg3 harg3 arg4 harg4 arg6 harg6 arg7 harg7 arg8 harg8 arg9 harg9 arg10 harg10 arg11 harg11 arg12 harg12 hx₁ hx₂ hl ?_) (wp_mono frame (wpE (defs₀ (F := F)) Variants.none (c : Thread nD τ) none) Set.univ fun a => ?_)
  · refine (sep_assoc.2.trans (sep_mono_left fly)).trans ?_
    exact later i arg1 harg1 arg2 harg2 arg3 harg3 arg4 harg4 arg6 harg6 arg7 harg7 arg8 harg8 arg9 harg9 arg10 harg10 arg11 harg11 arg12 harg12 h1
  · rw [output_eq]
    refine Entails.trans ?_ hQ
    iintro ⟨-, HA, HW, HsA, HO, HB, HsB, H3, H4, H6, H7, H8, H9, H10, H11, HOUT, H2, HF⟩
    isplitl [HA]; · iexists _; iexact HA
    isplitl [HB]; · iexists _; iexact HB
    isplitl [HsA]; · iexact HsA
    isplitl [HsB]; · iexact HsB
    isplitl [HW]; · iexact HW
    isplitl [HO]; · iexact HO
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [HOUT]; · iexact HOUT
    iexact HF

/-- The last point. -/
theorem pointLast (hx₁ : ∀ t, (x₁ (ix3 0 0 t)).toNat < 16384) (hx₂ : ∀ t, (x₂ (ix3 0 0 t)).toNat < 16384) (hl : IsLast i) (h1 : ¬ k0_cond1 i = 1#1) {R Q : sProp (MT nD τ sig Unit (Elt F) ℕ (Pipeline.UD sig nD τ) ℕ)} (hQ : iprop((∃ d, owns (Val := Elt F) (c : Thread nD τ) XA fullShare d) ∗ (∃ d, owns (Val := Elt F) (c : Thread nD τ) XB fullShare d) ∗ semVal ((c : Thread nD τ), .dma semA) 0 ∗ semVal ((c : Thread nD τ), .dma semB) 0 ∗ Whole c h ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ owns (Val := Elt F) (c : Thread nD τ) arg12 fullShare (block xa x₁ h g₁ u₁ d₁ g₂ u₂ d₂) ∗ R) ⊢ Q) :
    iprop(Sent c semA XA xa h ∗ Rest c h ∗ (∃ d, owns (Val := Elt F) (c : Thread nD τ) XB fullShare d) ∗ semVal ((c : Thread nD τ), .dma semB) 0 ∗ Owes c ∗ owns (Val := Elt F) (c : Thread nD τ) arg2 fullShare x₀ ∗ owns (Val := Elt F) (c : Thread nD τ) arg3 fullShare x₁ ∗ owns (Val := Elt F) (c : Thread nD τ) arg4 fullShare x₂ ∗ owns (Val := Elt F) (c : Thread nD τ) arg6 fullShare g₁ ∗ owns (Val := Elt F) (c : Thread nD τ) arg7 fullShare u₁ ∗ owns (Val := Elt F) (c : Thread nD τ) arg8 fullShare d₁ ∗ owns (Val := Elt F) (c : Thread nD τ) arg9 fullShare g₂ ∗ owns (Val := Elt F) (c : Thread nD τ) arg10 fullShare u₂ ∗ owns (Val := Elt F) (c : Thread nD τ) arg11 fullShare d₂ ∗ (∃ d, owns (Val := Elt F) (c : Thread nD τ) arg12 fullShare d) ∗ R)
      ⊢ Run c (cc0_moe_experts i arg1 harg1 arg2 harg2 arg3 harg3 arg4 harg4 H2 (Memref.isWhole_whole _) arg6 harg6 arg7 harg7 arg8 harg8 arg9 harg9 arg10 harg10 arg11 harg11 arg12 harg12 XA (Memref.isWhole_whole _) XB (Memref.isWhole_whole _) cc0_scratch2) (fun _ => Q) := by
  iintro ⟨HSA, HR, ⟨%eB, HB⟩, HsB, HO, H2, H3, H4, H6, H7, H8, H9, H10, H11, ⟨%eY, HY⟩, HF⟩
  iapply (pointLastRun i arg1 harg1 arg2 harg2 arg3 harg3 arg4 harg4 arg6 harg6 arg7 harg7 arg8 harg8 arg9 harg9 arg10 harg10 arg11 harg11 arg12 harg12 hx₁ hx₂ hl h1 (eA := eB) (R := R) (eB := eB) (eY := eY) hQ)
  isplitl [HSA]; · iexact HSA
  isplitl [HO]; · iexact HO
  isplitl [HR]; · iexact HR
  isplitl [HB]; · iexact HB
  isplitl [HsB]; · iexact HsB
  isplitl [H3]; · iexact H3
  isplitl [H6]; · iexact H6
  isplitl [H7]; · iexact H7
  isplitl [H8]; · iexact H8
  isplitl [HY]; · iexact HY
  isplitl [H4]; · iexact H4
  isplitl [H9]; · iexact H9
  isplitl [H10]; · iexact H10
  isplitl [H11]; · iexact H11
  isplitl [H2]; · iexact H2
  iexact HF

end Cert.Kernel4Ideal.Moe

end
-- ==== Proof.Kernel4Ideal.Sched.lean ====
/-
  The launch: the pipeline's data point by point, the body's obligation at every point, the run and the frame.
-/
module

public import Idealize.ShloMosaic.Lib.ValueIdxCore
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.Claim
public import proofs.«01_k».proof.Proof.Issue
public import proofs.«01_k».proof.Proof.Gen.Kernel4Ideal.Launch
public import proofs.«01_k».proof.Proof.Gen.Kernel4Ideal.Skeleton
public import proofs.«01_k».proof.Proof.Kernel4Ideal.Kit
public import proofs.«01_k».proof.Proof.Kernel4Ideal.Points
@[expose] public section

set_option maxRecDepth 16384

noncomputable section

namespace Cert.Kernel4Ideal.Moe

open Idealize.ShloMosaic Idealize.ShloMosaic.TcCoe Idealize.ShloMosaic.Transfers Idealize.ShloMosaic.ValueIdx
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Issue

variable {F : FTy → Type} [FloatOps F]

variable (m : (ℓ : Loc nD τ sig) → Buf (Elt F) ℓ) (ρ : Dev nD → PrngReg)

/-- Block `b` of the slots' tokens. -/
def toks (c : Dev nD) (b : ℕ) : S1x1x256.Idx → BitVec 32 :=
  fun z => (V m c main_arg1 : S576x1x256.Idx → BitVec 32) (ix3 (⟨min b 575, by omega⟩ : Fin 576) (0 : Fin 1) (z 2))

/-- Every slot's token is a row of the input. -/
abbrev Tokens : Prop := ∀ (c : Dev nD) (b : Fin 576) (r : Fin 256), ((V m c main_arg1 : S576x1x256.Idx → BitVec 32) (ix3 b (0 : Fin 1) r)).toNat < 16384

variable {m} in
theorem toks_lt (hT : Tokens m) (c : Dev nD) (b : ℕ) (t : Fin 256) : (toks m c b (ix3 0 0 t)).toNat < 16384 := hT c _ t

theorem coord : ∀ t : Fin grid0.N, (grid0.coords t 0).val = t.val := by decide +kernel

theorem isFirst : ∀ t : Fin grid0.N, k0_cond1 (grid0.coords t) = 1#1 ↔ t.val = 0 := by decide +kernel

theorem isLast : ∀ t : Fin grid0.N, IsLast (grid0.coords t) ↔ t.val = 287 := by decide +kernel

theorem tokIndex1 : ∀ t : Fin grid0.N, cc0_transform_1 (grid0.coords t) 0 = min (2 * t.val + 1) 575 := by decide +kernel

theorem tokIndex2 : ∀ t : Fin grid0.N, cc0_transform_2 (grid0.coords t) 0 = min (2 * t.val + 2) 575 := by decide +kernel

theorem iblk0 (hO : Ok m) (c : Dev nD) (t : Fin (cfgM m hO).N) : (iblk m hO c 0 t : S1x1x256.Idx → BitVec 32) = toks m c 0 := by
  refine funext fun (z : S1x1x256.Idx) => ?_
  unfold iblk toks
  refine (View.read_apply _ _).trans ?_
  show V m c main_arg1 _ = V m c main_arg1 _
  congr 1
  funext a
  apply Fin.ext
  have h0 : (z 0).val < 1 := (z 0).isLt
  have h1 : (z 1).val < 1 := (z 1).isLt
  match a with
  | ⟨0, _⟩ => show 0 * 1 + 1 * (z 0).val = min 0 575; omega
  | ⟨1, _⟩ => show 0 * 1 + 1 * (z 1).val = 0; omega
  | ⟨2, _⟩ => show 0 * 256 + 1 * (z 2).val = (z 2).val; omega

theorem iblk1 (hO : Ok m) (c : Dev nD) (t : Fin (cfgM m hO).N) : (iblk m hO c 1 t : S1x1x256.Idx → BitVec 32) = toks m c (2 * t.val + 1) := by
  refine funext fun (z : S1x1x256.Idx) => ?_
  unfold iblk toks
  refine (View.read_apply _ _).trans ?_
  show V m c main_arg1 _ = V m c main_arg1 _
  congr 1
  funext a
  apply Fin.ext
  have h0 : (z 0).val < 1 := (z 0).isLt
  have h1 : (z 1).val < 1 := (z 1).isLt
  match a with
  | ⟨0, _⟩ => show cc0_transform_1 (grid0.coords t) 0 * 1 + 1 * (z 0).val = min (2 * t.val + 1) 575; rw [tokIndex1 t]; omega
  | ⟨1, _⟩ => show 0 * 1 + 1 * (z 1).val = 0; omega
  | ⟨2, _⟩ => show 0 * 256 + 1 * (z 2).val = (z 2).val; omega

theorem iblk2 (hO : Ok m) (c : Dev nD) (t : Fin (cfgM m hO).N) : (iblk m hO c 2 t : S1x1x256.Idx → BitVec 32) = toks m c (2 * t.val + 2) := by
  refine funext fun (z : S1x1x256.Idx) => ?_
  unfold iblk toks
  refine (View.read_apply _ _).trans ?_
  show V m c main_arg1 _ = V m c main_arg1 _
  congr 1
  funext a
  apply Fin.ext
  have h0 : (z 0).val < 1 := (z 0).isLt
  have h1 : (z 1).val < 1 := (z 1).isLt
  match a with
  | ⟨0, _⟩ => show cc0_transform_2 (grid0.coords t) 0 * 1 + 1 * (z 0).val = min (2 * t.val + 2) 575; rw [tokIndex2 t]; omega
  | ⟨1, _⟩ => show 0 * 1 + 1 * (z 1).val = 0; omega
  | ⟨2, _⟩ => show 0 * 256 + 1 * (z 2).val = (z 2).val; omega

/-- What is held before point `k` when its first rows are in flight. -/
def Between (c : Dev nD) (k : ℕ) : sProp (MT nD τ sig Unit (Elt F) ℕ (Pipeline.UD sig nD τ) ℕ) :=
  iprop(Sent c semA XA (toks m c (2 * k)) (V m c main_arg2) ∗ Rest c (V m c main_arg2) ∗ (∃ d, owns (Val := Elt F) (c : Thread nD τ) XB fullShare d)
    ∗ semVal ((c : Thread nD τ), .dma semB) 0 ∗ (∃ r, prngReg c r))

/-- What is held before point `k`: in flight only strictly between the first point and the end. -/
def Held (c : Dev nD) (k : ℕ) : sProp (MT nD τ sig Unit (Elt F) ℕ (Pipeline.UD sig nD τ) ℕ) :=
  if k = 0 ∨ k = 288 then iprop(Pipeline.ΦD cells spec0 Own (V m) c ∗ Pipeline.ΦT pre0 (tbl m) c)
  else iprop(Between m c k ∗ Pipeline.ΦT pre0 (tbl m) c)

/-- The rows stored at a point. -/
def stored (hO : Ok m) (c : Dev nD) (t : Fin (cfgM m hO).N) : S512x2048.Idx → Elt F .f32 :=
  block (toks m c (2 * t.val)) (toks m c (2 * t.val + 1)) (V m c main_arg2) (iblk m hO c 3 t) (iblk m hO c 4 t) (iblk m hO c 5 t) (iblk m hO c 6 t) (iblk m hO c 7 t) (iblk m hO c 8 t)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => stored m hO c t
  Φ t := Held m c t.val
  q w := Pipeline.shareOf spec0 w
  owed _ := 0

theorem arrays (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; rfl
theorem after1 (hO : Ok m) (c : Dev nD) (t : Fin (cfgM m hO).N) : (dats m hO 0 c).after 1 t = iblk m hO c 1 t := by dsimp only [dats]; rfl
theorem after2 (hO : Ok m) (c : Dev nD) (t : Fin (cfgM m hO).N) : (dats m hO 0 c).after 2 t = iblk m hO c 2 t := by dsimp only [dats]; rfl
theorem after3 (hO : Ok m) (c : Dev nD) (t : Fin (cfgM m hO).N) : (dats m hO 0 c).after 3 t = iblk m hO c 3 t := by dsimp only [dats]; rfl
theorem after4 (hO : Ok m) (c : Dev nD) (t : Fin (cfgM m hO).N) : (dats m hO 0 c).after 4 t = iblk m hO c 4 t := by dsimp only [dats]; rfl
theorem after5 (hO : Ok m) (c : Dev nD) (t : Fin (cfgM m hO).N) : (dats m hO 0 c).after 5 t = iblk m hO c 5 t := by dsimp only [dats]; rfl
theorem after6 (hO : Ok m) (c : Dev nD) (t : Fin (cfgM m hO).N) : (dats m hO 0 c).after 6 t = iblk m hO c 6 t := by dsimp only [dats]; rfl
theorem after7 (hO : Ok m) (c : Dev nD) (t : Fin (cfgM m hO).N) : (dats m hO 0 c).after 7 t = iblk m hO c 7 t := by dsimp only [dats]; rfl
theorem after8 (hO : Ok m) (c : Dev nD) (t : Fin (cfgM m hO).N) : (dats m hO 0 c).after 8 t = iblk m hO c 8 t := by dsimp only [dats]; rfl
theorem after9 (hO : Ok m) (c : Dev nD) (t : Fin (cfgM m hO).N) : (dats m hO 0 c).after 9 t = stored m hO c t := by dsimp only [dats]; rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [arrays]; try rfl) t d).trans
    (by unfold Dat.fetched Dat.blockOf iblk; rw [arrays]; rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [arrays]; try rfl) t d).trans
    (by unfold Dat.fetched Dat.blockOf iblk; rw [arrays]; rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [arrays]; try rfl) t d).trans
    (by unfold Dat.fetched Dat.blockOf iblk; rw [arrays]; rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [arrays]; try rfl) t d).trans
    (by unfold Dat.fetched Dat.blockOf iblk; rw [arrays]; rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [arrays]; try rfl) t d).trans
    (by unfold Dat.fetched Dat.blockOf iblk; rw [arrays]; rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after5]; unfold Dat.blockOf iblk; rw [arrays]; try rfl) t d).trans
    (by unfold Dat.fetched Dat.blockOf iblk; rw [arrays]; rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after6]; unfold Dat.blockOf iblk; rw [arrays]; try rfl) t d).trans
    (by unfold Dat.fetched Dat.blockOf iblk; rw [arrays]; rfl)
theorem before7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl) (fun t => by rw [after7]; unfold Dat.blockOf iblk; rw [arrays]; try rfl) t d).trans
    (by unfold Dat.fetched Dat.blockOf iblk; rw [arrays]; rfl)
theorem before8 (hO : Ok m) (c : Dev nD) (t : Fin (cfgM m hO).N) (d) : (dats m hO 0 c).before 8 t d = iblk m hO c 8 t :=
  ((dats m hO 0 c).before_in_eq_fetched 8 rfl (fun _ => rfl) (fun _ _ _ => rfl) (fun t => by rw [after8]; unfold Dat.blockOf iblk; rw [arrays]; try rfl) t d).trans
    (by unfold Dat.fetched Dat.blockOf iblk; rw [arrays]; rfl)

/-- What the body is called with at a point, -/
def Pre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (at0 m hO t) fullShare ((dats m hO 0 c).before 0 t d))
    ∗ (∃ d, owns (c : Thread nD τ) (at1 m hO t) fullShare ((dats m hO 0 c).before 1 t d))
    ∗ (∃ d, owns (c : Thread nD τ) (at2 m hO t) fullShare ((dats m hO 0 c).before 2 t d))
    ∗ (∃ d, owns (c : Thread nD τ) (at3 m hO t) fullShare ((dats m hO 0 c).before 3 t d))
    ∗ (∃ d, owns (c : Thread nD τ) (at4 m hO t) fullShare ((dats m hO 0 c).before 4 t d))
    ∗ (∃ d, owns (c : Thread nD τ) (at5 m hO t) fullShare ((dats m hO 0 c).before 5 t d))
    ∗ (∃ d, owns (c : Thread nD τ) (at6 m hO t) fullShare ((dats m hO 0 c).before 6 t d))
    ∗ (∃ d, owns (c : Thread nD τ) (at7 m hO t) fullShare ((dats m hO 0 c).before 7 t d))
    ∗ (∃ d, owns (c : Thread nD τ) (at8 m hO t) fullShare ((dats m hO 0 c).before 8 t d))
    ∗ (∃ d, owns (c : Thread nD τ) (at9 m hO t) fullShare ((dats m hO 0 c).before 9 t d)))

/-- and what it returns. -/
def Post (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (at0 m hO t) fullShare ((dats m hO 0 c).after 0 t)
    ∗ owns (c : Thread nD τ) (at1 m hO t) fullShare ((dats m hO 0 c).after 1 t)
    ∗ owns (c : Thread nD τ) (at2 m hO t) fullShare ((dats m hO 0 c).after 2 t)
    ∗ owns (c : Thread nD τ) (at3 m hO t) fullShare ((dats m hO 0 c).after 3 t)
    ∗ owns (c : Thread nD τ) (at4 m hO t) fullShare ((dats m hO 0 c).after 4 t)
    ∗ owns (c : Thread nD τ) (at5 m hO t) fullShare ((dats m hO 0 c).after 5 t)
    ∗ owns (c : Thread nD τ) (at6 m hO t) fullShare ((dats m hO 0 c).after 6 t)
    ∗ owns (c : Thread nD τ) (at7 m hO t) fullShare ((dats m hO 0 c).after 7 t)
    ∗ owns (c : Thread nD τ) (at8 m hO t) fullShare ((dats m hO 0 c).after 8 t)
    ∗ owns (c : Thread nD τ) (at9 m hO t) fullShare ((dats m hO 0 c).after 9 t))

/-- The first point. -/
theorem soundFirst (hO : Ok m) (hT : Tokens m) (c : Dev nD) (t : Fin (cfgM m hO).N) (ht : t.val = 0) :
    Pre m hO c t ⊢ Run c (bodyAt (adm m hO) t) (fun _ => Post m hO c t) := by
  have e0 : toks m c 0 = toks m c (2 * t.val) := by rw [ht]
  have hQ : iprop(Sent c semA XA (toks m c (2 * t.val + 2)) (V m c main_arg2) ∗ Rest c (V m c main_arg2) ∗ (∃ d, owns (Val := Elt F) (c : Thread nD τ) XB fullShare d) ∗ semVal ((c : Thread nD τ), .dma semB) 0 ∗ Owes c ∗ owns (Val := Elt F) (c : Thread nD τ) (at0 m hO t) fullShare (toks m c 0) ∗ owns (Val := Elt F) (c : Thread nD τ) (at1 m hO t) fullShare (toks m c (2 * t.val + 1)) ∗ owns (Val := Elt F) (c : Thread nD τ) (at2 m hO t) fullShare (toks m c (2 * t.val + 2)) ∗ owns (Val := Elt F) (c : Thread nD τ) (at3 m hO t) fullShare (iblk m hO c 3 t) ∗ owns (Val := Elt F) (c : Thread nD τ) (at4 m hO t) fullShare (iblk m hO c 4 t) ∗ owns (Val := Elt F) (c : Thread nD τ) (at5 m hO t) fullShare (iblk m hO c 5 t) ∗ owns (Val := Elt F) (c : Thread nD τ) (at6 m hO t) fullShare (iblk m hO c 6 t) ∗ owns (Val := Elt F) (c : Thread nD τ) (at7 m hO t) fullShare (iblk m hO c 7 t) ∗ owns (Val := Elt F) (c : Thread nD τ) (at8 m hO t) fullShare (iblk m hO c 8 t) ∗ owns (Val := Elt F) (c : Thread nD τ) (at9 m hO t) fullShare (block (toks m c 0) (toks m c (2 * t.val + 1)) (V m c main_arg2) (iblk m hO c 3 t) (iblk m hO c 4 t) (iblk m hO c 5 t) (iblk m hO c 6 t) (iblk m hO c 7 t) (iblk m hO c 8 t)) ∗ (∃ r, prngReg c r) ∗ Table m c) ⊢ Post m hO c t := by
    unfold Post
    rw [after0, after1, after2, after3, after4, after5, after6, after7, after8, after9, show stored m hO c t = block (toks m c (2 * t.val)) (toks m c (2 * t.val + 1)) (V m c main_arg2) (iblk m hO c 3 t) (iblk m hO c 4 t) (iblk m hO c 5 t) (iblk m hO c 6 t) (iblk m hO c 7 t) (iblk m hO c 8 t) from rfl, ← e0, show (dats m hO 0 c).Φ t.succ = Held m c (t.val + 1) from rfl]
    unfold Held Dat.owesAt Pipeline.owesWithin
    rw [show (dats m hO 0 c).owed t.succ = 0 from rfl]
    rw [if_neg (by have := t.isLt; have e := N_0; change _ < grid0.N at this; omega), table_eq]
    unfold Between
    rw [iblk0, iblk1, iblk2]
    unfold Owes
    iintro ⟨HSA2, HR, HB, HsB, ⟨%eO, HO⟩, H2, H3, H4, H6, H7, H8, H9, H10, H11, HOUT, Hg, HT⟩
    isplitl [HSA2 HR HB HsB Hg HT]
    · isplitl [HSA2 HR HB HsB Hg]
      · isplitl [HSA2]; · iexact HSA2
        isplitl [HR]; · iexact HR
        isplitl [HB]; · iexact HB
        isplitl [HsB]; · iexact HsB
        iexact Hg
      iexact HT
    isplitl [HO]
    · iexists eO
      isplitr
      · ipureintro
        exact fun _ _ => Or.inl trivial
      iexact HO
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iexact HOUT
  unfold Pre bodyAt
  simp only [before0, before1, before2, before3, before4, before5, before6, before7, before8]
  rw [show (dats m hO 0 c).Φ t.castSucc = Held m c t.val from rfl]
  unfold Held Dat.owesAt Pipeline.owesWithin
  rw [show (dats m hO 0 c).owed t.castSucc = 0 from rfl]
  rw [if_pos (Or.inl ht), idle_eq, table_eq]
  rw [iblk0, iblk1, iblk2]
  iintro ⟨⟨⟨⟨HA, HB⟩, Hg, ⟨HsA, HsB⟩, HW⟩, HT⟩, ⟨%eO, -, HO⟩, ⟨%w0, H2⟩, ⟨%w1, H3⟩, ⟨%w2, H4⟩, ⟨%w3, H6⟩, ⟨%w4, H7⟩, ⟨%w5, H8⟩, ⟨%w6, H9⟩, ⟨%w7, H10⟩, ⟨%w8, H11⟩, ⟨%eY, HY⟩⟩
  iapply (pointFirst (xa := (toks m c 0)) (h := V m c main_arg2) (R := iprop((∃ r, prngReg c r) ∗ Table m c)) (Q := Post m hO c t) (grid0.coords t) (Memref.whole main_arg0) (Memref.isWhole_whole _) (at0 m hO t) (hstage0_0 (((cfgM m hO).slots t 0).cast nbuf0_0)) (at1 m hO t) (hstage0_1 (((cfgM m hO).slots t 1).cast nbuf0_1)) (at2 m hO t) (hstage0_2 (((cfgM m hO).slots t 2).cast nbuf0_2)) (at3 m hO t) (hstage0_3 (((cfgM m hO).slots t 3).cast nbuf0_3)) (at4 m hO t) (hstage0_4 (((cfgM m hO).slots t 4).cast nbuf0_4)) (at5 m hO t) (hstage0_5 (((cfgM m hO).slots t 5).cast nbuf0_5)) (at6 m hO t) (hstage0_6 (((cfgM m hO).slots t 6).cast nbuf0_6)) (at7 m hO t) (hstage0_7 (((cfgM m hO).slots t 7).cast nbuf0_7)) (at8 m hO t) (hstage0_8 (((cfgM m hO).slots t 8).cast nbuf0_8)) (at9 m hO t) (hstage0_9 (((cfgM m hO).slots t 9).cast nbuf0_9)) (toks_lt hT c _) (toks_lt hT c _) (toks_lt hT c _) (fun h => by have := (isLast t).mp h; omega) ((isFirst t).mpr ht) hQ)
  isplitl [HA]; · iexact HA
  isplitl [HB]; · iexact HB
  isplitl [HsA]; · iexact HsA
  isplitl [HsB]; · iexact HsB
  isplitl [HW]; · unfold Whole; iexact HW
  isplitl [HO]; · unfold Owes; iexists _; iexact HO
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [HY]; · iexists _; iexact HY
  isplitl [Hg]; · iexact Hg
  iexact HT

/-- A point between. -/
theorem soundMid (hO : Ok m) (hT : Tokens m) (c : Dev nD) (t : Fin (cfgM m hO).N) (ht : t.val ≠ 0) (hl : t.val ≠ 287) :
    Pre m hO c t ⊢ Run c (bodyAt (adm m hO) t) (fun _ => Post m hO c t) := by
  have hQ : iprop(Sent c semA XA (toks m c (2 * t.val + 2)) (V m c main_arg2) ∗ Rest c (V m c main_arg2) ∗ (∃ d, owns (Val := Elt F) (c : Thread nD τ) XB fullShare d) ∗ semVal ((c : Thread nD τ), .dma semB) 0 ∗ Owes c ∗ owns (Val := Elt F) (c : Thread nD τ) (at0 m hO t) fullShare (toks m c 0) ∗ owns (Val := Elt F) (c : Thread nD τ) (at1 m hO t) fullShare (toks m c (2 * t.val + 1)) ∗ owns (Val := Elt F) (c : Thread nD τ) (at2 m hO t) fullShare (toks m c (2 * t.val + 2)) ∗ owns (Val := Elt F) (c : Thread nD τ) (at3 m hO t) fullShare (iblk m hO c 3 t) ∗ owns (Val := Elt F) (c : Thread nD τ) (at4 m hO t) fullShare (iblk m hO c 4 t) ∗ owns (Val := Elt F) (c : Thread nD τ) (at5 m hO t) fullShare (iblk m hO c 5 t) ∗ owns (Val := Elt F) (c : Thread nD τ) (at6 m hO t) fullShare (iblk m hO c 6 t) ∗ owns (Val := Elt F) (c : Thread nD τ) (at7 m hO t) fullShare (iblk m hO c 7 t) ∗ owns (Val := Elt F) (c : Thread nD τ) (at8 m hO t) fullShare (iblk m hO c 8 t) ∗ owns (Val := Elt F) (c : Thread nD τ) (at9 m hO t) fullShare (block (toks m c (2 * t.val)) (toks m c (2 * t.val + 1)) (V m c main_arg2) (iblk m hO c 3 t) (iblk m hO c 4 t) (iblk m hO c 5 t) (iblk m hO c 6 t) (iblk m hO c 7 t) (iblk m hO c 8 t)) ∗ (∃ r, prngReg c r) ∗ Table m c) ⊢ Post m hO c t := by
    unfold Post
    rw [after0, after1, after2, after3, after4, after5, after6, after7, after8, after9, show (dats m hO 0 c).Φ t.succ = Held m c (t.val + 1) from rfl]
    unfold Held Dat.owesAt Pipeline.owesWithin
    rw [show (dats m hO 0 c).owed t.succ = 0 from rfl]
    rw [if_neg (by have := t.isLt; have e := N_0; change _ < grid0.N at this; omega), table_eq]
    unfold Between
    rw [iblk0, iblk1, iblk2]
    unfold Owes
    iintro ⟨HSA2, HR, HB, HsB, ⟨%eO, HO⟩, H2, H3, H4, H6, H7, H8, H9, H10, H11, HOUT, Hg, HT⟩
    isplitl [HSA2 HR HB HsB Hg HT]
    · isplitl [HSA2 HR HB HsB Hg]
      · isplitl [HSA2]; · iexact HSA2
        isplitl [HR]; · iexact HR
        isplitl [HB]; · iexact HB
        isplitl [HsB]; · iexact HsB
        iexact Hg
      iexact HT
    isplitl [HO]
    · iexists eO
      isplitr
      · ipureintro
        exact fun _ _ => Or.inl trivial
      iexact HO
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iexact HOUT
  unfold Pre bodyAt
  simp only [before0, before1, before2, before3, before4, before5, before6, before7, before8]
  rw [show (dats m hO 0 c).Φ t.castSucc = Held m c t.val from rfl]
  unfold Held Dat.owesAt Pipeline.owesWithin
  rw [show (dats m hO 0 c).owed t.castSucc = 0 from rfl]
  rw [if_neg (by have := t.isLt; have e := N_0; change _ < grid0.N at this; omega), table_eq]
  unfold Between
  rw [iblk0, iblk1, iblk2]
  iintro ⟨⟨⟨HSA, HR, HB, HsB, Hg⟩, HT⟩, ⟨%eO, -, HO⟩, ⟨%w0, H2⟩, ⟨%w1, H3⟩, ⟨%w2, H4⟩, ⟨%w3, H6⟩, ⟨%w4, H7⟩, ⟨%w5, H8⟩, ⟨%w6, H9⟩, ⟨%w7, H10⟩, ⟨%w8, H11⟩, ⟨%eY, HY⟩⟩
  iapply (pointMid (xa := (toks m c (2 * t.val))) (x₀ := toks m c 0) (h := V m c main_arg2) (R := iprop((∃ r, prngReg c r) ∗ Table m c)) (Q := Post m hO c t) (grid0.coords t) (Memref.whole main_arg0) (Memref.isWhole_whole _) (at0 m hO t) (hstage0_0 (((cfgM m hO).slots t 0).cast nbuf0_0)) (at1 m hO t) (hstage0_1 (((cfgM m hO).slots t 1).cast nbuf0_1)) (at2 m hO t) (hstage0_2 (((cfgM m hO).slots t 2).cast nbuf0_2)) (at3 m hO t) (hstage0_3 (((cfgM m hO).slots t 3).cast nbuf0_3)) (at4 m hO t) (hstage0_4 (((cfgM m hO).slots t 4).cast nbuf0_4)) (at5 m hO t) (hstage0_5 (((cfgM m hO).slots t 5).cast nbuf0_5)) (at6 m hO t) (hstage0_6 (((cfgM m hO).slots t 6).cast nbuf0_6)) (at7 m hO t) (hstage0_7 (((cfgM m hO).slots t 7).cast nbuf0_7)) (at8 m hO t) (hstage0_8 (((cfgM m hO).slots t 8).cast nbuf0_8)) (at9 m hO t) (hstage0_9 (((cfgM m hO).slots t 9).cast nbuf0_9)) (toks_lt hT c _) (toks_lt hT c _) (fun h => by have := (isLast t).mp h; omega) (fun h => by have := (isFirst t).mp h; omega) hQ)
  isplitl [HSA]; · iexact HSA
  isplitl [HR]; · iexact HR
  isplitl [HB]; · iexact HB
  isplitl [HsB]; · iexact HsB
  isplitl [HO]; · unfold Owes; iexists _; iexact HO
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [HY]; · iexists _; iexact HY
  isplitl [Hg]; · iexact Hg
  iexact HT

/-- The last point. -/
theorem soundLast (hO : Ok m) (hT : Tokens m) (c : Dev nD) (t : Fin (cfgM m hO).N) (ht : t.val = 287) :
    Pre m hO c t ⊢ Run c (bodyAt (adm m hO) t) (fun _ => Post m hO c t) := by
  have hQ : iprop((∃ d, owns (Val := Elt F) (c : Thread nD τ) XA fullShare d) ∗ (∃ d, owns (Val := Elt F) (c : Thread nD τ) XB fullShare d) ∗ semVal ((c : Thread nD τ), .dma semA) 0 ∗ semVal ((c : Thread nD τ), .dma semB) 0 ∗ Whole c (V m c main_arg2) ∗ Owes c ∗ owns (Val := Elt F) (c : Thread nD τ) (at0 m hO t) fullShare (toks m c 0) ∗ owns (Val := Elt F) (c : Thread nD τ) (at1 m hO t) fullShare (toks m c (2 * t.val + 1)) ∗ owns (Val := Elt F) (c : Thread nD τ) (at2 m hO t) fullShare (toks m c (2 * t.val + 2)) ∗ owns (Val := Elt F) (c : Thread nD τ) (at3 m hO t) fullShare (iblk m hO c 3 t) ∗ owns (Val := Elt F) (c : Thread nD τ) (at4 m hO t) fullShare (iblk m hO c 4 t) ∗ owns (Val := Elt F) (c : Thread nD τ) (at5 m hO t) fullShare (iblk m hO c 5 t) ∗ owns (Val := Elt F) (c : Thread nD τ) (at6 m hO t) fullShare (iblk m hO c 6 t) ∗ owns (Val := Elt F) (c : Thread nD τ) (at7 m hO t) fullShare (iblk m hO c 7 t) ∗ owns (Val := Elt F) (c : Thread nD τ) (at8 m hO t) fullShare (iblk m hO c 8 t) ∗ owns (Val := Elt F) (c : Thread nD τ) (at9 m hO t) fullShare (block (toks m c (2 * t.val)) (toks m c (2 * t.val + 1)) (V m c main_arg2) (iblk m hO c 3 t) (iblk m hO c 4 t) (iblk m hO c 5 t) (iblk m hO c 6 t) (iblk m hO c 7 t) (iblk m hO c 8 t)) ∗ (∃ r, prngReg c r) ∗ Table m c) ⊢ Post m hO c t := by
    unfold Post
    rw [after0, after1, after2, after3, after4, after5, after6, after7, after8, after9, show (dats m hO 0 c).Φ t.succ = Held m c (t.val + 1) from rfl]
    unfold Held Dat.owesAt Pipeline.owesWithin
    rw [show (dats m hO 0 c).owed t.succ = 0 from rfl]
    rw [if_pos (Or.inr (by omega)), idle_eq, table_eq]
    rw [iblk0, iblk1, iblk2]
    unfold Owes Whole
    iintro ⟨HA, HB, HsA, HsB, HW, ⟨%eO, HO⟩, H2, H3, H4, H6, H7, H8, H9, H10, H11, HOUT, Hg, HT⟩
    isplitl [HA HB Hg HsA HsB HW HT]
    · isplitl [HA HB Hg HsA HsB HW]
      · isplitl [HA HB]
        · isplitl [HA]; · iexact HA
          iexact HB
        isplitl [Hg]; · iexact Hg
        isplitl [HsA HsB]
        · isplitl [HsA]; · iexact HsA
          iexact HsB
        iexact HW
      iexact HT
    isplitl [HO]
    · iexists eO
      isplitr
      · ipureintro
        exact fun _ _ => Or.inl trivial
      iexact HO
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iexact HOUT
  unfold Pre bodyAt
  simp only [before0, before1, before2, before3, before4, before5, before6, before7, before8]
  rw [show (dats m hO 0 c).Φ t.castSucc = Held m c t.val from rfl]
  unfold Held Dat.owesAt Pipeline.owesWithin
  rw [show (dats m hO 0 c).owed t.castSucc = 0 from rfl]
  rw [if_neg (by have := t.isLt; have e := N_0; change _ < grid0.N at this; omega), table_eq]
  unfold Between
  rw [iblk0, iblk1, iblk2]
  iintro ⟨⟨⟨HSA, HR, HB, HsB, Hg⟩, HT⟩, ⟨%eO, -, HO⟩, ⟨%w0, H2⟩, ⟨%w1, H3⟩, ⟨%w2, H4⟩, ⟨%w3, H6⟩, ⟨%w4, H7⟩, ⟨%w5, H8⟩, ⟨%w6, H9⟩, ⟨%w7, H10⟩, ⟨%w8, H11⟩, ⟨%eY, HY⟩⟩
  iapply (pointLast (xa := (toks m c (2 * t.val))) (x₀ := toks m c 0) (h := V m c main_arg2) (R := iprop((∃ r, prngReg c r) ∗ Table m c)) (Q := Post m hO c t) (grid0.coords t) (Memref.whole main_arg0) (Memref.isWhole_whole _) (at0 m hO t) (hstage0_0 (((cfgM m hO).slots t 0).cast nbuf0_0)) (at1 m hO t) (hstage0_1 (((cfgM m hO).slots t 1).cast nbuf0_1)) (at2 m hO t) (hstage0_2 (((cfgM m hO).slots t 2).cast nbuf0_2)) (at3 m hO t) (hstage0_3 (((cfgM m hO).slots t 3).cast nbuf0_3)) (at4 m hO t) (hstage0_4 (((cfgM m hO).slots t 4).cast nbuf0_4)) (at5 m hO t) (hstage0_5 (((cfgM m hO).slots t 5).cast nbuf0_5)) (at6 m hO t) (hstage0_6 (((cfgM m hO).slots t 6).cast nbuf0_6)) (at7 m hO t) (hstage0_7 (((cfgM m hO).slots t 7).cast nbuf0_7)) (at8 m hO t) (hstage0_8 (((cfgM m hO).slots t 8).cast nbuf0_8)) (at9 m hO t) (hstage0_9 (((cfgM m hO).slots t 9).cast nbuf0_9)) (toks_lt hT c _) (toks_lt hT c _) ((isLast t).mpr ht) (fun h => by have := (isFirst t).mp h; omega) hQ)
  isplitl [HSA]; · iexact HSA
  isplitl [HR]; · iexact HR
  isplitl [HB]; · iexact HB
  isplitl [HsB]; · iexact HsB
  isplitl [HO]; · unfold Owes; iexists _; iexact HO
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [HY]; · iexists _; iexact HY
  isplitl [Hg]; · iexact Hg
  iexact HT

/-- The body at any point. -/
theorem sound (hO : Ok m) (hT : Tokens m) (c : Dev nD) (t : Fin (cfgM m hO).N) :
    Pre m hO c t ⊢ wp frame (wpE (defs₀ (F := F)) Variants.none c none) Set.univ (bodyAt (adm m hO) t) (fun _ => Post m hO c t) := by
  by_cases h0 : t.val = 0
  · exact soundFirst m hO hT c t h0
  · by_cases hl : t.val = 287
    · exact soundLast m hO hT c t hl
    · exact soundMid m hO hT c t h0 hl

theorem row_body (hO : Ok m) (t : Fin (cfgM m hO).N) :
    defs₀ (F := F) .tc (cfgM m hO).body ((cfgM m hO).bodyArgs t ((cfgM m hO).slots t)) = bodyAt (adm m hO) t := by
  unfold defs₀
  rw [Defs.onTc_tc]

theorem obligation (hO : Ok m) (hT : Tokens m) (c : Dev nD) : BodyObligation (dats (F := F) m hO 0 c) (defs₀ (F := F)) Variants.none () Set.univ := fun t => by
  rw [bigSep_W0, bigSep_W0, row_body m hO]
  exact triple_restated (sound m hO hT c t) rfl .rfl fun _ => .rfl

set_option backward.isDefEq.respectTransparency.types false in
theorem run_quiet (hO : Ok m) (hT : Tokens m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma_shared (Q' := _) pcfgs (fun _ => adm m hO) (dats m hO) (0 : Fin 1) launch₀0 cells defs₀ Variants.none cells_own Own Own_sub m ρ main
    (hbody := fun c => (obligation m hO hT c).loose) (hq := fun _ _ _ => rfl)
    (howed := fun _ _ => rfl) (V := V m) (hmain := mainIsRegion m Variants.none) (hA := arrays m hO) (hpf := tbl_eq m)
    (hin := fun _ => .rfl) (hout := fun c => by change iprop(_ ∗ _) ⊢ _; iintro ⟨HD, -⟩; iexact HD)

theorem run (hO : Ok m) (hT : Tokens m) : θ_run defs (onTc (τ := τ) (main (F := F))) (s₀ m ρ) (Pipeline.FramePost (Pipeline.pin pcfgs fun _ => adm m hO) (dats m hO) 0 (V m)) :=
  (θ_run defs _ _).mono (fun _ h => h.1) (run_quiet m ρ hO hT)

/-- The argument arrays end unchanged and every counter ends at zero. -/
theorem quiescent (hO : Ok m) (hT : Tokens m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (arrays m hO) (run m ρ hO hT)) ((θ_run defs _ _).mono (fun _ h => h.2) (run_quiet m ρ hO hT))

end Cert.Kernel4Ideal.Moe

end
-- ==== Proof.Kernel4Ideal.Admit.lean ====
/-
  A table whose words all name experts is one the launch admits.
-/
module

public import proofs.«01_k».proof.Proof.Kernel4Ideal.Sched
public import proofs.«01_k».proof.Proof.Range

@[expose] public section

set_option maxRecDepth 16384

noncomputable section

namespace Cert.Kernel4Ideal.Moe

open Idealize.ShloMosaic Idealize.ShloMosaic.TcCoe Idealize.SL.Sem
open Cert.Kernel4Ideal Cert.Kernel4Ideal.Gen Idealize.ShloMosaic.ValueIdx

variable {F : FTy → Type} [FloatOps F]

/-- The expert of a token block. -/
def named (pf : pre0.Contents (Elt F)) (b : Fin 576) : BitVec 32 := (pf 0 : S576.Idx → BitVec 32) (ix1 b)

theorem word (pf : pre0.Contents (Elt F)) (off : Fin 1 → Nat) (inb : ∀ a, off a + S1.size a ≤ S576.size a) (b : Fin 576) (hb : off 0 = b.val) (h1 : S1.numel = 1) :
    pf.at 0 (Rect.unit (s := S576) off S1.size inb) h1 = named pf b := by
  unfold named
  refine congrArg (pf 0 : S576.Idx → BitVec 32) (funext fun a => Fin.ext ?_)
  match a with
  | ⟨0, _⟩ =>
    refine (congrArg (fun n => off 0 + 1 * n) (?_ : _ = 0)).trans (by show off 0 + 1 * 0 = b.val; omega)
    exact Nat.lt_one_iff.mp (Shape.Idx.first (s := S1) (h1.symm ▸ Nat.one_pos) 0).isLt

theorem firstAt (i : grid0.Coords) : k0_off1 i 0#32 0 = 2 * (i 0).val := by
  have h : (i 0).val < 288 := (i 0).isLt
  show (2#32 * BitVec.ofNat 32 (i 0).val + 0#32).toNat = _
  simp [BitVec.toNat_add, BitVec.toNat_mul, BitVec.toNat_ofNat]; omega

theorem secondAt (i : grid0.Coords) : k0_off1 i 1#32 0 = 2 * (i 0).val + 1 := by
  have h : (i 0).val < 288 := (i 0).isLt
  show (2#32 * BitVec.ofNat 32 (i 0).val + 1#32).toNat = _
  simp [BitVec.toNat_add, BitVec.toNat_mul, BitVec.toNat_ofNat]; omega

/-- The two token blocks of a grid point. -/
abbrev evenBlock (i : grid0.Coords) : Fin 576 := ⟨2 * (i 0).val, by have h : (i 0).val < 288 := (i 0).isLt; omega⟩
abbrev oddBlock (i : grid0.Coords) : Fin 576 := ⟨2 * (i 0).val + 1, by have h : (i 0).val < 288 := (i 0).isLt; omega⟩

variable (pf : pre0.Contents (Elt F)) (i : grid0.Coords)

theorem expertAt3 : cc0_transform_4 k0_off1_inb numel1_S1 pf i = ![(named pf (evenBlock i)).toNat, 0, 0] := by
  rw [← word pf (k0_off1 i 0#32) (k0_off1_inb i 0) (evenBlock i) (firstAt i) numel1_S1]; rfl
theorem expertAt4 : cc0_transform_5 k0_off1_inb numel1_S1 pf i = ![(named pf (evenBlock i)).toNat, 0, 0] := by
  rw [← word pf (k0_off1 i 0#32) (k0_off1_inb i 0) (evenBlock i) (firstAt i) numel1_S1]; rfl
theorem expertAt5 : cc0_transform_6 k0_off1_inb numel1_S1 pf i = ![(named pf (evenBlock i)).toNat, 0, 0] := by
  rw [← word pf (k0_off1 i 0#32) (k0_off1_inb i 0) (evenBlock i) (firstAt i) numel1_S1]; rfl
theorem expertAt6 : cc0_transform_7 k0_off1_inb numel1_S1 pf i = ![(named pf (oddBlock i)).toNat, 0, 0] := by
  rw [← word pf (k0_off1 i 1#32) (k0_off1_inb i 1) (oddBlock i) (secondAt i) numel1_S1]; rfl
theorem expertAt7 : cc0_transform_8 k0_off1_inb numel1_S1 pf i = ![(named pf (oddBlock i)).toNat, 0, 0] := by
  rw [← word pf (k0_off1 i 1#32) (k0_off1_inb i 1) (oddBlock i) (secondAt i) numel1_S1]; rfl
theorem expertAt8 : cc0_transform_9 k0_off1_inb numel1_S1 pf i = ![(named pf (oddBlock i)).toNat, 0, 0] := by
  rw [← word pf (k0_off1 i 1#32) (k0_off1_inb i 1) (oddBlock i) (secondAt i) numel1_S1]; rfl

theorem wide_inb {f : Fin 3 → Nat} {e : BitVec 32} (hf : f = ![e.toNat, 0, 0]) (he : e.toNat < 64) : ∀ a, (f a + 1) * S1x2048x512.size a ≤ S64x2048x512.size a := by
  subst hf
  exact fun a => match a with
  | ⟨0, _⟩ => show (e.toNat + 1) * 1 ≤ 64 by omega
  | ⟨1, _⟩ => show (0 + 1) * 2048 ≤ 2048 by omega
  | ⟨2, _⟩ => show (0 + 1) * 512 ≤ 512 by omega

theorem tall_inb {f : Fin 3 → Nat} {e : BitVec 32} (hf : f = ![e.toNat, 0, 0]) (he : e.toNat < 64) : ∀ a, (f a + 1) * S1x512x2048.size a ≤ S64x512x2048.size a := by
  subst hf
  exact fun a => match a with
  | ⟨0, _⟩ => show (e.toNat + 1) * 1 ≤ 64 by omega
  | ⟨1, _⟩ => show (0 + 1) * 512 ≤ 512 by omega
  | ⟨2, _⟩ => show (0 + 1) * 2048 ≤ 2048 by omega

theorem ok_of (h : ∀ b, (named pf b).toNat < 64) : ok0 (F := F) pf :=
  ⟨fun i => ⟨wide_inb (expertAt3 pf i) (h _), .inr (Affine.block_words_dvd (of_decide_eq_true rfl) (by decide))⟩,
   fun i => ⟨wide_inb (expertAt4 pf i) (h _), .inr (Affine.block_words_dvd (of_decide_eq_true rfl) (by decide))⟩,
   fun i => ⟨tall_inb (expertAt5 pf i) (h _), .inr (Affine.block_words_dvd (of_decide_eq_true rfl) (by decide))⟩,
   fun i => ⟨wide_inb (expertAt6 pf i) (h _), .inr (Affine.block_words_dvd (of_decide_eq_true rfl) (by decide))⟩,
   fun i => ⟨wide_inb (expertAt7 pf i) (h _), .inr (Affine.block_words_dvd (of_decide_eq_true rfl) (by decide))⟩,
   fun i => ⟨tall_inb (expertAt8 pf i) (h _), .inr (Affine.block_words_dvd (of_decide_eq_true rfl) (by decide))⟩⟩

variable (m : (ℓ : Loc nD τ sig) → Buf (Elt F) ℓ)

/-- What the range condition says of a memory's tables. -/
abbrev InRange : Prop := ∀ c : Dev nD, Cert.Pre_slots_in_range.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) = fun _ => 1#1

theorem experts_in (h : InRange m) (c : Dev nD) (b : Fin 576) : ((V m c main_arg0 : S576.Idx → BitVec 32) (ix1 b)).toNat < 64 := (Cert.Range.parts (h c)).1 _

theorem ok_of_range (h : InRange m) : Ok m := ok_of (tbl m) (fun b => experts_in m h 0 b)

theorem tokens_of_range (h : InRange m) : Tokens m := fun c b r => (Cert.Range.parts (h c)).2 _

end Cert.Kernel4Ideal.Moe

end
-- ==== Proof.ExpertsValue.lean ====
/-
  What the routed experts' body stores: each slot's row through its block's expert.
-/
module

public import proofs.«01_k».proof.Proof.Experts
public import proofs.«01_k».proof.Proof.Kernel4Ideal.Admit
public import Idealize.ShloMosaic.Lib.Pipeline.Value
public import Idealize.ShloMosaic.PureOps.Ideal.Laws
public import Idealize.ShloMosaic.Lib.MatmulPlain
public import Idealize.ShloMosaic.Lib.Pipeline.Covers

@[expose] public section

set_option maxRecDepth 16384

noncomputable section

namespace Cert.Kernel4Ideal.Moe

open Idealize.ShloMosaic Idealize.ShloMosaic.TcCoe Idealize.SL.Sem
open Cert.Kernel4Ideal Cert.Kernel4Ideal.Gen Idealize.ShloMosaic.ValueIdx Cert.Experts

/-! ## The products at an index -/

theorem inner_apply (a : FVec Ideal S256x2048 .bf16) (w : FVec Ideal S2048x512 .bf16) (r : Fin 256) (j : Fin 512) :
    matmul dot_S256x2048_S2048x512_S256x512_1_0_0_1_n_n none a w (constant S256x512 .f32 0x00000000#32) (ix2 r j) = ∑ k : Fin 2048, a (ix2 r k) * w (ix2 k j) := by
  have h := Ideal.matmul_plain_apply (M := 256) (K := 2048) (N := 512) (φ₁ := .bf16) (φ₂ := .bf16) none a w (constant S256x512 .f32 0x00000000#32) r j
  rw [show constant (F := Ideal) S256x512 .f32 0x00000000#32 (ix2 r j) = 0 from Ideal.ofBits_zero_f32, zero_add] at h
  exact Eq.trans (by rfl) h

theorem outer_apply (a : FVec Ideal S256x512 .bf16) (w : FVec Ideal S512x2048 .bf16) (r : Fin 256) (o : Fin 2048) :
    matmul dot_S256x512_S512x2048_S256x2048_1_0_0_1_n_n none a w (constant S256x2048 .f32 0x00000000#32) (ix2 r o) = ∑ j : Fin 512, a (ix2 r j) * w (ix2 j o) := by
  have h := Ideal.matmul_plain_apply (M := 256) (K := 512) (N := 2048) (φ₁ := .bf16) (φ₂ := .bf16) none a w (constant S256x2048 .f32 0x00000000#32) r o
  rw [show constant (F := Ideal) S256x2048 .f32 0x00000000#32 (ix2 r o) = 0 from Ideal.ofBits_zero_f32, zero_add] at h
  exact Eq.trans (by rfl) h

/-- Without its leading axis of one. -/
theorem flatWide {α : Type} (g : S1x2048x512.Idx → α) (k : Fin 2048) (j : Fin 512) :
    shapeCast S2048x512 g shapeCasts_S1x2048x512_S2048x512 (ix2 k j) = g (ix3 0 k j) :=
  shapeCast_apply g _ _ _ (by rw [Shape.rowMajor_val_three, Shape.rowMajor_val_two]; simp)

theorem flatTall {α : Type} (g : S1x512x2048.Idx → α) (k : Fin 512) (j : Fin 2048) :
    shapeCast S512x2048 g shapeCasts_S1x512x2048_S512x2048 (ix2 k j) = g (ix3 0 k j) :=
  shapeCast_apply g _ _ _ (by rw [Shape.rowMajor_val_three, Shape.rowMajor_val_two]; simp)

theorem wide_read (g : S1x2048x512.Idx → EReal) : wide (F := Ideal) g = g := by
  unfold wide
  refine funext fun (y : S1x2048x512.Idx) => congrArg g (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem tall_read (g : S1x512x2048.Idx → EReal) : tall (F := Ideal) g = g := by
  unfold tall
  refine funext fun (y : S1x512x2048.Idx) => congrArg g (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-! ## The gathered rows -/

variable (x : S1x1x256.Idx → BitVec 32) (h : S262144x128.Idx → EReal)

theorem stride_inb (n : Fin 16) : ∀ a, (S256x128.size a = 0 ∨ (![n.val, 0] : Fin 2 → Nat) a + (![16, 1] : Fin 2 → Nat) a * (S256x128.size a - 1) < S4096x128.size a)
  | ⟨0, _⟩ => .inr (by show n.val + 16 * (256 - 1) < 4096; omega)
  | ⟨1, _⟩ => .inr (by show 0 + 1 * (128 - 1) < 128; omega)

/-- Row `n` of every token's sixteen. -/
def slice (n : Fin 16) : S256x128.Idx → EReal := piece (F := Ideal) x h ⟨![n.val, 0], S256x128.size, ![16, 1], stride_inb n⟩

theorem slice_apply (n : Fin 16) (r : Fin 256) (c : Fin 128) (k : Fin 2048) (hk : k.val / 128 = n.val) (hc : k.val % 128 = c.val) :
    slice x h n (ix2 r c) = feature h (x (ix3 0 0 r)).toNat k := by
  unfold slice piece rows rowOf feature
  have e : ∀ p : ((16 * r.val + n.val) / 16 : ℕ) < 256, (⟨(16 * r.val + n.val) / 16, p⟩ : Fin 256) = r := fun p => Fin.ext (by show (16 * r.val + n.val) / 16 = r.val; omega)
  have hr : (n.val + 16 * r.val) / 16 = r.val := by omega
  refine congrArg h (funext fun a => Fin.ext ?_)
  match a with
  | ⟨0, _⟩ =>
    show (16 * (x (ix3 0 0 ⟨(n.val + 16 * r.val) / 16, _⟩)).toNat + (n.val + 16 * r.val) % 16) % 262144 = (16 * (x (ix3 0 0 r)).toNat + k.val / 128) % 262144
    rw [hk, show (n.val + 16 * r.val) % 16 = n.val from by omega]
    refine congrArg (fun q : Fin 256 => (16 * (x (ix3 0 0 q)).toNat + n.val) % 262144) (Fin.ext hr)
  | ⟨1, _⟩ => show 0 + 1 * c.val = k.val % 128; omega

/-- The gathered rows, their sixteen pieces side by side. -/
theorem input_apply (r : Fin 256) (k : Fin 2048) : input (F := Ideal) x h (ix2 r k) = feature h (x (ix3 0 0 r)).toNat k := by
  have hc := concatenate_ofFn_apply (t := S256x2048) (s₁ := S256x128) 1 (N := 16) (slice x h)
    (show Shape.Concatenates _ _ _ from concatenates_S256x128_S256x128_S256x128_S256x128_S256x128_S256x128_S256x128_S256x128_S256x128_S256x128_S256x128_S256x128_S256x128_S256x128_S256x128_S256x128_S256x2048_d1) rfl 128 rfl (ix2 r k) ⟨k.val / 128, by omega⟩ rfl
    (ix2 r ⟨k.val % 128, Nat.mod_lt _ (by decide)⟩) rfl (fun b hb => by
      match b with
      | ⟨0, _⟩ => rfl
      | ⟨1, _⟩ => exact absurd rfl hb)
  refine Eq.trans (by rfl) (hc.trans (slice_apply x h _ r _ k rfl rfl))

/-! ## The stored rows -/

variable (g u : S1x2048x512.Idx → EReal) (d : S1x512x2048.Idx → EReal)

theorem gate_apply (r : Fin 256) (j : Fin 512) :
    k0_pay5 (F := Ideal) (input (F := Ideal) x h) g (ix2 r j)
      = (∑ k : Fin 2048, feature h (x (ix3 0 0 r)).toNat k * g (ix3 0 k j)) * Ideal.logistic (∑ k : Fin 2048, feature h (x (ix3 0 0 r)).toNat k * g (ix3 0 k j)) := by
  have e : matmul dot_S256x2048_S2048x512_S256x512_1_0_0_1_n_n none (input (F := Ideal) x h) (shapeCast S2048x512 g shapeCasts_S1x2048x512_S2048x512 : FVec Ideal S2048x512 .bf16) (constant S256x512 .f32 0x00000000#32) (ix2 r j)
      = ∑ k : Fin 2048, feature h (x (ix3 0 0 r)).toNat k * g (ix3 0 k j) :=
    (inner_apply _ _ r j).trans (Finset.sum_congr rfl fun k _ => congrArg₂ (· * ·) (input_apply x h r k) (flatWide g k j))
  unfold k0_pay5
  exact congrArg₂ (· * ·) e (congrArg Ideal.logistic e)

theorem lower_apply (r : Fin 256) (o : Fin 2048) :
    lower (F := Ideal) x h g u d (ix2 r o)
      = expert (feature h (x (ix3 0 0 r)).toNat) (fun k j => g (ix3 0 k j)) (fun k j => u (ix3 0 k j)) (fun j o => d (ix3 0 j o)) o := by
  unfold lower
  rw [wide_read, wide_read, tall_read]
  unfold k0_pay1 expert
  refine (outer_apply _ _ r o).trans (Finset.sum_congr rfl fun j _ => congrArg₂ (· * ·) ?_ (flatTall d j o))
  unfold unit
  refine congrArg₂ (· * ·) (gate_apply x h g r j) ?_
  exact (inner_apply _ _ r j).trans (Finset.sum_congr rfl fun k _ => congrArg₂ (· * ·) (input_apply x h r k) (flatWide u k j))

/-- Both halves are one function of their operands. -/
theorem upper_eq_lower : upper (F := Ideal) x h g u d = lower (F := Ideal) x h g u d := rfl

/-! ## The blocks the grid points are given -/

variable (m : (ℓ : Loc nD τ sig) → Buf (Elt Ideal) ℓ)

abbrev XE (c : Dev nD) : SE.Idx → BitVec 32 := m ((c.tc : Thread nD τ).loc main_arg0)
abbrev XT (c : Dev nD) : ST.Idx → BitVec 32 := m ((c.tc : Thread nD τ).loc main_arg1)
abbrev XH (c : Dev nD) : SX.Idx → EReal := m ((c.tc : Thread nD τ).loc main_arg2)
abbrev XG (c : Dev nD) : SW.Idx → EReal := m ((c.tc : Thread nD τ).loc main_arg3)
abbrev XU (c : Dev nD) : SW.Idx → EReal := m ((c.tc : Thread nD τ).loc main_arg4)
abbrev XD (c : Dev nD) : SD.Idx → EReal := m ((c.tc : Thread nD τ).loc main_arg5)

/-- Where a block of weights lies: at the expert the table names. -/
theorem placeWide {f : Fin 3 → Nat} {c : Dev nD} {b : Fin 576} (hf : f = ![(named (tbl m) b).toNat, 0, 0]) (hE : (named (tbl m) b).toNat < 64)
    {z : S64x2048x512.Idx} {k : Fin 2048} {j : Fin 512} (h0 : (z 0).val = f 0 * 1 + 1 * 0) (h1 : (z 1).val = f 1 * 2048 + 1 * k.val)
    (h2 : (z 2).val = f 2 * 512 + 1 * j.val) : z = ix3 (name (XE m c) b) k j := by
  subst hf
  obtain rfl : c = 0 := Subsingleton.elim _ _
  funext a
  apply Fin.ext
  match a with
  | ⟨0, _⟩ =>
    refine h0.trans ?_
    show (named (tbl m) b).toNat * 1 + 1 * 0 = (named (tbl m) b).toNat % 64
    omega
  | ⟨1, _⟩ => refine h1.trans ?_; show 0 * 2048 + 1 * k.val = k.val; omega
  | ⟨2, _⟩ => refine h2.trans ?_; show 0 * 512 + 1 * j.val = j.val; omega

theorem placeTall {f : Fin 3 → Nat} {c : Dev nD} {b : Fin 576} (hf : f = ![(named (tbl m) b).toNat, 0, 0]) (hE : (named (tbl m) b).toNat < 64)
    {z : S64x512x2048.Idx} {j : Fin 512} {o : Fin 2048} (h0 : (z 0).val = f 0 * 1 + 1 * 0) (h1 : (z 1).val = f 1 * 512 + 1 * j.val)
    (h2 : (z 2).val = f 2 * 2048 + 1 * o.val) : z = ix3 (name (XE m c) b) j o := by
  subst hf
  obtain rfl : c = 0 := Subsingleton.elim _ _
  funext a
  apply Fin.ext
  match a with
  | ⟨0, _⟩ =>
    refine h0.trans ?_
    show (named (tbl m) b).toNat * 1 + 1 * 0 = (named (tbl m) b).toNat % 64
    omega
  | ⟨1, _⟩ => refine h1.trans ?_; show 0 * 512 + 1 * j.val = j.val; omega
  | ⟨2, _⟩ => refine h2.trans ?_; show 0 * 2048 + 1 * o.val = o.val; omega

variable (hO : Ok m) (hE : ∀ b, (named (tbl m) b).toNat < 64) (c : Dev nD) (t : Fin (cfgM m hO).N)

/-- A grid point's two token blocks, by its number. -/
abbrev even (t : Fin grid0.N) : Fin 576 := ⟨2 * t.val, by have h : t.val < 288 := t.isLt; omega⟩
abbrev odd (t : Fin grid0.N) : Fin 576 := ⟨2 * t.val + 1, by have h : t.val < 288 := t.isLt; omega⟩

theorem evenBlock_eq (t : Fin grid0.N) : evenBlock (grid0.coords t) = even t := Fin.ext (congrArg (2 * ·) (coord t))
theorem oddBlock_eq (t : Fin grid0.N) : oddBlock (grid0.coords t) = odd t := Fin.ext (congrArg (2 * · + 1) (coord t))

include hE in
theorem iblk3_apply (k : Fin 2048) (j : Fin 512) : (iblk m hO c 3 t : S1x2048x512.Idx → EReal) (ix3 0 k j) = XG m c (ix3 (name (XE m c) (even t)) k j) := by
  unfold iblk
  refine (View.read_apply _ _).trans ?_
  exact congrArg (XG m c) (placeWide m ((expertAt3 (tbl m) (grid0.coords t)).trans (by rw [evenBlock_eq])) (hE _) rfl rfl rfl)

include hE in
theorem iblk4_apply (k : Fin 2048) (j : Fin 512) : (iblk m hO c 4 t : S1x2048x512.Idx → EReal) (ix3 0 k j) = XU m c (ix3 (name (XE m c) (even t)) k j) := by
  unfold iblk
  refine (View.read_apply _ _).trans ?_
  exact congrArg (XU m c) (placeWide m ((expertAt4 (tbl m) (grid0.coords t)).trans (by rw [evenBlock_eq])) (hE _) rfl rfl rfl)

include hE in
theorem iblk5_apply (j : Fin 512) (o : Fin 2048) : (iblk m hO c 5 t : S1x512x2048.Idx → EReal) (ix3 0 j o) = XD m c (ix3 (name (XE m c) (even t)) j o) := by
  unfold iblk
  refine (View.read_apply _ _).trans ?_
  exact congrArg (XD m c) (placeTall m ((expertAt5 (tbl m) (grid0.coords t)).trans (by rw [evenBlock_eq])) (hE _) rfl rfl rfl)

include hE in
theorem iblk6_apply (k : Fin 2048) (j : Fin 512) : (iblk m hO c 6 t : S1x2048x512.Idx → EReal) (ix3 0 k j) = XG m c (ix3 (name (XE m c) (odd t)) k j) := by
  unfold iblk
  refine (View.read_apply _ _).trans ?_
  exact congrArg (XG m c) (placeWide m ((expertAt6 (tbl m) (grid0.coords t)).trans (by rw [oddBlock_eq])) (hE _) rfl rfl rfl)

include hE in
theorem iblk7_apply (k : Fin 2048) (j : Fin 512) : (iblk m hO c 7 t : S1x2048x512.Idx → EReal) (ix3 0 k j) = XU m c (ix3 (name (XE m c) (odd t)) k j) := by
  unfold iblk
  refine (View.read_apply _ _).trans ?_
  exact congrArg (XU m c) (placeWide m ((expertAt7 (tbl m) (grid0.coords t)).trans (by rw [oddBlock_eq])) (hE _) rfl rfl rfl)

include hE in
theorem iblk8_apply (j : Fin 512) (o : Fin 2048) : (iblk m hO c 8 t : S1x512x2048.Idx → EReal) (ix3 0 j o) = XD m c (ix3 (name (XE m c) (odd t)) j o) := by
  unfold iblk
  refine (View.read_apply _ _).trans ?_
  exact congrArg (XD m c) (placeTall m ((expertAt8 (tbl m) (grid0.coords t)).trans (by rw [oddBlock_eq])) (hE _) rfl rfl rfl)

theorem toks_apply (b : Fin 576) (r : Fin 256) : (toks m c b.val (ix3 0 0 r)).toNat = Experts.token (XT m c) b r := by
  unfold toks Experts.token
  refine congrArg (fun i => (XT m c i).toNat) (funext fun a => Fin.ext ?_)
  match a with
  | ⟨0, _⟩ => show min b.val 575 = b.val; omega
  | ⟨1, _⟩ => rfl
  | ⟨2, _⟩ => rfl

/-! ## The array -/

/-- The array the kernel is to write. -/
abbrev result (c : Dev nD) : SO.Idx → EReal := target (XE m c) (XT m c) (XH m c) (XG m c) (XU m c) (XD m c)

/-- A block's slots, once its operands are the slots' tokens and the expert's weights. -/
theorem slots_apply {x : S1x1x256.Idx → BitVec 32} {g u : S1x2048x512.Idx → EReal} {d : S1x512x2048.Idx → EReal} (b : Fin 576)
    (hx : ∀ r, (x (ix3 0 0 r)).toNat = Experts.token (XT m c) b r) (hg : ∀ k j, g (ix3 0 k j) = XG m c (ix3 (name (XE m c) b) k j))
    (hu : ∀ k j, u (ix3 0 k j) = XU m c (ix3 (name (XE m c) b) k j)) (hd : ∀ j o, d (ix3 0 j o) = XD m c (ix3 (name (XE m c) b) j o))
    (r : Fin 256) (o : Fin 2048) :
    lower (F := Ideal) x (XH m c) g u d (ix2 r o) = atSlot (XE m c) (XT m c) (XH m c) (XG m c) (XU m c) (XD m c) b r o := by
  rw [lower_apply]
  simp only [hx, hg, hu, hd]
  rfl

include hE in
theorem stored_apply (z : S512x2048.Idx) : stored m hO c t z = result m c (ix2 ⟨512 * t.val + (z 0).val, by
    have h : t.val < 288 := t.isLt
    have h0 : (z 0).val < 512 := (z 0).isLt
    omega⟩ (z 1)) := by
  have ht : t.val < 288 := t.isLt
  have h0 : (z 0).val < 512 := (z 0).isLt
  unfold stored block result target
  by_cases hz : (z 0).val < 256
  · rw [dif_pos hz]
    refine (slots_apply m c (even t) (toks_apply m c (even t)) (iblk3_apply m hO hE c t) (iblk4_apply m hO hE c t) (iblk5_apply m hO hE c t) ⟨(z 0).val, hz⟩ (z 1)).trans ?_
    refine congrArg₂ (fun b r => atSlot (XE m c) (XT m c) (XH m c) (XG m c) (XU m c) (XD m c) b r (z 1)) (Fin.ext ?_) (Fin.ext ?_)
    · show 2 * t.val = (512 * t.val + (z 0).val) / 256; omega
    · show (z 0).val = (512 * t.val + (z 0).val) % 256; omega
  · rw [dif_neg hz]
    refine (slots_apply m c (odd t) (toks_apply m c (odd t)) (iblk6_apply m hO hE c t) (iblk7_apply m hO hE c t) (iblk8_apply m hO hE c t) ⟨(z 0).val - 256, by omega⟩ (z 1)).trans ?_
    refine congrArg₂ (fun b r => atSlot (XE m c) (XT m c) (XH m c) (XG m c) (XU m c) (XD m c) b r (z 1)) (Fin.ext ?_) (Fin.ext ?_)
    · show 2 * t.val + 1 = (512 * t.val + (z 0).val) / 256; omega
    · show (z 0).val - 256 = (512 * t.val + (z 0).val) % 256; omega

theorem flushAt (a : (pcfg0 (F := Ideal)).Adm) (t : Fin (cfg0 a).N) : ((cfg0 a).win 9).flush t = true :=
  (fun t => (Pipeline.Window.flushOf_reads cc0_transform_10 reads0_9 hreads0_9 0 (by decide) (by decide)
    (Pipeline.Window.sep_of_coord cc0_transform_10 0 0 (fun _ => rfl) (by decide)) (P := 1) (m := 0) (by decide) rfl t).mpr (Nat.mod_one _) :
    ∀ t : Fin grid0.N, Pipeline.Window.flushOf grid0 true cc0_transform_10 t = true) t

theorem outIndex : ∀ t : Fin grid0.N, cc0_transform_10 (grid0.coords t) = ![t.val, 0] := by
  intro t
  have h : t.val < 288 := t.isLt
  show ![(BitVec.ofNat 32 (grid0.coords t 0).val).toNat, 0] = _
  rw [BitVec.toNat_ofNat, coord t, Nat.mod_eq_of_lt (by omega)]

include hE in
/-- Each write-back writes its block of the result. -/
theorem flushed_eq (hf : ((cfgM m hO).win 9).flush t = true) :
    (dats m hO 0 c).flushed 9 t = (((cfgM m hO).win 9).blk t).view.read (Elt Ideal) (result m c) := by
  show ((cfgM m hO).win 9).cut (grid0.coords t) ((dats m hO 0 c).after 9 t) = _
  rw [after9]
  have e := outIndex t
  refine funext fun (y : S512x2048.Idx) => ?_
  refine Eq.trans ?_ (View.read_apply _ _).symm
  refine (stored_apply m hO hE c t y).trans ?_
  refine congrArg (result m c) (funext fun a => Fin.ext ?_)
  match a with
  | ⟨0, _⟩ => show 512 * t.val + (y 0).val = cc0_transform_10 (grid0.coords t) 0 * 512 + 1 * (y 0).val
              rw [e]; show _ = t.val * 512 + 1 * (y 0).val; omega
  | ⟨1, _⟩ => show (y 1).val = cc0_transform_10 (grid0.coords t) 1 * 2048 + 1 * (y 1).val
              rw [e]; show _ = 0 * 2048 + 1 * (y 1).val; omega

include hE in
/-- So the result array ends holding every slot's output row. -/
theorem final : (dats m hO 0 c).arrAt 9 (cfgM m hO).N = result m c :=
  (dats m hO 0 c).arrAt_eq_of_cover 9 (result m c) (flushed_eq m hO hE c) fun (i : S147456x2048.Idx) => by
    have h0 : (i 0 : Nat) < 147456 := (i 0).isLt
    have h1 : (i 1 : Nat) < 2048 := (i 1).isLt
    let t : Fin grid0.N := ⟨(i 0).val / 512, show (i 0).val / 512 < 288 by omega⟩
    have e := outIndex t
    refine ⟨t, flushAt _ t, ?_⟩
    show i ∈ ((View.whole main_v0).slice (Rect.block (s := S147456x2048) S512x2048.size (cc0_transform_10 (grid0.coords t)) (hinb0_9 (grid0.coords t)))).set
    rw [View.set_slice_whole, Rect.mem_set_unit]
    intro a
    match a with
    | ⟨0, _⟩ => show cc0_transform_10 (grid0.coords t) 0 * 512 ≤ (i 0 : Nat) ∧ (i 0 : Nat) < cc0_transform_10 (grid0.coords t) 0 * 512 + 512
                rw [e]; show (i 0).val / 512 * 512 ≤ (i 0 : Nat) ∧ (i 0 : Nat) < (i 0).val / 512 * 512 + 512; omega
    | ⟨1, _⟩ => show cc0_transform_10 (grid0.coords t) 1 * 2048 ≤ (i 1 : Nat) ∧ (i 1 : Nat) < cc0_transform_10 (grid0.coords t) 1 * 2048 + 2048
                rw [e]; show 0 * 2048 ≤ (i 1 : Nat) ∧ (i 1 : Nat) < 0 * 2048 + 2048; omega

/-- The run: the result array at every slot's output row, the arguments unchanged. -/
theorem run_value (ρ : Dev nD → PrngReg) (hR : InRange m) : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_range m hR
  have hT := tokens_of_range m hR
  (θ_run defs _ _).mono (fun _ h c => ⟨(h.1 c).trans (final m hO (fun b => experts_in m hR 0 b) c), h.2 c⟩)
    (θ_run_and ((θ_run defs _ _).mono (fun _ h c => (h c).1 9) (run m ρ hO hT)) (frame_of m ρ hO (dats m hO) (arrays m hO) (run m ρ hO hT)))

end Cert.Kernel4Ideal.Moe

end
-- ==== Proof.ExpertsRef.lean ====
/-
  The reference of the routed experts, operation by operation, is the same array.
-/
module

public import proofs.«01_k».proof.Proof.Experts
public import proofs.«01_k».proof.Proof.MixRef
public import proofs.«01_k».proof.Proof.Gen.Reference4Ideal.Read
public import Idealize.ShloMosaic.Lib.StableHlo.Predicate

@[expose] public section

set_option maxRecDepth 16384

noncomputable section

namespace Cert.Reference4Ideal.Experts

open Idealize.ShloMosaic Idealize.ShloMosaic.TcCoe Idealize.SL.Sem
open Cert.Reference4Ideal Cert.Reference4Ideal.Gen Cert.Reference4Ideal.Read Idealize.ShloMosaic.ValueIdx Cert.Experts

variable {X0 : SE.Idx → BitVec 32} {X1 : ST.Idx → BitVec 32} {X2 : SX.Idx → EReal} {X3 X4 : SW.Idx → EReal} {X5 : SD.Idx → EReal}

/-- A word below a bound under half the range is not negative, and reads the same signed. -/
theorem keep (w o : BitVec 32) (n : ℕ) (hn : n ≤ 2 ^ 31) (h : w.toNat < n) : Scalar.select (IntOp.cmpi .slt w 0#32) o w = w := by
  have e : IntOp.cmpi .slt w 0#32 = 0#1 := eq_zero_of_ne_one fun hc => by
    have := (StableHlo.Predicate.slt_iff_toNat (a := w) (b := 0#32) (by omega) (by decide)).mp hc
    simp at this
  rw [e, select_zero]

theorem signed (w : BitVec 32) (n : ℕ) (hn : n ≤ 2 ^ 31) (h : w.toNat < n) : w.toInt.toNat = w.toNat := by
  rw [StableHlo.Predicate.toInt_eq_toNat_of_lt (by omega), Int.toNat_natCast]

theorem wordOfSlot (hT : ∀ i, (X1 i).toNat < 16384) (b : Fin 576) (r : Fin 256) : val_main_v7 (F := Ideal) X1 (ix3 b r (0 : Fin 1)) = X1 (ix3 b 0 r) := by
  have e7 : idx_main_v7 (ix3 b r (0 : Fin 1)) = ix2 b r := by funext a; fin_cases a <;> rfl
  have e1 : idx_main_v1 (ix2 b r) = ix3 b 0 r := by
    funext a; apply Fin.ext
    match a with
    | ⟨0, _⟩ => show (b.val * 256 + r.val) / 256 = b.val; omega
    | ⟨1, _⟩ => rfl
    | ⟨2, _⟩ => show (b.val * 256 + r.val) % 256 = r.val; omega
  rw [val_main_v7_apply, e7, val_main_v6_apply, val_main_v3_apply, val_main_v1_apply, val_main_v2_apply, val_main_c_apply, e1]
  exact keep _ _ 16384 (by decide) (hT _)

theorem wordOfGate (hE : ∀ i, (X0 i).toNat < 64) (b : Fin 576) : val_main_v15 (F := Ideal) X0 (ix2 b (0 : Fin 1)) = X0 (ix1 b) := by
  have e : idx_main_v15 (ix2 b (0 : Fin 1)) = ix1 b := by funext a; fin_cases a; rfl
  rw [val_main_v15_apply, e, val_main_v14_apply, val_main_v11_apply, val_main_v10_apply, val_main_c_1_apply]
  exact keep _ _ 64 (by decide) (hE _)

theorem wordOfUp (hE : ∀ i, (X0 i).toNat < 64) (b : Fin 576) : val_main_v24 (F := Ideal) X0 (ix2 b (0 : Fin 1)) = X0 (ix1 b) := by
  have e : idx_main_v24 (ix2 b (0 : Fin 1)) = ix1 b := by funext a; fin_cases a; rfl
  rw [val_main_v24_apply, e, val_main_v23_apply, val_main_v20_apply, val_main_v19_apply, val_main_c_3_apply]
  exact keep _ _ 64 (by decide) (hE _)

theorem wordOfDown (hE : ∀ i, (X0 i).toNat < 64) (b : Fin 576) : val_main_v35 (F := Ideal) X0 (ix2 b (0 : Fin 1)) = X0 (ix1 b) := by
  have e : idx_main_v35 (ix2 b (0 : Fin 1)) = ix1 b := by funext a; fin_cases a; rfl
  rw [val_main_v35_apply, e, val_main_v34_apply, val_main_v31_apply, val_main_v30_apply, val_main_c_5_apply]
  exact keep _ _ 64 (by decide) (hE _)

/-! ## The gathers at an index -/

theorem rowGather {α : Type} (x : S16384x2048.Idx → α) (idx : IVec S576x256x1 32) (b : Fin 576) (r : Fin 256) (k : Fin 2048)
    (h : (idx (ix3 b r (0 : Fin 1))).toNat < 16384) :
    Host.gather gather_S16384x2048_S576x256x1_S576x256x2048_2_0_n_n_0_2_12048 x idx (ix3 b r k) = x (ix2 ⟨(idx (ix3 b r (0 : Fin 1))).toNat, h⟩ k) := by
  unfold Host.gather
  refine congrArg x (funext fun a => Fin.ext ?_)
  show GatherDims.start _ _ _ a + GatherDims.batchCoord _ _ a + GatherDims.offCoord _ _ a = _
  match a with
  | ⟨0, _⟩ =>
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos]
    swap
    · exact List.mem_singleton.mpr rfl
    refine (congrArg (fun i => min (idx i).toInt.toNat 16383) (show _ = ix3 b r (0 : Fin 1) from funext fun q => Fin.ext ?_)).trans ?_
    · match q with
      | ⟨0, _⟩ => rfl
      | ⟨1, _⟩ => rfl
      | ⟨2, _⟩ => rfl
    · show min _ _ = _
      rw [signed _ 16384 (by decide) h]
      exact Nat.min_eq_left (by omega)
  | ⟨1, _⟩ =>
    rw [GatherDims.batchCoord_eq_zero _ _ _ List.not_mem_nil]
    unfold GatherDims.start
    rw [dif_neg]
    swap
    · exact fun h => absurd (congrArg Fin.val (List.mem_singleton.mp h)) (show ¬ (1 : ℕ) = 0 by decide)
    simp only [Nat.zero_add]
    rfl

theorem wideGather {α : Type} (x : S64x2048x512.Idx → α) (idx : IVec S576x1 32) (b : Fin 576) (k : Fin 2048) (j : Fin 512)
    (h : (idx (ix2 b (0 : Fin 1))).toNat < 64) :
    Host.gather gather_S64x2048x512_S576x1_S576x2048x512_12_0_n_n_0_1_12048512 x idx (ix3 b k j) = x (ix3 ⟨(idx (ix2 b (0 : Fin 1))).toNat, h⟩ k j) := by
  unfold Host.gather
  refine congrArg x (funext fun a => Fin.ext ?_)
  show GatherDims.start _ _ _ a + GatherDims.batchCoord _ _ a + GatherDims.offCoord _ _ a = _
  match a with
  | ⟨0, _⟩ =>
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos]
    swap
    · exact List.mem_singleton.mpr rfl
    refine (congrArg (fun i => min (idx i).toInt.toNat 63) (show _ = ix2 b (0 : Fin 1) from funext fun q => Fin.ext ?_)).trans ?_
    · match q with
      | ⟨0, _⟩ => rfl
      | ⟨1, _⟩ => rfl
    · show min _ _ = _
      rw [signed _ 64 (by decide) h]
      exact Nat.min_eq_left (by omega)
  | ⟨1, _⟩ =>
    rw [GatherDims.batchCoord_eq_zero _ _ _ List.not_mem_nil]
    unfold GatherDims.start
    rw [dif_neg]
    swap
    · exact fun h => absurd (congrArg Fin.val (List.mem_singleton.mp h)) (show ¬ (1 : ℕ) = 0 by decide)
    simp only [Nat.zero_add]
    rfl
  | ⟨2, _⟩ =>
    rw [GatherDims.batchCoord_eq_zero _ _ _ List.not_mem_nil]
    unfold GatherDims.start
    rw [dif_neg]
    swap
    · exact fun h => absurd (congrArg Fin.val (List.mem_singleton.mp h)) (show ¬ (2 : ℕ) = 0 by decide)
    simp only [Nat.zero_add]
    rfl

theorem tallGather {α : Type} (x : S64x512x2048.Idx → α) (idx : IVec S576x1 32) (b : Fin 576) (j : Fin 512) (o : Fin 2048)
    (h : (idx (ix2 b (0 : Fin 1))).toNat < 64) :
    Host.gather gather_S64x512x2048_S576x1_S576x512x2048_12_0_n_n_0_1_15122048 x idx (ix3 b j o) = x (ix3 ⟨(idx (ix2 b (0 : Fin 1))).toNat, h⟩ j o) := by
  unfold Host.gather
  refine congrArg x (funext fun a => Fin.ext ?_)
  show GatherDims.start _ _ _ a + GatherDims.batchCoord _ _ a + GatherDims.offCoord _ _ a = _
  match a with
  | ⟨0, _⟩ =>
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos]
    swap
    · exact List.mem_singleton.mpr rfl
    refine (congrArg (fun i => min (idx i).toInt.toNat 63) (show _ = ix2 b (0 : Fin 1) from funext fun q => Fin.ext ?_)).trans ?_
    · match q with
      | ⟨0, _⟩ => rfl
      | ⟨1, _⟩ => rfl
    · show min _ _ = _
      rw [signed _ 64 (by decide) h]
      exact Nat.min_eq_left (by omega)
  | ⟨1, _⟩ =>
    rw [GatherDims.batchCoord_eq_zero _ _ _ List.not_mem_nil]
    unfold GatherDims.start
    rw [dif_neg]
    swap
    · exact fun h => absurd (congrArg Fin.val (List.mem_singleton.mp h)) (show ¬ (1 : ℕ) = 0 by decide)
    simp only [Nat.zero_add]
    rfl
  | ⟨2, _⟩ =>
    rw [GatherDims.batchCoord_eq_zero _ _ _ List.not_mem_nil]
    unfold GatherDims.start
    rw [dif_neg]
    swap
    · exact fun h => absurd (congrArg Fin.val (List.mem_singleton.mp h)) (show ¬ (2 : ℕ) = 0 by decide)
    simp only [Nat.zero_add]
    rfl

/-! ## The stages -/

theorem slotRow (hT : ∀ i, (X1 i).toNat < 16384) (b : Fin 576) (r : Fin 256) (k : Fin 2048) :
    val_main_v8 (F := Ideal) X1 X2 (ix3 b r k) = feature X2 (token X1 b r) k := by
  unfold val_main_v8
  have e := wordOfSlot (X1 := X1) hT b r
  have hb := hT (ix3 b 0 r)
  have hb' := hb
  rw [← e] at hb
  refine (rowGather _ _ b r k hb).trans ?_
  rw [val_main_v0_apply]
  unfold feature token
  refine congrArg X2 (funext fun a => Fin.ext ?_)
  have hv : (val_main_v7 (F := Ideal) X1 (ix3 b r (0 : Fin 1))).toNat = (X1 (ix3 b 0 r)).toNat := congrArg BitVec.toNat e
  have hk := k.isLt
  match a with
  | ⟨0, _⟩ =>
    show ((val_main_v7 (F := Ideal) X1 (ix3 b r (0 : Fin 1))).toNat * 2048 + k.val) / 128 = (16 * (X1 (ix3 b 0 r)).toNat + k.val / 128) % 262144
    rw [hv]; omega
  | ⟨1, _⟩ =>
    show ((val_main_v7 (F := Ideal) X1 (ix3 b r (0 : Fin 1))).toNat * 2048 + k.val) % 128 = k.val % 128
    omega

theorem nameOf (hE : ∀ i, (X0 i).toNat < 64) (b : Fin 576) (w : BitVec 32) (hw : w.toNat < 64) (e : w = X0 (ix1 b)) : (⟨w.toNat, hw⟩ : Fin 64) = name X0 b := by
  subst e
  exact Fin.ext (Nat.mod_eq_of_lt (hE _)).symm

theorem gateWeight (hE : ∀ i, (X0 i).toNat < 64) (b : Fin 576) (k : Fin 2048) (j : Fin 512) :
    val_main_v16 (F := Ideal) X0 X3 (ix3 b k j) = X3 (ix3 (name X0 b) k j) := by
  unfold val_main_v16
  have e := wordOfGate (X0 := X0) hE b
  refine (wideGather _ _ b k j (e ▸ hE _)).trans ?_
  rw [nameOf hE b _ _ e, val_main_v9_apply]
  rfl

theorem upWeight (hE : ∀ i, (X0 i).toNat < 64) (b : Fin 576) (k : Fin 2048) (j : Fin 512) :
    val_main_v25 (F := Ideal) X0 X4 (ix3 b k j) = X4 (ix3 (name X0 b) k j) := by
  unfold val_main_v25
  have e := wordOfUp (X0 := X0) hE b
  refine (wideGather _ _ b k j (e ▸ hE _)).trans ?_
  rw [nameOf hE b _ _ e, val_main_v18_apply]
  rfl

theorem downWeight (hE : ∀ i, (X0 i).toNat < 64) (b : Fin 576) (j : Fin 512) (o : Fin 2048) :
    val_main_v36 (F := Ideal) X0 X5 (ix3 b j o) = X5 (ix3 (name X0 b) j o) := by
  unfold val_main_v36
  have e := wordOfDown (X0 := X0) hE b
  refine (tallGather _ _ b j o (e ▸ hE _)).trans ?_
  rw [nameOf hE b _ _ e, val_main_v29_apply]
  rfl

theorem gateSum (hE : ∀ i, (X0 i).toNat < 64) (hT : ∀ i, (X1 i).toNat < 16384) (b : Fin 576) (r : Fin 256) (j : Fin 512) :
    val_main_v17 (F := Ideal) X0 X1 X2 X3 (ix3 b r j) = ∑ k : Fin 2048, feature X2 (token X1 b r) k * X3 (ix3 (name X0 b) k j) := by
  rw [val_main_v17_apply]
  refine Finset.sum_congr rfl fun k _ => congrArg₂ (· * ·) ?_ ?_
  · rw [show lidx_main_v17 (ix3 b r j) k = ix3 b r k from by funext a; fin_cases a <;> rfl]; exact slotRow hT b r k
  · rw [show ridx_main_v17 (ix3 b r j) k = ix3 b k j from by funext a; fin_cases a <;> rfl]; exact gateWeight hE b k j

theorem upSum (hE : ∀ i, (X0 i).toNat < 64) (hT : ∀ i, (X1 i).toNat < 16384) (b : Fin 576) (r : Fin 256) (j : Fin 512) :
    val_main_v26 (F := Ideal) X0 X1 X2 X4 (ix3 b r j) = ∑ k : Fin 2048, feature X2 (token X1 b r) k * X4 (ix3 (name X0 b) k j) := by
  rw [val_main_v26_apply]
  refine Finset.sum_congr rfl fun k _ => congrArg₂ (· * ·) ?_ ?_
  · rw [show lidx_main_v26 (ix3 b r j) k = ix3 b r k from by funext a; fin_cases a <;> rfl]; exact slotRow hT b r k
  · rw [show ridx_main_v26 (ix3 b r j) k = ix3 b k j from by funext a; fin_cases a <;> rfl]; exact upWeight hE b k j

theorem hiddenUnit (hE : ∀ i, (X0 i).toNat < 64) (hT : ∀ i, (X1 i).toNat < 16384) (b : Fin 576) (r : Fin 256) (j : Fin 512) :
    val_main_v28 (F := Ideal) X0 X1 X2 X3 X4 (ix3 b r j)
      = unit (feature X2 (token X1 b r)) (fun k j => X3 (ix3 (name X0 b) k j)) (fun k j => X4 (ix3 (name X0 b) k j)) j := by
  rw [val_main_v28_apply, val_main_v27_apply, val_main_call0_v5_apply, val_main_call0_v4_apply, val_main_call0_cst_0_apply,
    val_main_call0_v3_apply, val_main_call0_v2_apply, val_main_call0_cst_apply, val_main_call0_v1_apply, val_main_call0_v0_apply, upSum hE hT, gateSum hE hT]
  unfold unit
  exact congrArg (· * _) (congrArg (_ * ·) (Cert.Reference3Ideal.Mix.logistic_bits _))

theorem slotOut (hE : ∀ i, (X0 i).toNat < 64) (hT : ∀ i, (X1 i).toNat < 16384) (b : Fin 576) (r : Fin 256) (o : Fin 2048) :
    val_main_v37 (F := Ideal) X0 X1 X2 X3 X4 X5 (ix3 b r o) = atSlot X0 X1 X2 X3 X4 X5 b r o := by
  rw [val_main_v37_apply]
  unfold atSlot expert
  refine Finset.sum_congr rfl fun j _ => congrArg₂ (· * ·) ?_ ?_
  · rw [show lidx_main_v37 (ix3 b r o) j = ix3 b r j from by funext a; fin_cases a <;> rfl]; exact hiddenUnit hE hT b r j
  · rw [show ridx_main_v37 (ix3 b r o) j = ix3 b j o from by funext a; fin_cases a <;> rfl]; exact downWeight hE b j o

/-- The reference's result. -/
theorem value (hE : ∀ i, (X0 i).toNat < 64) (hT : ∀ i, (X1 i).toNat < 16384) :
    val_main_v38 (F := Ideal) X0 X1 X2 X3 X4 X5 = target X0 X1 X2 X3 X4 X5 := by
  funext i
  have h0 : (i 0).val < 147456 := (i 0).isLt
  have h1 : (i 1).val < 2048 := (i 1).isLt
  rw [val_main_v38_apply]
  unfold target
  refine Eq.trans (congrArg _ (show idx_main_v38 i = ix3 ⟨(i 0).val / 256, by omega⟩ ⟨(i 0).val % 256, Nat.mod_lt _ (by decide)⟩ (i 1) from funext fun a => Fin.ext ?_)) (slotOut hE hT _ _ _)
  match a with
  | ⟨0, _⟩ => show ((i 0).val * 2048 + (i 1).val) / 524288 = (i 0).val / 256; omega
  | ⟨1, _⟩ => show ((i 0).val * 2048 + (i 1).val) / 2048 % 256 = (i 0).val % 256; omega
  | ⟨2, _⟩ => show ((i 0).val * 2048 + (i 1).val) % 2048 = (i 1).val; omega

end Cert.Reference4Ideal.Experts

end
-- ==== Proof.Prep.lean ====
/-
  The head of the latent attention: both latents scaled by the reciprocal root of their mean square and by a gain,
  multiplied up to eight heads, and every head scaled once more over its features and rotated.
-/
module

public import Idealize.ShloMosaic.PureOps.Ideal.Laws
public import Idealize.ShloMosaic.Lib.ValueIdxCore
public import proofs.«01_k».proof.Proof.Gen.Kernel5Ideal.Value
public import proofs.«01_k».proof.Proof.Gen.Kernel5Ideal.Points
public import Idealize.ShloMosaic.Lib.MatmulPlain
public import Idealize.ShloMosaic.Lib.ValueLayout
public import Idealize.ShloMosaic.Lib.KernelVsHost
public import Idealize.ShloMosaic.Lib.Pipeline.Covers
public import Idealize.ShloMosaic.Lib.VecWindow
public import Idealize.ShloMosaic.Lib.Tactic

@[expose] public section

set_option maxRecDepth 16384

noncomputable section

namespace Cert.Prep

open Idealize.ShloMosaic Idealize.ShloMosaic.ValueIdx

abbrev SP : Shape := ⟨2, ![16384, 6144]⟩
abbrev SA : Shape := ⟨2, ![1, 512]⟩
abbrev SB : Shape := ⟨2, ![1, 256]⟩
abbrev SQ : Shape := ⟨3, ![8, 512, 256]⟩
abbrev SK : Shape := ⟨3, ![8, 256, 256]⟩
abbrev ST : Shape := ⟨2, ![16384, 128]⟩
abbrev SN : Shape := ⟨2, ![1, 128]⟩
abbrev OQ : Shape := ⟨4, ![2, 8, 8192, 256]⟩
abbrev OK : Shape := ⟨4, ![2, 8, 256, 8192]⟩
abbrev OV : Shape := ⟨4, ![2, 8, 8192, 128]⟩

/-- The small addend, as the program's constant. -/
def eps : EReal := Ideal.ofBits .f32 0x358637BD#32

/-- A row scaled by the reciprocal root of its mean square and by the gain, the row's length given as a value. -/
def normed {n : ℕ} (N : EReal) (x g : Fin n → EReal) (k : Fin n) : EReal :=
  x k * Ideal.rsqrt (Ideal.div (∑ j, x j * x j) N + eps) * g k

/-- The scaled row times a weight. -/
def up {n : ℕ} (N : EReal) (x g : Fin n → EReal) (w : Fin n → Fin 256 → EReal) (d : Fin 256) : EReal :=
  ∑ k, normed N x g k * w k d

/-- The two halves of a head's row. -/
def lo (u : Fin 256 → EReal) (j : Fin 128) : EReal := u ⟨j.val, by omega⟩
def hi (u : Fin 256 → EReal) (j : Fin 128) : EReal := u ⟨128 + j.val, by omega⟩

/-- The sum of squares of the first 64 of 128 values. -/
def half (p : Fin 128 → EReal) : EReal := ∑ j : Fin 64, p ⟨j.val, by omega⟩ * p ⟨j.val, by omega⟩

/-- The reciprocal root of the mean square over a head's 192 features. -/
def inv (a : Fin 128 → EReal) (s : EReal) : EReal :=
  Ideal.rsqrt ((∑ j, a j * a j + s) * Ideal.ofBits .f32 0x3BAAAAAB#32 + eps)

/-- Every value times its cosine plus the one 64 lanes on times its sine. -/
def rot (p c s : Fin 128 → EReal) (j : Fin 128) : EReal := p j * c j + p ⟨(j.val + 64) % 128, by omega⟩ * s j

/-- A head's row with the gain on one half and the other half rotated. -/
def turned (a p g c s : Fin 128 → EReal) (k : Fin 256) : EReal :=
  if h : k.val < 128 then a ⟨k.val, h⟩ * g ⟨k.val, h⟩ else rot p c s ⟨k.val - 128, by omega⟩

def qRow (u : Fin 256 → EReal) (g c s : Fin 128 → EReal) (k : Fin 256) : EReal :=
  turned (lo u) (hi u) g c s k * inv (lo u) (half (hi u)) * Ideal.ofBits .f32 0x3DD53B95#32

def kRow (u : Fin 256 → EReal) (p g c s : Fin 128 → EReal) (k : Fin 256) : EReal :=
  turned (lo u) p g c s k * inv (lo u) (half p)

/-- The heads' rows of a token. -/
def rowQ (P : SP.Idx → EReal) (g : SA.Idx → EReal) (w : SQ.Idx → EReal) (h : Fin 8) (t : Fin 16384) : Fin 256 → EReal :=
  up (Ideal.ofBits .f32 0x44000000#32) (fun k : Fin 512 => P (ix2 t ⟨5120 + k.val, by omega⟩)) (fun k => g (ix2 0 k)) (fun k d => w (ix3 h k d))
def rowK (P : SP.Idx → EReal) (g : SB.Idx → EReal) (w : SK.Idx → EReal) (h : Fin 8) (t : Fin 16384) : Fin 256 → EReal :=
  up (Ideal.ofBits .f32 0x43800000#32) (fun k : Fin 256 => P (ix2 t ⟨5632 + k.val, by omega⟩)) (fun k => g (ix2 0 k)) (fun k d => w (ix3 h k d))
def rowP (P : SP.Idx → EReal) (t : Fin 16384) (j : Fin 128) : EReal := P (ix2 t ⟨5888 + j.val, by omega⟩)

/-- Token `s` of sequence `b`. -/
abbrev tok (b : Fin 2) (s : Fin 8192) : Fin 16384 := ⟨8192 * b.val + s.val, by omega⟩

def atQ (P : SP.Idx → EReal) (g : SA.Idx → EReal) (w : SQ.Idx → EReal) (c s : ST.Idx → EReal) (n : SN.Idx → EReal) (h : Fin 8) (t : Fin 16384) (d : Fin 256) : EReal :=
  qRow (rowQ P g w h t) (fun j => n (ix2 0 j)) (fun j => c (ix2 t j)) (fun j => s (ix2 t j)) d
def atK (P : SP.Idx → EReal) (g : SB.Idx → EReal) (w : SK.Idx → EReal) (c s : ST.Idx → EReal) (n : SN.Idx → EReal) (h : Fin 8) (t : Fin 16384) (d : Fin 256) : EReal :=
  kRow (rowK P g w h t) (rowP P t) (fun j => n (ix2 0 j)) (fun j => c (ix2 t j)) (fun j => s (ix2 t j)) d

def targetQ (P : SP.Idx → EReal) (g : SA.Idx → EReal) (w : SQ.Idx → EReal) (c s : ST.Idx → EReal) (n : SN.Idx → EReal) : OQ.Idx → EReal :=
  fun i => atQ P g w c s n (i 1) (tok (i 0) (i 2)) (i 3)
def targetK (P : SP.Idx → EReal) (g : SB.Idx → EReal) (w : SK.Idx → EReal) (c s : ST.Idx → EReal) (n : SN.Idx → EReal) : OK.Idx → EReal :=
  fun i => atK P g w c s n (i 1) (tok (i 0) (i 3)) (i 2)
def targetV (P : SP.Idx → EReal) (g : SB.Idx → EReal) (w : SK.Idx → EReal) : OV.Idx → EReal :=
  fun i => hi (rowK P g w (i 1) (tok (i 0) (i 2))) (i 3)

end Cert.Prep

namespace Cert.Kernel5Ideal.Prep

open Idealize.ShloMosaic Idealize.ShloMosaic.TcCoe Idealize.SL.Sem
open Cert.Kernel5Ideal Cert.Kernel5Ideal.Gen Idealize.ShloMosaic.ValueIdx Cert.Prep

/-! ## The body's values at an index -/

theorem sumCol {n : ℕ} (s : FVec Ideal ⟨2, ![512, n]⟩ .f32) (h : (⟨2, ![512, n]⟩ : Shape).Reduces [1] S512) (hφ : FKind.Formats .f32)
    (hacc : (0x00000000#32 : BitVec 32) = FKind.add.neutral .f32 hφ) (r : Fin 512) :
    shapeCast S512x1 (multiReduction .add [1] S512 s 0x00000000#32 h hφ hacc) shapeCasts_S512_S512x1 (ix2 r 0) = ∑ j : Fin n, s (ix2 r j) := by
  refine (shapeCast_apply _ _ _ (ix1 r) (by rw [Shape.rowMajor_val_one, Shape.rowMajor_val_two]; simp)).trans ?_
  rw [Ideal.multiReduction_add_single]
  refine Finset.sum_congr rfl fun k _ => congrArg s ?_
  funext a; apply Fin.ext
  fin_cases a <;> rfl

theorem bcCol {n : ℕ} {α : Type} (x : S512x1.Idx → α) (h : S512x1.Broadcasts ⟨2, ![512, n]⟩) (r : Fin 512) (k : Fin n) :
    broadcastTo ⟨2, ![512, n]⟩ x h (ix2 r k) = x (ix2 r 0) :=
  broadcastTo_apply x _ _ _ (fun a => by fin_cases a <;> rfl)

theorem mask_apply (r : Fin 512) (j : Fin 128) : k0_pay2 (ix2 r j) = if j.val < 64 then 1#1 else 0#1 :=
  (show ∀ j : Fin 128, Scalar.cmpi .slt (BitVec.ofNat 32 (0 * 128 + j.val)) 64#32 = if j.val < 64 then 1#1 else 0#1 by decide +kernel) j

theorem halfSum (p : FVec Ideal S512x128 .f32) (r : Fin 512) :
    ∑ j : Fin 128, select k0_pay2 p (broadcast S512x128 (Ideal.ofBits .f32 0x00000000#32)) (ix2 r j) = ∑ j : Fin 64, p (ix2 r ⟨j.val, by omega⟩) := by
  have e : ∀ j : Fin 128, select k0_pay2 p (broadcast S512x128 (Ideal.ofBits .f32 0x00000000#32)) (ix2 r j) = if j.val < 64 then p (ix2 r j) else 0 := fun j => by
    rw [select_apply, mask_apply]
    split
    · rfl
    · exact Ideal.ofBits_zero_f32
  refine (Finset.sum_congr rfl fun j _ => e j).trans ((Fin.sum_univ_add (a := 64) (b := 64) fun j => if j.val < 64 then p (ix2 r j) else 0).trans ?_)
  refine (congrArg₂ (· + ·) (Finset.sum_congr rfl fun j _ => if_pos j.isLt) (Finset.sum_eq_zero fun j _ => if_neg (by simp))).trans ((add_zero _).trans rfl)

theorem hq_apply (x : Vec Ideal S512x512 .bf16) (g : Vec Ideal S1x512 .f32) (r k : Fin 512) :
    k0_pay3 (F := Ideal) x g (ix2 r k) = normed (Ideal.ofBits .f32 0x44000000#32) (fun k => x (ix2 r k)) (fun k => g (ix2 0 k)) k := by
  unfold k0_pay3
  refine congrArg₂ (· * ·) (congrArg (x (ix2 r k) * ·) ((bcCol _ broadcasts_S512x1_S512x512 r k).trans ?_)) (broadcastTo_1b_ab_apply g _ r k)
  exact congrArg (fun z => Ideal.rsqrt (Ideal.div z (Ideal.ofBits .f32 0x44000000#32) + eps)) (sumCol (n := 512) (mulf x x) _ _ _ r)

theorem front_apply (x : FVec Ideal S512x512 .f32) (r : Fin 512) (k : Fin 256) :
    extractStridedSlice S512x256 ![0, 0] x slices_S512x512_o0_0_S512x256 (ix2 r k) = x (ix2 r ⟨k.val, by omega⟩) :=
  extractStridedSlice_apply _ _ _ _ _ fun a => match a with
    | ⟨0, _⟩ => (Nat.zero_add _).symm
    | ⟨1, _⟩ => (Nat.zero_add _).symm

theorem hkv_apply (x : Vec Ideal S512x512 .bf16) (g : Vec Ideal S1x256 .f32) (r : Fin 512) (k : Fin 256) :
    k0_pay5 (F := Ideal) x g (ix2 r k) = normed (Ideal.ofBits .f32 0x43800000#32) (fun k : Fin 256 => x (ix2 r ⟨k.val, by omega⟩)) (fun k => g (ix2 0 k)) k := by
  unfold k0_pay5
  refine congrArg₂ (· * ·) (congrArg₂ (· * ·) (front_apply _ r k) ((bcCol _ broadcasts_S512x1_S512x256 r k).trans ?_)) (broadcastTo_1b_ab_apply g _ r k)
  exact congrArg (fun z => Ideal.rsqrt (Ideal.div z (Ideal.ofBits .f32 0x43800000#32) + eps)) ((sumCol (n := 256) _ _ _ _ r).trans
    (Finset.sum_congr rfl fun j _ => congrArg₂ (· * ·) (front_apply _ r j) (front_apply _ r j)))

theorem pe_apply (x : Vec Ideal S512x512 .bf16) (r : Fin 512) (j : Fin 128) : k0_pay6 (F := Ideal) x (ix2 r j) = x (ix2 r ⟨256 + j.val, by omega⟩) :=
  extractStridedSlice_apply _ _ slices_S512x512_o0_256_S512x128 _ _ fun a => match a with
    | ⟨0, _⟩ => (Nat.zero_add _).symm
    | ⟨1, _⟩ => rfl

theorem halfCol (p : FVec Ideal S512x128 .f32) (hφ : FKind.Formats .f32) (hacc : (0x00000000#32 : BitVec 32) = FKind.add.neutral .f32 hφ) (r : Fin 512) :
    shapeCast S512x1 (multiReduction .add [1] S512 (select k0_pay2 (mulf p p) (broadcast S512x128 (Scalar.ofBits .f32 0x00000000#32 : Ideal .f32))) 0x00000000#32 reduces_S512x128_S512 hφ hacc)
      shapeCasts_S512_S512x1 (ix2 r 0) = half (fun j => p (ix2 r j)) :=
  (sumCol (n := 128) _ _ _ _ r).trans (halfSum (mulf p p) r)

theorem rot_apply (p : FVec Ideal S512x128 .f32) (c s : Vec Ideal S512x128 .f32) (r : Fin 512) (j : Fin 128) :
    k0_pay8 (F := Ideal) p c s (ix2 r j) = rot (fun j => p (ix2 r j)) (fun j => c (ix2 r j)) (fun j => s (ix2 r j)) j := by
  unfold k0_pay8
  refine congrArg (p (ix2 r j) * c (ix2 r j) + ·) (congrArg (· * s (ix2 r j)) ?_)
  refine dynamicRotate_apply _ _ _ _ _ _ fun b => ?_
  match b with
  | ⟨0, _⟩ => rfl
  | ⟨1, _⟩ => show (j.val + 64) % 128 = (j.val + 128 - 64) % 128; omega

theorem upQ_apply (x : Vec Ideal S512x512 .bf16) (g : Vec Ideal S1x512 .f32) (w : Vec Ideal S1x512x256 .bf16) (r : Fin 512) (d : Fin 256) :
    k0_pay9 (F := Ideal) (k0_pay3 x g) w (ix2 r d)
      = up (Ideal.ofBits .f32 0x44000000#32) (fun k => x (ix2 r k)) (fun k => g (ix2 0 k)) (fun k d => w (ix3 0 k d)) d := by
  have e := Ideal.matmul_plain_apply (M := 512) (K := 512) (N := 256) (φ₁ := .bf16) (φ₂ := .bf16) none (k0_pay3 (F := Ideal) x g)
    (shapeCast S512x256 w shapeCasts_S1x512x256_S512x256) (constant S512x256 .f32 0x00000000#32) r d
  rw [show constant (F := Ideal) S512x256 .f32 0x00000000#32 (ix2 r d) = 0 from Ideal.ofBits_zero_f32, zero_add] at e
  refine Eq.trans (by rfl) (e.trans (Finset.sum_congr rfl fun k _ => congrArg₂ (· * ·) (hq_apply x g r k) ?_))
  exact shapeCast_1ab_ab_apply w _ k d

theorem upK_apply (x : Vec Ideal S512x512 .bf16) (g : Vec Ideal S1x256 .f32) (w : Vec Ideal S1x256x256 .bf16) (r : Fin 512) (d : Fin 256) :
    k0_pay15 (F := Ideal) (k0_pay5 x g) w (ix2 r d)
      = up (Ideal.ofBits .f32 0x43800000#32) (fun k : Fin 256 => x (ix2 r ⟨k.val, by omega⟩)) (fun k => g (ix2 0 k)) (fun k d => w (ix3 0 k d)) d := by
  have e := Ideal.matmul_plain_apply (M := 512) (K := 256) (N := 256) (φ₁ := .bf16) (φ₂ := .bf16) none (k0_pay5 (F := Ideal) x g)
    (shapeCast S256x256 w shapeCasts_S1x256x256_S256x256) (constant S512x256 .f32 0x00000000#32) r d
  rw [show constant (F := Ideal) S512x256 .f32 0x00000000#32 (ix2 r d) = 0 from Ideal.ofBits_zero_f32, zero_add] at e
  refine Eq.trans (by rfl) (e.trans (Finset.sum_congr rfl fun k _ => congrArg₂ (· * ·) (hkv_apply x g r k) ?_))
  exact shapeCast_1ab_ab_apply w _ k d

theorem loSlice (u : FVec Ideal S512x256 .f32) (r : Fin 512) (j : Fin 128) :
    extractStridedSlice S512x128 ![0, 0] u slices_S512x256_o0_0_S512x128 (ix2 r j) = lo (fun d => u (ix2 r d)) j :=
  extractStridedSlice_apply _ _ _ _ _ fun a => match a with
    | ⟨0, _⟩ => (Nat.zero_add _).symm
    | ⟨1, _⟩ => (Nat.zero_add _).symm

theorem hiSlice (u : FVec Ideal S512x256 .f32) (r : Fin 512) (j : Fin 128) :
    extractStridedSlice S512x128 ![0, 128] u slices_S512x256_o0_128_S512x128 (ix2 r j) = hi (fun d => u (ix2 r d)) j :=
  extractStridedSlice_apply _ _ _ _ _ fun a => match a with
    | ⟨0, _⟩ => (Nat.zero_add _).symm
    | ⟨1, _⟩ => rfl

section
variable (x0 x1 : Vec Ideal S512x512 .bf16) (x2 : Vec Ideal S1x512 .f32) (x3 : Vec Ideal S1x256 .f32) (x4 : Vec Ideal S8x512x256 .bf16) (x5 : Vec Ideal S8x256x256 .bf16)
  (x6 x7 x8 x9 : Vec Ideal S512x128 .f32) (x10 x11 : Vec Ideal S1x128 .f32)

/-- A head's row of the block's tokens. -/
def uQ (h : Fin 8) (r : Fin 512) : Fin 256 → EReal :=
  up (Ideal.ofBits .f32 0x44000000#32) (fun k => x0 (ix2 r k)) (fun k => x2 (ix2 0 k)) (fun k d => x4 (ix3 h k d))
def uK (h : Fin 8) (r : Fin 512) : Fin 256 → EReal :=
  up (Ideal.ofBits .f32 0x43800000#32) (fun k : Fin 256 => x1 (ix2 r ⟨k.val, by omega⟩)) (fun k => x3 (ix2 0 k)) (fun k d => x5 (ix3 h k d))

/-- What the three output blocks hold. -/
def gQ : S1x8x512x256.Idx → EReal := fun y =>
  qRow (uQ x0 x2 x4 (y 1) (y 2)) (fun j => x10 (ix2 0 j)) (fun j => x6 (ix2 (y 2) j)) (fun j => x7 (ix2 (y 2) j)) (y 3)
def gK : S1x8x256x512.Idx → EReal := fun y =>
  kRow (uK x1 x3 x5 (y 1) (y 3)) (fun j => x1 (ix2 (y 3) ⟨256 + j.val, by omega⟩)) (fun j => x11 (ix2 0 j)) (fun j => x8 (ix2 (y 3) j)) (fun j => x9 (ix2 (y 3) j)) (y 2)
def gV : S1x8x512x128.Idx → EReal := fun y => hi (uK x1 x3 x5 (y 1) (y 2)) (y 3)

theorem wQ (h : Fin 8) (inb) (k : Fin 512) (d : Fin 256) : View.ld x4 (Rect.unit (s := S8x512x256) ![h.val, 0, 0] S1x512x256.size inb) (ix3 0 k d) = x4 (ix3 h k d) :=
  congrArg x4 (funext fun a => Fin.ext (match a with
    | ⟨0, _⟩ => rfl
    | ⟨1, _⟩ => by show 0 + 1 * k.val = k.val; omega
    | ⟨2, _⟩ => by show 0 + 1 * d.val = d.val; omega))

theorem wK (h : Fin 8) (inb) (k : Fin 256) (d : Fin 256) : View.ld x5 (Rect.unit (s := S8x256x256) ![h.val, 0, 0] S1x256x256.size inb) (ix3 0 k d) = x5 (ix3 h k d) :=
  congrArg x5 (funext fun a => Fin.ext (match a with
    | ⟨0, _⟩ => rfl
    | ⟨1, _⟩ => by show 0 + 1 * k.val = k.val; omega
    | ⟨2, _⟩ => by show 0 + 1 * d.val = d.val; omega))

/-- The heads' rows from a loaded head of the weight. -/
theorem rowQ_apply (h : Fin 8) (inb) (r : Fin 512) (d : Fin 256) :
    k0_pay9 (F := Ideal) (k0_pay3 x0 x2) (View.ld x4 (Rect.unit (s := S8x512x256) ![h.val, 0, 0] S1x512x256.size inb)) (ix2 r d) = uQ x0 x2 x4 h r d :=
  (upQ_apply x0 x2 _ r d).trans (Finset.sum_congr rfl fun k _ => congrArg (_ * ·) (wQ x4 h inb k d))

theorem rowK_apply (h : Fin 8) (inb) (r : Fin 512) (d : Fin 256) :
    k0_pay15 (F := Ideal) (k0_pay5 x1 x3) (View.ld x5 (Rect.unit (s := S8x256x256) ![h.val, 0, 0] S1x256x256.size inb)) (ix2 r d) = uK x1 x3 x5 h r d :=
  (upK_apply x1 x3 _ r d).trans (Finset.sum_congr rfl fun k _ => congrArg (_ * ·) (wK x5 h inb k d))

theorem loQ (h : Fin 8) (inb) (r : Fin 512) (j : Fin 128) :
    k0_pay10 (F := Ideal) (k0_pay3 x0 x2) (View.ld x4 (Rect.unit (s := S8x512x256) ![h.val, 0, 0] S1x512x256.size inb)) (ix2 r j) = lo (uQ x0 x2 x4 h r) j :=
  (loSlice _ r j).trans (rowQ_apply x0 x2 x4 h inb r _)

theorem hiQ (h : Fin 8) (inb) (r : Fin 512) (j : Fin 128) :
    k0_pay11 (F := Ideal) (k0_pay3 x0 x2) (View.ld x4 (Rect.unit (s := S8x512x256) ![h.val, 0, 0] S1x512x256.size inb)) (ix2 r j) = hi (uQ x0 x2 x4 h r) j :=
  (hiSlice _ r j).trans (rowQ_apply x0 x2 x4 h inb r _)

theorem invQ (h : Fin 8) (inb) (r : Fin 512) :
    k0_pay12 (F := Ideal) k0_pay2 (k0_pay3 x0 x2) (View.ld x4 (Rect.unit (s := S8x512x256) ![h.val, 0, 0] S1x512x256.size inb)) (ix2 r 0)
      = inv (lo (uQ x0 x2 x4 h r)) (half (hi (uQ x0 x2 x4 h r))) * Ideal.ofBits .f32 0x3DD53B95#32 := by
  unfold k0_pay12
  refine congrArg (fun z => Ideal.rsqrt (z * Ideal.ofBits .f32 0x3BAAAAAB#32 + eps) * Ideal.ofBits .f32 0x3DD53B95#32) (congrArg₂ (· + ·) ?_ ?_)
  · exact (sumCol (n := 128) _ _ _ _ r).trans (Finset.sum_congr rfl fun j _ => congrArg₂ (· * ·) (loQ x0 x2 x4 h inb r j) (loQ x0 x2 x4 h inb r j))
  · exact (halfCol _ _ _ r).trans (congrArg half (funext fun j => hiQ x0 x2 x4 h inb r j))

theorem cast4 {a b : ℕ} {α : Type} (x : (⟨2, ![a, b]⟩ : Shape).Idx → α) (h : (⟨2, ![a, b]⟩ : Shape).ShapeCasts ⟨4, ![1, 1, a, b]⟩)
    (y : (⟨4, ![1, 1, a, b]⟩ : Shape).Idx) : shapeCast ⟨4, ![1, 1, a, b]⟩ x h y = x (ix2 (y 2) (y 3)) :=
  shapeCast_apply _ _ _ _ (by
    have h0 : (y 0).val < 1 := (y 0).isLt
    have h1 : (y 1).val < 1 := (y 1).isLt
    rw [Shape.rowMajor_val_two, Shape.rowMajor_val_four]
    show (y 2).val * b + (y 3).val = (((y 0).val * 1 + (y 1).val) * a + (y 2).val) * b + (y 3).val
    rw [show (y 0).val = 0 by omega, show (y 1).val = 0 by omega]; simp)

theorem emb4 {A B a b o : ℕ} (h : Fin 8) (inb) (y : (⟨4, ![1, 1, a, b]⟩ : Shape).Idx) (ha : (y 2).val < A) (hb : o + (y 3).val < B) :
    (Rect.unit (s := ⟨4, ![1, 8, A, B]⟩) ![0, h.val, 0, o] ![1, 1, a, b] inb).emb y = ix4 0 h ⟨(y 2).val, ha⟩ ⟨o + (y 3).val, hb⟩ :=
  funext fun i => Fin.ext (by
    have h0 : (y 0).val < 1 := (y 0).isLt
    have h1 : (y 1).val < 1 := (y 1).isLt
    match i with
    | ⟨0, _⟩ => show 0 + 1 * (y 0).val = 0; omega
    | ⟨1, _⟩ => show h.val + 1 * (y 1).val = h.val; omega
    | ⟨2, _⟩ => show 0 + 1 * (y 2).val = (y 2).val; omega
    | ⟨3, _⟩ => show o + 1 * (y 3).val = o + (y 3).val; omega)

/-- One head's pieces of the three output blocks. -/
theorem piece_lo (h : Fin 8) (inb) (inb') (y : S1x1x512x128.Idx) :
    k0_pay13 (F := Ideal) k0_pay2 (k0_pay3 x0 x2) (View.ld x4 (Rect.unit (s := S8x512x256) ![h.val, 0, 0] S1x512x256.size inb)) x10 y
      = gQ x0 x2 x4 x6 x7 x10 ((Rect.unit (s := S1x8x512x256) ![0, h.val, 0, 0] S1x1x512x128.size inb').emb y) := by
  have h3 : (y 3).val < 128 := (y 3).isLt
  refine Eq.trans ?_ (congrArg (gQ x0 x2 x4 x6 x7 x10) (emb4 h inb' y (y 2).isLt (by omega))).symm
  unfold k0_pay13
  refine (cast4 _ _ y).trans ((congrArg₂ (· * ·) (congrArg₂ (· * ·) (loQ x0 x2 x4 h inb (y 2) (y 3)) (broadcastTo_1b_ab_apply x10 _ (y 2) (y 3)))
    ((bcCol _ broadcasts_S512x1_S512x128 (y 2) (y 3)).trans (invQ x0 x2 x4 h inb (y 2)))).trans ((mul_assoc _ _ _).symm.trans ?_))
  refine congrArg (· * _ * _) (Eq.trans ?_ (dif_pos (show 0 + (y 3).val < 128 by omega)).symm)
  have e : (⟨0 + (y 3).val, by omega⟩ : Fin 128) = y 3 := Fin.ext (Nat.zero_add _)
  exact (congrArg (fun j : Fin 128 => lo (uQ x0 x2 x4 h (y 2)) j * x10 (ix2 0 j)) e).symm

theorem piece_hi (h : Fin 8) (inb) (inb') (y : S1x1x512x128.Idx) :
    k0_pay14 (F := Ideal) (k0_pay11 (k0_pay3 x0 x2) (View.ld x4 (Rect.unit (s := S8x512x256) ![h.val, 0, 0] S1x512x256.size inb)))
        (k0_pay12 k0_pay2 (k0_pay3 x0 x2) (View.ld x4 (Rect.unit (s := S8x512x256) ![h.val, 0, 0] S1x512x256.size inb))) x6 x7 y
      = gQ x0 x2 x4 x6 x7 x10 ((Rect.unit (s := S1x8x512x256) ![0, h.val, 0, 128] S1x1x512x128.size inb').emb y) := by
  have h3 : (y 3).val < 128 := (y 3).isLt
  refine Eq.trans ?_ (congrArg (gQ x0 x2 x4 x6 x7 x10) (emb4 h inb' y (y 2).isLt (by omega))).symm
  unfold k0_pay14
  refine (cast4 _ _ y).trans ((congrArg₂ (· * ·) (rot_apply _ x6 x7 (y 2) (y 3))
    ((bcCol _ broadcasts_S512x1_S512x128 (y 2) (y 3)).trans (invQ x0 x2 x4 h inb (y 2)))).trans ((mul_assoc _ _ _).symm.trans ?_))
  refine congrArg (· * _ * _) (Eq.trans ?_ (dif_neg (show ¬ 128 + (y 3).val < 128 by omega)).symm)
  have e : (⟨128 + (y 3).val - 128, by omega⟩ : Fin 128) = y 3 := Fin.ext (Nat.add_sub_cancel_left _ _)
  refine Eq.trans ?_ (congrArg (fun j => rot (hi (uQ x0 x2 x4 h (y 2))) (fun j => x6 (ix2 (y 2) j)) (fun j => x7 (ix2 (y 2) j)) j) e).symm
  exact congrArg (fun p => rot p _ _ _) (funext fun j => hiQ x0 x2 x4 h inb (y 2) j)

theorem piece_v (h : Fin 8) (inb) (inb') (y : S1x1x512x128.Idx) :
    k0_pay17 (F := Ideal) (k0_pay15 (k0_pay5 x1 x3) (View.ld x5 (Rect.unit (s := S8x256x256) ![h.val, 0, 0] S1x256x256.size inb))) y
      = gV x1 x3 x5 ((Rect.unit (s := S1x8x512x128) ![0, h.val, 0, 0] S1x1x512x128.size inb').emb y) := by
  have h3 : (y 3).val < 128 := (y 3).isLt
  refine Eq.trans ?_ (congrArg (gV x1 x3 x5) (emb4 h inb' y (y 2).isLt (by omega))).symm
  unfold k0_pay17
  refine (cast4 _ _ y).trans ((hiSlice _ (y 2) (y 3)).trans ((rowK_apply x1 x3 x5 h inb (y 2) _).trans ?_))
  exact congrArg (hi (uK x1 x3 x5 h (y 2))) (Fin.ext (Nat.zero_add _).symm : (y 3 : Fin 128) = ⟨0 + (y 3).val, by omega⟩)

theorem swapped (v : FVec Ideal S512x256 .f32) (a : Fin 256) (b : Fin 512) :
    truncf .bf16 (transpose S256x512 [1, 0] v transposes_S512x256_p1_0_S256x512) bitsLt_bf16_f32 (ix2 a b) = v (ix2 b a) :=
  show transpose S256x512 [1, 0] v transposes_S512x256_p1_0_S256x512 (ix2 a b) = v (ix2 b a) from
    transpose_apply _ _ _ _ _ (fun b => by fin_cases b <;> rfl)

theorem piece_k (h : Fin 8) (inb) (inb') (y : S1x1x256x512.Idx) :
    k0_pay16 (F := Ideal) (k0_pay5 x1 x3) (k0_pay7 x1) (k0_pay8 (k0_pay6 x1) x8 x9) (View.ld x5 (Rect.unit (s := S8x256x256) ![h.val, 0, 0] S1x256x256.size inb)) x11 y
      = gK x1 x3 x5 x8 x9 x11 ((Rect.unit (s := S1x8x256x512) ![0, h.val, 0, 0] S1x1x256x512.size inb').emb y) := by
  have h2 : (y 2).val < 256 := (y 2).isLt
  have h3 : (y 3).val < 512 := (y 3).isLt
  refine Eq.trans ?_ (congrArg (gK x1 x3 x5 x8 x9 x11) (emb4 h inb' y h2 (by omega))).symm
  have e : (⟨0 + (y 3).val, by omega⟩ : Fin 512) = y 3 := Fin.ext (Nat.zero_add _)
  rw [e]
  let L := extractStridedSlice S512x128 ![0, 0] (k0_pay15 (F := Ideal) (k0_pay5 x1 x3) (View.ld x5 (Rect.unit (s := S8x256x256) ![h.val, 0, 0] S1x256x256.size inb))) slices_S512x256_o0_0_S512x128
  have hlo : ∀ j : Fin 128, L (ix2 (y 3) j) = lo (uK x1 x3 x5 h (y 3)) j := fun j => (loSlice _ (y 3) j).trans (rowK_apply x1 x3 x5 h inb (y 3) _)
  unfold k0_pay16
  refine (cast4 _ _ y).trans ?_
  refine (swapped _ (y 2) (y 3)).trans ?_
  have hinv : Ideal.rsqrt ((shapeCast S512x1 (multiReduction .add [1] S512 (mulf L L) 0x00000000#32 reduces_S512x128_S512 (.inl rfl) rfl) shapeCasts_S512_S512x1 (ix2 (y 3) 0)
      + k0_pay7 (F := Ideal) x1 (ix2 (y 3) 0)) * Ideal.ofBits .f32 0x3BAAAAAB#32 + eps)
      = inv (lo (uK x1 x3 x5 h (y 3))) (half (fun j => x1 (ix2 (y 3) ⟨256 + j.val, by omega⟩))) := by
    refine congrArg (fun z => Ideal.rsqrt (z * Ideal.ofBits .f32 0x3BAAAAAB#32 + eps)) (congrArg₂ (· + ·) ?_ ?_)
    · exact (sumCol (n := 128) _ _ _ _ (y 3)).trans (Finset.sum_congr rfl fun j _ => congrArg₂ (· * ·) (hlo j) (hlo j))
    · exact (halfCol (k0_pay6 (F := Ideal) x1) _ _ (y 3)).trans (congrArg half (funext fun j => pe_apply x1 (y 3) j))
  show _ = turned _ _ _ _ _ (y 2) * _
  unfold turned
  by_cases hk : (y 2).val < 128
  · rw [dif_pos hk]
    refine (concatenate_pair_apply_left (t := S512x256) (s₁ := S512x128) (s₂ := S512x128) 1 _ _ _ _ rfl (ix2 (y 3) ⟨(y 2).val, hk⟩) (fun b => by fin_cases b <;> rfl)).trans ?_
    exact congrArg₂ (· * ·) (congrArg₂ (· * ·) (hlo _) (broadcastTo_1b_ab_apply x11 _ (y 3) _)) ((bcCol _ broadcasts_S512x1_S512x128 (y 3) _).trans hinv)
  · rw [dif_neg hk]
    refine (concatenate_pair_apply_right (t := S512x256) (s₁ := S512x128) (s₂ := S512x128) 1 _ _ _ (ix2 (y 3) (y 2)) rfl rfl (ix2 (y 3) ⟨(y 2).val - 128, by omega⟩)
      (fun b hb => by
        match b with
        | ⟨0, _⟩ => rfl
        | ⟨1, _⟩ => exact absurd rfl hb) (show (y 2).val - 128 + 128 = (y 2).val by omega)).trans ?_
    exact congrArg₂ (· * ·) ((rot_apply _ x8 x9 (y 3) _).trans (congrArg (fun p => rot p _ _ _) (funext fun j => pe_apply x1 (y 3) j)))
      ((bcCol _ broadcasts_S512x1_S512x128 (y 3) _).trans hinv)

theorem hz : (![0, 0] : Fin 2 → Nat) = fun _ => 0 := by funext a; fin_cases a <;> rfl

/-! ## The output blocks, every head's pieces together -/

theorem out_q : out0_12 x0 x1 x2 x3 x4 x5 x6 x7 x8 x9 x10 x11 = gQ x0 x2 x4 x6 x7 x10 := by
  unfold out0_12 k0_pay97 k0_pay98
  simp only [View.ld_unit_zero (S := S512x512) hz, View.ld_unit_zero (S := S1x512) hz, View.ld_unit_zero (S := S512x128) hz, View.ld_unit_zero (S := S1x128) hz]
  funext y
  refine View.canon_apply_of_pieces _ _ ?_ y (cover0_12 _ _ _ _ _ _ _ _ _ _ _ _ _ _ _ _ y)
  refine List.forall_mem_cons.2 ⟨piece_hi x0 x2 x4 x6 x7 x10 7 _ inb_S1x8x512x256_S1x1x512x128_0_7_0_128, List.forall_mem_cons.2 ⟨piece_lo x0 x2 x4 x6 x7 x10 7 _ inb_S1x8x512x256_S1x1x512x128_0_7_0_0, List.forall_mem_cons.2 ⟨piece_hi x0 x2 x4 x6 x7 x10 6 _ inb_S1x8x512x256_S1x1x512x128_0_6_0_128, List.forall_mem_cons.2 ⟨piece_lo x0 x2 x4 x6 x7 x10 6 _ inb_S1x8x512x256_S1x1x512x128_0_6_0_0, List.forall_mem_cons.2 ⟨piece_hi x0 x2 x4 x6 x7 x10 5 _ inb_S1x8x512x256_S1x1x512x128_0_5_0_128, List.forall_mem_cons.2 ⟨piece_lo x0 x2 x4 x6 x7 x10 5 _ inb_S1x8x512x256_S1x1x512x128_0_5_0_0, List.forall_mem_cons.2 ⟨piece_hi x0 x2 x4 x6 x7 x10 4 _ inb_S1x8x512x256_S1x1x512x128_0_4_0_128, List.forall_mem_cons.2 ⟨piece_lo x0 x2 x4 x6 x7 x10 4 _ inb_S1x8x512x256_S1x1x512x128_0_4_0_0, List.forall_mem_cons.2 ⟨piece_hi x0 x2 x4 x6 x7 x10 3 _ inb_S1x8x512x256_S1x1x512x128_0_3_0_128, List.forall_mem_cons.2 ⟨piece_lo x0 x2 x4 x6 x7 x10 3 _ inb_S1x8x512x256_S1x1x512x128_0_3_0_0, List.forall_mem_cons.2 ⟨piece_hi x0 x2 x4 x6 x7 x10 2 _ inb_S1x8x512x256_S1x1x512x128_0_2_0_128, List.forall_mem_cons.2 ⟨piece_lo x0 x2 x4 x6 x7 x10 2 _ inb_S1x8x512x256_S1x1x512x128_0_2_0_0, List.forall_mem_cons.2 ⟨piece_hi x0 x2 x4 x6 x7 x10 1 _ inb_S1x8x512x256_S1x1x512x128_0_1_0_128, List.forall_mem_cons.2 ⟨piece_lo x0 x2 x4 x6 x7 x10 1 _ inb_S1x8x512x256_S1x1x512x128_0_1_0_0, List.forall_mem_cons.2 ⟨piece_hi x0 x2 x4 x6 x7 x10 0 _ inb_S1x8x512x256_S1x1x512x128_0_0_0_128, List.forall_mem_cons.2 ⟨piece_lo x0 x2 x4 x6 x7 x10 0 _ inb_S1x8x512x256_S1x1x512x128_0_0_0_0, List.forall_mem_nil _⟩⟩⟩⟩⟩⟩⟩⟩⟩⟩⟩⟩⟩⟩⟩⟩

theorem out_k : out0_13 x0 x1 x2 x3 x4 x5 x6 x7 x8 x9 x10 x11 = gK x1 x3 x5 x8 x9 x11 := by
  unfold out0_13 k0_pay99 k0_pay100 k0_pay101
  simp only [View.ld_unit_zero (S := S512x512) hz, View.ld_unit_zero (S := S1x256) hz, View.ld_unit_zero (S := S512x128) hz, View.ld_unit_zero (S := S1x128) hz]
  funext y
  refine View.canon_apply_of_pieces _ _ ?_ y (cover0_13 _ _ _ _ _ _ _ _ y)
  refine List.forall_mem_cons.2 ⟨piece_k x1 x3 x5 x8 x9 x11 7 _ inb_S1x8x256x512_S1x1x256x512_0_7_0_0, List.forall_mem_cons.2 ⟨piece_k x1 x3 x5 x8 x9 x11 6 _ inb_S1x8x256x512_S1x1x256x512_0_6_0_0, List.forall_mem_cons.2 ⟨piece_k x1 x3 x5 x8 x9 x11 5 _ inb_S1x8x256x512_S1x1x256x512_0_5_0_0, List.forall_mem_cons.2 ⟨piece_k x1 x3 x5 x8 x9 x11 4 _ inb_S1x8x256x512_S1x1x256x512_0_4_0_0, List.forall_mem_cons.2 ⟨piece_k x1 x3 x5 x8 x9 x11 3 _ inb_S1x8x256x512_S1x1x256x512_0_3_0_0, List.forall_mem_cons.2 ⟨piece_k x1 x3 x5 x8 x9 x11 2 _ inb_S1x8x256x512_S1x1x256x512_0_2_0_0, List.forall_mem_cons.2 ⟨piece_k x1 x3 x5 x8 x9 x11 1 _ inb_S1x8x256x512_S1x1x256x512_0_1_0_0, List.forall_mem_cons.2 ⟨piece_k x1 x3 x5 x8 x9 x11 0 _ inb_S1x8x256x512_S1x1x256x512_0_0_0_0, List.forall_mem_nil _⟩⟩⟩⟩⟩⟩⟩⟩

theorem out_v : out0_14 x0 x1 x2 x3 x4 x5 x6 x7 x8 x9 x10 x11 = gV x1 x3 x5 := by
  unfold out0_14 k0_pay99
  simp only [View.ld_unit_zero (S := S512x512) hz, View.ld_unit_zero (S := S1x256) hz]
  funext y
  refine View.canon_apply_of_pieces _ _ ?_ y (cover0_14 _ _ _ _ _ _ _ _ y)
  refine List.forall_mem_cons.2 ⟨piece_v x1 x3 x5 7 _ inb_S1x8x512x128_S1x1x512x128_0_7_0_0, List.forall_mem_cons.2 ⟨piece_v x1 x3 x5 6 _ inb_S1x8x512x128_S1x1x512x128_0_6_0_0, List.forall_mem_cons.2 ⟨piece_v x1 x3 x5 5 _ inb_S1x8x512x128_S1x1x512x128_0_5_0_0, List.forall_mem_cons.2 ⟨piece_v x1 x3 x5 4 _ inb_S1x8x512x128_S1x1x512x128_0_4_0_0, List.forall_mem_cons.2 ⟨piece_v x1 x3 x5 3 _ inb_S1x8x512x128_S1x1x512x128_0_3_0_0, List.forall_mem_cons.2 ⟨piece_v x1 x3 x5 2 _ inb_S1x8x512x128_S1x1x512x128_0_2_0_0, List.forall_mem_cons.2 ⟨piece_v x1 x3 x5 1 _ inb_S1x8x512x128_S1x1x512x128_0_1_0_0, List.forall_mem_cons.2 ⟨piece_v x1 x3 x5 0 _ inb_S1x8x512x128_S1x1x512x128_0_0_0_0, List.forall_mem_nil _⟩⟩⟩⟩⟩⟩⟩⟩

end

/-! ## The blocks the grid points are given -/

variable (m : (ℓ : Loc nD τ sig) → Buf (Elt Ideal) ℓ) (c : Dev nD)

/-- The operands. -/
abbrev A0 : SP.Idx → EReal := m ((c : Thread nD τ).loc main_arg0)
abbrev A1 : SA.Idx → EReal := m ((c : Thread nD τ).loc main_arg1)
abbrev A2 : SB.Idx → EReal := m ((c : Thread nD τ).loc main_arg2)
abbrev A3 : SQ.Idx → EReal := m ((c : Thread nD τ).loc main_arg3)
abbrev A4 : SK.Idx → EReal := m ((c : Thread nD τ).loc main_arg4)
abbrev A5 : ST.Idx → EReal := m ((c : Thread nD τ).loc main_arg5)
abbrev A6 : ST.Idx → EReal := m ((c : Thread nD τ).loc main_arg6)
abbrev A7 : ST.Idx → EReal := m ((c : Thread nD τ).loc main_arg7)
abbrev A8 : ST.Idx → EReal := m ((c : Thread nD τ).loc main_arg8)
abbrev A9 : SN.Idx → EReal := m ((c : Thread nD τ).loc main_arg9)
abbrev A10 : SN.Idx → EReal := m ((c : Thread nD τ).loc main_arg10)

theorem idxQ : ∀ i : grid0.Coords, cc0_transform_0 i = ![(i 0).val, 10] := by decide +kernel
theorem idxKV : ∀ i : grid0.Coords, cc0_transform_1 i = ![(i 0).val, 11] := by decide +kernel
theorem idxT : ∀ i : grid0.Coords, cc0_transform_6 i = ![(i 0).val, 0] := by decide +kernel
theorem idx12 : ∀ i : grid0.Coords, cc0_transform_12 i = ![(i 0).val / 16, 0, (i 0).val % 16, 0] := by decide +kernel
theorem idx13 : ∀ i : grid0.Coords, cc0_transform_13 i = ![(i 0).val / 16, 0, 0, (i 0).val % 16] := by decide +kernel
theorem idx14 : ∀ i : grid0.Coords, cc0_transform_14 i = ![(i 0).val / 16, 0, (i 0).val % 16, 0] := by decide +kernel

/-- Row `r` of row block `b`. -/
abbrev row (b : Fin 32) (r : Fin 512) : Fin 16384 := ⟨512 * b.val + r.val, by omega⟩

theorem iblk0_apply (t : Fin cfg0.N) (r k : Fin 512) :
    (iblk m c 0 t : Vec Ideal S512x512 .bf16) (ix2 r k) = A0 m c (ix2 (row (grid0.coords t 0) r) ⟨5120 + k.val, by omega⟩) := by
  unfold iblk
  rw [View.read_apply]
  refine congrArg (A0 m c) (funext fun a => Fin.ext ?_)
  have h := idxQ (grid0.coords t)
  match a with
  | ⟨0, _⟩ => show cc0_transform_0 (grid0.coords t) 0 * 512 + 1 * r.val = _; rw [h]; show (grid0.coords t 0).val * 512 + 1 * r.val = 512 * (grid0.coords t 0).val + r.val; omega
  | ⟨1, _⟩ => show cc0_transform_0 (grid0.coords t) 1 * 512 + 1 * k.val = _; rw [h]; show 10 * 512 + 1 * k.val = 5120 + k.val; omega

theorem iblk1_apply (t : Fin cfg0.N) (r k : Fin 512) :
    (iblk m c 1 t : Vec Ideal S512x512 .bf16) (ix2 r k) = A0 m c (ix2 (row (grid0.coords t 0) r) ⟨5632 + k.val, by omega⟩) := by
  unfold iblk
  rw [View.read_apply]
  refine congrArg (A0 m c) (funext fun a => Fin.ext ?_)
  have h := idxKV (grid0.coords t)
  match a with
  | ⟨0, _⟩ => show cc0_transform_1 (grid0.coords t) 0 * 512 + 1 * r.val = _; rw [h]; show (grid0.coords t 0).val * 512 + 1 * r.val = 512 * (grid0.coords t 0).val + r.val; omega
  | ⟨1, _⟩ => show cc0_transform_1 (grid0.coords t) 1 * 512 + 1 * k.val = _; rw [h]; show 11 * 512 + 1 * k.val = 5632 + k.val; omega

theorem rowIdx (i : grid0.Coords) (r : Fin 512) (k : Fin 128) (a : Fin 2) :
    cc0_transform_6 i a * (![512, 128] : Fin 2 → ℕ) a + 1 * (ix2 r k a).val = (ix2 (row (i 0) r) k a).val := by
  rw [idxT i]
  match a with
  | ⟨0, _⟩ => show (i 0).val * 512 + 1 * r.val = 512 * (i 0).val + r.val; omega
  | ⟨1, _⟩ => show 0 * 128 + 1 * k.val = k.val; omega

theorem iblk6_apply (t : Fin cfg0.N) (r : Fin 512) (k : Fin 128) :
    (iblk m c 6 t : Vec Ideal S512x128 .f32) (ix2 r k) = A5 m c (ix2 (row (grid0.coords t 0) r) k) := by
  unfold iblk
  rw [View.read_apply]
  exact congrArg (A5 m c) (funext fun a => Fin.ext (rowIdx (grid0.coords t) r k a))

theorem iblk7_apply (t : Fin cfg0.N) (r : Fin 512) (k : Fin 128) :
    (iblk m c 7 t : Vec Ideal S512x128 .f32) (ix2 r k) = A6 m c (ix2 (row (grid0.coords t 0) r) k) := by
  unfold iblk
  rw [View.read_apply]
  exact congrArg (A6 m c) (funext fun a => Fin.ext (rowIdx (grid0.coords t) r k a))

theorem iblk8_apply (t : Fin cfg0.N) (r : Fin 512) (k : Fin 128) :
    (iblk m c 8 t : Vec Ideal S512x128 .f32) (ix2 r k) = A7 m c (ix2 (row (grid0.coords t 0) r) k) := by
  unfold iblk
  rw [View.read_apply]
  exact congrArg (A7 m c) (funext fun a => Fin.ext (rowIdx (grid0.coords t) r k a))

theorem iblk9_apply (t : Fin cfg0.N) (r : Fin 512) (k : Fin 128) :
    (iblk m c 9 t : Vec Ideal S512x128 .f32) (ix2 r k) = A8 m c (ix2 (row (grid0.coords t 0) r) k) := by
  unfold iblk
  rw [View.read_apply]
  exact congrArg (A8 m c) (funext fun a => Fin.ext (rowIdx (grid0.coords t) r k a))

theorem iblk2_apply (t : Fin cfg0.N) (y : S1x512.Idx) : (iblk m c 2 t : Vec Ideal S1x512 .f32) y = A1 m c y := by
  unfold iblk
  rw [View.read_apply]
  exact congrArg (A1 m c) (funext fun a => Fin.ext (match a with
    | ⟨0, _⟩ => show 0 * 1 + 1 * (y 0).val = (y 0).val by omega
    | ⟨1, _⟩ => show 0 * 512 + 1 * (y 1).val = (y 1).val by omega))

theorem iblk3_apply (t : Fin cfg0.N) (y : S1x256.Idx) : (iblk m c 3 t : Vec Ideal S1x256 .f32) y = A2 m c y := by
  unfold iblk
  rw [View.read_apply]
  exact congrArg (A2 m c) (funext fun a => Fin.ext (match a with
    | ⟨0, _⟩ => show 0 * 1 + 1 * (y 0).val = (y 0).val by omega
    | ⟨1, _⟩ => show 0 * 256 + 1 * (y 1).val = (y 1).val by omega))

theorem iblk10_apply (t : Fin cfg0.N) (y : S1x128.Idx) : (iblk m c 10 t : Vec Ideal S1x128 .f32) y = A9 m c y := by
  unfold iblk
  rw [View.read_apply]
  exact congrArg (A9 m c) (funext fun a => Fin.ext (match a with
    | ⟨0, _⟩ => show 0 * 1 + 1 * (y 0).val = (y 0).val by omega
    | ⟨1, _⟩ => show 0 * 128 + 1 * (y 1).val = (y 1).val by omega))

theorem iblk11_apply (t : Fin cfg0.N) (y : S1x128.Idx) : (iblk m c 11 t : Vec Ideal S1x128 .f32) y = A10 m c y := by
  unfold iblk
  rw [View.read_apply]
  exact congrArg (A10 m c) (funext fun a => Fin.ext (match a with
    | ⟨0, _⟩ => show 0 * 1 + 1 * (y 0).val = (y 0).val by omega
    | ⟨1, _⟩ => show 0 * 128 + 1 * (y 1).val = (y 1).val by omega))

theorem iblk4_apply (t : Fin cfg0.N) (y : S8x512x256.Idx) : (iblk m c 4 t : Vec Ideal S8x512x256 .bf16) y = A3 m c y := by
  unfold iblk
  rw [View.read_apply]
  exact congrArg (A3 m c) (funext fun a => Fin.ext (match a with
    | ⟨0, _⟩ => show 0 * 8 + 1 * (y 0).val = (y 0).val by omega
    | ⟨1, _⟩ => show 0 * 512 + 1 * (y 1).val = (y 1).val by omega
    | ⟨2, _⟩ => show 0 * 256 + 1 * (y 2).val = (y 2).val by omega))

theorem iblk5_apply (t : Fin cfg0.N) (y : S8x256x256.Idx) : (iblk m c 5 t : Vec Ideal S8x256x256 .bf16) y = A4 m c y := by
  unfold iblk
  rw [View.read_apply]
  exact congrArg (A4 m c) (funext fun a => Fin.ext (match a with
    | ⟨0, _⟩ => show 0 * 8 + 1 * (y 0).val = (y 0).val by omega
    | ⟨1, _⟩ => show 0 * 256 + 1 * (y 1).val = (y 1).val by omega
    | ⟨2, _⟩ => show 0 * 256 + 1 * (y 2).val = (y 2).val by omega))

end Cert.Kernel5Ideal.Prep

end
-- ==== Proof.PrepOut.lean ====
/-
  The three result arrays of the head of the latent attention after the whole grid.
-/
module

public import proofs.«01_k».proof.Proof.Prep

@[expose] public section

set_option maxRecDepth 16384

noncomputable section

namespace Cert.Kernel5Ideal.Prep

open Idealize.ShloMosaic Idealize.ShloMosaic.TcCoe Idealize.SL.Sem
open Cert.Kernel5Ideal Cert.Kernel5Ideal.Gen Idealize.ShloMosaic.ValueIdx Cert.Prep

variable (m : (ℓ : Loc nD τ sig) → Buf (Elt Ideal) ℓ) (c : Dev nD)

theorem rowK_block (t : Fin cfg0.N) (h : Fin 8) (r : Fin 512) :
    uK (iblk m c 1 t) (iblk m c 3 t) (iblk m c 5 t) h r = rowK (A0 m c) (A2 m c) (A4 m c) h (row (grid0.coords t 0) r) := by
  unfold uK rowK
  simp only [iblk1_apply, iblk3_apply, iblk5_apply]

theorem block_q (t : Fin cfg0.N) (h : Fin 8) (r : Fin 512) (d : Fin 256) :
    gQ (iblk m c 0 t) (iblk m c 2 t) (iblk m c 4 t) (iblk m c 6 t) (iblk m c 7 t) (iblk m c 10 t) (ix4 0 h r d)
      = atQ (A0 m c) (A1 m c) (A3 m c) (A5 m c) (A6 m c) (A9 m c) h (row (grid0.coords t 0) r) d := by
  show qRow (uQ _ _ _ h r) _ (fun j => (iblk m c 6 t : Vec Ideal S512x128 .f32) (ix2 r j)) (fun j => (iblk m c 7 t : Vec Ideal S512x128 .f32) (ix2 r j)) d = _
  unfold uQ atQ rowQ
  simp only [iblk0_apply, iblk2_apply, iblk4_apply, iblk6_apply, iblk7_apply, iblk10_apply]

theorem block_k (t : Fin cfg0.N) (h : Fin 8) (r : Fin 512) (d : Fin 256) :
    gK (iblk m c 1 t) (iblk m c 3 t) (iblk m c 5 t) (iblk m c 8 t) (iblk m c 9 t) (iblk m c 11 t) (ix4 0 h d r)
      = atK (A0 m c) (A2 m c) (A4 m c) (A7 m c) (A8 m c) (A10 m c) h (row (grid0.coords t 0) r) d := by
  show kRow (uK _ _ _ h r) (fun j => (iblk m c 1 t : Vec Ideal S512x512 .bf16) (ix2 r ⟨256 + j.val, by omega⟩)) _
    (fun j => (iblk m c 8 t : Vec Ideal S512x128 .f32) (ix2 r j)) (fun j => (iblk m c 9 t : Vec Ideal S512x128 .f32) (ix2 r j)) d = _
  have e : rowP (A0 m c) (row (grid0.coords t 0) r) = fun j => (iblk m c 1 t : Vec Ideal S512x512 .bf16) (ix2 r ⟨256 + j.val, by omega⟩) := by
    funext j
    rw [iblk1_apply]
    exact congrArg (A0 m c) (congrArg (ix2 _) (Fin.ext (show 5888 + j.val = 5632 + (256 + j.val) by omega)))
  unfold atK
  rw [rowK_block, e]
  simp only [iblk8_apply, iblk9_apply, iblk11_apply]

/-- A block's token is the token of the array. -/
theorem tok_row (b : Fin 32) (r : Fin 512) (p : Fin 2) (s : Fin 8192) (hp : p.val = b.val / 16) (hs : s.val = b.val % 16 * 512 + r.val) : row b r = tok p s :=
  Fin.ext (by show 512 * b.val + r.val = 8192 * p.val + s.val; omega)

theorem flushed_q (t : Fin cfg0.N) (_ : (cfg0.win 12).flush t = true) :
    (dats m 0 c).flushed 12 t = ((cfg0.win 12).blk t).view.read (Elt Ideal) (targetQ (A0 m c) (A1 m c) (A3 m c) (A5 m c) (A6 m c) (A9 m c)) := by
  rw [Cert.Kernel5Ideal.Value.flushed12, out_q]
  have e := idx12 (grid0.coords t)
  funext y
  rw [View.read_apply]
  have h0 : (y 0).val < 1 := (y 0).isLt
  refine (block_q m c t (y 1) (y 2) (y 3)).trans (congr (congr (congrArg (atQ (A0 m c) (A1 m c) (A3 m c) (A5 m c) (A6 m c) (A9 m c)) (Fin.ext ?_)) (tok_row _ _ _ _ ?_ ?_)) (Fin.ext ?_))
  · show (y 1).val = cc0_transform_12 (grid0.coords t) 1 * 8 + 1 * (y 1).val
    rw [e]; show _ = 0 * 8 + 1 * (y 1).val; omega
  · show cc0_transform_12 (grid0.coords t) 0 * 1 + 1 * (y 0).val = _
    rw [e]; show (grid0.coords t 0).val / 16 * 1 + 1 * (y 0).val = _; omega
  · show cc0_transform_12 (grid0.coords t) 2 * 512 + 1 * (y 2).val = _
    rw [e]; show (grid0.coords t 0).val % 16 * 512 + 1 * (y 2).val = _; omega
  · show (y 3).val = cc0_transform_12 (grid0.coords t) 3 * 256 + 1 * (y 3).val
    rw [e]; show _ = 0 * 256 + 1 * (y 3).val; omega

theorem flushed_k (t : Fin cfg0.N) (_ : (cfg0.win 13).flush t = true) :
    (dats m 0 c).flushed 13 t = ((cfg0.win 13).blk t).view.read (Elt Ideal) (targetK (A0 m c) (A2 m c) (A4 m c) (A7 m c) (A8 m c) (A10 m c)) := by
  rw [Cert.Kernel5Ideal.Value.flushed13, out_k]
  have e := idx13 (grid0.coords t)
  funext y
  rw [View.read_apply]
  have h0 : (y 0).val < 1 := (y 0).isLt
  refine (block_k m c t (y 1) (y 3) (y 2)).trans (congr (congr (congrArg (atK (A0 m c) (A2 m c) (A4 m c) (A7 m c) (A8 m c) (A10 m c)) (Fin.ext ?_)) (tok_row _ _ _ _ ?_ ?_)) (Fin.ext ?_))
  · show (y 1).val = cc0_transform_13 (grid0.coords t) 1 * 8 + 1 * (y 1).val
    rw [e]; show _ = 0 * 8 + 1 * (y 1).val; omega
  · show cc0_transform_13 (grid0.coords t) 0 * 1 + 1 * (y 0).val = _
    rw [e]; show (grid0.coords t 0).val / 16 * 1 + 1 * (y 0).val = _; omega
  · show cc0_transform_13 (grid0.coords t) 3 * 512 + 1 * (y 3).val = _
    rw [e]; show (grid0.coords t 0).val % 16 * 512 + 1 * (y 3).val = _; omega
  · show (y 2).val = cc0_transform_13 (grid0.coords t) 2 * 256 + 1 * (y 2).val
    rw [e]; show _ = 0 * 256 + 1 * (y 2).val; omega

theorem flushed_v (t : Fin cfg0.N) (_ : (cfg0.win 14).flush t = true) :
    (dats m 0 c).flushed 14 t = ((cfg0.win 14).blk t).view.read (Elt Ideal) (targetV (A0 m c) (A2 m c) (A4 m c)) := by
  rw [Cert.Kernel5Ideal.Value.flushed14, out_v]
  have e := idx14 (grid0.coords t)
  funext y
  rw [View.read_apply]
  have h0 : (y 0).val < 1 := (y 0).isLt
  refine (congrArg (fun u => hi u (y 3)) (rowK_block m c t (y 1) (y 2))).trans
    (congr (congrArg hi (congr (congrArg (rowK (A0 m c) (A2 m c) (A4 m c)) (Fin.ext ?_)) (tok_row _ _ _ _ ?_ ?_))) (Fin.ext ?_))
  · show (y 1).val = cc0_transform_14 (grid0.coords t) 1 * 8 + 1 * (y 1).val
    rw [e]; show _ = 0 * 8 + 1 * (y 1).val; omega
  · show cc0_transform_14 (grid0.coords t) 0 * 1 + 1 * (y 0).val = _
    rw [e]; show (grid0.coords t 0).val / 16 * 1 + 1 * (y 0).val = _; omega
  · show cc0_transform_14 (grid0.coords t) 2 * 512 + 1 * (y 2).val = _
    rw [e]; show (grid0.coords t 0).val % 16 * 512 + 1 * (y 2).val = _; omega
  · show (y 3).val = cc0_transform_14 (grid0.coords t) 3 * 128 + 1 * (y 3).val
    rw [e]; show _ = 0 * 128 + 1 * (y 3).val; omega

/-- The grid point that holds position `s` of sequence `p`. -/
theorem point (p s : ℕ) (hp : p < 2) (hs : s < 8192) : ∃ t : Fin cfg0.N, (grid0.coords t 0).val = 16 * p + s / 512 := by
  obtain ⟨t, ht⟩ := Pipeline.Grid.coords_surjective grid0 (fun a => match a with
    | ⟨0, _⟩ => ⟨16 * p + s / 512, show 16 * p + s / 512 < 32 by omega⟩)
  exact ⟨t, by rw [ht]⟩

theorem final_q : (dats m 0 c).arrAt 12 cfg0.N = targetQ (A0 m c) (A1 m c) (A3 m c) (A5 m c) (A6 m c) (A9 m c) :=
  (dats m 0 c).arrAt_eq_of_cover 12 _ (flushed_q m c) fun i => by
    have h0 : (i 0 : Nat) < 2 := (i 0).isLt
    have h1 : (i 1 : Nat) < 8 := (i 1).isLt
    have h2 : (i 2 : Nat) < 8192 := (i 2).isLt
    have h3 : (i 3 : Nat) < 256 := (i 3).isLt
    obtain ⟨t, ht⟩ := point (i 0).val (i 2).val h0 h2
    have e := idx12 (grid0.coords t)
    rw [ht] at e
    refine ⟨t, flush0_12 t, ?_⟩
    show i ∈ ((View.whole main_v0_0).slice (win0_12.rect t)).set
    rw [View.set_slice_whole, Rect.mem_set_unit]
    intro a
    match a with
    | ⟨0, _⟩ => show cc0_transform_12 (grid0.coords t) 0 * 1 ≤ (i 0 : Nat) ∧ (i 0 : Nat) < cc0_transform_12 (grid0.coords t) 0 * 1 + 1
                rw [e]; simp; omega
    | ⟨1, _⟩ => show cc0_transform_12 (grid0.coords t) 1 * 8 ≤ (i 1 : Nat) ∧ (i 1 : Nat) < cc0_transform_12 (grid0.coords t) 1 * 8 + 8
                rw [e]; simp; omega
    | ⟨2, _⟩ => show cc0_transform_12 (grid0.coords t) 2 * 512 ≤ (i 2 : Nat) ∧ (i 2 : Nat) < cc0_transform_12 (grid0.coords t) 2 * 512 + 512
                rw [e]; simp; omega
    | ⟨3, _⟩ => show cc0_transform_12 (grid0.coords t) 3 * 256 ≤ (i 3 : Nat) ∧ (i 3 : Nat) < cc0_transform_12 (grid0.coords t) 3 * 256 + 256
                rw [e]; simp; omega

theorem final_k : (dats m 0 c).arrAt 13 cfg0.N = targetK (A0 m c) (A2 m c) (A4 m c) (A7 m c) (A8 m c) (A10 m c) :=
  (dats m 0 c).arrAt_eq_of_cover 13 _ (flushed_k m c) fun i => by
    have h0 : (i 0 : Nat) < 2 := (i 0).isLt
    have h1 : (i 1 : Nat) < 8 := (i 1).isLt
    have h2 : (i 2 : Nat) < 256 := (i 2).isLt
    have h3 : (i 3 : Nat) < 8192 := (i 3).isLt
    obtain ⟨t, ht⟩ := point (i 0).val (i 3).val h0 h3
    have e := idx13 (grid0.coords t)
    rw [ht] at e
    refine ⟨t, flush0_13 t, ?_⟩
    show i ∈ ((View.whole main_v0_1).slice (win0_13.rect t)).set
    rw [View.set_slice_whole, Rect.mem_set_unit]
    intro a
    match a with
    | ⟨0, _⟩ => show cc0_transform_13 (grid0.coords t) 0 * 1 ≤ (i 0 : Nat) ∧ (i 0 : Nat) < cc0_transform_13 (grid0.coords t) 0 * 1 + 1
                rw [e]; simp; omega
    | ⟨1, _⟩ => show cc0_transform_13 (grid0.coords t) 1 * 8 ≤ (i 1 : Nat) ∧ (i 1 : Nat) < cc0_transform_13 (grid0.coords t) 1 * 8 + 8
                rw [e]; simp; omega
    | ⟨2, _⟩ => show cc0_transform_13 (grid0.coords t) 2 * 256 ≤ (i 2 : Nat) ∧ (i 2 : Nat) < cc0_transform_13 (grid0.coords t) 2 * 256 + 256
                rw [e]; simp; omega
    | ⟨3, _⟩ => show cc0_transform_13 (grid0.coords t) 3 * 512 ≤ (i 3 : Nat) ∧ (i 3 : Nat) < cc0_transform_13 (grid0.coords t) 3 * 512 + 512
                rw [e]; simp; omega

theorem final_v : (dats m 0 c).arrAt 14 cfg0.N = targetV (A0 m c) (A2 m c) (A4 m c) :=
  (dats m 0 c).arrAt_eq_of_cover 14 _ (flushed_v m c) fun i => by
    have h0 : (i 0 : Nat) < 2 := (i 0).isLt
    have h1 : (i 1 : Nat) < 8 := (i 1).isLt
    have h2 : (i 2 : Nat) < 8192 := (i 2).isLt
    have h3 : (i 3 : Nat) < 128 := (i 3).isLt
    obtain ⟨t, ht⟩ := point (i 0).val (i 2).val h0 h2
    have e := idx14 (grid0.coords t)
    rw [ht] at e
    refine ⟨t, flush0_14 t, ?_⟩
    show i ∈ ((View.whole main_v0_2).slice (win0_14.rect t)).set
    rw [View.set_slice_whole, Rect.mem_set_unit]
    intro a
    match a with
    | ⟨0, _⟩ => show cc0_transform_14 (grid0.coords t) 0 * 1 ≤ (i 0 : Nat) ∧ (i 0 : Nat) < cc0_transform_14 (grid0.coords t) 0 * 1 + 1
                rw [e]; simp; omega
    | ⟨1, _⟩ => show cc0_transform_14 (grid0.coords t) 1 * 8 ≤ (i 1 : Nat) ∧ (i 1 : Nat) < cc0_transform_14 (grid0.coords t) 1 * 8 + 8
                rw [e]; simp; omega
    | ⟨2, _⟩ => show cc0_transform_14 (grid0.coords t) 2 * 512 ≤ (i 2 : Nat) ∧ (i 2 : Nat) < cc0_transform_14 (grid0.coords t) 2 * 512 + 512
                rw [e]; simp; omega
    | ⟨3, _⟩ => show cc0_transform_14 (grid0.coords t) 3 * 128 ≤ (i 3 : Nat) ∧ (i 3 : Nat) < cc0_transform_14 (grid0.coords t) 3 * 128 + 128
                rw [e]; simp; omega

end Cert.Kernel5Ideal.Prep

end
-- ==== Proof.PrepRef.lean ====
/-
  The reference of the head of the latent attention, operation by operation, is the same three arrays.
-/
module

public import proofs.«01_k».proof.Proof.Prep
public import proofs.«01_k».proof.Proof.Gen.Reference5Ideal.Read

@[expose] public section

set_option maxRecDepth 16384

noncomputable section

namespace Cert.Reference5Ideal.Prep

open Idealize.ShloMosaic Idealize.ShloMosaic.TcCoe Idealize.SL.Sem
open Cert.Reference5Ideal Cert.Reference5Ideal.Gen Cert.Reference5Ideal.Read Idealize.ShloMosaic.ValueIdx Cert.Prep

/-- Two arrays joined along the last of three axes, and of two. -/
theorem join3 {n N : ℕ} (hN : N = n + n) (x y : (⟨3, ![8, 16384, n]⟩ : Shape).Idx → EReal) (h) (a : Fin 8) (t : Fin 16384) (j : Fin N) :
    concatenate ⟨3, ![8, 16384, N]⟩ 2 [⟨⟨3, ![8, 16384, n]⟩, x⟩, ⟨⟨3, ![8, 16384, n]⟩, y⟩] h (ix3 a t j)
      = if hj : j.val < n then x (ix3 a t ⟨j.val, hj⟩) else y (ix3 a t ⟨j.val - n, by omega⟩) := by
  split
  · exact concatenate_pair_apply_left (t := ⟨3, ![8, 16384, N]⟩) 2 x y h _ rfl (ix3 a t _) (fun b => by fin_cases b <;> rfl)
  · refine concatenate_pair_apply_right (t := ⟨3, ![8, 16384, N]⟩) 2 x y h (ix3 a t j) rfl rfl (ix3 a t _) (fun b hb => ?_) (show j.val - n + n = j.val by omega)
    match b with
    | ⟨0, _⟩ => rfl
    | ⟨1, _⟩ => rfl
    | ⟨2, _⟩ => exact absurd rfl hb

theorem join2 {n N : ℕ} (hN : N = n + n) (x y : (⟨2, ![16384, n]⟩ : Shape).Idx → EReal) (h) (t : Fin 16384) (j : Fin N) :
    concatenate ⟨2, ![16384, N]⟩ 1 [⟨⟨2, ![16384, n]⟩, x⟩, ⟨⟨2, ![16384, n]⟩, y⟩] h (ix2 t j)
      = if hj : j.val < n then x (ix2 t ⟨j.val, hj⟩) else y (ix2 t ⟨j.val - n, by omega⟩) := by
  split
  · exact concatenate_pair_apply_left (t := ⟨2, ![16384, N]⟩) 1 x y h _ rfl (ix2 t _) (fun b => by fin_cases b <;> rfl)
  · refine concatenate_pair_apply_right (t := ⟨2, ![16384, N]⟩) 1 x y h (ix2 t j) rfl rfl (ix2 t _) (fun b hb => ?_) (show j.val - n + n = j.val by omega)
    match b with
    | ⟨0, _⟩ => rfl
    | ⟨1, _⟩ => exact absurd rfl hb

theorem from_zero {n : ℕ} {f g : Fin n → EReal} (h : ∀ k, f k = g k) : (FloatOps.ofBits .f32 0x00000000#32 : Ideal .f32) + ∑ k, f k = ∑ k, g k :=
  (congrArg (· + _) Ideal.ofBits_zero_f32).trans ((zero_add _).trans (Finset.sum_congr rfl fun k _ => h k))

/-- The other lane of a rotation, 64 lanes on. -/
theorem partner (p : Fin 128 → EReal) (j : Fin 128) {a b : Fin 64 → EReal} (ha : ∀ k : Fin 64, a k = p ⟨64 + k.val, by omega⟩) (hb : ∀ k : Fin 64, b k = p ⟨k.val, by omega⟩) :
    (if hj : j.val < 64 then a ⟨j.val, hj⟩ else b ⟨j.val - 64, by omega⟩) = p ⟨(j.val + 64) % 128, by omega⟩ := by
  split
  · exact (ha _).trans (congrArg p (Fin.ext (show 64 + j.val = (j.val + 64) % 128 by omega)))
  · exact (hb _).trans (congrArg p (Fin.ext (show j.val - 64 = (j.val + 64) % 128 by omega)))

variable (X0 : SP.Idx → EReal) (X1 : SA.Idx → EReal) (X2 : SB.Idx → EReal) (X3 : SQ.Idx → EReal) (X4 : SK.Idx → EReal)
  (X5 X6 X7 X8 : ST.Idx → EReal) (X9 X10 : SN.Idx → EReal)

theorem leaf_q (i : S16384x512.Idx) : val_main_v1 (F := Ideal) X0 i = (fun k : Fin 512 => X0 (ix2 (i 0) ⟨5120 + k.val, by omega⟩)) (i 1) :=
  (val_main_v1_apply (F := Ideal) X0 i).trans (congrArg X0 (funext fun a => by fin_cases a <;> rfl))
theorem leaf_k (i : S16384x256.Idx) : val_main_v2 (F := Ideal) X0 i = (fun k : Fin 256 => X0 (ix2 (i 0) ⟨5632 + k.val, by omega⟩)) (i 1) :=
  (val_main_v2_apply (F := Ideal) X0 i).trans (congrArg X0 (funext fun a => by fin_cases a <;> rfl))
theorem leaf_p (i : S16384x128.Idx) : val_main_v3 (F := Ideal) X0 i = rowP X0 (i 0) (i 1) :=
  (val_main_v3_apply (F := Ideal) X0 i).trans (congrArg X0 (funext fun a => by fin_cases a <;> rfl))

theorem normed_q (i : S16384x512.Idx) : val_main_v15 (F := Ideal) X0 X1 i
    = normed (Ideal.ofBits .f32 0x44000000#32) (fun k : Fin 512 => X0 (ix2 (i 0) ⟨5120 + k.val, by omega⟩)) (fun k => X1 (ix2 0 k)) (i 1) := by
  rw [val_main_v15_apply, val_main_v13_apply, val_main_v12_apply, val_main_v11_apply, val_main_v10_apply, val_main_v8_apply, val_main_v6_apply, val_main_v5_apply, val_main_v14_apply]
  refine congrArg₂ (· * ·) (congrArg₂ (· * ·) (leaf_q X0 i) (congrArg (fun z => Ideal.rsqrt (Ideal.div z (Ideal.ofBits .f32 0x44000000#32) + eps)) ?_))
    (congrArg X1 (funext fun a => by fin_cases a <;> rfl))
  exact from_zero fun k => congrArg₂ (· * ·) (leaf_q X0 _) (leaf_q X0 _)

theorem normed_k (i : S16384x256.Idx) : val_main_v62 (F := Ideal) X0 X2 i
    = normed (Ideal.ofBits .f32 0x43800000#32) (fun k : Fin 256 => X0 (ix2 (i 0) ⟨5632 + k.val, by omega⟩)) (fun k => X2 (ix2 0 k)) (i 1) := by
  rw [val_main_v62_apply, val_main_v60_apply, val_main_v59_apply, val_main_v58_apply, val_main_v57_apply, val_main_v55_apply, val_main_v53_apply, val_main_v52_apply, val_main_v61_apply]
  refine congrArg₂ (· * ·) (congrArg₂ (· * ·) (leaf_k X0 i) (congrArg (fun z => Ideal.rsqrt (Ideal.div z (Ideal.ofBits .f32 0x43800000#32) + eps)) ?_))
    (congrArg X2 (funext fun a => by fin_cases a <;> rfl))
  exact from_zero fun k => congrArg₂ (· * ·) (leaf_k X0 _) (leaf_k X0 _)

theorem up_q (i : S8x16384x256.Idx) : val_main_v18 (F := Ideal) X0 X1 X3 i = rowQ X0 X1 X3 (i 0) (i 1) (i 2) := by
  rw [val_main_v18_apply, val_main_v17_apply]
  unfold rowQ up
  refine Finset.sum_congr rfl fun k _ => (mul_comm _ _).trans (congrArg₂ (· * ·) (normed_q X0 X1 _) ?_)
  exact congrArg X3 (funext fun a => by fin_cases a <;> rfl)
theorem up_k (i : S8x16384x256.Idx) : val_main_v65 (F := Ideal) X0 X2 X4 i = rowK X0 X2 X4 (i 0) (i 1) (i 2) := by
  rw [val_main_v65_apply, val_main_v64_apply]
  unfold rowK up
  refine Finset.sum_congr rfl fun k _ => (mul_comm _ _).trans (congrArg₂ (· * ·) (normed_k X0 X2 _) ?_)
  exact congrArg X4 (funext fun a => by fin_cases a <;> rfl)

theorem lo_q (i : S8x16384x128.Idx) : val_main_v19 (F := Ideal) X0 X1 X3 i = lo (rowQ X0 X1 X3 (i 0) (i 1)) (i 2) :=
  (val_main_v19_apply (F := Ideal) X0 X1 X3 i).trans (up_q X0 X1 X3 _)
theorem hi_q (i : S8x16384x128.Idx) : val_main_v20 (F := Ideal) X0 X1 X3 i = hi (rowQ X0 X1 X3 (i 0) (i 1)) (i 2) :=
  (val_main_v20_apply (F := Ideal) X0 X1 X3 i).trans (up_q X0 X1 X3 _)
theorem lo_k (i : S8x16384x128.Idx) : val_main_v66 (F := Ideal) X0 X2 X4 i = lo (rowK X0 X2 X4 (i 0) (i 1)) (i 2) :=
  (val_main_v66_apply (F := Ideal) X0 X2 X4 i).trans (up_k X0 X2 X4 _)
theorem hi_k (i : S8x16384x128.Idx) : val_main_v67 (F := Ideal) X0 X2 X4 i = hi (rowK X0 X2 X4 (i 0) (i 1)) (i 2) :=
  (val_main_v67_apply (F := Ideal) X0 X2 X4 i).trans (up_k X0 X2 X4 _)

theorem inv_q (i : S8x16384.Idx) : val_main_v45 (F := Ideal) X0 X1 X3 i = inv (lo (rowQ X0 X1 X3 (i 0) (i 1))) (half (hi (rowQ X0 X1 X3 (i 0) (i 1)))) := by
  rw [val_main_v45_apply, val_main_v44_apply, val_main_v42_apply, val_main_v40_apply, val_main_v37_apply, val_main_v39_apply]
  refine congrArg (fun z => Ideal.rsqrt (z * Ideal.ofBits .f32 0x3BAAAAAB#32 + eps)) (congrArg₂ (· + ·) ?_ ?_)
  · exact from_zero fun k => congrArg₂ (· * ·) (lo_q X0 X1 X3 _) (lo_q X0 X1 X3 _)
  · exact from_zero fun k => congrArg₂ (· * ·) ((val_main_v35_apply (F := Ideal) X0 X1 X3 _).trans (hi_q X0 X1 X3 _)) ((val_main_v35_apply (F := Ideal) X0 X1 X3 _).trans (hi_q X0 X1 X3 _))

theorem inv_k (i : S8x16384.Idx) : val_main_v91 (F := Ideal) X0 X2 X4 i = inv (lo (rowK X0 X2 X4 (i 0) (i 1))) (half (rowP X0 (i 1))) := by
  rw [val_main_v91_apply, val_main_v90_apply, val_main_v88_apply, val_main_v86_apply, val_main_v81_apply, val_main_v85_apply, val_main_v84_apply, val_main_v83_apply]
  refine congrArg (fun z => Ideal.rsqrt (z * Ideal.ofBits .f32 0x3BAAAAAB#32 + eps)) (congrArg₂ (· + ·) ?_ ?_)
  · exact from_zero fun k => congrArg₂ (· * ·) (lo_k X0 X2 X4 _) (lo_k X0 X2 X4 _)
  · exact from_zero fun k => congrArg₂ (· * ·) ((val_main_v79_apply (F := Ideal) X0 _).trans (leaf_p X0 _)) ((val_main_v79_apply (F := Ideal) X0 _).trans (leaf_p X0 _))

theorem rot_q (h : Fin 8) (t : Fin 16384) (j : Fin 128) : val_main_v33 (F := Ideal) X0 X1 X3 X5 X6 (ix3 h t j)
    = rot (hi (rowQ X0 X1 X3 h t)) (fun j => X5 (ix2 t j)) (fun j => X6 (ix2 t j)) j := by
  rw [val_main_v33_apply, val_main_v26_apply, val_main_v25_apply, val_main_v24_apply, val_main_v32_apply, val_main_v31_apply, val_main_v30_apply]
  refine congrArg₂ (· + ·) (congrArg₂ (· * ·) (hi_q X0 X1 X3 _) (congrArg X5 (funext fun a => by fin_cases a <;> rfl)))
    (congrArg₂ (· * ·) ?_ (congrArg X6 (funext fun a => by fin_cases a <;> rfl)))
  exact (join3 (n := 64) (N := 128) rfl _ _ _ h t j).trans (partner (hi (rowQ X0 X1 X3 h t)) j
    (a := fun k => val_main_v27 (F := Ideal) X0 X1 X3 (ix3 h t k)) (b := fun k => val_main_v28 (F := Ideal) X0 X1 X3 (ix3 h t k))
    (fun k => (val_main_v27_apply (F := Ideal) X0 X1 X3 _).trans (hi_q X0 X1 X3 _)) (fun k => (val_main_v28_apply (F := Ideal) X0 X1 X3 _).trans (hi_q X0 X1 X3 _)))

theorem rot_k (t : Fin 16384) (j : Fin 128) : val_main_v73 (F := Ideal) X0 X7 X8 (ix2 t j)
    = rot (rowP X0 t) (fun j => X7 (ix2 t j)) (fun j => X8 (ix2 t j)) j := by
  rw [val_main_v73_apply, val_main_v68_apply, val_main_v72_apply]
  refine congrArg₂ (· + ·) (congrArg (· * X7 (ix2 t j)) (leaf_p X0 _)) (congrArg (· * X8 (ix2 t j)) ?_)
  exact (join2 (n := 64) (N := 128) rfl _ _ _ t j).trans (partner (rowP X0 t) j
    (a := fun k => val_main_v69 (F := Ideal) X0 (ix2 t k)) (b := fun k => val_main_v70 (F := Ideal) X0 (ix2 t k))
    (fun k => (val_main_v69_apply (F := Ideal) X0 _).trans (leaf_p X0 _)) (fun k => (val_main_v70_apply (F := Ideal) X0 _).trans (leaf_p X0 _)))

theorem at_q (h : Fin 8) (t : Fin 16384) (d : Fin 256) : val_main_v50 (F := Ideal) X0 X1 X3 X5 X6 X9 (ix3 h t d) = atQ X0 X1 X3 X5 X6 X9 h t d := by
  rw [val_main_v50_apply, val_main_v48_apply, val_main_v47_apply, val_main_v46_apply]
  refine congrArg (· * Ideal.ofBits .f32 0x3DD53B95#32) (congrArg₂ (· * ·) ((join3 (n := 128) (N := 256) rfl _ _ _ h t d).trans ?_) (inv_q X0 X1 X3 _))
  unfold turned
  refine dite_congr rfl (fun hd => ?_) (fun hd => rot_q X0 X1 X3 X5 X6 h t _)
  rw [val_main_v23_apply, val_main_v22_apply, val_main_v21_apply]
  exact congrArg₂ (· * ·) (lo_q X0 X1 X3 _) (congrArg X9 (funext fun a => by fin_cases a <;> rfl))

theorem at_k (h : Fin 8) (t : Fin 16384) (d : Fin 256) : val_main_v94 (F := Ideal) X0 X2 X4 X7 X8 X10 (ix3 h t d) = atK X0 X2 X4 X7 X8 X10 h t d := by
  rw [val_main_v94_apply, val_main_v93_apply, val_main_v92_apply]
  refine congrArg₂ (· * ·) ((join3 (n := 128) (N := 256) rfl _ _ _ h t d).trans ?_) (inv_k X0 X2 X4 _)
  unfold turned
  refine dite_congr rfl (fun hd => ?_) (fun hd => ?_)
  · rw [val_main_v77_apply, val_main_v76_apply, val_main_v75_apply]
    exact congrArg₂ (· * ·) (lo_k X0 X2 X4 _) (congrArg X10 (funext fun a => by fin_cases a <;> rfl))
  · exact (val_main_v74_apply (F := Ideal) X0 X7 X8 _).trans ((congrArg (val_main_v73 (F := Ideal) X0 X7 X8) (funext fun a => by fin_cases a <;> rfl)).trans (rot_k X0 X7 X8 t _))

/-- The reference's results. -/
theorem value_q : val_main_v97 (F := Ideal) X0 X1 X3 X5 X6 X9 = targetQ X0 X1 X3 X5 X6 X9 := by
  funext i
  have h0 : (i 0).val < 2 := (i 0).isLt
  have h1 : (i 1).val < 8 := (i 1).isLt
  have h2 : (i 2).val < 8192 := (i 2).isLt
  have h3 : (i 3).val < 256 := (i 3).isLt
  rw [val_main_v97_apply, val_main_v96_apply, val_main_v95_apply]
  refine Eq.trans (congrArg (val_main_v50 (F := Ideal) X0 X1 X3 X5 X6 X9) (funext fun a => Fin.ext ?_)) (at_q X0 X1 X3 X5 X6 X9 (i 1) (tok (i 0) (i 2)) (i 3))
  match a with
  | ⟨0, _⟩ => show ((((i 1).val * 2 + (i 0).val) * 8192 + (i 2).val) * 256 + (i 3).val) / 4194304 = (i 1).val; omega
  | ⟨1, _⟩ => show ((((i 1).val * 2 + (i 0).val) * 8192 + (i 2).val) * 256 + (i 3).val) / 256 % 16384 = 8192 * (i 0).val + (i 2).val; omega
  | ⟨2, _⟩ => show ((((i 1).val * 2 + (i 0).val) * 8192 + (i 2).val) * 256 + (i 3).val) % 256 = (i 3).val; omega

theorem value_k : val_main_v100 (F := Ideal) X0 X2 X4 X7 X8 X10 = targetK X0 X2 X4 X7 X8 X10 := by
  funext i
  have h0 : (i 0).val < 2 := (i 0).isLt
  have h1 : (i 1).val < 8 := (i 1).isLt
  have h2 : (i 2).val < 256 := (i 2).isLt
  have h3 : (i 3).val < 8192 := (i 3).isLt
  rw [val_main_v100_apply, val_main_v99_apply, val_main_v98_apply]
  refine Eq.trans (congrArg (val_main_v94 (F := Ideal) X0 X2 X4 X7 X8 X10) (funext fun a => Fin.ext ?_)) (at_k X0 X2 X4 X7 X8 X10 (i 1) (tok (i 0) (i 3)) (i 2))
  match a with
  | ⟨0, _⟩ => show ((((i 1).val * 2 + (i 0).val) * 8192 + (i 3).val) * 256 + (i 2).val) / 4194304 = (i 1).val; omega
  | ⟨1, _⟩ => show ((((i 1).val * 2 + (i 0).val) * 8192 + (i 3).val) * 256 + (i 2).val) / 256 % 16384 = 8192 * (i 0).val + (i 3).val; omega
  | ⟨2, _⟩ => show ((((i 1).val * 2 + (i 0).val) * 8192 + (i 3).val) * 256 + (i 2).val) % 256 = (i 2).val; omega

theorem value_v : val_main_v103 (F := Ideal) X0 X2 X4 = targetV X0 X2 X4 := by
  funext i
  have h0 : (i 0).val < 2 := (i 0).isLt
  have h1 : (i 1).val < 8 := (i 1).isLt
  have h2 : (i 2).val < 8192 := (i 2).isLt
  have h3 : (i 3).val < 128 := (i 3).isLt
  rw [val_main_v103_apply, val_main_v102_apply, val_main_v101_apply]
  refine Eq.trans (congrArg (val_main_v67 (F := Ideal) X0 X2 X4) (funext fun a => Fin.ext ?_)) (hi_k X0 X2 X4 (ix3 (i 1) (tok (i 0) (i 2)) (i 3)))
  match a with
  | ⟨0, _⟩ => show ((((i 1).val * 2 + (i 0).val) * 8192 + (i 2).val) * 128 + (i 3).val) / 2097152 = (i 1).val; omega
  | ⟨1, _⟩ => show ((((i 1).val * 2 + (i 0).val) * 8192 + (i 2).val) * 128 + (i 3).val) / 128 % 16384 = 8192 * (i 0).val + (i 2).val; omega
  | ⟨2, _⟩ => show ((((i 1).val * 2 + (i 0).val) * 8192 + (i 2).val) * 128 + (i 3).val) % 128 = (i 3).val; omega

end Cert.Reference5Ideal.Prep

end
-- ==== Proof.lean ====
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Loops
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Loops
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_slots_in_range
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Array
public import proofs.«01_k».proof.Proof.Ref
public import proofs.«01_k».proof.Proof.NormRef
public import proofs.«01_k».proof.Proof.MixRef
public import proofs.«01_k».proof.Proof.Range
public import proofs.«01_k».proof.Proof.Kernel4.Admit
public import proofs.«01_k».proof.Proof.ExpertsValue
public import proofs.«01_k».proof.Proof.ExpertsRef
public import proofs.«01_k».proof.Proof.PrepOut
public import proofs.«01_k».proof.Proof.PrepRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The attention kernel and its reference end with the same array. -/
theorem attention : Cert.algebraic_KernelIdeal_ReferenceIdeal (hKernelIdeal := Cert.KernelIdeal.Gen.facts) (hReferenceIdeal := Cert.ReferenceIdeal.Gen.facts) :=
  fun m ρ m' ρ' _ hag => ⟨fun c => Cert.Softmax.result (Cert.KernelIdeal.Attn.A0 m c) (Cert.KernelIdeal.Attn.A1 m c) (Cert.KernelIdeal.Attn.A2 m c),
    (θ_run _ _ _).mono (fun _ h c => ⟨(h c).1.trans (Cert.KernelIdeal.Attn.final m c), (h c).2⟩)
      (Cert.KernelIdeal.Value.run_blocks (F := Ideal) m ρ),
    (θ_run _ _ _).mono (fun _ h c => ⟨(h c).1.trans ((Cert.ReferenceIdeal.Read.val_main_v26_eq (F := Ideal) m' c).trans (by
        rw [(hag c).1, (hag c).2.1, (hag c).2.2]
        exact Cert.ReferenceIdeal.Attn.value _ _ _)), (h c).2⟩)
      (Cert.ReferenceIdeal.Value.run (F := Ideal) m' ρ')⟩

/-- So do the input projection and its reference. -/
theorem projection : Cert.algebraic_Kernel2Ideal_Reference2Ideal (hKernel2Ideal := Cert.Kernel2Ideal.Gen.facts) (hReference2Ideal := Cert.Reference2Ideal.Gen.facts) :=
  fun m ρ m' ρ' _ hag => ⟨fun c => Cert.Kernel2Ideal.Norm.result m c,
    (θ_run _ _ _).mono (fun _ h c => ⟨(h c).1.trans (Cert.Kernel2Ideal.Norm.final m c), (h c).2⟩)
      (Cert.Kernel2Ideal.Value.run_blocks (F := Ideal) m ρ),
    (θ_run _ _ _).mono (fun _ h c => ⟨(h c).1.trans ((Cert.Reference2Ideal.Read.val_main_v14_eq (F := Ideal) _ _ _).trans (by
        rw [(hag c).1, (hag c).2.1, (hag c).2.2]
        exact Cert.Reference2Ideal.Norm.value)), (h c).2⟩)
      (Cert.Reference2Ideal.Value.run (F := Ideal) m' ρ')⟩

/-- So do the merged output projection and its reference. -/
theorem merge : Cert.algebraic_Kernel3Ideal_Reference3Ideal (hKernel3Ideal := Cert.Kernel3Ideal.Gen.facts) (hReference3Ideal := Cert.Reference3Ideal.Gen.facts) :=
  fun m ρ m' ρ' _ hag => ⟨fun c => Cert.Kernel3Ideal.Mix.result m c,
    (θ_run _ _ _).mono (fun _ h c => ⟨(h c).1.trans (Cert.Kernel3Ideal.Mix.final m c), (h c).2⟩)
      (Cert.Kernel3Ideal.Value.run_blocks (F := Ideal) m ρ),
    (θ_run _ _ _).mono (fun _ h c => ⟨(h c).1.trans ((Cert.Reference3Ideal.Read.val_main_v36_eq (F := Ideal) _ _ _ _ _ _ _ _).trans (by
        obtain ⟨e0, e1, e2, e3, e4, e5, e6, e7⟩ := hag c
        rw [e0, e1, e2, e3, e4, e5, e6, e7]
        exact Cert.Reference3Ideal.Mix.value)), (h c).2⟩)
      (Cert.Reference3Ideal.Value.run (F := Ideal) m' ρ')⟩

/-- So do the routed experts and their reference, where the tables are in range. -/
theorem experts : Cert.algebraic_Kernel4Ideal_Reference4Ideal (hKernel4Ideal := Cert.Kernel4Ideal.Gen.facts)
    (hReference4Ideal := Cert.Reference4Ideal.Gen.facts) (hPre_slots_in_range := Cert.Pre_slots_in_range.Gen.facts) :=
  fun m ρ m' ρ' hpre hag => ⟨fun c => Cert.Kernel4Ideal.Moe.result m c,
    Cert.Kernel4Ideal.Moe.run_value m ρ hpre,
    (θ_run _ _ _).mono (fun _ h c => ⟨(h c).1.trans ((Cert.Reference4Ideal.Read.val_main_v38_eq (F := Ideal) m' c).trans (by
        obtain ⟨e0, e1, e2, e3, e4, e5⟩ := hag c
        rw [e0, e1, e2, e3, e4, e5]
        exact Cert.Reference4Ideal.Experts.value (Cert.Range.parts (hpre c)).1 (Cert.Range.parts (hpre c)).2)), (h c).2⟩)
      (Cert.Reference4Ideal.Value.run (F := Ideal) m' ρ')⟩

/-- So do the head of the latent attention and its reference, with all three arrays. -/
theorem prep : Cert.algebraic_Kernel5Ideal_Reference5Ideal (hKernel5Ideal := Cert.Kernel5Ideal.Gen.facts) (hReference5Ideal := Cert.Reference5Ideal.Gen.facts) :=
  fun m ρ m' ρ' _ hag => ⟨
    fun c => Cert.Prep.targetQ (Cert.Kernel5Ideal.Prep.A0 m c) (Cert.Kernel5Ideal.Prep.A1 m c) (Cert.Kernel5Ideal.Prep.A3 m c) (Cert.Kernel5Ideal.Prep.A5 m c) (Cert.Kernel5Ideal.Prep.A6 m c) (Cert.Kernel5Ideal.Prep.A9 m c),
    fun c => Cert.Prep.targetK (Cert.Kernel5Ideal.Prep.A0 m c) (Cert.Kernel5Ideal.Prep.A2 m c) (Cert.Kernel5Ideal.Prep.A4 m c) (Cert.Kernel5Ideal.Prep.A7 m c) (Cert.Kernel5Ideal.Prep.A8 m c) (Cert.Kernel5Ideal.Prep.A10 m c),
    fun c => Cert.Prep.targetV (Cert.Kernel5Ideal.Prep.A0 m c) (Cert.Kernel5Ideal.Prep.A2 m c) (Cert.Kernel5Ideal.Prep.A4 m c),
    (θ_run _ _ _).mono (fun _ h c => ⟨(h c).1.trans (Cert.Kernel5Ideal.Prep.final_q m c), (h c).2.1.trans (Cert.Kernel5Ideal.Prep.final_k m c),
        (h c).2.2.1.trans (Cert.Kernel5Ideal.Prep.final_v m c), (h c).2.2.2⟩)
      (Cert.Kernel5Ideal.Value.run_blocks (F := Ideal) m ρ),
    (θ_run _ _ _).mono (fun _ h c => by
        obtain ⟨e0, e1, e2, e3, e4, e5, e6, e7, e8, e9, e10⟩ := hag c
        refine ⟨(h c).1.trans ((Cert.Reference5Ideal.Read.val_main_v97_eq (F := Ideal) m' c).trans ?_),
          (h c).2.1.trans ((Cert.Reference5Ideal.Read.val_main_v100_eq (F := Ideal) m' c).trans ?_),
          (h c).2.2.1.trans ((Cert.Reference5Ideal.Read.val_main_v103_eq (F := Ideal) _ _ _).trans ?_), (h c).2.2.2⟩
        · rw [e0, e1, e3, e5, e6, e9]
          exact Cert.Reference5Ideal.Prep.value_q _ _ _ _ _ _
        · rw [e0, e2, e4, e7, e8, e10]
          exact Cert.Reference5Ideal.Prep.value_k _ _ _ _ _ _
        · rw [e0, e2, e4]
          exact Cert.Reference5Ideal.Prep.value_v _ _ _)
      (Cert.Reference5Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_slots_in_range.Gen.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems (by decide) r.2⟩)
    (Cert.ReferenceIdeal.Value.run (F := Ideal) m ρ),
  fun m ρ _ => Cert.Kernel2.Gen.frame m ρ, fun m ρ _ => Cert.Kernel2Ideal.Gen.frame m ρ,
  fun m ρ _ => (θ_run _ _ _).mono (fun r h => ⟨fun c => (h c).2, sem_eq_zero_of_no_sems (by decide) r.2⟩)
    (Cert.Reference2Ideal.Value.run (F := Ideal) m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems (by decide) r.2⟩)
    (Cert.Reference3Ideal.Value.run (F := Ideal) m ρ),
  fun m ρ h => Cert.Kernel4.Moe.quiescent m ρ (Cert.Kernel4.Moe.ok_of_range m h) (Cert.Kernel4.Moe.tokens_of_range m h),
  fun m ρ h => Cert.Kernel4Ideal.Moe.quiescent m ρ (Cert.Kernel4Ideal.Moe.ok_of_range m h) (Cert.Kernel4Ideal.Moe.tokens_of_range m h),
  fun m ρ _ => (θ_run _ _ _).mono (fun r h => ⟨fun c => (h c).2, sem_eq_zero_of_no_sems (by decide) r.2⟩)
    (Cert.Reference4Ideal.Value.run (F := Ideal) m ρ),
  fun m ρ _ => (θ_run _ _ _).mono (fun r h => ⟨fun c => (h c).2, sem_eq_zero_of_no_sems (by decide) r.2⟩)
    (Cert.Reference4Ideal.Value.run (F := Ideal) m ρ),
  fun m ρ _ => Cert.Kernel5.Gen.frame m ρ, fun m ρ _ => Cert.Kernel5Ideal.Gen.frame m ρ,
  fun m ρ _ => (θ_run _ _ _).mono (fun r h => ⟨fun c => (h c).2.2.2, sem_eq_zero_of_no_sems (by decide) r.2⟩)
    (Cert.Reference5Ideal.Value.run (F := Ideal) m ρ),
  trivial, attention, trivial, projection, trivial, merge, trivial, experts, trivial, prep⟩

end Cert.Proof

end
